-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v6_0)) (v1 : (c : Dev Cert.KernelBIdeal.nD) → Buf (Elt Ideal) ((c.tc : Thread Cert.KernelBIdeal.nD Cert.KernelBIdeal.τ).loc Cert.KernelBIdeal.main_v6_1)) (v2 : (c : Dev Cert.KernelBIdeal.nD) → Buf (Elt Ideal) ((c.tc : Thread Cert.KernelBIdeal.nD Cert.KernelBIdeal.τ).loc Cert.KernelBIdeal.main_v6_2)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v6_0) = v0 c
          ∧ r.2.mem ((c.tc : Thread Cert.KernelBIdeal.nD Cert.KernelBIdeal.τ).loc Cert.KernelBIdeal.main_v6_1) = v1 c
          ∧ r.2.mem ((c.tc : Thread Cert.KernelBIdeal.nD Cert.KernelBIdeal.τ).loc Cert.KernelBIdeal.main_v6_2) = v2 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v8) = v0 c
          ∧ r.2.mem ((c.tc : Thread Cert.ReferenceBIdeal.nD Cert.ReferenceBIdeal.τ).loc Cert.ReferenceBIdeal.main_v9) = v1 c
          ∧ r.2.mem ((c.tc : Thread Cert.ReferenceBIdeal.nD Cert.ReferenceBIdeal.τ).loc Cert.ReferenceBIdeal.main_v10) = v2 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)) →
    ∃ (v0 : (c : Dev Cert.KernelAIdeal.nD) → Buf (Elt Ideal) ((c.tc : Thread Cert.KernelAIdeal.nD Cert.KernelAIdeal.τ).loc Cert.KernelAIdeal.main_v77_0)) (v1 : (c : Dev Cert.KernelAIdeal.nD) → Buf (Elt Ideal) ((c.tc : Thread Cert.KernelAIdeal.nD Cert.KernelAIdeal.τ).loc Cert.KernelAIdeal.main_v77_1)) (v2 : (c : Dev Cert.KernelAIdeal.nD) → Buf (Elt Ideal) ((c.tc : Thread Cert.KernelAIdeal.nD Cert.KernelAIdeal.τ).loc Cert.KernelAIdeal.main_v77_2)) (v3 : (c : Dev Cert.KernelAIdeal.nD) → Buf (Elt Ideal) ((c.tc : Thread Cert.KernelAIdeal.nD Cert.KernelAIdeal.τ).loc Cert.KernelAIdeal.main_v77_3)) (v4 : (c : Dev Cert.KernelAIdeal.nD) → Buf (Elt Ideal) ((c.tc : Thread Cert.KernelAIdeal.nD Cert.KernelAIdeal.τ).loc Cert.KernelAIdeal.main_v77_4)) (v5 : (c : Dev Cert.KernelAIdeal.nD) → Buf (Elt Ideal) ((c.tc : Thread Cert.KernelAIdeal.nD Cert.KernelAIdeal.τ).loc Cert.KernelAIdeal.main_v77_5)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v77_0) = v0 c
          ∧ r.2.mem ((c.tc : Thread Cert.KernelAIdeal.nD Cert.KernelAIdeal.τ).loc Cert.KernelAIdeal.main_v77_1) = v1 c
          ∧ r.2.mem ((c.tc : Thread Cert.KernelAIdeal.nD Cert.KernelAIdeal.τ).loc Cert.KernelAIdeal.main_v77_2) = v2 c
          ∧ r.2.mem ((c.tc : Thread Cert.KernelAIdeal.nD Cert.KernelAIdeal.τ).loc Cert.KernelAIdeal.main_v77_3) = v3 c
          ∧ r.2.mem ((c.tc : Thread Cert.KernelAIdeal.nD Cert.KernelAIdeal.τ).loc Cert.KernelAIdeal.main_v77_4) = v4 c
          ∧ r.2.mem ((c.tc : Thread Cert.KernelAIdeal.nD Cert.KernelAIdeal.τ).loc Cert.KernelAIdeal.main_v77_5) = v5 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v172) = v0 c
          ∧ r.2.mem ((c.tc : Thread Cert.ReferenceAIdeal.nD Cert.ReferenceAIdeal.τ).loc Cert.ReferenceAIdeal.main_v174) = v1 c
          ∧ r.2.mem ((c.tc : Thread Cert.ReferenceAIdeal.nD Cert.ReferenceAIdeal.τ).loc Cert.ReferenceAIdeal.main_v175) = v2 c
          ∧ r.2.mem ((c.tc : Thread Cert.ReferenceAIdeal.nD Cert.ReferenceAIdeal.τ).loc Cert.ReferenceAIdeal.main_v177) = v3 c
          ∧ r.2.mem ((c.tc : Thread Cert.ReferenceAIdeal.nD Cert.ReferenceAIdeal.τ).loc Cert.ReferenceAIdeal.main_v179) = v4 c
          ∧ r.2.mem ((c.tc : Thread Cert.ReferenceAIdeal.nD Cert.ReferenceAIdeal.τ).loc Cert.ReferenceAIdeal.main_v166) = v5 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hKernelA : Cert.KernelA.Facts) (hKernelAIdeal : Cert.KernelAIdeal.Facts) (hReferenceAIdeal : Cert.ReferenceAIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelA (hKernelA := hKernelA)
    ∧ quiescent_KernelAIdeal (hKernelAIdeal := hKernelAIdeal)
    ∧ quiescent_ReferenceAIdeal (hReferenceAIdeal := hReferenceAIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_KernelB_KernelBIdeal
    ∧ algebraic_KernelBIdeal_ReferenceBIdeal (hKernelBIdeal := hKernelBIdeal) (hReferenceBIdeal := hReferenceBIdeal)
    ∧ preserves_KernelA_KernelAIdeal
    ∧ algebraic_KernelAIdeal_ReferenceAIdeal (hKernelAIdeal := hKernelAIdeal) (hReferenceAIdeal := hReferenceAIdeal)
-- ==== Pre_tame.lean ====
abbrev S32768x1024 : Shape := ⟨2, ![32768, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32768x1024 .f32) (main_arg1 : FVec F S1024x16 .f32) (main_arg2 : FVec F S16 .f32) (main_arg3 : FVec F S16x1024x256 .f32) (main_arg4 : FVec F S16x1024x256 .f32) (main_arg5 : FVec F S16x256x1024 .f32) (main_arg6 : FVec F S1024 .f32) (main_arg7 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_cst_2 : FVec F S_ .f32 := constant S_ .f32 0xFF800000#32
  let main_v9 : FVec F S16 .f32 := broadcastInDim S16 ![] bcast_S_S16 main_cst_2
  let main_v10 : IVec S16 1 := cmpf .ogt main_arg2 main_v9
  let main_c_3 : IVec S_ 1 := constantI S_ 1 1#1
  let main_v11 : IVec S_ 1 := (fun x v => Host.reduce IntOp.andi x v reducesTo_S16_S_d0 h_S_) main_v10 main_c_3
  let main_v12 : IVec S_ 1 := andi main_v8 main_v11
  main_v12
-- ==== Kernel.lean ====
abbrev S32768x1024 : Shape := ⟨2, ![32768, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩
abbrev S1024x96 : Shape := ⟨2, ![1024, 96]⟩
abbrev S1024x128 : Shape := ⟨2, ![1024, 128]⟩
abbrev S16x1 : Shape := ⟨2, ![16, 1]⟩
abbrev S1x1024 : Shape := ⟨2, ![1, 1024]⟩
abbrev S1024x1024 : Shape := ⟨2, ![1024, 1024]⟩
abbrev S4x1024x256 : Shape := ⟨3, ![4, 1024, 256]⟩
abbrev S4x256x1024 : Shape := ⟨3, ![4, 256, 1024]⟩
abbrev S3x1024x128 : Shape := ⟨3, ![3, 1024, 128]⟩
abbrev S8x1024 : Shape := ⟨2, ![8, 1024]⟩
abbrev S4x4x96x1024 : Shape := ⟨4, ![4, 4, 96, 1024]⟩
abbrev S4 : Shape := ⟨1, ![4]⟩
abbrev S128x1024 : Shape := ⟨2, ![128, 1024]⟩
abbrev S16x1024 : Shape := ⟨2, ![16, 1024]⟩
abbrev S256x256 : Shape := ⟨2, ![256, 256]⟩
abbrev S8x256 : Shape := ⟨2, ![8, 256]⟩
abbrev S256 : Shape := ⟨1, ![256]⟩
abbrev S1x256 : Shape := ⟨2, ![1, 256]⟩
abbrev S1x1x1024 : Shape := ⟨3, ![1, 1, 1024]⟩
abbrev S1 : Shape := ⟨1, ![1]⟩
abbrev S1x1x1 : Shape := ⟨3, ![1, 1, 1]⟩
abbrev S112x1024 : Shape := ⟨2, ![112, 1024]⟩
abbrev S1x1024x128 : Shape := ⟨3, ![1, 1024, 128]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S4x96x1024 : Shape := ⟨3, ![4, 96, 1024]⟩
abbrev S1x4x96x1024 : Shape := ⟨4, ![1, 4, 96, 1024]⟩
abbrev S96x256 : Shape := ⟨2, ![96, 256]⟩
abbrev S96x1024 : Shape := ⟨2, ![96, 1024]⟩
abbrev S1x256x128 : Shape := ⟨3, ![1, 256, 128]⟩
abbrev S256x128 : Shape := ⟨2, ![256, 128]⟩
abbrev S96x128 : Shape := ⟨2, ![96, 128]⟩
abbrev S384x1024 : Shape := ⟨2, ![384, 1024]⟩
abbrev S384x128 : Shape := ⟨2, ![384, 128]⟩
abbrev S384 : Shape := ⟨1, ![384]⟩
abbrev S384x1 : Shape := ⟨2, ![384, 1]⟩
abbrev S384x256 : Shape := ⟨2, ![384, 256]⟩
abbrev S1x1x96x1024 : Shape := ⟨4, ![1, 1, 96, 1024]⟩
abbrev S256x384 : Shape := ⟨2, ![256, 384]⟩
abbrev S256x1 : Shape := ⟨2, ![256, 1]⟩

abbrev nBuf : Space → Nat
  | .hbm => 22
  | .vmem => 20
  | .smem => 1
  | _ => 0

abbrev bufTy : (tb : Table) → Fin (tcTables nBuf tb) → BufTy
  | .hbm, ⟨0, _⟩ => ⟨S32768x1024, .f32⟩
  | .hbm, ⟨1, _⟩ => ⟨S1024x16, .f32⟩
  | .hbm, ⟨2, _⟩ => ⟨S16, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S1024, .f32⟩
  | .hbm, ⟨7, _⟩ => ⟨S1024, .f32⟩
  | .hbm, ⟨8, _⟩ => ⟨S1024x16, .bf16⟩
  | .hbm, ⟨9, _⟩ => ⟨S1024x16, .f32⟩
  | .hbm, ⟨10, _⟩ => ⟨S1024x16, .f32⟩
  | .hbm, ⟨11, _⟩ => ⟨S1024x16, .bf16⟩
  | .hbm, ⟨12, _⟩ => ⟨S_, .bf16⟩
  | .hbm, ⟨13, _⟩ => ⟨S1024x96, .bf16⟩
  | .hbm, ⟨14, _⟩ => ⟨S1024x128, .bf16⟩
  | .hbm, ⟨15, _⟩ => ⟨S16x1, .f32⟩
  | .hbm, ⟨16, _⟩ => ⟨S16x1024x256, .bf16⟩
  | .hbm, ⟨17, _⟩ => ⟨S16x1024x256, .bf16⟩
  | .hbm, ⟨18, _⟩ => ⟨S16x256x1024, .bf16⟩
  | .hbm, ⟨19, _⟩ => ⟨S1x1024, .f32⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S16x1, .f32⟩
  | .local _ .vmem, ⟨4, _⟩ => ⟨S4x1024x256, .bf16⟩
  | .local _ .vmem, ⟨5, _⟩ => ⟨S4x1024x256, .bf16⟩
  | .local _ .vmem, ⟨6, _⟩ => ⟨S4x1024x256, .bf16⟩
  | .local _ .vmem, ⟨7, _⟩ => ⟨S4x1024x256, .bf16⟩
  | .local _ .vmem, ⟨8, _⟩ => ⟨S4x256x1024, .bf16⟩
  | .local _ .vmem, ⟨9, _⟩ => ⟨S4x256x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x128, .f32⟩
  | .local _ .vmem, ⟨16, _⟩ => ⟨S3x1024x128, .bf16⟩
  | .local _ .vmem, ⟨17, _⟩ => ⟨S8x1024, .f32⟩
  | .local _ .vmem, ⟨18, _⟩ => ⟨S1024x1024, .f32⟩
  | .local _ .vmem, ⟨19, _⟩ => ⟨S4x4x96x1024, .bf16⟩
  | .local _ .smem, ⟨0, _⟩ => ⟨S4, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def k0_off1 (i : grid0.Coords) : Fin 1 → Nat :=
  let arg1 : BitVec 32 := BitVec.ofNat 32 (i 1).val
  let v5 : Index := Scalar.indexCast arg1
  ![v5.toNat]
def k0_off2 (i : grid0.Coords) : Fin 4 → Nat :=
  let arg1 : BitVec 32 := BitVec.ofNat 32 (i 1).val
  let v137 : Index := Scalar.indexCast arg1
  let c0_78 : Index := 0#32
  let c0_79 : Index := 0#32
  let c0_80 : Index := 0#32
  ![v137.toNat, 0, 0, 0]
def k0_off3 (i : grid0.Coords) : Fin 4 → Nat :=
  let arg1 : BitVec 32 := BitVec.ofNat 32 (i 1).val
  let v239 : Index := Scalar.indexCast arg1
  let c0_154 : Index := 0#32
  let c0_155 : Index := 0#32
  let c0_156 : Index := 0#32
  ![v239.toNat, 0, 0, 0]
def k0_off4 (i : grid0.Coords) : Fin 4 → Nat :=
  let arg1 : BitVec 32 := BitVec.ofNat 32 (i 1).val
  let v245 : Index := Scalar.indexCast arg1
  let c1_157 : Index := 1#32
  let c0_158 : Index := 0#32
  let c0_159 : Index := 0#32
  ![v245.toNat, 1, 0, 0]
def k0_off5 (i : grid0.Coords) : Fin 4 → Nat :=
  let arg1 : BitVec 32 := BitVec.ofNat 32 (i 1).val
  let v251 : Index := Scalar.indexCast arg1
  let c2_160 : Index := 2#32
  let c0_161 : Index := 0#32
  let c0_162 : Index := 0#32
  ![v251.toNat, 2, 0, 0]
def k0_off6 (i : grid0.Coords) : Fin 4 → Nat :=
  let arg1 : BitVec 32 := BitVec.ofNat 32 (i 1).val
  let v257 : Index := Scalar.indexCast arg1
  let c3_163 : Index := 3#32
  let c0_164 : Index := 0#32
  let c0_165 : Index := 0#32
  ![v257.toNat, 3, 0, 0]
def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S32768x1024 : Shape := ⟨2, ![32768, 1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1024 : Shape := ⟨1, ![1024]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S1x16 : Shape := ⟨2, ![1, 16]⟩
abbrev S32768x4x4 : Shape := ⟨3, ![32768, 4, 4]⟩
abbrev S32768x4x2 : Shape := ⟨3, ![32768, 4, 2]⟩
abbrev S32768x4 : Shape := ⟨2, ![32768, 4]⟩
abbrev S1x4 : Shape := ⟨2, ![1, 4]⟩
abbrev S32768x4x2x1 : Shape := ⟨4, ![32768, 4, 2, 1]⟩
abbrev S1x1x1x4 : Shape := ⟨4, ![1, 1, 1, 4]⟩
abbrev S32768x4x2x4 : Shape := ⟨4, ![32768, 4, 2, 4]⟩
abbrev S32768x4x1 : Shape := ⟨3, ![32768, 4, 1]⟩
abbrev S16x256x32768 : Shape := ⟨3, ![16, 256, 32768]⟩
abbrev S16x32768x256 : Shape := ⟨3, ![16, 32768, 256]⟩
abbrev S16x32768 : Shape := ⟨2, ![16, 32768]⟩
abbrev S16x32768x1 : Shape := ⟨3, ![16, 32768, 1]⟩
abbrev S16x32768x1024 : Shape := ⟨3, ![16, 32768, 1024]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x16, .f32⟩
  | .hbm, ⟨2, _⟩ => ⟨S16, .f32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S1024, .f32⟩
  | .hbm, ⟨7, _⟩ => ⟨S1024, .f32⟩
  | .hbm, ⟨8, _⟩ => ⟨S32768x16, .f32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768x1, .f32⟩
  | .hbm, ⟨15, _⟩ => ⟨S32768x16, .f32⟩
  | .hbm, ⟨16, _⟩ => ⟨S32768x16, .f32⟩
  | .hbm, ⟨17, _⟩ => ⟨S32768x16, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x16, .f32⟩
  | .hbm, ⟨22, _⟩ => ⟨S32768x16, .f32⟩
  | .hbm, ⟨23, _⟩ => ⟨S1x16, .f32⟩
  | .hbm, ⟨24, _⟩ => ⟨S32768x16, .f32⟩
  | .hbm, ⟨25, _⟩ => ⟨S32768x16, .f32⟩
  | .hbm, ⟨26, _⟩ => ⟨S32768x4x4, .f32⟩
  | .hbm, ⟨27, _⟩ => ⟨S32768x4x2, .f32⟩
  | .hbm, ⟨28, _⟩ => ⟨S32768x4x2, .i32⟩
  | .hbm, ⟨29, _⟩ => ⟨S_, .f32⟩
  | .hbm, ⟨30, _⟩ => ⟨S32768x4, .f32⟩
  | .hbm, ⟨31, _⟩ => ⟨S32768x1, .f32⟩
  | .hbm, ⟨32, _⟩ => ⟨S32768x1, .i32⟩
  | .hbm, ⟨33, _⟩ => ⟨S32768, .i32⟩
  | .hbm, ⟨34, _⟩ => ⟨S32768x1, .i32⟩
  | .hbm, ⟨35, _⟩ => ⟨S1x4, .i32⟩
  | .hbm, ⟨36, _⟩ => ⟨S32768x4, .i32⟩
  | .hbm, ⟨37, _⟩ => ⟨S32768x4, .i32⟩
  | .hbm, ⟨38, _⟩ => ⟨S32768x4, .i1⟩
  | .hbm, ⟨39, _⟩ => ⟨S32768x4, .f32⟩
  | .hbm, ⟨40, _⟩ => ⟨S32768x4x2x1, .i32⟩
  | .hbm, ⟨41, _⟩ => ⟨S1x1x1x4, .i32⟩
  | .hbm, ⟨42, _⟩ => ⟨S32768x4x2x4, .i32⟩
  | .hbm, ⟨43, _⟩ => ⟨S32768x4x2x4, .i32⟩
  | .hbm, ⟨44, _⟩ => ⟨S32768x4x2x4, .i1⟩
  | .hbm, ⟨45, _⟩ => ⟨S32768x4x2x4, .f32⟩
  | .hbm, ⟨46, _⟩ => ⟨S_, .f32⟩
  | .hbm, ⟨47, _⟩ => ⟨S32768x4x4, .f32⟩
  | .hbm, ⟨48, _⟩ => ⟨S32768x4x1, .f32⟩
  | .hbm, ⟨49, _⟩ => ⟨S32768x4x4, .f32⟩
  | .hbm, ⟨50, _⟩ => ⟨S32768x4x4, .f32⟩
  | .hbm, ⟨51, _⟩ => ⟨S32768x16, .f32⟩
  | .hbm, ⟨52, _⟩ => ⟨S32768x16, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S32768x16, .f32⟩
  | .hbm, ⟨57, _⟩ => ⟨S32768x16, .f32⟩
  | .hbm, ⟨58, _⟩ => ⟨S16x256x32768, .f32⟩
  | .hbm, ⟨59, _⟩ => ⟨S16x32768x256, .f32⟩
  | .hbm, ⟨60, _⟩ => ⟨S16x32768x256, .f32⟩
  | .hbm, ⟨61, _⟩ => ⟨S16x32768x256, .f32⟩
  | .hbm, ⟨62, _⟩ => ⟨S_, .f32⟩
  | .hbm, ⟨63, _⟩ => ⟨S16x32768x256, .f32⟩
  | .hbm, ⟨64, _⟩ => ⟨S16x32768x256, .f32⟩
  | .hbm, ⟨65, _⟩ => ⟨S_, .f32⟩
  | .hbm, ⟨66, _⟩ => ⟨S16x32768x256, .f32⟩
  | .hbm, ⟨67, _⟩ => ⟨S16x32768x256, .f32⟩
  | .hbm, ⟨68, _⟩ => ⟨S16x32768x256, .f32⟩
  | .hbm, ⟨69, _⟩ => ⟨S16x256x32768, .f32⟩
  | .hbm, ⟨70, _⟩ => ⟨S16x32768x256, .f32⟩
  | .hbm, ⟨71, _⟩ => ⟨S16x32768x256, .f32⟩
  | .hbm, ⟨72, _⟩ => ⟨S16x32768, .f32⟩
  | .hbm, ⟨73, _⟩ => ⟨S16x32768x1, .f32⟩
  | .hbm, ⟨74, _⟩ => ⟨S16x32768x1024, .f32⟩
  | .hbm, ⟨75, _⟩ => ⟨S16x32768x1024, .f32⟩
  | .hbm, ⟨76, _⟩ => ⟨S16x32768x1024, .f32⟩
  | .hbm, ⟨77, _⟩ => ⟨S_, .f32⟩
  | .hbm, ⟨78, _⟩ => ⟨S32768x1024, .f32⟩
  | .hbm, ⟨79, _⟩ => ⟨S_, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S32768x1024, .f32⟩
  | .hbm, ⟨90, _⟩ => ⟨S32768x1024, .f32⟩
  | .hbm, ⟨91, _⟩ => ⟨S32768x1024, .f32⟩
  | .hbm, ⟨92, _⟩ => ⟨S_, .f32⟩
  | .hbm, ⟨93, _⟩ => ⟨S32768, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S32768x1024, .f32⟩
  | .hbm, ⟨99, _⟩ => ⟨S32768x1024, .f32⟩
  | .hbm, ⟨100, _⟩ => ⟨S_, .f32⟩
  | .hbm, ⟨101, _⟩ => ⟨S32768x1, .f32⟩
  | .hbm, ⟨102, _⟩ => ⟨S32768x1, .f32⟩
  | .hbm, ⟨103, _⟩ => ⟨S32768x1, .f32⟩
  | .hbm, ⟨104, _⟩ => ⟨S32768x1024, .f32⟩
  | .hbm, ⟨105, _⟩ => ⟨S32768x1024, .f32⟩
  | .hbm, ⟨106, _⟩ => ⟨S1x1024, .f32⟩
  | .hbm, ⟨107, _⟩ => ⟨S32768x1024, .f32⟩
  | .hbm, ⟨108, _⟩ => ⟨S32768x1024, .f32⟩
  | .hbm, ⟨109, _⟩ => ⟨S1x1024, .f32⟩
  | .hbm, ⟨110, _⟩ => ⟨S32768x1024, .f32⟩
  | .hbm, ⟨111, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v16 : Ref sig .tc := ⟨.hbm, 30, rfl⟩
abbrev main_values_3 : Ref sig .tc := ⟨.hbm, 31, rfl⟩
abbrev main_indices_4 : Ref sig .tc := ⟨.hbm, 32, rfl⟩
abbrev main_v17 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v18 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v19 : Ref sig .tc := ⟨.hbm, 45, rfl⟩
abbrev main_cst_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_7 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_9 : Ref sig .tc := ⟨.hbm, 83, rfl⟩
abbrev main_v45 : Ref sig .tc := ⟨.hbm, 84, rfl⟩
abbrev main_v46 : Ref sig .tc := ⟨.hbm, 85, rfl⟩
abbrev main_cst_10 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_11 : Ref sig .tc := ⟨.hbm, 92, rfl⟩
abbrev main_v52 : Ref sig .tc := ⟨.hbm, 93, rfl⟩
abbrev main_v53 : Ref sig .tc := ⟨.hbm, 94, rfl⟩
abbrev main_cst_12 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_13 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩

abbrev nD : Nat := 1
abbrev τ : Topo := Topo.v7x

variable {F : FTy → Type} [FloatOps F]
-- ==== KernelB.lean ====
abbrev S32768x1024 : Shape := ⟨2, ![32768, 1024]⟩
abbrev S1024x1024 : Shape := ⟨2, ![1024, 1024]⟩
abbrev S1024x2048 : Shape := ⟨2, ![1024, 2048]⟩
abbrev S16x8x1024x256 : Shape := ⟨4, ![16, 8, 1024, 256]⟩
abbrev S512x1024 : Shape := ⟨2, ![512, 1024]⟩
abbrev S1x2x1024x256 : Shape := ⟨4, ![1, 2, 1024, 256]⟩
abbrev S1024x512 : Shape := ⟨2, ![1024, 512]⟩
abbrev S1024x256 : Shape := ⟨2, ![1024, 256]⟩
abbrev S1x1x1024x256 : Shape := ⟨4, ![1, 1, 1024, 256]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x2048, .f32⟩
  | .hbm, ⟨3, _⟩ => ⟨S1024x1024, .bf16⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S32768x1024, .bf16⟩
  | .hbm, ⟨10, _⟩ => ⟨S32768x1024, .bf16⟩
  | .hbm, ⟨11, _⟩ => ⟨S16x8x1024x256, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x2x1024x256, .bf16⟩
  | .local _ .vmem, ⟨10, _⟩ => ⟨S1x2x1024x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceBIdeal.lean ====
abbrev S32768x1024 : Shape := ⟨2, ![32768, 1024]⟩
abbrev S1024x1024 : Shape := ⟨2, ![1024, 1024]⟩
abbrev S1024x2048 : Shape := ⟨2, ![1024, 2048]⟩
abbrev S_ : Shape := ⟨0, ![]⟩
abbrev S32768x2048 : Shape := ⟨2, ![32768, 2048]⟩
abbrev S16x8x256x1024 : Shape := ⟨4, ![16, 8, 256, 1024]⟩
abbrev S16x8x1024x256 : Shape := ⟨4, ![16, 8, 1024, 256]⟩

abbrev nBuf : Space → Nat
  | .hbm => 15
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x2048, .f32⟩
  | .hbm, ⟨3, _⟩ => ⟨S32768x1024, .f32⟩
  | .hbm, ⟨4, _⟩ => ⟨S_, .f32⟩
  | .hbm, ⟨5, _⟩ => ⟨S32768x1024, .f32⟩
  | .hbm, ⟨6, _⟩ => ⟨S32768x1024, .f32⟩
  | .hbm, ⟨7, _⟩ => ⟨S32768x2048, .f32⟩
  | .hbm, ⟨8, _⟩ => ⟨S32768x1024, .f32⟩
  | .hbm, ⟨9, _⟩ => ⟨S32768x1024, .f32⟩
  | .hbm, ⟨10, _⟩ => ⟨S16x8x256x1024, .f32⟩
  | .hbm, ⟨11, _⟩ => ⟨S16x8x1024x256, .f32⟩
  | .hbm, ⟨12, _⟩ => ⟨S32768x1024, .bf16⟩
  | .hbm, ⟨13, _⟩ => ⟨S32768x1024, .bf16⟩
  | .hbm, ⟨14, _⟩ => ⟨S16x8x1024x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelA.lean ====
abbrev S32768x1024 : Shape := ⟨2, ![32768, 1024]⟩
abbrev S1024x3656 : Shape := ⟨2, ![1024, 3656]⟩
abbrev S1024x1024 : Shape := ⟨2, ![1024, 1024]⟩
abbrev S1024x512 : Shape := ⟨2, ![1024, 512]⟩
abbrev S1024x8x64 : Shape := ⟨3, ![1024, 8, 64]⟩
abbrev S1024x64 : Shape := ⟨2, ![1024, 64]⟩
abbrev S1024x8 : Shape := ⟨2, ![1024, 8]⟩
abbrev S1024x2048 : Shape := ⟨2, ![1024, 2048]⟩
abbrev S_ : Shape := ⟨0, ![]⟩
abbrev S1024x8x32 : Shape := ⟨3, ![1024, 8, 32]⟩
abbrev S1024x8x128 : Shape := ⟨3, ![1024, 8, 128]⟩
abbrev S1024x32 : Shape := ⟨2, ![1024, 32]⟩
abbrev S1024x128 : Shape := ⟨2, ![1024, 128]⟩
abbrev S8x1024 : Shape := ⟨2, ![8, 1024]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S32 : Shape := ⟨1, ![32]⟩
abbrev S1x32 : Shape := ⟨2, ![1, 32]⟩
abbrev S2048x32 : Shape := ⟨2, ![2048, 32]⟩
abbrev S16x8x1024x256 : Shape := ⟨4, ![16, 8, 1024, 256]⟩
abbrev S32768x128 : Shape := ⟨2, ![32768, 128]⟩
abbrev S16x8x2048 : Shape := ⟨3, ![16, 8, 2048]⟩
abbrev S512x1024 : Shape := ⟨2, ![512, 1024]⟩
abbrev S512x128 : Shape := ⟨2, ![512, 128]⟩
abbrev S1x2x1024x256 : Shape := ⟨4, ![1, 2, 1024, 256]⟩
abbrev S1x8x512 : Shape := ⟨3, ![1, 8, 512]⟩
abbrev S1024x256 : Shape := ⟨2, ![1024, 256]⟩
abbrev S512x256 : Shape := ⟨2, ![512, 256]⟩
abbrev S1x1x1024x256 : Shape := ⟨4, ![1, 1, 1024, 256]⟩
abbrev S8x512 : Shape := ⟨2, ![8, 512]⟩

abbrev nBuf : Space → Nat
  | .hbm => 102
  | .vmem => 35
  | .smem => 0
  | _ => 0

abbrev bufTy : (tb : Table) → Fin (tcTables nBuf tb) → BufTy
  | .hbm, ⟨0, _⟩ => ⟨S32768x1024, .f32⟩
  | .hbm, ⟨1, _⟩ => ⟨S1024x3656, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x512, .f32⟩
  | .hbm, ⟨6, _⟩ => ⟨S1024x8x64, .f32⟩
  | .hbm, ⟨7, _⟩ => ⟨S1024x64, .f32⟩
  | .hbm, ⟨8, _⟩ => ⟨S1024x8, .f32⟩
  | .hbm, ⟨9, _⟩ => ⟨S1024x2048, .f32⟩
  | .hbm, ⟨10, _⟩ => ⟨S1024x2048, .bf16⟩
  | .hbm, ⟨11, _⟩ => ⟨S1024x1024, .f32⟩
  | .hbm, ⟨12, _⟩ => ⟨S1024x1024, .bf16⟩
  | .hbm, ⟨13, _⟩ => ⟨S_, .f32⟩
  | .hbm, ⟨14, _⟩ => ⟨S1024x8x32, .f32⟩
  | .hbm, ⟨15, _⟩ => ⟨S1024x8x32, .f32⟩
  | .hbm, ⟨16, _⟩ => ⟨S1024x8x32, .f32⟩
  | .hbm, ⟨17, _⟩ => ⟨S1024x8x128, .f32⟩
  | .hbm, ⟨18, _⟩ => ⟨S1024x1024, .f32⟩
  | .hbm, ⟨19, _⟩ => ⟨S1024x1024, .bf16⟩
  | .hbm, ⟨20, _⟩ => ⟨S_, .f32⟩
  | .hbm, ⟨21, _⟩ => ⟨S1024x32, .f32⟩
  | .hbm, ⟨22, _⟩ => ⟨S1024x32, .f32⟩
  | .hbm, ⟨23, _⟩ => ⟨S1024x32, .f32⟩
  | .hbm, ⟨24, _⟩ => ⟨S1024x128, .f32⟩
  | .hbm, ⟨25, _⟩ => ⟨S1024x128, .bf16⟩
  | .hbm, ⟨26, _⟩ => ⟨S8x1024, .f32⟩
  | .hbm, ⟨27, _⟩ => ⟨S8x1024, .bf16⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S2048, .f32⟩
  | .hbm, ⟨45, _⟩ => ⟨S2048x1, .f32⟩
  | .hbm, ⟨46, _⟩ => ⟨S1x64, .f32⟩
  | .hbm, ⟨47, _⟩ => ⟨S2048x64, .f32⟩
  | .hbm, ⟨48, _⟩ => ⟨S2048x64, .f32⟩
  | .hbm, ⟨49, _⟩ => ⟨S2048x64, .f32⟩
  | .hbm, ⟨50, _⟩ => ⟨S2048x64, .f32⟩
  | .hbm, ⟨51, _⟩ => ⟨S2048x64, .f32⟩
  | .hbm, ⟨52, _⟩ => ⟨S2048x128, .f32⟩
  | .hbm, ⟨53, _⟩ => ⟨S2048x64, .f32⟩
  | .hbm, ⟨54, _⟩ => ⟨S2048x128, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S2048, .f32⟩
  | .hbm, ⟨72, _⟩ => ⟨S2048x1, .f32⟩
  | .hbm, ⟨73, _⟩ => ⟨S1x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S_, .f32⟩
  | .hbm, ⟨80, _⟩ => ⟨S2048x32, .f32⟩
  | .hbm, ⟨81, _⟩ => ⟨S2048x128, .f32⟩
  | .hbm, ⟨82, _⟩ => ⟨S2048x32, .f32⟩
  | .hbm, ⟨83, _⟩ => ⟨S2048x128, .f32⟩
  | .hbm, ⟨84, _⟩ => ⟨S_, .f32⟩
  | .hbm, ⟨85, _⟩ => ⟨S2048x128, .f32⟩
  | .hbm, ⟨86, _⟩ => ⟨S2048x128, .f32⟩
  | .hbm, ⟨87, _⟩ => ⟨S_, .f32⟩
  | .hbm, ⟨88, _⟩ => ⟨S2048x128, .f32⟩
  | .hbm, ⟨89, _⟩ => ⟨S2048x128, .f32⟩
  | .hbm, ⟨90, _⟩ => ⟨S_, .f32⟩
  | .hbm, ⟨91, _⟩ => ⟨S2048x128, .f32⟩
  | .hbm, ⟨92, _⟩ => ⟨S2048x128, .f32⟩
  | .hbm, ⟨93, _⟩ => ⟨S_, .f32⟩
  | .hbm, ⟨94, _⟩ => ⟨S2048x128, .f32⟩
  | .hbm, ⟨95, _⟩ => ⟨S2048x128, .f32⟩
  | .hbm, ⟨96, _⟩ => ⟨S32768x1024, .bf16⟩
  | .hbm, ⟨97, _⟩ => ⟨S32768x1024, .bf16⟩
  | .hbm, ⟨98, _⟩ => ⟨S16x8x1024x256, .bf16⟩
  | .hbm, ⟨99, _⟩ => ⟨S32768x1024, .bf16⟩
  | .hbm, ⟨100, _⟩ => ⟨S32768x128, .bf16⟩
  | .hbm, ⟨101, _⟩ => ⟨S16x8x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S8x1024, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1x2x1024x256, .bf16⟩
  | .local _ .vmem, ⟨28, _⟩ => ⟨S1x2x1024x256, .bf16⟩
  | .local _ .vmem, ⟨29, _⟩ => ⟨S512x1024, .bf16⟩
  | .local _ .vmem, ⟨30, _⟩ => ⟨S512x1024, .bf16⟩
  | .local _ .vmem, ⟨31, _⟩ => ⟨S512x128, .bf16⟩
  | .local _ .vmem, ⟨32, _⟩ => ⟨S512x128, .bf16⟩
  | .local _ .vmem, ⟨33, _⟩ => ⟨S1x8x512, .f32⟩
  | .local _ .vmem, ⟨34, _⟩ => ⟨S1x8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_6 : Ref sig .tc := ⟨.hbm, 56, rfl⟩
abbrev main_v47 : Ref sig .tc := ⟨.hbm, 57, rfl⟩
abbrev main_v48 : Ref sig .tc := ⟨.hbm, 58, rfl⟩
abbrev main_cst_7 : Ref sig .tc := ⟨.hbm, 59, rfl⟩
abbrev main_v49 : Ref sig .tc := ⟨.hbm, 60, rfl⟩
abbrev main_v50 : Ref sig .tc := ⟨.hbm, 61, rfl⟩
abbrev main_cst_8 : Ref sig .tc := ⟨.hbm, 62, rfl⟩
abbrev main_v51 : Ref sig .tc := ⟨.hbm, 63, rfl⟩
abbrev main_v52 : Ref sig .tc := ⟨.hbm, 64, rfl⟩
abbrev main_cst_9 : Ref sig .tc := ⟨.hbm, 65, rfl⟩
abbrev main_v53 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_11 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_12 : Ref sig .tc := ⟨.hbm, 84, rfl⟩
abbrev main_v69 : Ref sig .tc := ⟨.hbm, 85, rfl⟩
abbrev main_v70 : Ref sig .tc := ⟨.hbm, 86, rfl⟩
abbrev main_cst_13 : Ref sig .tc := ⟨.hbm, 87, rfl⟩
abbrev main_v71 : Ref sig .tc := ⟨.hbm, 88, rfl⟩
abbrev main_v72 : Ref sig .tc := ⟨.hbm, 89, rfl⟩
abbrev main_cst_14 : Ref sig .tc := ⟨.hbm, 90, rfl⟩
abbrev main_v73 : Ref sig .tc := ⟨.hbm, 91, rfl⟩
abbrev main_v74 : Ref sig .tc := ⟨.hbm, 92, rfl⟩
abbrev main_cst_15 : Ref sig .tc := ⟨.hbm, 93, rfl⟩
abbrev main_v75 : Ref sig .tc := ⟨.hbm, 94, rfl⟩
abbrev main_v76 : Ref sig .tc := ⟨.hbm, 95, rfl⟩
abbrev main_v77_0 : Ref sig .tc := ⟨.hbm, 96, rfl⟩
abbrev main_v77_1 : Ref sig .tc := ⟨.hbm, 97, rfl⟩
abbrev main_v77_2 : Ref sig .tc := ⟨.hbm, 98, rfl⟩
abbrev main_v77_3 : Ref sig .tc := ⟨.hbm, 99, rfl⟩
abbrev main_v77_4 : Ref sig .tc := ⟨.hbm, 100, rfl⟩
abbrev main_v77_5 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x2x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceAIdeal.lean ====
abbrev S32768x1024 : Shape := ⟨2, ![32768, 1024]⟩
abbrev S1024x3656 : Shape := ⟨2, ![1024, 3656]⟩
abbrev S32768x3656 : Shape := ⟨2, ![32768, 3656]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S16x2048x8x128 : Shape := ⟨4, ![16, 2048, 8, 128]⟩
abbrev S16x2048x8x64 : Shape := ⟨4, ![16, 2048, 8, 64]⟩
abbrev S16x8x256x1024 : Shape := ⟨4, ![16, 8, 256, 1024]⟩
abbrev S16x8x1024x256 : Shape := ⟨4, ![16, 8, 1024, 256]⟩
abbrev S32768x512 : Shape := ⟨2, ![32768, 512]⟩
abbrev S32 : Shape := ⟨1, ![32]⟩
abbrev S1x32 : Shape := ⟨2, ![1, 32]⟩
abbrev S2048x32 : Shape := ⟨2, ![2048, 32]⟩
abbrev S1x2048x1x32 : Shape := ⟨4, ![1, 2048, 1, 32]⟩
abbrev S16x2048x8x32 : Shape := ⟨4, ![16, 2048, 8, 32]⟩
abbrev S32768x64 : Shape := ⟨2, ![32768, 64]⟩
abbrev S16x2048x1x64 : Shape := ⟨4, ![16, 2048, 1, 64]⟩
abbrev S16x2048x1x32 : Shape := ⟨4, ![16, 2048, 1, 32]⟩
abbrev S32768x8 : Shape := ⟨2, ![32768, 8]⟩
abbrev S16x2048x8 : Shape := ⟨3, ![16, 2048, 8]⟩
abbrev S16x8x2048 : Shape := ⟨3, ![16, 8, 2048]⟩
abbrev S16x2048x1x128 : Shape := ⟨4, ![16, 2048, 1, 128]⟩
abbrev S32768x128 : Shape := ⟨2, ![32768, 128]⟩

abbrev nBuf : Space → Nat
  | .hbm => 213
  | .vmem => 0
  | .smem => 0
  | _ => 0

abbrev hbmTy0_0 (i : Nat) : BufTy := match i % 128 with
  | 0 => ⟨S32768x1024, .f32⟩
  | 1 => ⟨S1024x3656, .f32⟩
  | 2 => ⟨S32768x3656, .f32⟩
  | 3 => ⟨S32768x1024, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S2048, .f32⟩
  | 21 => ⟨S2048x1, .f32⟩
  | 22 => ⟨S1x64, .f32⟩
  | 23 => ⟨S2048x64, .f32⟩
  | 24 => ⟨S2048x64, .f32⟩
  | 25 => ⟨S2048x64, .f32⟩
  | 26 => ⟨S2048x64, .f32⟩
  | 27 => ⟨S1x2048x1x64, .f32⟩
  | 28 => ⟨S2048x64, .f32⟩
  | 29 => ⟨S1x2048x1x64, .f32⟩
  | 30 => ⟨S16x2048x8x128, .f32⟩
  | 31 => ⟨S16x2048x8x64, .f32⟩
  | 32 => ⟨S16x2048x8x64, .f32⟩
  | 33 => ⟨S16x2048x8x64, .f32⟩
  | 34 => ⟨S16x2048x8x64, .f32⟩
  | 35 => ⟨S16x2048x8x64, .f32⟩
  | 36 => ⟨S16x2048x8x64, .f32⟩
  | 37 => ⟨S16x2048x8x64, .f32⟩
  | 38 => ⟨S_, .f32⟩
  | 39 => ⟨S16x2048x8x64, .f32⟩
  | 40 => ⟨S16x2048x8x64, .f32⟩
  | 41 => ⟨S16x2048x8x64, .f32⟩
  | 42 => ⟨S16x2048x8x64, .f32⟩
  | 43 => ⟨S16x2048x8x64, .f32⟩
  | 44 => ⟨S16x2048x8x64, .f32⟩
  | 45 => ⟨S16x2048x8x64, .f32⟩
  | 46 => ⟨S_, .f32⟩
  | 47 => ⟨S16x2048x8x64, .f32⟩
  | 48 => ⟨S16x2048x8x64, .f32⟩
  | 49 => ⟨S16x2048x8x128, .f32⟩
  | 50 => ⟨S32768x1024, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S_, .f32⟩
  | 65 => ⟨S64, .f32⟩
  | 66 => ⟨S64, .f32⟩
  | 67 => ⟨S2048, .f32⟩
  | 68 => ⟨S2048x1, .f32⟩
  | 69 => ⟨S1x64, .f32⟩
  | 70 => ⟨S2048x64, .f32⟩
  | 71 => ⟨S2048x64, .f32⟩
  | 72 => ⟨S2048x64, .f32⟩
  | 73 => ⟨S2048x64, .f32⟩
  | 74 => ⟨S1x2048x1x64, .f32⟩
  | 75 => ⟨S2048x64, .f32⟩
  | 76 => ⟨S1x2048x1x64, .f32⟩
  | 77 => ⟨S16x2048x8x128, .f32⟩
  | 78 => ⟨S16x2048x8x64, .f32⟩
  | 79 => ⟨S16x2048x8x64, .f32⟩
  | 80 => ⟨S16x2048x8x64, .f32⟩
  | 81 => ⟨S16x2048x8x64, .f32⟩
  | 82 => ⟨S16x2048x8x64, .f32⟩
  | 83 => ⟨S16x2048x8x64, .f32⟩
  | 84 => ⟨S16x2048x8x64, .f32⟩
  | 85 => ⟨S_, .f32⟩
  | 86 => ⟨S16x2048x8x64, .f32⟩
  | 87 => ⟨S16x2048x8x64, .f32⟩
  | 88 => ⟨S16x2048x8x64, .f32⟩
  | 89 => ⟨S16x2048x8x64, .f32⟩
  | 90 => ⟨S16x2048x8x64, .f32⟩
  | 91 => ⟨S16x2048x8x64, .f32⟩
  | 92 => ⟨S16x2048x8x64, .f32⟩
  | 93 => ⟨S_, .f32⟩
  | 94 => ⟨S16x2048x8x64, .f32⟩
  | 95 => ⟨S16x2048x8x64, .f32⟩
  | 96 => ⟨S16x2048x8x128, .f32⟩
  | 97 => ⟨S32768x1024, .f32⟩
  | 98 => ⟨S16x8x256x1024, .f32⟩
  | 99 => ⟨S16x8x1024x256, .f32⟩
  | 100 => ⟨S32768x512, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S2048, .f32⟩
  | 118 => ⟨S2048x1, .f32⟩
  | 119 => ⟨S1x32, .f32⟩
  | 120 => ⟨S2048x32, .f32⟩
  | 121 => ⟨S2048x32, .f32⟩
  | 122 => ⟨S2048x32, .f32⟩
  | 123 => ⟨S2048x32, .f32⟩
  | 124 => ⟨S1x2048x1x32, .f32⟩
  | 125 => ⟨S2048x32, .f32⟩
  | 126 => ⟨S1x2048x1x32, .f32⟩
  | 127 => ⟨S16x2048x8x64, .f32⟩
  | _ => ⟨S32768x1024, .f32⟩

abbrev hbmTy0_1 (i : Nat) : BufTy := match i % 128 with
  | 0 => ⟨S16x2048x8x32, .f32⟩
  | 1 => ⟨S16x2048x8x32, .f32⟩
  | 2 => ⟨S16x2048x8x32, .f32⟩
  | 3 => ⟨S16x2048x8x32, .f32⟩
  | 4 => ⟨S16x2048x8x32, .f32⟩
  | 5 => ⟨S16x2048x8x32, .f32⟩
  | 6 => ⟨S16x2048x8x32, .f32⟩
  | 7 => ⟨S_, .f32⟩
  | 8 => ⟨S16x2048x8x32, .f32⟩
  | 9 => ⟨S16x2048x8x32, .f32⟩
  | 10 => ⟨S16x2048x8x32, .f32⟩
  | 11 => ⟨S16x2048x8x32, .f32⟩
  | 12 => ⟨S16x2048x8x32, .f32⟩
  | 13 => ⟨S16x2048x8x32, .f32⟩
  | 14 => ⟨S16x2048x8x32, .f32⟩
  | 15 => ⟨S_, .f32⟩
  | 16 => ⟨S16x2048x8x32, .f32⟩
  | 17 => ⟨S16x2048x8x32, .f32⟩
  | 18 => ⟨S32768x64, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S2048, .f32⟩
  | 36 => ⟨S2048x1, .f32⟩
  | 37 => ⟨S1x32, .f32⟩
  | 38 => ⟨S2048x32, .f32⟩
  | 39 => ⟨S2048x32, .f32⟩
  | 40 => ⟨S2048x32, .f32⟩
  | 41 => ⟨S2048x32, .f32⟩
  | 42 => ⟨S1x2048x1x32, .f32⟩
  | 43 => ⟨S2048x32, .f32⟩
  | 44 => ⟨S1x2048x1x32, .f32⟩
  | 45 => ⟨S16x2048x1x64, .f32⟩
  | 46 => ⟨S16x2048x1x32, .f32⟩
  | 47 => ⟨S16x2048x1x32, .f32⟩
  | 48 => ⟨S16x2048x1x32, .f32⟩
  | 49 => ⟨S16x2048x1x32, .f32⟩
  | 50 => ⟨S16x2048x1x32, .f32⟩
  | 51 => ⟨S16x2048x1x32, .f32⟩
  | 52 => ⟨S16x2048x1x32, .f32⟩
  | 53 => ⟨S_, .f32⟩
  | 54 => ⟨S16x2048x1x32, .f32⟩
  | 55 => ⟨S16x2048x1x32, .f32⟩
  | 56 => ⟨S16x2048x1x32, .f32⟩
  | 57 => ⟨S16x2048x1x32, .f32⟩
  | 58 => ⟨S16x2048x1x32, .f32⟩
  | 59 => ⟨S16x2048x1x32, .f32⟩
  | 60 => ⟨S16x2048x1x32, .f32⟩
  | 61 => ⟨S_, .f32⟩
  | 62 => ⟨S16x2048x1x32, .f32⟩
  | 63 => ⟨S16x2048x1x32, .f32⟩
  | 64 => ⟨S32768x8, .f32⟩
  | 65 => ⟨S16x2048x8, .f32⟩
  | 66 => ⟨S16x8x2048, .f32⟩
  | 67 => ⟨S_, .f32⟩
  | 68 => ⟨S16x8x2048, .f32⟩
  | 69 => ⟨S16x8x2048, .f32⟩
  | 70 => ⟨S_, .f32⟩
  | 71 => ⟨S16x2048x8x32, .f32⟩
  | 72 => ⟨S_, .f32⟩
  | 73 => ⟨S16x2048x1x32, .f32⟩
  | 74 => ⟨S16x2048x8x128, .f32⟩
  | 75 => ⟨S16x2048x1x128, .f32⟩
  | 76 => ⟨S32768x1024, .f32⟩
  | 77 => ⟨S32768x1024, .bf16⟩
  | 78 => ⟨S32768x1024, .f32⟩
  | 79 => ⟨S32768x1024, .bf16⟩
  | 80 => ⟨S16x8x1024x256, .bf16⟩
  | 81 => ⟨S32768x1024, .f32⟩
  | 82 => ⟨S32768x1024, .bf16⟩
  | 83 => ⟨S32768x128, .f32⟩
  | 84 => ⟨S32768x128, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_5 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_6 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_cst_9 : Ref sig .tc := ⟨.hbm, 61, rfl⟩
abbrev main_v49 : Ref sig .tc := ⟨.hbm, 62, rfl⟩
abbrev main_v50 : Ref sig .tc := ⟨.hbm, 63, rfl⟩
abbrev main_cst_10 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_11 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_12 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_13 : Ref sig .tc := ⟨.hbm, 102, rfl⟩
abbrev main_v86 : Ref sig .tc := ⟨.hbm, 103, rfl⟩
abbrev main_v87 : Ref sig .tc := ⟨.hbm, 104, rfl⟩
abbrev main_cst_14 : Ref sig .tc := ⟨.hbm, 105, rfl⟩
abbrev main_v88 : Ref sig .tc := ⟨.hbm, 106, rfl⟩
abbrev main_v89 : Ref sig .tc := ⟨.hbm, 107, rfl⟩
abbrev main_cst_15 : Ref sig .tc := ⟨.hbm, 108, rfl⟩
abbrev main_v90 : Ref sig .tc := ⟨.hbm, 109, rfl⟩
abbrev main_v91 : Ref sig .tc := ⟨.hbm, 110, rfl⟩
abbrev main_cst_16 : Ref sig .tc := ⟨.hbm, 111, rfl⟩
abbrev main_v92 : Ref sig .tc := ⟨.hbm, 112, rfl⟩
abbrev main_v93 : Ref sig .tc := ⟨.hbm, 113, rfl⟩
abbrev main_cst_17 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_18 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_19 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_20 : Ref sig .tc := ⟨.hbm, 148, rfl⟩
abbrev main_v125 : Ref sig .tc := ⟨.hbm, 149, rfl⟩
abbrev main_v126 : Ref sig .tc := ⟨.hbm, 150, rfl⟩
abbrev main_cst_21 : Ref sig .tc := ⟨.hbm, 151, rfl⟩
abbrev main_v127 : Ref sig .tc := ⟨.hbm, 152, rfl⟩
abbrev main_v128 : Ref sig .tc := ⟨.hbm, 153, rfl⟩
abbrev main_cst_22 : Ref sig .tc := ⟨.hbm, 154, rfl⟩
abbrev main_v129 : Ref sig .tc := ⟨.hbm, 155, rfl⟩
abbrev main_v130 : Ref sig .tc := ⟨.hbm, 156, rfl⟩
abbrev main_cst_23 : Ref sig .tc := ⟨.hbm, 157, rfl⟩
abbrev main_v131 : Ref sig .tc := ⟨.hbm, 158, rfl⟩
abbrev main_v132 : Ref sig .tc := ⟨.hbm, 159, rfl⟩
abbrev main_cst_24 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_cst_25 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_cst_26 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_cst_27 : Ref sig .tc := ⟨.hbm, 195, rfl⟩
abbrev main_v165 : Ref sig .tc := ⟨.hbm, 196, rfl⟩
abbrev main_v166 : Ref sig .tc := ⟨.hbm, 197, rfl⟩
abbrev main_cst_28 : Ref sig .tc := ⟨.hbm, 198, rfl⟩
abbrev main_v167 : Ref sig .tc := ⟨.hbm, 199, rfl⟩
abbrev main_cst_29 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩

abbrev nD : Nat := 1
abbrev τ : Topo := Topo.v7x

variable {F : FTy → Type} [FloatOps F]
-- ==== Proof.Seg.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.Kit

@[expose] public section

set_option maxRecDepth 16384

noncomputable section

namespace Cert.Proof.Seg

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The block's first step alone: route the tokens, fill the per-block scratch, then go on. -/
noncomputable def seg1 (i : grid0.Coords) (arg2 : Memref sig .tc .vmem S1024x1024 .f32) (harg2 : arg2.IsWhole) (arg3 : Memref sig .tc .vmem S1024x128 .bf16) (harg3 : arg3.IsWhole) (arg4 : Memref sig .tc .vmem S16x1 .f32) (harg4 : arg4.IsWhole) (arg5 : Memref sig .tc .vmem S4x1024x256 .bf16) (harg5 : arg5.IsWhole) (arg6 : Memref sig .tc .vmem S4x1024x256 .bf16) (harg6 : arg6.IsWhole) (arg7 : Memref sig .tc .vmem S4x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S3x1024x128 .bf16) (harg13 : arg13.IsWhole) (arg14 : Memref sig .tc .vmem S8x1024 .f32) (harg14 : arg14.IsWhole) (arg15 : Memref sig .tc .vmem S1024x1024 .f32) (harg15 : arg15.IsWhole) (arg16 : Memref sig .tc .vmem S4x4x96x1024 .bf16) (harg16 : arg16.IsWhole) (arg17 : Memref sig .tc .smem S4 .i32) (harg17 : arg17.IsWhole) (K : PUnit.{1} → Prog (TpuEff nD τ sig (Elt F) Λ₀ .tc) PUnit) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let ⟨v44, v46, v48, v49, v50, v57⟩ : Σ' (v44 : FVec F S16x1024 .f32) (v46 : FVec F S16x1024 .f32) (v48 : FVec F S1x1024 .f32) (v49 : FVec F S1x1024 .f32) (v50 : FVec F S1x1024 .f32), FVec F S1x1024 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    let ⟨v106, v111, v112, v113, v114⟩ : Σ' (v106 : FVec F S1x1024 .f32) (v111 : IVec S1x1024 32) (v112 : IVec S1x1024 1) (v113 : FVec F S1x1024 .f32), IVec S1x1024 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v46 v48 v49 v50 v57
    let ⟨v118, v131, v144, v157, v162, c2_i32_28⟩ : Σ' (v118 : IVec S1x1024 32) (v131 : FVec F S1x1024 .f32) (v144 : FVec F S1x1024 .f32) (v157 : FVec F S1x1024 .f32) (v162 : FVec F S1x1024 .f32), BitVec 32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v46 v106 v111 v112 v113 v114
    let ⟨v170, v183, v196, v209, v210, v211⟩ : Σ' (v170 : FVec F S1x1024 .f32) (v183 : FVec F S1x1024 .f32) (v196 : FVec F S1x1024 .f32) (v209 : FVec F S1x1024 .f32) (v210 : FVec F S1x1024 .f32), IVec S1x1024 32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v46 v118 v162 c2_i32_28
    let ⟨v222, v234, v253, v255, c3_i32_55⟩ : Σ' (v222 : FVec F S1x1024 .f32) (v234 : IVec S1x1024 32) (v253 : FVec F S1x1024 .f32) (v255 : IVec S1x1024 32), BitVec 32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v44 v118 v131 v144 v157 v170 v210 v211
    let v303 : FVec F S16x1024 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v118 v170 v183 v196 v209 v222 v234 v253 v255 c3_i32_55
    let ⟨v344, v345, v350, c1_i32_80⟩ : Σ' (v344 : FVec F S1x1024 .f32) (v345 : FVec F S1x1024 .f32) (v350 : IVec S1x1024 1), BitVec 32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v118
    let ⟨v389, c1_i32_96⟩ : Σ' (v389 : IVec S1x1024 1), BitVec 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v118 v344 v350 c1_i32_80
    let ⟨v423, v424⟩ : Σ' (v423 : FVec F S1024x128 .f32), FVec F S1024x128 .bf16 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v303 v344 v345 v389 c1_i32_96
    let v428 : Vec F S1x1024x128 .bf16 ← Prog.lift (.load arg13 (Rect.unit (s := S3x1024x128) ![1, 0, 0] S1x1024x128.size inb_S3x1024x128_S1x1024x128_1_0_0).toLoadRect (View.loadsAt_vmem h_S1x1024x128))
    Prog.lift (.store arg13 (Rect.unit (s := S3x1024x128) ![1, 0, 0] S1x1024x128.size inb_S3x1024x128_S1x1024x128_1_0_0) (k0_pay1 v424) Finset.univ (View.stores_vmem h_S1x1024x128 (harg13.storeExact_slice rfl _ packedbf16_S3x1024x128_S1x1024x128_1_0_0) (fun _ => rfl)) (.inl rfl))
    let v434 : Vec F S1x1024x128 .bf16 ← Prog.lift (.load arg13 (Rect.unit (s := S3x1024x128) ![2, 0, 0] S1x1024x128.size inb_S3x1024x128_S1x1024x128_2_0_0).toLoadRect (View.loadsAt_vmem h_S1x1024x128))
    Prog.lift (.store arg13 (Rect.unit (s := S3x1024x128) ![2, 0, 0] S1x1024x128.size inb_S3x1024x128_S1x1024x128_2_0_0) (k0_pay2 v423 v424) Finset.univ (View.stores_vmem h_S1x1024x128 (harg13.storeExact_slice rfl _ packedbf16_S3x1024x128_S1x1024x128_2_0_0) (fun _ => rfl)) (.inl rfl))
    let v438 : Vec F S1024x1024 .f32 ← Prog.lift (.load arg15 (Rect.unit (s := S1024x1024) ![0, 0] S1024x1024.size inb_S1024x1024_S1024x1024_0_0).toLoadRect (View.loadsAt_vmem h_S1024x1024))
    Prog.lift (.store arg15 (Rect.unit (s := S1024x1024) ![0, 0] S1024x1024.size inb_S1024x1024_S1024x1024_0_0) (k0_pay3 (F := F)) Finset.univ (View.stores_vmem_bits_univ h_S1024x1024 rfl) (.inl rfl))
    K ⟨⟩
  else K ⟨⟩

/-- Every step: the group's experts on the whole block if a slice has too many tokens of it, else on its slots; then go on. -/
noncomputable def seg2 (i : grid0.Coords) (arg2 : Memref sig .tc .vmem S1024x1024 .f32) (harg2 : arg2.IsWhole) (arg3 : Memref sig .tc .vmem S1024x128 .bf16) (harg3 : arg3.IsWhole) (arg4 : Memref sig .tc .vmem S16x1 .f32) (harg4 : arg4.IsWhole) (arg5 : Memref sig .tc .vmem S4x1024x256 .bf16) (harg5 : arg5.IsWhole) (arg6 : Memref sig .tc .vmem S4x1024x256 .bf16) (harg6 : arg6.IsWhole) (arg7 : Memref sig .tc .vmem S4x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S3x1024x128 .bf16) (harg13 : arg13.IsWhole) (arg14 : Memref sig .tc .vmem S8x1024 .f32) (harg14 : arg14.IsWhole) (arg15 : Memref sig .tc .vmem S1024x1024 .f32) (harg15 : arg15.IsWhole) (arg16 : Memref sig .tc .vmem S4x4x96x1024 .bf16) (harg16 : arg16.IsWhole) (arg17 : Memref sig .tc .smem S4 .i32) (harg17 : arg17.IsWhole) (K : PUnit.{1} → Prog (TpuEff nD τ sig (Elt F) Λ₀ .tc) PUnit) :
    Prog (TpuEff nD τ sig (Elt F) Λ₀ .tc) PUnit := do
  let arg1 : BitVec 32 := BitVec.ofNat 32 (i 1).val
  let v3 : BitVec 32 := Scalar.muli arg1 4#32
  let v6 : Elt F .i32 ← smemLoad arg17 (Rect.unit (s := S4) (k0_off1 i) S1.size (k0_off1_inb i)) numel1_S1 rfl
  let v7 : BitVec 1 := Scalar.cmpi .sgt v6 0#32
  let v8 : BitVec 32 := Scalar.extui v7
  let v9 : BitVec 1 := Scalar.cmpi .ne v8 0#32
  if v9 = 1#1 then do
    let ⟨v13, v14, v15, v16, v44, v47⟩ : Σ' (v13 : Vec F S1024x1024 .f32) (v14 : Vec F S1024x1024 .bf16) (v15 : Vec F S1024x128 .f32) (v16 : IVec S1024x128 32) (v44 : FVec F S1024x1024 .f32), IVec S1024x128 1 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3
    let ⟨v73, v80, v83⟩ : Σ' (v73 : FVec F S1024x1024 .f32) (v80 : FVec F S1024x1 .f32), FVec F S1024x256 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v14 v15 v16 v44 v47
    let ⟨v102, v109, v112, v115, v118, v119⟩ : Σ' (v102 : FVec F S1024x1024 .f32) (v109 : FVec F S1024x1 .f32) (v112 : FVec F S1024x256 .f32) (v115 : FVec F S1024x256 .f32) (v118 : FVec F S1024x256 .f32), FVec F S1024x256 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v14 v15 v16 v73 v80 v83
    let v128 : Vec F S1x256x1024 .bf16 ← Prog.lift (.load arg7 (Rect.unit (s := S4x256x1024) ![3, 0, 0] S1x256x1024.size inb_S4x256x1024_S1x256x1024_3_0_0).toLoadRect (View.loadsAt_vmem h_S1x256x1024))
    let v133 : Vec F S1024x1024 .f32 ← Prog.lift (.load arg15 (Rect.unit (s := S1024x1024) ![0, 0] S1024x1024.size inb_S1024x1024_S1024x1024_0_0).toLoadRect (View.loadsAt_vmem h_S1024x1024))
    Prog.lift (.store arg15 (Rect.unit (s := S1024x1024) ![0, 0] S1024x1024.size inb_S1024x1024_S1024x1024_0_0) (k0_pay5 v13 v102 v109 v112 v115 v118 v119 v128) Finset.univ (View.stores_vmem_bits_univ h_S1024x1024 rfl) (.inl rfl))
    let v138 : Vec F S1x4x96x1024 .bf16 ← Prog.lift (.load arg16 (Rect.unit (s := S4x4x96x1024) (k0_off2 i) S1x4x96x1024.size (k0_off2_inb i)).toLoadRect (View.loadsAt_vmem h_S1x4x96x1024))
    Prog.lift (.store arg16 (Rect.unit (s := S4x4x96x1024) (k0_off2 i) S1x4x96x1024.size (k0_off2_inb i)) (k0_pay6 (F := F)) Finset.univ (View.stores_vmem h_S1x4x96x1024 (harg16.storeExact_slice rfl _ (k0_off2_packedbf16 i)) (fun _ => rfl)) (.inl rfl))
    K ⟨⟩
  else do
    let ⟨v14, v29, v40, v43, v44, v45⟩ : Σ' (v14 : FVec F S96x256 .f32) (v29 : FVec F S96x1024 .bf16) (v40 : FVec F S96x128 .f32) (v43 : IVec S1x256 1) (v44 : Vec F S1x256 .f32), FVec F S1x256 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay4 (F := F) i)
    let ⟨v55, v66, v78, v79⟩ : Σ' (v55 : FVec F S96x1024 .bf16) (v66 : FVec F S96x128 .f32) (v78 : FVec F S96x256 .bf16), Vec F S256x1024 .bf16 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay4 (F := F) i) v14 v43 v44 v45
    let ⟨v81, v92, v104, v107, v110⟩ : Σ' (v81 : FVec F S96x1024 .bf16) (v92 : FVec F S96x128 .f32) (v104 : FVec F S96x256 .bf16) (v107 : FVec F S96x1024 .bf16), FVec F S96x128 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay4 (F := F) i) v14 v78 v79
    let ⟨v119, v120, v121, v146, v147⟩ : Σ' (v119 : FVec F S384x1024 .bf16) (v120 : FVec F S384x128 .f32) (v121 : IVec S384x128 32) (v146 : FVec F S384x256 .bf16), Vec F S1x256x1024 .bf16 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v29 v40 v55 v66 v81 v92 v104 v107 v110
    let ⟨v178, v185⟩ : Σ' (v178 : FVec F S384x1024 .f32), FVec F S384x1 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v119 v120 v121 v146 v147
    let ⟨v207, v214, v217, v219, cst_146⟩ : Σ' (v207 : FVec F S384x1024 .f32) (v214 : FVec F S384x1 .f32) (v217 : FVec F S384x256 .f32) (v219 : FVec F S1024x256 .bf16), FVec F S384x256 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v119 v120 v121 v178 v185
    let v256 : FVec F S96x1024 .bf16 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v119 v207 v214 v217 v219 cst_146
    let v258 : Vec F S1x1x96x1024 .bf16 ← Prog.lift (.load arg16 (Rect.unit (s := S4x4x96x1024) (k0_off6 i) S1x1x96x1024.size (k0_off6_inb i)).toLoadRect (View.loadsAt_vmem h_S1x1x96x1024))
    Prog.lift (.store arg16 (Rect.unit (s := S4x4x96x1024) (k0_off6 i) S1x1x96x1024.size (k0_off6_inb i)) (k0_pay7 v256) Finset.univ (View.stores_vmem h_S1x1x96x1024 (harg16.storeExact_slice rfl _ (k0_off6_packedbf16 i)) (fun _ => rfl)) (.inl rfl))
    K ⟨⟩

/-- The block's last step alone: scatter the slots back, add the residual, normalise. -/
noncomputable def seg3 (i : grid0.Coords) (arg2 : Memref sig .tc .vmem S1024x1024 .f32) (harg2 : arg2.IsWhole) (arg3 : Memref sig .tc .vmem S1024x128 .bf16) (harg3 : arg3.IsWhole) (arg4 : Memref sig .tc .vmem S16x1 .f32) (harg4 : arg4.IsWhole) (arg5 : Memref sig .tc .vmem S4x1024x256 .bf16) (harg5 : arg5.IsWhole) (arg6 : Memref sig .tc .vmem S4x1024x256 .bf16) (harg6 : arg6.IsWhole) (arg7 : Memref sig .tc .vmem S4x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S3x1024x128 .bf16) (harg13 : arg13.IsWhole) (arg14 : Memref sig .tc .vmem S8x1024 .f32) (harg14 : arg14.IsWhole) (arg15 : Memref sig .tc .vmem S1024x1024 .f32) (harg15 : arg15.IsWhole) (arg16 : Memref sig .tc .vmem S4x4x96x1024 .bf16) (harg16 : arg16.IsWhole) (arg17 : Memref sig .tc .smem S4 .i32) (harg17 : arg17.IsWhole) :
    Prog (TpuEff nD τ sig (Elt F) Λ₀ .tc) PUnit := do
  if k0_h3 : k0_cond3 i = 1#1 then do
    let ⟨v14, v41, v42⟩ : Σ' (v14 : FVec F S256x384 .f32) (v41 : FVec F S256x1024 .f32), Vec F S256x1024 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    let ⟨v81, cst_45⟩ : Σ' (v81 : IVec S256x384 1), F .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v14 v41 v42
    let ⟨v103, v105, v111, v112⟩ : Σ' (v103 : FVec F S1x1024 .f32) (v105 : FVec F S1x1024 .f32) (v111 : FVec F S256x1024 .f32), FVec F S256x1024 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v81 cst_45
    let ⟨v141, v143, v145⟩ : Σ' (v141 : FVec F S256x384 .bf16) (v143 : FVec F S96x1024 .bf16), FVec F S96x1024 .bf16 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v14 v103 v105 v111 v112
    k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v141 v143 v145
    let ⟨v209, v212⟩ : Σ' (v209 : FVec F S256x1024 .f32), FVec F S256x1024 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v14
    let v214 : Vec F S1x1024 .f32 ← Prog.lift (.load arg8 (Rect.unit (s := S1x1024) ![0, 0] S1x1024.size inb_S1x1024_S1x1024_0_0).toLoadRect (View.loadsAt_vmem h_S1x1024))
    let v216 : Vec F S1x1024 .f32 ← Prog.lift (.load arg9 (Rect.unit (s := S1x1024) ![0, 0] S1x1024.size inb_S1x1024_S1x1024_0_0).toLoadRect (View.loadsAt_vmem h_S1x1024))
    let v238 : Vec F S256x1024 .f32 ← Prog.lift (.load arg10 (Rect.unit (s := S1024x1024) ![768, 0] S256x1024.size inb_S1024x1024_S256x1024_768_0).toLoadRect (View.loadsAt_vmem h_S256x1024))
    Prog.lift (.store arg10 (Rect.unit (s := S1024x1024) ![768, 0] S256x1024.size inb_S1024x1024_S256x1024_768_0) (k0_pay8 v209 v212 v214 v216) Finset.univ (View.stores_vmem_bits_univ h_S256x1024 rfl) (.inl rfl))
    pure ⟨⟩
  else pure ⟨⟩

/-- The kernel's body is its three segments one after the other. -/
theorem skel_eq (i : grid0.Coords) (arg2 : Memref sig .tc .vmem S1024x1024 .f32) (harg2 : arg2.IsWhole) (arg3 : Memref sig .tc .vmem S1024x128 .bf16) (harg3 : arg3.IsWhole) (arg4 : Memref sig .tc .vmem S16x1 .f32) (harg4 : arg4.IsWhole) (arg5 : Memref sig .tc .vmem S4x1024x256 .bf16) (harg5 : arg5.IsWhole) (arg6 : Memref sig .tc .vmem S4x1024x256 .bf16) (harg6 : arg6.IsWhole) (arg7 : Memref sig .tc .vmem S4x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S3x1024x128 .bf16) (harg13 : arg13.IsWhole) (arg14 : Memref sig .tc .vmem S8x1024 .f32) (harg14 : arg14.IsWhole) (arg15 : Memref sig .tc .vmem S1024x1024 .f32) (harg15 : arg15.IsWhole) (arg16 : Memref sig .tc .vmem S4x4x96x1024 .bf16) (harg16 : arg16.IsWhole) (arg17 : Memref sig .tc .smem S4 .i32) (harg17 : arg17.IsWhole) :
    cc0_moe_ln (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = seg1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 fun _ => seg2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 fun _ => seg3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := rfl

end Cert.Proof.Seg

end
-- ==== Proof.Body.lean ====
module

public import proofs.«01_k».proof.Proof.Seg
public import proofs.«01_k».proof.Proof.Gen.KernelIdeal.Launch
public import proofs.«01_k».proof.Proof.Gen.KernelIdeal.Points
public import Idealize.ShloMosaic.Lib.Tactic
public import Idealize.ShloMosaic.Lib.Pipeline.Kit

@[expose] public section

set_option maxRecDepth 16384
set_option genInjectivity false
set_option genSizeOf false

noncomputable section

namespace Cert.Proof.Body

open Cert.KernelIdeal Cert.KernelIdeal.Gen Cert.Proof.Seg

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Memref `M`'s own elements on core `c` held at `f`. -/
abbrev pw (c : Dev nD) {sp : Space} {S : Shape} {e : EltTy} (M : Memref sig .tc sp S e) (f : Bf (F := F) c M) : sProp 𝕄 :=
  M.view.loc (c : Thread nD τ) ↦[M.view.set]{fullShare} f

/-- The seven scratch buffers held whole at the contents named. -/
abbrev scrP (c : Dev nD) (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) : sProp 𝕄 :=
  iprop(pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6)

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := F) c M0) (f1 : Bf (F := F) c M1) (f2 : Bf (F := F) c M2) (f3 : Bf (F := F) c M3) (f4 : Bf (F := F) c M4)
  (f5 : Bf (F := F) c M5) (f6 : Bf (F := F) c M6) (f7 : Bf (F := F) c M7) (f8 : Bf (F := F) c M8)
  (s0 : Bf (F := F) c (Memref.whole cc0_scratch0)) (s1 : Bf (F := F) c (Memref.whole cc0_scratch1))
  (s2 : Bf (F := F) c (Memref.whole cc0_scratch2)) (s3 : Bf (F := F) c (Memref.whole cc0_scratch3))
  (s4 : Bf (F := F) c (Memref.whole cc0_scratch4)) (s5 : Bf (F := F) c (Memref.whole cc0_scratch5))
  (s6 : Bf (F := F) c (Memref.whole cc0_scratch6))

/-- The eight staged operands held whole at the contents named. -/
abbrev insP : sProp 𝕄 :=
  iprop(pw c M0 f0 ∗ pw c M1 f1 ∗ pw c M2 f2 ∗ pw c M3 f3 ∗ pw c M4 f4 ∗ pw c M5 f5 ∗ pw c M6 f6 ∗ pw c M7 f7)

/-- A block's first step: the kernel's own test of the inner coordinate against 0. -/
abbrev isFirst (i : grid0.Coords) : Prop := Scalar.cmpi .ne (Scalar.extui (Scalar.cmpi .eq (BitVec.ofNat 32 (i 1).val) 0#32)) 0#32 = 1#1

/-- The word the second segment tests: the step's group's overflow flag. -/
abbrev flag : BitVec 1 := Scalar.cmpi .ne (Scalar.extui (Scalar.cmpi .sgt
  (View.readAt (Elt F) (Memref.whole cc0_scratch6).view (Rect.unit (s := S4) (k0_off1 i) S1.size (k0_off1_inb i)).toLoadRect s6 (Shape.Idx.first (numel1_S1.symm ▸ Nat.one_pos))) 0#32)) 0#32

/-- The first segment at a block's first step. The contents it leaves, and the run. -/
structure First where
  t0 : Bf (F := F) c (Memref.whole cc0_scratch0)
  t1 : Bf (F := F) c (Memref.whole cc0_scratch1)
  t2 : Bf (F := F) c (Memref.whole cc0_scratch2)
  t3 : Bf (F := F) c (Memref.whole cc0_scratch3)
  t4 : Bf (F := F) c (Memref.whole cc0_scratch4)
  t6 : Bf (F := F) c (Memref.whole cc0_scratch6)
  ok : ∀ (K : PUnit.{1} → Prog (TpuEff nD τ sig (Elt F) Λ₀ .tc) PUnit) (Q : PUnit → sProp 𝕄),
    iprop(insP c M0 M1 M2 M3 M4 M5 M6 M7 f0 f1 f2 f3 f4 f5 f6 f7 ∗ pw c M8 f8 ∗ scrP c s0 s1 s2 s3 s4 s5 s6 ∗ (iprop(insP c M0 M1 M2 M3 M4 M5 M6 M7 f0 f1 f2 f3 f4 f5 f6 f7 ∗ pw c M8 f8 ∗ scrP c t0 t1 t2 t3 t4 s5 t6) -∗ wp frame (wpE (defs₀ (F := F)) Variants.none c none) Set.univ (K ⟨⟩) Q))
    ⊢ wp frame (wpE (defs₀ (F := F)) Variants.none c none) Set.univ
        (seg1 i M0 h0 M1 h1 M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) K) Q

set_option sl_exec.resultNames true in
/-- The first segment at a block's first step. -/
def first
    (hg : isFirst i) : First c i M0 h0 M1 h1 M2 h2 M3 h3 M4 h4 M5 h5 M6 h6 M7 h7 M8 h8 f0 f1 f2 f3 f4 f5 f6 f7 f8 s0 s1 s2 s3 s4 s5 s6 := by
  apply First.mk
  intro K Q
  iintro ⟨⟨H0, H1, H2, H3, H4, H5, H6, H7⟩, H8, ⟨S0, S1, S2, S3, S4, S5, S6⟩, Hk⟩
  unfold seg1
  sl_exec!
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iexact S6

/-- The second segment where the step's group overflows a slice. The contents it leaves, and the run. -/
structure Dense where
  t4 : Bf (F := F) c (Memref.whole cc0_scratch4)
  t5 : Bf (F := F) c (Memref.whole cc0_scratch5)
  ok : ∀ (K : PUnit.{1} → Prog (TpuEff nD τ sig (Elt F) Λ₀ .tc) PUnit) (Q : PUnit → sProp 𝕄),
    iprop(insP c M0 M1 M2 M3 M4 M5 M6 M7 f0 f1 f2 f3 f4 f5 f6 f7 ∗ pw c M8 f8 ∗ scrP c s0 s1 s2 s3 s4 s5 s6 ∗ (iprop(insP c M0 M1 M2 M3 M4 M5 M6 M7 f0 f1 f2 f3 f4 f5 f6 f7 ∗ pw c M8 f8 ∗ scrP c s0 s1 s2 s3 t4 t5 s6) -∗ wp frame (wpE (defs₀ (F := F)) Variants.none c none) Set.univ (K ⟨⟩) Q))
    ⊢ wp frame (wpE (defs₀ (F := F)) Variants.none c none) Set.univ
        (seg2 i M0 h0 M1 h1 M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) K) Q

set_option sl_exec.resultNames true in
/-- The second segment where the step's group overflows a slice. -/
def dense
    (ho : flag c i s6 = 1#1) : Dense c i M0 h0 M1 h1 M2 h2 M3 h3 M4 h4 M5 h5 M6 h6 M7 h7 M8 h8 f0 f1 f2 f3 f4 f5 f6 f7 f8 s0 s1 s2 s3 s4 s5 s6 := by
  apply Dense.mk
  intro K Q
  iintro ⟨⟨H0, H1, H2, H3, H4, H5, H6, H7⟩, H8, ⟨S0, S1, S2, S3, S4, S5, S6⟩, Hk⟩
  unfold seg2
  sl_exec!
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iexact S6

/-- The second segment where the step's group fits its slots. The contents it leaves, and the run. -/
structure Compacted where
  t5 : Bf (F := F) c (Memref.whole cc0_scratch5)
  ok : ∀ (K : PUnit.{1} → Prog (TpuEff nD τ sig (Elt F) Λ₀ .tc) PUnit) (Q : PUnit → sProp 𝕄),
    iprop(insP c M0 M1 M2 M3 M4 M5 M6 M7 f0 f1 f2 f3 f4 f5 f6 f7 ∗ pw c M8 f8 ∗ scrP c s0 s1 s2 s3 s4 s5 s6 ∗ (iprop(insP c M0 M1 M2 M3 M4 M5 M6 M7 f0 f1 f2 f3 f4 f5 f6 f7 ∗ pw c M8 f8 ∗ scrP c s0 s1 s2 s3 s4 t5 s6) -∗ wp frame (wpE (defs₀ (F := F)) Variants.none c none) Set.univ (K ⟨⟩) Q))
    ⊢ wp frame (wpE (defs₀ (F := F)) Variants.none c none) Set.univ
        (seg2 i M0 h0 M1 h1 M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) K) Q

set_option sl_exec.resultNames true in
/-- The second segment where the step's group fits its slots. -/
def compacted
    (ho : ¬ flag c i s6 = 1#1) : Compacted c i M0 h0 M1 h1 M2 h2 M3 h3 M4 h4 M5 h5 M6 h6 M7 h7 M8 h8 f0 f1 f2 f3 f4 f5 f6 f7 f8 s0 s1 s2 s3 s4 s5 s6 := by
  apply Compacted.mk
  intro K Q
  iintro ⟨⟨H0, H1, H2, H3, H4, H5, H6, H7⟩, H8, ⟨S0, S1, S2, S3, S4, S5, S6⟩, Hk⟩
  unfold seg2
  sl_exec!
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iexact S6

/-- The third segment at a block's last step. The contents it leaves, and the run. -/
structure Last where
  t8 : Bf (F := F) c M8
  ok : ∀ (Q : PUnit → sProp 𝕄),
    iprop(insP c M0 M1 M2 M3 M4 M5 M6 M7 f0 f1 f2 f3 f4 f5 f6 f7 ∗ pw c M8 f8 ∗ scrP c s0 s1 s2 s3 s4 s5 s6 ∗ (iprop(insP c M0 M1 M2 M3 M4 M5 M6 M7 f0 f1 f2 f3 f4 f5 f6 f7 ∗ pw c M8 t8 ∗ scrP c s0 s1 s2 s3 s4 s5 s6) -∗ Q ⟨⟩))
    ⊢ wp frame (wpE (defs₀ (F := F)) Variants.none c none) Set.univ
        (seg3 i M0 h0 M1 h1 M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) Q

set_option sl_exec.resultNames true in
/-- The third segment at a block's last step. -/
def last
    (hg : k0_cond3 i = 1#1) : Last c i M0 h0 M1 h1 M2 h2 M3 h3 M4 h4 M5 h5 M6 h6 M7 h7 M8 h8 f0 f1 f2 f3 f4 f5 f6 f7 f8 s0 s1 s2 s3 s4 s5 s6 := by
  apply Last.mk
  intro Q
  iintro ⟨⟨H0, H1, H2, H3, H4, H5, H6, H7⟩, H8, ⟨S0, S1, S2, S3, S4, S5, S6⟩, Hk⟩
  unfold seg3
  sl_exec!
  sl_step
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iexact S6

end Cert.Proof.Body

end
-- ==== Proof.Run.lean ====
module

public import proofs.«01_k».proof.Proof.Body
public import proofs.«01_k».proof.Proof.Gen.KernelIdeal.Launch
public import proofs.«01_k».proof.Proof.Gen.KernelIdeal.Points
public import Idealize.ShloMosaic.Lib.Tactic
public import proofs.«01_k».proof.Proof.Gen.KernelIdeal.Frame
public import Idealize.ShloMosaic.Lib.Pipeline.FrameBody
public import Idealize.ShloMosaic.Lib.Pipeline.DatRel
public import Idealize.ShloMosaic.Lib.Pipeline.ArrRel

@[expose] public section

set_option maxRecDepth 16384
set_option genInjectivity false
set_option genSizeOf false

noncomputable section

namespace Cert.Proof.Run

open Cert.KernelIdeal Cert.KernelIdeal.Gen Cert.Proof.Seg Cert.Proof.Body

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat RDat Cfg Window BodyObligationRel)

variable {F : FTy → Type} [FloatOps F]

local notation "𝕄" => MT nD τ sig Unit (Elt F) ℕ (UR sig nD τ) ℕ

/-- What the seven scratch buffers hold on core `c`. -/
structure Scr (F : FTy → Type) [FloatOps F] (c : Dev nD) where
  s0 : Bf (F := F) c (Memref.whole cc0_scratch0)
  s1 : Bf (F := F) c (Memref.whole cc0_scratch1)
  s2 : Bf (F := F) c (Memref.whole cc0_scratch2)
  s3 : Bf (F := F) c (Memref.whole cc0_scratch3)
  s4 : Bf (F := F) c (Memref.whole cc0_scratch4)
  s5 : Bf (F := F) c (Memref.whole cc0_scratch5)
  s6 : Bf (F := F) c (Memref.whole cc0_scratch6)

/-- The scratch buffers held whole at `s`. -/
def scr (c : Dev nD) (s : Scr F c) : sProp 𝕄 := scrP c s.s0 s.s1 s.s2 s.s3 s.s4 s.s5 s.s6

section Step

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := F) c M0) (f1 : Bf (F := F) c M1) (f2 : Bf (F := F) c M2) (f3 : Bf (F := F) c M3) (f4 : Bf (F := F) c M4)
  (f5 : Bf (F := F) c M5) (f6 : Bf (F := F) c M6) (f7 : Bf (F := F) c M7) (f8 : Bf (F := F) c M8)
  (s : Scr F c)

/-- The scratch after the first segment. -/
def after1 : Scr F c :=
  if hg : isFirst i then
    let r := first c i M0 h0 M1 h1 M2 h2 M3 h3 M4 h4 M5 h5 M6 h6 M7 h7 M8 h8 f0 f1 f2 f3 f4 f5 f6 f7 f8 s.s0 s.s1 s.s2 s.s3 s.s4 s.s5 s.s6 hg
    ⟨r.t0, r.t1, r.t2, r.t3, r.t4, s.s5, r.t6⟩
  else s

/-- The scratch after the second segment. -/
def after2 : Scr F c :=
  if ho : flag c i s.s6 = 1#1 then
    let r := dense c i M0 h0 M1 h1 M2 h2 M3 h3 M4 h4 M5 h5 M6 h6 M7 h7 M8 h8 f0 f1 f2 f3 f4 f5 f6 f7 f8 s.s0 s.s1 s.s2 s.s3 s.s4 s.s5 s.s6 ho
    ⟨s.s0, s.s1, s.s2, s.s3, r.t4, r.t5, s.s6⟩
  else
    ⟨s.s0, s.s1, s.s2, s.s3, s.s4, (compacted c i M0 h0 M1 h1 M2 h2 M3 h3 M4 h4 M5 h5 M6 h6 M7 h7 M8 h8 f0 f1 f2 f3 f4 f5 f6 f7 f8 s.s0 s.s1 s.s2 s.s3 s.s4 s.s5 s.s6 ho).t5, s.s6⟩

/-- The output's staging buffer after the third segment. -/
def after3 : Bf (F := F) c M8 :=
  if hg : k0_cond3 i = 1#1 then (last c i M0 h0 M1 h1 M2 h2 M3 h3 M4 h4 M5 h5 M6 h6 M7 h7 M8 h8 f0 f1 f2 f3 f4 f5 f6 f7 f8 s.s0 s.s1 s.s2 s.s3 s.s4 s.s5 s.s6 hg).t8 else f8

theorem seg1_ok (K : PUnit.{1} → Prog (TpuEff nD τ sig (Elt F) Λ₀ .tc) PUnit) (Q : PUnit → sProp 𝕄) :
    iprop(insP c M0 M1 M2 M3 M4 M5 M6 M7 f0 f1 f2 f3 f4 f5 f6 f7 ∗ pw c M8 f8 ∗ scr c s ∗ (iprop(insP c M0 M1 M2 M3 M4 M5 M6 M7 f0 f1 f2 f3 f4 f5 f6 f7 ∗ pw c M8 f8 ∗ scr c (after1 c i M0 h0 M1 h1 M2 h2 M3 h3 M4 h4 M5 h5 M6 h6 M7 h7 M8 h8 f0 f1 f2 f3 f4 f5 f6 f7 f8 s)) -∗ wp frame (wpE (defs₀ (F := F)) Variants.none c none) Set.univ (K ⟨⟩) Q))
      ⊢ wp frame (wpE (defs₀ (F := F)) Variants.none c none) Set.univ (seg1 i M0 h0 M1 h1 M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) K) Q := by
  unfold after1 scr
  by_cases hg : isFirst i
  · rw [dif_pos hg]; generalize first c i M0 h0 M1 h1 M2 h2 M3 h3 M4 h4 M5 h5 M6 h6 M7 h7 M8 h8 f0 f1 f2 f3 f4 f5 f6 f7 f8 s.s0 s.s1 s.s2 s.s3 s.s4 s.s5 s.s6 hg = r; exact r.ok K Q
  · rw [dif_neg hg]; unfold seg1; dsimp only; rw [dif_neg hg]
    iintro ⟨HI, H8, HS, Hk⟩; iapply Hk
    isplitl [HI]; · iexact HI
    isplitl [H8]; · iexact H8
    iexact HS

theorem seg2_ok (K : PUnit.{1} → Prog (TpuEff nD τ sig (Elt F) Λ₀ .tc) PUnit) (Q : PUnit → sProp 𝕄) :
    iprop(insP c M0 M1 M2 M3 M4 M5 M6 M7 f0 f1 f2 f3 f4 f5 f6 f7 ∗ pw c M8 f8 ∗ scr c s ∗ (iprop(insP c M0 M1 M2 M3 M4 M5 M6 M7 f0 f1 f2 f3 f4 f5 f6 f7 ∗ pw c M8 f8 ∗ scr c (after2 c i M0 h0 M1 h1 M2 h2 M3 h3 M4 h4 M5 h5 M6 h6 M7 h7 M8 h8 f0 f1 f2 f3 f4 f5 f6 f7 f8 s)) -∗ wp frame (wpE (defs₀ (F := F)) Variants.none c none) Set.univ (K ⟨⟩) Q))
      ⊢ wp frame (wpE (defs₀ (F := F)) Variants.none c none) Set.univ (seg2 i M0 h0 M1 h1 M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) K) Q := by
  unfold after2 scr
  by_cases ho : flag c i s.s6 = 1#1
  · rw [dif_pos ho]; generalize dense c i M0 h0 M1 h1 M2 h2 M3 h3 M4 h4 M5 h5 M6 h6 M7 h7 M8 h8 f0 f1 f2 f3 f4 f5 f6 f7 f8 s.s0 s.s1 s.s2 s.s3 s.s4 s.s5 s.s6 ho = r; exact r.ok K Q
  · rw [dif_neg ho]; generalize compacted c i M0 h0 M1 h1 M2 h2 M3 h3 M4 h4 M5 h5 M6 h6 M7 h7 M8 h8 f0 f1 f2 f3 f4 f5 f6 f7 f8 s.s0 s.s1 s.s2 s.s3 s.s4 s.s5 s.s6 ho = r; exact r.ok K Q

theorem seg3_ok (Q : PUnit → sProp 𝕄) :
    iprop(insP c M0 M1 M2 M3 M4 M5 M6 M7 f0 f1 f2 f3 f4 f5 f6 f7 ∗ pw c M8 f8 ∗ scr c s ∗ (iprop(insP c M0 M1 M2 M3 M4 M5 M6 M7 f0 f1 f2 f3 f4 f5 f6 f7 ∗ pw c M8 (after3 c i M0 h0 M1 h1 M2 h2 M3 h3 M4 h4 M5 h5 M6 h6 M7 h7 M8 h8 f0 f1 f2 f3 f4 f5 f6 f7 f8 s) ∗ scr c s) -∗ Q ⟨⟩))
      ⊢ wp frame (wpE (defs₀ (F := F)) Variants.none c none) Set.univ (seg3 i M0 h0 M1 h1 M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) Q := by
  unfold after3 scr
  by_cases hg : k0_cond3 i = 1#1
  · rw [dif_pos hg]; generalize last c i M0 h0 M1 h1 M2 h2 M3 h3 M4 h4 M5 h5 M6 h6 M7 h7 M8 h8 f0 f1 f2 f3 f4 f5 f6 f7 f8 s.s0 s.s1 s.s2 s.s3 s.s4 s.s5 s.s6 hg = r; exact r.ok Q
  · rw [dif_neg hg]; unfold seg3; dsimp only; rw [dif_neg hg]
    iintro ⟨HI, H8, HS, Hk⟩; sl_step; iapply Hk
    isplitl [HI]; · iexact HI
    isplitl [H8]; · iexact H8
    iexact HS

/-- The scratch after one grid step. -/
def next : Scr F c := after2 c i M0 h0 M1 h1 M2 h2 M3 h3 M4 h4 M5 h5 M6 h6 M7 h7 M8 h8 f0 f1 f2 f3 f4 f5 f6 f7 f8 (after1 c i M0 h0 M1 h1 M2 h2 M3 h3 M4 h4 M5 h5 M6 h6 M7 h7 M8 h8 f0 f1 f2 f3 f4 f5 f6 f7 f8 s)
/-- The output's staging buffer after one grid step. -/
def outv : Bf (F := F) c M8 := after3 c i M0 h0 M1 h1 M2 h2 M3 h3 M4 h4 M5 h5 M6 h6 M7 h7 M8 h8 f0 f1 f2 f3 f4 f5 f6 f7 f8 (next c i M0 h0 M1 h1 M2 h2 M3 h3 M4 h4 M5 h5 M6 h6 M7 h7 M8 h8 f0 f1 f2 f3 f4 f5 f6 f7 f8 s)

/-- One grid step, run whole. -/
theorem body_ok (Q : PUnit → sProp 𝕄) :
    iprop(insP c M0 M1 M2 M3 M4 M5 M6 M7 f0 f1 f2 f3 f4 f5 f6 f7 ∗ pw c M8 f8 ∗ scr c s ∗ (iprop(insP c M0 M1 M2 M3 M4 M5 M6 M7 f0 f1 f2 f3 f4 f5 f6 f7 ∗ pw c M8 (outv c i M0 h0 M1 h1 M2 h2 M3 h3 M4 h4 M5 h5 M6 h6 M7 h7 M8 h8 f0 f1 f2 f3 f4 f5 f6 f7 f8 s) ∗ scr c (next c i M0 h0 M1 h1 M2 h2 M3 h3 M4 h4 M5 h5 M6 h6 M7 h7 M8 h8 f0 f1 f2 f3 f4 f5 f6 f7 f8 s)) -∗ Q ⟨⟩))
      ⊢ wp frame (wpE (defs₀ (F := F)) Variants.none c none) Set.univ (cc0_moe_ln (F := F) i M0 h0 M1 h1 M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) Q := by
  rw [skel_eq]
  iintro ⟨HI, H8, HS, Hk⟩
  iapply (seg1_ok c i M0 h0 M1 h1 M2 h2 M3 h3 M4 h4 M5 h5 M6 h6 M7 h7 M8 h8 f0 f1 f2 f3 f4 f5 f6 f7 f8 s _ Q)
  isplitl [HI]; · iexact HI
  isplitl [H8]; · iexact H8
  isplitl [HS]; · iexact HS
  iintro ⟨HI, H8, HS⟩
  iapply (seg2_ok c i M0 h0 M1 h1 M2 h2 M3 h3 M4 h4 M5 h5 M6 h6 M7 h7 M8 h8 f0 f1 f2 f3 f4 f5 f6 f7 f8 (after1 c i M0 h0 M1 h1 M2 h2 M3 h3 M4 h4 M5 h5 M6 h6 M7 h7 M8 h8 f0 f1 f2 f3 f4 f5 f6 f7 f8 s) _ Q)
  isplitl [HI]; · iexact HI
  isplitl [H8]; · iexact H8
  isplitl [HS]; · iexact HS
  iintro ⟨HI, H8, HS⟩
  iapply (seg3_ok c i M0 h0 M1 h1 M2 h2 M3 h3 M4 h4 M5 h5 M6 h6 M7 h7 M8 h8 f0 f1 f2 f3 f4 f5 f6 f7 f8 (next c i M0 h0 M1 h1 M2 h2 M3 h3 M4 h4 M5 h5 M6 h6 M7 h7 M8 h8 f0 f1 f2 f3 f4 f5 f6 f7 f8 s) Q)
  isplitl [HI]; · iexact HI
  isplitl [H8]; · iexact H8
  isplitl [HS]; · iexact HS
  iintro ⟨HI, H8, HS⟩
  iapply Hk
  isplitl [HI]; · iexact HI
  isplitl [H8]; · iexact H8
  iexact HS

end Step

end Cert.Proof.Run

end
-- ==== Proof.Launch.lean ====
module

public import proofs.«01_k».proof.Proof.Run
public import proofs.«01_k».proof.Proof.Gen.KernelIdeal.Launch
public import proofs.«01_k».proof.Proof.Gen.KernelIdeal.Points
public import Idealize.ShloMosaic.Lib.Tactic
public import proofs.«01_k».proof.Proof.Gen.KernelIdeal.Frame
public import Idealize.ShloMosaic.Lib.Pipeline.FrameBody
public import Idealize.ShloMosaic.Lib.Pipeline.DatRel
public import Idealize.ShloMosaic.Lib.Pipeline.ArrRel

@[expose] public section

set_option maxRecDepth 16384
set_option genInjectivity false
set_option genSizeOf false

noncomputable section

namespace Cert.Proof.Launch

open Cert.KernelIdeal Cert.KernelIdeal.Gen Cert.Proof.Seg Cert.Proof.Body Cert.Proof.Run

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat RDat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch and the output's staging buffer after grid step `t`. -/
abbrev nextAt (c : Dev nD) (t : Fin cfg0.N) (f0 : Bf (F := F) c (win0_0.stage (cfg0.slots t 0))) (f1 : Bf (F := F) c (win0_1.stage (cfg0.slots t 1))) (f2 : Bf (F := F) c (win0_2.stage (cfg0.slots t 2))) (f3 : Bf (F := F) c (win0_3.stage (cfg0.slots t 3))) (f4 : Bf (F := F) c (win0_4.stage (cfg0.slots t 4))) (f5 : Bf (F := F) c (win0_5.stage (cfg0.slots t 5))) (f6 : Bf (F := F) c (win0_6.stage (cfg0.slots t 6))) (f7 : Bf (F := F) c (win0_7.stage (cfg0.slots t 7))) (f8 : Bf (F := F) c (win0_8.stage (cfg0.slots t 8))) (s : Scr F c) : Scr F c :=
  next c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) f0 f1 f2 f3 f4 f5 f6 f7 f8 s
abbrev outAt (c : Dev nD) (t : Fin cfg0.N) (f0 : Bf (F := F) c (win0_0.stage (cfg0.slots t 0))) (f1 : Bf (F := F) c (win0_1.stage (cfg0.slots t 1))) (f2 : Bf (F := F) c (win0_2.stage (cfg0.slots t 2))) (f3 : Bf (F := F) c (win0_3.stage (cfg0.slots t 3))) (f4 : Bf (F := F) c (win0_4.stage (cfg0.slots t 4))) (f5 : Bf (F := F) c (win0_5.stage (cfg0.slots t 5))) (f6 : Bf (F := F) c (win0_6.stage (cfg0.slots t 6))) (f7 : Bf (F := F) c (win0_7.stage (cfg0.slots t 7))) (f8 : Bf (F := F) c (win0_8.stage (cfg0.slots t 8))) (s : Scr F c) : Bf (F := F) c (win0_8.stage (cfg0.slots t 8)) :=
  outv c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) f0 f1 f2 f3 f4 f5 f6 f7 f8 s

variable (P : (c : Dev nD) → ℕ → Scr F c → Prop) (R : Dev nD → Fin cfg0.N → (S1024x1024.Idx → Elt F .f32) → Prop)

/-- What the launch asks of an invariant `P` on the scratch and of a property `R` of the block left for the output. -/
def Steps : Prop :=
  ∀ (c : Dev nD) (t : Fin cfg0.N) (f0 : Bf (F := F) c (win0_0.stage (cfg0.slots t 0))) (f1 : Bf (F := F) c (win0_1.stage (cfg0.slots t 1))) (f2 : Bf (F := F) c (win0_2.stage (cfg0.slots t 2))) (f3 : Bf (F := F) c (win0_3.stage (cfg0.slots t 3))) (f4 : Bf (F := F) c (win0_4.stage (cfg0.slots t 4))) (f5 : Bf (F := F) c (win0_5.stage (cfg0.slots t 5))) (f6 : Bf (F := F) c (win0_6.stage (cfg0.slots t 6))) (f7 : Bf (F := F) c (win0_7.stage (cfg0.slots t 7))) (f8 : Bf (F := F) c (win0_8.stage (cfg0.slots t 8))) (s : Scr F c),
    (win0_0.stage (cfg0.slots t 0)).view.read (Elt F) f0 = iblk m c 0 t → (win0_1.stage (cfg0.slots t 1)).view.read (Elt F) f1 = iblk m c 1 t → (win0_2.stage (cfg0.slots t 2)).view.read (Elt F) f2 = iblk m c 2 t → (win0_3.stage (cfg0.slots t 3)).view.read (Elt F) f3 = iblk m c 3 t → (win0_4.stage (cfg0.slots t 4)).view.read (Elt F) f4 = iblk m c 4 t → (win0_5.stage (cfg0.slots t 5)).view.read (Elt F) f5 = iblk m c 5 t → (win0_6.stage (cfg0.slots t 6)).view.read (Elt F) f6 = iblk m c 6 t → (win0_7.stage (cfg0.slots t 7)).view.read (Elt F) f7 = iblk m c 7 t →
    P c t.val s →
    P c (t.val + 1) (nextAt c t f0 f1 f2 f3 f4 f5 f6 f7 f8 s) ∧ R c t ((win0_8.stage (cfg0.slots t 8)).view.read (Elt F) (outAt c t f0 f1 f2 f3 f4 f5 f6 f7 f8 s))

/-- The output window alone is held to a property. -/
abbrev held : Fin 9 → Bool := fun w => decide (w = 8)

/-- The property of the window held. -/
def Rw (c : Dev nD) : (w : Fin cfg0.W) → Fin cfg0.N → ((cfg0.win w).block.Idx → Elt F (cfg0.win w).elt) → Prop := fun w =>
  match w with
  | 8 => fun t X => R c t X
  | _ => fun _ _ => True

/-- The proof data: the arrays as the region finds them, each input's block left in place, the scratch under `P`. -/
def dats (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => Pipeline.Dat.unnamed (cfg := cfg0) 8 t
  Φ t := iprop(∃ s : Scr F c, ⌜P c t.val s⌝ ∗ scr c s ∗ ∃ r, prngReg c r)
  q _ := fullShare
  owed _ := 0

theorem A_eq (c : Dev nD) (w : Fin cfg0.W) : (dats m P c).A w = V m c (Pipeline.arrRef spec0 w) := by dsimp only [dats]

/-- The relational proof data. -/
abbrev rdats (c : Dev nD) : RDat τ (Elt F) Unit ℕ (UR sig nD τ) ℕ cfg0 c := (dats m P c).toRRel held (Rw R c)

/-- What the body is called with at point `t`. -/
def bodyPre (c : Dev nD) (t : Fin cfg0.N) : sProp 𝕄 :=
  iprop((dats m P c).Φ t.castSucc ∗ (dats m P c).owesAt () t.castSucc
    ∗ (∃ d, owns (c : Thread nD τ) (win0_0.stage (cfg0.slots t 0)) fullShare ((dats m P c).before 0 t d))
    ∗ (∃ d, owns (c : Thread nD τ) (win0_1.stage (cfg0.slots t 1)) fullShare ((dats m P c).before 1 t d))
    ∗ (∃ d, owns (c : Thread nD τ) (win0_2.stage (cfg0.slots t 2)) fullShare ((dats m P c).before 2 t d))
    ∗ (∃ d, owns (c : Thread nD τ) (win0_3.stage (cfg0.slots t 3)) fullShare ((dats m P c).before 3 t d))
    ∗ (∃ d, owns (c : Thread nD τ) (win0_4.stage (cfg0.slots t 4)) fullShare ((dats m P c).before 4 t d))
    ∗ (∃ d, owns (c : Thread nD τ) (win0_5.stage (cfg0.slots t 5)) fullShare ((dats m P c).before 5 t d))
    ∗ (∃ d, owns (c : Thread nD τ) (win0_6.stage (cfg0.slots t 6)) fullShare ((dats m P c).before 6 t d))
    ∗ (∃ d, owns (c : Thread nD τ) (win0_7.stage (cfg0.slots t 7)) fullShare ((dats m P c).before 7 t d))
    ∗ (∃ Y, ⌜(rdats m P R c).Finds 8 t Y⌝ ∗ owns (c : Thread nD τ) (win0_8.stage (cfg0.slots t 8)) fullShare Y))
/-- What the body returns at point `t`. -/
def bodyPost (c : Dev nD) (t : Fin cfg0.N) : sProp 𝕄 :=
  iprop((dats m P c).Φ t.succ ∗ (dats m P c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ (∃ X, ⌜R c t X⌝ ∗ owns (c : Thread nD τ) (win0_8.stage (cfg0.slots t 8)) fullShare X))

set_option maxHeartbeats 1600000 in
theorem sound_body (hS : Steps m P R) (c : Dev nD) (t : Fin cfg0.N) :
    bodyPre m P R c t ⊢ wp frame (wpE (defs₀ (F := F)) Variants.none c none) Set.univ (bodyAt0 t) (fun _ => bodyPost m P R c t) := by
  unfold bodyPre bodyPost bodyAt0
  rw [show (dats m P c).owesAt () t.succ = (dats m P c).owesAt () t.castSucc from rfl,
    show (dats m P c).Φ t.castSucc = iprop(∃ s : Scr F c, ⌜P c t.val s⌝ ∗ scr c s ∗ ∃ r, prngReg c r) from rfl,
    show (dats m P c).Φ t.succ = iprop(∃ s : Scr F c, ⌜P c (t.val + 1) s⌝ ∗ scr c s ∗ ∃ r, prngReg c r) from rfl]
  simp only [before0_0_of m (dats m P c) rfl (fun _ => rfl)]
  simp only [before0_1_of m (dats m P c) rfl (fun _ => rfl)]
  simp only [before0_2_of m (dats m P c) rfl (fun _ => rfl)]
  simp only [before0_3_of m (dats m P c) rfl (fun _ => rfl)]
  simp only [before0_4_of m (dats m P c) rfl (fun _ => rfl)]
  simp only [before0_5_of m (dats m P c) rfl (fun _ => rfl)]
  simp only [before0_6_of m (dats m P c) rfl (fun _ => rfl)]
  simp only [before0_7_of m (dats m P c) rfl (fun _ => rfl)]
  unfold owns
  iintro ⟨⟨%s, %hP, HS, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%Y, %hY, %f8, %e8, H8⟩⟩
  iapply (body_ok c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) f0 f1 f2 f3 f4 f5 f6 f7 f8 s _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [HS]; · iexact HS
  iintro ⟨⟨H0, H1, H2, H3, H4, H5, H6, H7⟩, H8, HS⟩
  have hs := hS c t f0 f1 f2 f3 f4 f5 f6 f7 f8 s e0 e1 e2 e3 e4 e5 e6 e7 hP
  isplitl [HS Hg]
  · iexists _; isplitr
    · ipureintro; exact hs.1
    isplitl [HS]; · iexact HS
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  iexists _; isplitr
  · ipureintro; exact hs.2
  iexists _; isplitr
  · ipureintro; rfl
  iexact H8

theorem defs₀_row (t : Fin cfg0.N) : defs₀ (F := F) .tc cfg0.body (cfg0.bodyArgs t (cfg0.slots t)) = bodyAt0 t := by
  unfold defs₀; rw [Defs.onTc_tc]

theorem body_obligation (hS : Steps m P R) (c : Dev nD) :
    BodyObligationRel (dats m P c) (defs₀ (F := F)) Variants.none () Set.univ held (Rw R c) := fun t => by
  rw [bigSep_W0, bigSep_W0, defs₀_row]
  exact triple_restated (sound_body m P R hS c t) rfl .rfl fun _ => .rfl

set_option backward.isDefEq.respectTransparency.types false in
theorem run_main (hS : Steps m P R) (h0 : ∀ c s, P c 0 s) :
    θ_run defs (onTc (τ := τ) (main (F := F))) ⟨m, fun _ => 0, ρ⟩
      (fun r => RDat.FramePost (cfgs 0) (fun c => rdats m P R c) (V m) r ∧ r.2.sem = fun _ => 0) :=
  Pipeline.RDat.θ_run_frame_track (Q' := _) cfgs (0 : Fin 1) launch0 defs₀ Variants.none (fun c => rdats m P R c) m ρ main
    (hbody := fun c => (body_obligation m P R hS c).toRRel) (hshare := fun c => (dats m P c).share_full fun _ => rfl)
    (howed := fun _ _ => rfl) (V := V m) (hmain := hmain m Variants.none) (hA := A_eq m P)
    (hin := fun c => by
      show Pipeline.ΦA spec0 c ⊢ iprop(∃ s : Scr F c, ⌜P c 0 s⌝ ∗ scr c s ∗ ∃ r, prngReg c r)
      unfold Pipeline.ΦA
      rw [scopedRest0_eq]
      iintro ⟨⟨⟨%s0, S0⟩, ⟨%s1, S1⟩, ⟨%s2, S2⟩, ⟨%s3, S3⟩, ⟨%s4, S4⟩, ⟨%s5, S5⟩, ⟨%s6, S6⟩⟩, Hg⟩
      iexists (⟨s0, s1, s2, s3, s4, s5, s6⟩ : Scr F c); isplitr
      · ipureintro; exact h0 c _
      isplitr [Hg]
      · unfold scr
        isplitl [S0]; · iexact S0
        isplitl [S1]; · iexact S1
        isplitl [S2]; · iexact S2
        isplitl [S3]; · iexact S3
        isplitl [S4]; · iexact S4
        isplitl [S5]; · iexact S5
        iexact S6
      iexact Hg)
    (hout := fun c => by
      show iprop(∃ s : Scr F c, ⌜P c cfg0.N s⌝ ∗ scr c s ∗ ∃ r, prngReg c r) ⊢ Pipeline.ΦA spec0 c
      unfold Pipeline.ΦA
      rw [scopedRest0_eq]
      unfold scr
      iintro ⟨%s, -, ⟨S0, S1, S2, S3, S4, S5, S6⟩, Hg⟩
      isplitr [Hg]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexists _; iexact S6
      iexact Hg)

/-- Every argument array as launched, from the run's post. -/
theorem args_of (r : PUnit × MemSt nD τ sig (Elt F)) (h : RDat.FramePost (cfgs 0) (fun c => rdats m P R c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    :=
  ⟨(RDat.FramePost.arr_in h c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

end Cert.Proof.Launch

end
-- ==== Proof.Frames.lean ====
module

public import proofs.«01_k».proof.Proof.Launch
public import proofs.«01_k».proof.Proof.Gen.ReferenceIdeal.Run
public import proofs.«01_k».proof.Defs
public import proofs.«01_k».proof.Proof.Gen.Kernel
public import proofs.«01_k».proof.Proof.Gen.ReferenceIdeal
public import proofs.«01_k».proof.Proof.Gen.Kernel.Launch
public import proofs.«01_k».proof.Proof.Gen.KernelIdeal.Launch
public import proofs.«01_k».proof.Proof.Gen.KernelIdeal.Points
public import Idealize.ShloMosaic.Lib.Tactic
public import proofs.«01_k».proof.Proof.Gen.KernelIdeal.Frame
public import Idealize.ShloMosaic.Lib.Pipeline.FrameBody
public import Idealize.ShloMosaic.Lib.Pipeline.DatRel
public import Idealize.ShloMosaic.Lib.Pipeline.ArrRel

@[expose] public section

set_option maxRecDepth 16384
set_option genInjectivity false
set_option genSizeOf false

noncomputable section

namespace Cert.Proof.Frames

open Idealize.ShloMosaic Idealize.ShloMosaic.TcCoe
open Idealize.SL Idealize.SL.Sem

/-- The kernel's program at any values: it ends with its arguments as launched and every counter at zero. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) :=
  (θ_run Cert.KernelIdeal.defs _ _).mono (fun r h => ⟨fun c => Launch.args_of m (fun _ _ _ => True) (fun _ _ _ => True) r h.1 c, h.2⟩)
    (Launch.run_main m ρ (fun _ _ _ => True) (fun _ _ _ => True) (by intro c t; intros; exact ⟨trivial, trivial⟩) (fun _ _ => trivial))

theorem frame_kernelIdeal : letI := Cert.KernelIdeal.Gen.facts; Cert.quiescent_KernelIdeal := fun m ρ _ => run_frame m ρ

section
open Cert.Kernel
/-- The two prints have one kernel body. -/
theorem body_eq (i : grid0.Coords) (arg2 : Memref sig .tc .vmem S1024x1024 .f32) (harg2 : arg2.IsWhole) (arg3 : Memref sig .tc .vmem S1024x128 .bf16) (harg3 : arg3.IsWhole) (arg4 : Memref sig .tc .vmem S16x1 .f32) (harg4 : arg4.IsWhole) (arg5 : Memref sig .tc .vmem S4x1024x256 .bf16) (harg5 : arg5.IsWhole) (arg6 : Memref sig .tc .vmem S4x1024x256 .bf16) (harg6 : arg6.IsWhole) (arg7 : Memref sig .tc .vmem S4x256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S1024x128 .f32) (harg12 : arg12.IsWhole) (arg13 : Memref sig .tc .vmem S3x1024x128 .bf16) (harg13 : arg13.IsWhole) (arg14 : Memref sig .tc .vmem S8x1024 .f32) (harg14 : arg14.IsWhole) (arg15 : Memref sig .tc .vmem S1024x1024 .f32) (harg15 : arg15.IsWhole) (arg16 : Memref sig .tc .vmem S4x4x96x1024 .bf16) (harg16 : arg16.IsWhole) (arg17 : Memref sig .tc .smem S4 .i32) (harg17 : arg17.IsWhole) :
    Cert.Kernel.cc0_moe_ln (F := Bits) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = Cert.KernelIdeal.cc0_moe_ln (F := Bits) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  unfold Cert.Kernel.cc0_moe_ln Cert.KernelIdeal.cc0_moe_ln
  rfl
end
/-- The two prints have one table of kernel bodies. -/
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) => exact body_eq _ _ _ _ _ _ _ _ _ _ _ _ _ _ _ _ _ _ _ _ _ _ _ _ _ _ _ _ _ _ _ _ _
/-- The two prints have one table of bodies. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq

set_option maxHeartbeats 4000000 in
/-- The two prints have one entry function. -/
theorem main_eq : Cert.Kernel.main (F := Bits) = Cert.KernelIdeal.main (F := Bits) := rfl

/-- The run of the kernel's program under any table equal to its own. -/
theorem run_frame_of (d : Defs Cert.KernelIdeal.nD Cert.KernelIdeal.τ Cert.KernelIdeal.sig (Elt Bits) (Pipeline.Sig Cert.KernelIdeal.Λ₀ (Fin 1) fun p => (Cert.KernelIdeal.pcfgs (F := Bits) p).Adm))
    (hd : d = Cert.KernelIdeal.defs (F := Bits)) (mn : Dev Cert.KernelIdeal.nD → Prog (TpuEff Cert.KernelIdeal.nD Cert.KernelIdeal.τ Cert.KernelIdeal.sig (Elt Bits) (Pipeline.Sig Cert.KernelIdeal.Λ₀ (Fin 1) fun p => (Cert.KernelIdeal.pcfgs (F := Bits) p).Adm) .tc) PUnit)
    (hmn : mn = Cert.KernelIdeal.main (F := Bits)) (m : (ℓ : Loc Cert.KernelIdeal.nD Cert.KernelIdeal.τ Cert.KernelIdeal.sig) → Buf (Elt Bits) ℓ)
    (ρ : Dev Cert.KernelIdeal.nD → PrngReg) :
    θ_run d (onTc (τ := Cert.KernelIdeal.τ) mn) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) := by
  subst hd hmn; exact run_frame m ρ

theorem frame_kernel : letI := Cert.Kernel.Gen.facts; Cert.quiescent_Kernel := fun m ρ _ => run_frame_of Cert.Kernel.defs defs_eq Cert.Kernel.main main_eq m ρ

theorem frame_reference : letI := Cert.ReferenceIdeal.Gen.facts; Cert.quiescent_ReferenceIdeal := fun m ρ _ => by
  have h := Cert.ReferenceIdeal.Value.run (F := Ideal) m ρ
  exact (θ_run Cert.ReferenceIdeal.defs _ _).mono (fun r h => ⟨fun c => (h c).2, sem_eq_zero_of_no_sems (by decide) r.2⟩) h

end Cert.Proof.Frames

end
-- ==== Proof.ValMlp.lean ====
module

public import proofs.«01_k».proof.Proof.Body
public import Idealize.ShloMosaic.Lib.Pointwise
public import Idealize.ShloMosaic.Lib.WritesUnit

@[expose] public section

set_option maxRecDepth 16384

noncomputable section

/-! One expert's output on one row, and a group's four experts added, as plain sums. -/

namespace Cert.Proof.Val

open Idealize.ShloMosaic Cert.KernelIdeal Cert.KernelIdeal.Gen Cert.Proof.Body

/-- What a memref's buffer reads at an index. -/
abbrev rd {s : Shape} {e : EltTy} (c : Dev nD) (M : Memref sig .tc .vmem s e) (f : Bf (F := Ideal) c M) : s.Idx → Elt Ideal e :=
  M.view.read (Elt Ideal) f

/-- The seven scratch buffers, read at an index. -/
abbrev X0 (c : Dev nD) (s : Bf (F := Ideal) c (Memref.whole cc0_scratch0)) : S1024x1024.Idx → EReal := (Memref.whole cc0_scratch0).view.read (Elt Ideal) s
abbrev X1 (c : Dev nD) (s : Bf (F := Ideal) c (Memref.whole cc0_scratch1)) : S1024x128.Idx → EReal := (Memref.whole cc0_scratch1).view.read (Elt Ideal) s
abbrev X2 (c : Dev nD) (s : Bf (F := Ideal) c (Memref.whole cc0_scratch2)) : S3x1024x128.Idx → EReal := (Memref.whole cc0_scratch2).view.read (Elt Ideal) s
abbrev X3 (c : Dev nD) (s : Bf (F := Ideal) c (Memref.whole cc0_scratch3)) : S8x1024.Idx → EReal := (Memref.whole cc0_scratch3).view.read (Elt Ideal) s
abbrev X4 (c : Dev nD) (s : Bf (F := Ideal) c (Memref.whole cc0_scratch4)) : S1024x1024.Idx → EReal := (Memref.whole cc0_scratch4).view.read (Elt Ideal) s
abbrev X5 (c : Dev nD) (s : Bf (F := Ideal) c (Memref.whole cc0_scratch5)) : S4x4x96x1024.Idx → EReal := (Memref.whole cc0_scratch5).view.read (Elt Ideal) s
abbrev X6 (c : Dev nD) (s : Bf (F := Ideal) c (Memref.whole cc0_scratch6)) : S4.Idx → BitVec 32 := (Memref.whole cc0_scratch6).view.read (Elt Ideal) s

/-- A load of a unit rectangle, at an index. -/
theorem readAt_unit {c : Dev nD} {s : Shape} {e : EltTy} (M : Memref sig .tc .vmem s e) (f : Bf (F := Ideal) c M) {off size : Fin s.rank → ℕ}
    (inb : ∀ a, off a + size a ≤ s.size a) (x : (Rect.unit off size inb).shape.Idx) (y : s.Idx) (h : ∀ a, (y a).val = off a + (x a).val) :
    M.view.readAt (Elt Ideal) (Rect.unit off size inb).toLoadRect f x = M.view.read (Elt Ideal) f y := by
  refine (View.readAt_apply (Val := Elt Ideal) (v := M.view) (Rect.unit off size inb).toLoadRect f x).trans ?_
  refine congrArg (M.view.read (Elt Ideal) f) ?_
  funext a
  apply Fin.ext
  show off a + 1 * (x a).val = (y a).val
  rw [h a, Nat.one_mul]

/-- The group of a grid point. -/
abbrev gi (i : grid0.Coords) : Fin 4 := i 1

/-- The group's `j`-th expert at a grid point, as a lane. -/
def xe (g : Fin 4) (j : Fin 4) : Fin 128 := ⟨4 * g.val + j.val, by omega⟩

/-- One expert's output on a row `x`, its hidden value scaled by the gate `g`. -/
def mlp (x : Fin 1024 → EReal) (wg wu : Fin 1024 → Fin 256 → EReal) (wd : Fin 256 → Fin 1024 → EReal) (g : EReal)
    (d : Fin 1024) : EReal :=
  ∑ f : Fin 256, ((∑ k, x k * wg k f) * Ideal.div 1 (1 + Ideal.exp (0 - ∑ k, x k * wg k f)) * (∑ k, x k * wu k f) * g) * wd f d

/-- A group's four experts, added. -/
def grp (x : Fin 1024 → EReal) (w3 w4 : S4x1024x256.Idx → EReal) (w5 : S4x256x1024.Idx → EReal) (gt : Fin 4 → EReal)
    (d : Fin 1024) : EReal :=
  mlp x (fun k f => w3 (ix3 0 k f)) (fun k f => w4 (ix3 0 k f)) (fun f d => w5 (ix3 0 f d)) (gt 0) d
    + mlp x (fun k f => w3 (ix3 1 k f)) (fun k f => w4 (ix3 1 k f)) (fun f d => w5 (ix3 1 f d)) (gt 1) d
    + mlp x (fun k f => w3 (ix3 2 k f)) (fun k f => w4 (ix3 2 k f)) (fun f d => w5 (ix3 2 f d)) (gt 2) d
    + mlp x (fun k f => w3 (ix3 3 k f)) (fun k f => w4 (ix3 3 k f)) (fun f d => w5 (ix3 3 f d)) (gt 3) d

/-- The entry of a row that a word names, as a sum over the row of selects. -/
theorem sum_sel (w : BitVec 32) (v : Fin 128 → EReal) (k : Fin 128) (h : w = BitVec.ofNat 32 k.val) :
    (∑ x : Fin 128, Scalar.select (IntOp.cmpi CmpIPredicate.eq (BitVec.ofNat 32 x.val) w) (v x) 0) = v k := by
  rw [Finset.sum_eq_single k]
  · rw [h, IntOp.cmpi_eq_self]; rfl
  · intro b _ hb
    have : BitVec.ofNat 32 b.val ≠ w := by
      rw [h]; intro e
      apply hb
      have := congrArg BitVec.toNat e
      simp only [BitVec.toNat_ofNat] at this
      rw [Nat.mod_eq_of_lt (by omega), Nat.mod_eq_of_lt (by omega)] at this
      exact Fin.ext this
    have h2 : IntOp.cmpi CmpIPredicate.eq (BitVec.ofNat 32 b.val) w = 0#1 := by
      rw [IntOp.cmpi, beq_eq_false_iff_ne.mpr this]; rfl
    rw [h2]; rfl
  · intro h; exact absurd (Finset.mem_univ _) h

theorem word_expert (g : Fin 4) (j : Fin 4) :
    Scalar.addi (Scalar.muli (BitVec.ofNat 32 g.val) 4#32) (BitVec.ofNat 32 j.val)
      = BitVec.ofNat 32 (⟨4 * g.val + j.val, by omega⟩ : Fin 128).val := by
  fin_cases g <;> fin_cases j <;> rfl

theorem pay65_at (v3 : BitVec 32) (v14 : FVec Ideal S1024x1024 .bf16) (v15 : FVec Ideal S1024x128 .f32)
    (v24 v27 : FVec Ideal S1x1024x256 .bf16) (v42 : FVec Ideal S1x256x1024 .bf16) (t d : Fin 1024) :
    k0_pay65 (F := Ideal) v3 v14 v15 v24 v27 v42 (ix2 t d) = mlp (fun k => v14 (ix2 t k)) (fun k f => v24 (ix3 0 k f)) (fun k f => v27 (ix3 0 k f))
      (fun f d => v42 (ix3 0 f d)) (∑ x : Fin 128, Scalar.select (IntOp.cmpi CmpIPredicate.eq (BitVec.ofNat 32 x.val) (Scalar.addi v3 0#32)) (v15 (ix2 t x)) 0) d := by
  unfold mlp
  pointwise [k0_pay65]
theorem pay67_at (v3 : BitVec 32) (v14 : FVec Ideal S1024x1024 .bf16) (v15 : FVec Ideal S1024x128 .f32) (v44 : FVec Ideal S1024x1024 .f32)
    (v24 v27 : FVec Ideal S1x1024x256 .bf16) (v42 : FVec Ideal S1x256x1024 .bf16) (t d : Fin 1024) :
    k0_pay67 (F := Ideal) v14 v15 v44 (k0_pay66 v3) v24 v27 v42 (ix2 t d) = v44 (ix2 t d) + mlp (fun k => v14 (ix2 t k)) (fun k f => v24 (ix3 0 k f)) (fun k f => v27 (ix3 0 k f))
      (fun f d => v42 (ix3 0 f d)) (∑ x : Fin 128, Scalar.select (IntOp.cmpi CmpIPredicate.eq (BitVec.ofNat 32 x.val) (Scalar.addi v3 1#32)) (v15 (ix2 t x)) 0) d := by
  unfold mlp
  pointwise [k0_pay67, k0_pay66]
theorem pay70_at (v3 : BitVec 32) (v14 : FVec Ideal S1024x1024 .bf16) (v15 : FVec Ideal S1024x128 .f32) (v44 : FVec Ideal S1024x1024 .f32)
    (v24 v27 : FVec Ideal S1x1024x256 .bf16) (v42 : FVec Ideal S1x256x1024 .bf16) (t d : Fin 1024) :
    k0_pay70 (F := Ideal) v14 v44 (k0_pay68 v3 v15 (iota Kind.tc S1024x128 32 [1] iota_S1024x128_d1_w32)) (k0_pay69 v14 v24) v27 v42 (ix2 t d) = v44 (ix2 t d) + mlp (fun k => v14 (ix2 t k)) (fun k f => v24 (ix3 0 k f)) (fun k f => v27 (ix3 0 k f))
      (fun f d => v42 (ix3 0 f d)) (∑ x : Fin 128, Scalar.select (IntOp.cmpi CmpIPredicate.eq (BitVec.ofNat 32 x.val) (Scalar.addi v3 2#32)) (v15 (ix2 t x)) 0) d := by
  unfold mlp
  pointwise [k0_pay70, k0_pay68, k0_pay69]
theorem pay5_at (v3 : BitVec 32) (v13 : FVec Ideal S1024x1024 .f32) (v14 : FVec Ideal S1024x1024 .bf16) (v15 : FVec Ideal S1024x128 .f32) (v44 : FVec Ideal S1024x1024 .f32)
    (v24 v27 : FVec Ideal S1x1024x256 .bf16) (v42 : FVec Ideal S1x256x1024 .bf16) (t d : Fin 1024) :
    k0_pay5 (F := Ideal) v13 v44 (k0_pay71 v3 v15 (iota Kind.tc S1024x128 32 [1] iota_S1024x128_d1_w32)) (k0_pay72 v14 v24) (k0_pay73 v14 v27) (k0_pay74 v14 v24) k0_pay75 v42 (ix2 t d)
      = v13 (ix2 t d) + (v44 (ix2 t d) + mlp (fun k => v14 (ix2 t k)) (fun k f => v24 (ix3 0 k f)) (fun k f => v27 (ix3 0 k f))
      (fun f d => v42 (ix3 0 f d)) (∑ x : Fin 128, Scalar.select (IntOp.cmpi CmpIPredicate.eq (BitVec.ofNat 32 x.val) (Scalar.addi v3 3#32)) (v15 (ix2 t x)) 0) d) := by
  unfold mlp
  pointwise [k0_pay5, k0_pay71, k0_pay72, k0_pay73, k0_pay74, k0_pay75]

end Cert.Proof.Val
end
-- ==== Proof.ValDense.lean ====
module

public import proofs.«01_k».proof.Proof.ValMlp

@[expose] public section

set_option maxRecDepth 16384

noncomputable section

/-! The dense branch of the second segment, at an index. -/

namespace Cert.Proof.Val

open Idealize.ShloMosaic Cert.KernelIdeal Cert.KernelIdeal.Gen Cert.Proof.Body

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := Ideal) c M0) (f1 : Bf (F := Ideal) c M1) (f2 : Bf (F := Ideal) c M2) (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (s0 : Bf (F := Ideal) c (Memref.whole cc0_scratch0)) (s1 : Bf (F := Ideal) c (Memref.whole cc0_scratch1))
  (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5))
  (s6 : Bf (F := Ideal) c (Memref.whole cc0_scratch6))

theorem dense_t4_eq (ho : flag c i s6 = 1#1) :
    (dense c i M0 h0 M1 h1 M2 h2 M3 h3 M4 h4 M5 h5 M6 h6 M7 h7 M8 h8 f0 f1 f2 f3 f4 f5 f6 f7 f8 s0 s1 s2 s3 s4 s5 s6 ho).t4
      = (Memref.whole cc0_scratch4).view.writes (Elt Ideal) (Memref.whole cc0_scratch4).view.junk (dense.sl.S4_1 c i M3 M4 M5 f3 f4 f5 s0 s1 s4) := by
  unfold dense
  dsimp only

theorem dense_t5_eq (ho : flag c i s6 = 1#1) :
    (dense c i M0 h0 M1 h1 M2 h2 M3 h3 M4 h4 M5 h5 M6 h6 M7 h7 M8 h8 f0 f1 f2 f3 f4 f5 f6 f7 f8 s0 s1 s2 s3 s4 s5 s6 ho).t5
      = (Memref.whole cc0_scratch5).view.writes (Elt Ideal) s5 [(⟨Rect.unit (s := S4x4x96x1024) (k0_off2 i) S1x4x96x1024.size (k0_off2_inb i), k0_pay6 (F := Ideal)⟩ : View.Piece (Elt Ideal) S4x4x96x1024 .bf16)] := by
  unfold dense
  dsimp only

theorem dense_gen (g : Fin 4) (v3 : BitVec 32) (hv3 : v3 = Scalar.muli (BitVec.ofNat 32 g.val) 4#32) (v13 : FVec Ideal S1024x1024 .f32) (v14 : FVec Ideal S1024x1024 .bf16) (v15 : FVec Ideal S1024x128 .f32)
    (A0 A1 A2 A3 B0 B1 B2 B3 : FVec Ideal S1x1024x256 .bf16) (C0 C1 C2 C3 : FVec Ideal S1x256x1024 .bf16) (t d : Fin 1024)
    (x4 : EReal) (x0 : Fin 1024 → EReal) (x1 : Fin 4 → EReal) (W3 W4 : S4x1024x256.Idx → EReal) (W5 : S4x256x1024.Idx → EReal)
    (h13 : v13 (ix2 t d) = x4) (h14 : ∀ k, v14 (ix2 t k) = x0 k) (h15 : ∀ j, v15 (ix2 t (xe g j)) = x1 j)
    (hA0 : ∀ k f, A0 (ix3 0 k f) = W3 (ix3 0 k f)) (hB0 : ∀ k f, B0 (ix3 0 k f) = W4 (ix3 0 k f)) (hC0 : ∀ k f, C0 (ix3 0 k f) = W5 (ix3 0 k f)) (hA1 : ∀ k f, A1 (ix3 0 k f) = W3 (ix3 1 k f)) (hB1 : ∀ k f, B1 (ix3 0 k f) = W4 (ix3 1 k f)) (hC1 : ∀ k f, C1 (ix3 0 k f) = W5 (ix3 1 k f)) (hA2 : ∀ k f, A2 (ix3 0 k f) = W3 (ix3 2 k f)) (hB2 : ∀ k f, B2 (ix3 0 k f) = W4 (ix3 2 k f)) (hC2 : ∀ k f, C2 (ix3 0 k f) = W5 (ix3 2 k f)) (hA3 : ∀ k f, A3 (ix3 0 k f) = W3 (ix3 3 k f)) (hB3 : ∀ k f, B3 (ix3 0 k f) = W4 (ix3 3 k f)) (hC3 : ∀ k f, C3 (ix3 0 k f) = W5 (ix3 3 k f)) :
    k0_pay5 (F := Ideal) v13 (k0_pay70 v14 (k0_pay67 v14 v15 (k0_pay65 v3 v14 v15 A0 B0 C0) (k0_pay66 v3) A1 B1 C1) (k0_pay68 v3 v15 (iota Kind.tc S1024x128 32 [1] iota_S1024x128_d1_w32)) (k0_pay69 v14 A2) B2 C2)
      (k0_pay71 v3 v15 (iota Kind.tc S1024x128 32 [1] iota_S1024x128_d1_w32)) (k0_pay72 v14 A3) (k0_pay73 v14 B3) (k0_pay74 v14 A3) k0_pay75 C3 (ix2 t d) = x4 + grp x0 W3 W4 W5 x1 d := by
  subst hv3
  have sel : ∀ j : Fin 4, (∑ x : Fin 128, Scalar.select (IntOp.cmpi CmpIPredicate.eq (BitVec.ofNat 32 x.val) (Scalar.addi (Scalar.muli (BitVec.ofNat 32 g.val) 4#32) (BitVec.ofNat 32 j.val))) (v15 (ix2 t x)) 0)
      = x1 j := fun j => (sum_sel _ (fun x => v15 (ix2 t x)) (xe g j) (word_expert g j)).trans (h15 j)
  rw [pay5_at, pay70_at, pay67_at, pay65_at]
  simp only [h13, h14, hA0, hA1, hA2, hA3, hB0, hB1, hB2, hB3, hC0, hC1, hC2, hC3]
  unfold grp
  exact congrArg₂ (· + ·) rfl (congrArg₂ (· + ·) (congrArg₂ (· + ·) (congrArg₂ (· + ·) (congrArg (fun g => mlp _ _ _ _ g d) (sel 0)) (congrArg (fun g => mlp _ _ _ _ g d) (sel 1))) (congrArg (fun g => mlp _ _ _ _ g d) (sel 2))) (congrArg (fun g => mlp _ _ _ _ g d) (sel 3)))

theorem w3_at (j : Fin 4) (off : Fin S4x1024x256.rank → ℕ) (inb) (k f) (h : off = ![j.val, 0, 0]) :
    M3.view.readAt (Elt Ideal) (Rect.unit (s := S4x1024x256) off S1x1024x256.size inb).toLoadRect f3 (ix3 0 k f) = rd c M3 f3 (ix3 j k f) := by
  subst h
  exact readAt_unit M3 f3 _ _ _ (by intro a; fin_cases a; · exact (Nat.add_zero _).symm
                                    · exact (Nat.zero_add _).symm
                                    · exact (Nat.zero_add _).symm)
theorem w5_at (j : Fin 4) (off : Fin S4x256x1024.rank → ℕ) (inb) (k f) (h : off = ![j.val, 0, 0]) :
    M5.view.readAt (Elt Ideal) (Rect.unit (s := S4x256x1024) off S1x256x1024.size inb).toLoadRect f5 (ix3 0 k f) = rd c M5 f5 (ix3 j k f) := by
  subst h
  exact readAt_unit M5 f5 _ _ _ (by intro a; fin_cases a; · exact (Nat.add_zero _).symm
                                    · exact (Nat.zero_add _).symm
                                    · exact (Nat.zero_add _).symm)

/-- The dense branch adds its group's output to the accumulator. -/
theorem dense_acc (ho : flag c i s6 = 1#1) (t d : Fin 1024) :
    X4 c (dense c i M0 h0 M1 h1 M2 h2 M3 h3 M4 h4 M5 h5 M6 h6 M7 h7 M8 h8 f0 f1 f2 f3 f4 f5 f6 f7 f8 s0 s1 s2 s3 s4 s5 s6 ho).t4 (ix2 t d)
      = X4 c s4 (ix2 t d) + grp (fun k => X0 c s0 (ix2 t k)) (rd c M3 f3) (rd c M4 f4) (rd c M5 f5) (fun j => X1 c s1 (ix2 t (xe (i 1) j))) d := by
  rw [dense_t4_eq]
  unfold dense.sl.S4_1
  refine (View.read_writes_cons_unit_of_mem (Memref.whole cc0_scratch4).view _ _ _ _ (ix2 t d) (ix2 t d) rfl (by intro a; fin_cases a <;> exact (Nat.zero_add _).symm)).trans ?_
  exact dense_gen (i 1) _ rfl _ _ _ _ _ _ _ _ _ _ _ _ _ _ _ t d _ _ _ _ _ _
    (readAt_unit (Memref.whole cc0_scratch4) s4 _ _ _ (by intro a; fin_cases a <;> exact (Nat.zero_add _).symm))
    (fun k => readAt_unit (Memref.whole cc0_scratch0) s0 _ _ _ (by intro a; fin_cases a <;> exact (Nat.zero_add _).symm))
    (fun k => readAt_unit (Memref.whole cc0_scratch1) s1 _ _ _ (by intro a; fin_cases a <;> exact (Nat.zero_add _).symm))
    (fun k f => w3_at c M3 f3 0 _ _ k f rfl) (fun k f => w3_at c M4 f4 0 _ _ k f rfl) (fun k f => w5_at c M5 f5 0 _ _ k f rfl) (fun k f => w3_at c M3 f3 1 _ _ k f rfl) (fun k f => w3_at c M4 f4 1 _ _ k f rfl) (fun k f => w5_at c M5 f5 1 _ _ k f rfl) (fun k f => w3_at c M3 f3 2 _ _ k f rfl) (fun k f => w3_at c M4 f4 2 _ _ k f rfl) (fun k f => w5_at c M5 f5 2 _ _ k f rfl) (fun k f => w3_at c M3 f3 3 _ _ k f rfl) (fun k f => w3_at c M4 f4 3 _ _ k f rfl) (fun k f => w5_at c M5 f5 3 _ _ k f rfl)

theorem off2_eq : k0_off2 i = ![(i 1).val, 0, 0, 0] := by
  unfold k0_off2
  have : ∀ k : Fin 4, (Scalar.indexCast (BitVec.ofNat 32 k.val) : BitVec 32).toNat = k.val := by decide
  exact congrArg (fun n => ![n, 0, 0, 0]) (this (i 1))

/-- The dense branch clears its own group's rows of the compacted buffer and keeps the others. -/
theorem dense_buf (ho : flag c i s6 = 1#1) (g s : Fin 4) (r : Fin 96) (d : Fin 1024) :
    X5 c (dense c i M0 h0 M1 h1 M2 h2 M3 h3 M4 h4 M5 h5 M6 h6 M7 h7 M8 h8 f0 f1 f2 f3 f4 f5 f6 f7 f8 s0 s1 s2 s3 s4 s5 s6 ho).t5 (ix4 g s r d)
      = if g = gi i then 0 else X5 c s5 (ix4 g s r d) := by
  rw [dense_t5_eq]
  by_cases hg : g = gi i
  · rw [if_pos hg]
    refine (View.read_writes_cons_unit_of_mem (Memref.whole cc0_scratch5).view _ _ _ _ (ix4 g s r d) (ix4 0 s r d) (off2_eq i) (by
      intro a; fin_cases a
      · exact (congrArg Fin.val hg).trans (Nat.add_zero _).symm
      all_goals exact (Nat.zero_add _).symm)).trans ?_
    have h : k0_pay6 (F := Ideal) (ix4 0 s r d) = 0 := by
      pointwise [k0_pay6]
    exact h
  · rw [if_neg hg]
    refine (View.read_writes_cons_unit_of_not_mem (Memref.whole cc0_scratch5).view _ _ _ _ (ix4 g s r d) (off2_eq i) 0 ?_).trans rfl
    have : g.val ≠ (i 1).val := fun h => hg (Fin.ext h)
    change g.val < (i 1).val ∨ (i 1).val + 1 ≤ g.val
    omega
end Cert.Proof.Val
end
-- ==== Proof.ValComp.lean ====
module

public import proofs.«01_k».proof.Proof.ValDense

@[expose] public section

set_option maxRecDepth 16384

noncomputable section

/-! The compacted branch of the second segment, at an index. -/

namespace Cert.Proof.Val

open Idealize.ShloMosaic Cert.KernelIdeal Cert.KernelIdeal.Gen Cert.Proof.Body

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := Ideal) c M0) (f1 : Bf (F := Ideal) c M1) (f2 : Bf (F := Ideal) c M2) (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (s0 : Bf (F := Ideal) c (Memref.whole cc0_scratch0)) (s1 : Bf (F := Ideal) c (Memref.whole cc0_scratch1))
  (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5))
  (s6 : Bf (F := Ideal) c (Memref.whole cc0_scratch6))

/-- Whether the token in column `x` goes to row `r` of its slice: its group is `g` and its rank `r`. -/
def pk (g : EReal) (gid rank : Fin 256 → EReal) (r : Fin 96) (x : Fin 256) : EReal :=
  if (if gid x = g then rank x else Ideal.ofBits FTy.f32 3212836864#32) = FloatOps.sitofp (F := Ideal) FTy.f32 (BitVec.ofNat 32 r.val) then 1 else 0

theorem sitofp_nat (n : ℕ) (h : n < 2147483648) : FloatOps.sitofp (F := Ideal) FTy.f32 (BitVec.ofNat 32 n) = (((n : ℕ) : ℝ) : EReal) := by
  have h1 : (BitVec.ofNat 32 n).toInt = n := by
    rw [BitVec.toInt_eq_toNat_of_lt (by rw [BitVec.toNat_ofNat]; omega), BitVec.toNat_ofNat]; omega
  show (((BitVec.ofNat 32 n).toInt : ℝ) : EReal) = _
  rw [h1]; push_cast; rfl

theorem neg_one_eq : Ideal.ofBits FTy.f32 3212836864#32 = ((-1 : ℝ) : EReal) := by
  simp [Ideal.ofBits, Ideal.ieee]
  norm_num
  rw [← EReal.coe_mul]
  norm_num

theorem pk_sum (g : EReal) (gid rank : Fin 256 → EReal) (r : Fin 96) (x0 : Fin 256) (hg : gid x0 = g)
    (hr : rank x0 = FloatOps.sitofp (F := Ideal) FTy.f32 (BitVec.ofNat 32 r.val))
    (hu : ∀ x, gid x = g → rank x = FloatOps.sitofp (F := Ideal) FTy.f32 (BitVec.ofNat 32 r.val) → x = x0) (v : Fin 256 → EReal) :
    ∑ x, pk g gid rank r x * v x = v x0 := by
  rw [Finset.sum_eq_single x0]
  · unfold pk; rw [if_pos hg, if_pos hr, one_mul]
  · intro x _ hx
    have : pk g gid rank r x = 0 := by
      unfold pk
      by_cases h : gid x = g
      · rw [if_pos h, if_neg (fun h2 => hx (hu x h h2))]
      · rw [if_neg h, if_neg]
        rw [neg_one_eq, sitofp_nat _ (by omega), EReal.coe_eq_coe_iff]
        have : (0 : ℝ) ≤ (r.val : ℝ) := Nat.cast_nonneg _
        linarith
    rw [this, zero_mul]
  · intro h; exact absurd (Finset.mem_univ _) h

section pays
variable (v4 : Ideal .f32) (v15 v18 : FVec Ideal S1x256 .f32) (r : Fin 96)
theorem pay77_at (x : Fin 256) : k0_pay77 (F := Ideal) v4 v15 v18 (ix2 r x) = pk v4 (fun x => v15 (ix2 0 x)) (fun x => v18 (ix2 0 x)) r x := by
  unfold pk
  pointwise [k0_pay77, k0_pay76]
theorem pay82_at (x : Fin 256) : k0_pay82 (F := Ideal) k0_pay76 (k0_pay80 v4 v15) v18 k0_pay81 (ix2 r x) = pk v4 (fun x => v15 (ix2 0 x)) (fun x => v18 (ix2 0 x)) r x := by
  unfold pk
  pointwise [k0_pay82, k0_pay76, k0_pay80, k0_pay81]
theorem pay85_at (x : Fin 256) : k0_pay85 (F := Ideal) v4 k0_pay76 v15 v18 (ix2 r x) = pk v4 (fun x => v15 (ix2 0 x)) (fun x => v18 (ix2 0 x)) r x := by
  unfold pk
  pointwise [k0_pay85, k0_pay76]
theorem pay88_at (x : Fin 256) : k0_pay88 (F := Ideal) v4 k0_pay76 v15 v18 (ix2 r x) = pk v4 (fun x => v15 (ix2 0 x)) (fun x => v18 (ix2 0 x)) r x := by
  unfold pk
  pointwise [k0_pay88, k0_pay76]
variable (x0 : Fin 256) (hg : v15 (ix2 0 x0) = v4) (hr : v18 (ix2 0 x0) = FloatOps.sitofp (F := Ideal) FTy.f32 (BitVec.ofNat 32 r.val))
    (hu : ∀ x, v15 (ix2 0 x) = v4 → v18 (ix2 0 x) = FloatOps.sitofp (F := Ideal) FTy.f32 (BitVec.ofNat 32 r.val) → x = x0)
  (h27 : FVec Ideal S256x1024 .bf16) (a b e : FVec Ideal S1x256x128 .bf16)
include hg hr hu
theorem hid0 (d : Fin 1024) : k0_pay78 (F := Ideal) v4 v15 v18 h27 (ix2 r d) = h27 (ix2 x0 d) := by
  refine Eq.trans (b := ∑ x, k0_pay77 v4 v15 v18 (ix2 r x) * h27 (ix2 x d)) (by pointwise [k0_pay78]) ?_
  simp only [pay77_at]
  exact pk_sum _ _ _ r x0 hg hr hu _
theorem hid1 (d : Fin 1024) : k0_pay83 (F := Ideal) k0_pay76 (k0_pay80 v4 v15) v18 k0_pay81 h27 (ix2 r d) = h27 (ix2 x0 d) := by
  refine Eq.trans (b := ∑ x, k0_pay82 k0_pay76 (k0_pay80 v4 v15) v18 k0_pay81 (ix2 r x) * h27 (ix2 x d)) (by pointwise [k0_pay83]) ?_
  simp only [pay82_at]
  exact pk_sum _ _ _ r x0 hg hr hu _
theorem hid2 (d : Fin 1024) : k0_pay86 (F := Ideal) (k0_pay85 v4 k0_pay76 v15 v18) h27 (ix2 r d) = h27 (ix2 x0 d) := by
  refine Eq.trans (b := ∑ x, k0_pay85 v4 k0_pay76 v15 v18 (ix2 r x) * h27 (ix2 x d)) (by pointwise [k0_pay86]) ?_
  simp only [pay85_at]
  exact pk_sum _ _ _ r x0 hg hr hu _
theorem hid3 (d : Fin 1024) : k0_pay89 (F := Ideal) v4 k0_pay76 v15 v18 h27 (ix2 r d) = h27 (ix2 x0 d) := by
  refine Eq.trans (b := ∑ x, k0_pay88 v4 k0_pay76 v15 v18 (ix2 r x) * h27 (ix2 x d)) (by pointwise [k0_pay89]) ?_
  simp only [pay88_at]
  exact pk_sum _ _ _ r x0 hg hr hu _
theorem tok0 (k : Fin 128) : k0_pay79 (F := Ideal) v4 v15 v18 a b e (ix2 r k) = a (ix3 0 x0 k) + b (ix3 0 x0 k) + e (ix3 0 x0 k) := by
  refine Eq.trans (b := ∑ x, k0_pay77 v4 v15 v18 (ix2 r x) * a (ix3 0 x k) + ∑ x, k0_pay77 v4 v15 v18 (ix2 r x) * b (ix3 0 x k) + ∑ x, k0_pay77 v4 v15 v18 (ix2 r x) * e (ix3 0 x k)) (by pointwise [k0_pay79]) ?_
  simp only [pay77_at]
  rw [pk_sum _ _ _ r x0 hg hr hu _, pk_sum _ _ _ r x0 hg hr hu _, pk_sum _ _ _ r x0 hg hr hu _]
theorem tok1 (k : Fin 128) : k0_pay84 (F := Ideal) k0_pay76 (k0_pay80 v4 v15) v18 k0_pay81 a b e (ix2 r k) = a (ix3 0 x0 k) + b (ix3 0 x0 k) + e (ix3 0 x0 k) := by
  refine Eq.trans (b := ∑ x, k0_pay82 k0_pay76 (k0_pay80 v4 v15) v18 k0_pay81 (ix2 r x) * a (ix3 0 x k) + ∑ x, k0_pay82 k0_pay76 (k0_pay80 v4 v15) v18 k0_pay81 (ix2 r x) * b (ix3 0 x k) + ∑ x, k0_pay82 k0_pay76 (k0_pay80 v4 v15) v18 k0_pay81 (ix2 r x) * e (ix3 0 x k)) (by pointwise [k0_pay84]) ?_
  simp only [pay82_at]
  rw [pk_sum _ _ _ r x0 hg hr hu _, pk_sum _ _ _ r x0 hg hr hu _, pk_sum _ _ _ r x0 hg hr hu _]
theorem tok2 (k : Fin 128) : k0_pay87 (F := Ideal) (k0_pay85 v4 k0_pay76 v15 v18) a b e (ix2 r k) = a (ix3 0 x0 k) + b (ix3 0 x0 k) + e (ix3 0 x0 k) := by
  refine Eq.trans (b := ∑ x, k0_pay85 v4 k0_pay76 v15 v18 (ix2 r x) * a (ix3 0 x k) + ∑ x, k0_pay85 v4 k0_pay76 v15 v18 (ix2 r x) * b (ix3 0 x k) + ∑ x, k0_pay85 v4 k0_pay76 v15 v18 (ix2 r x) * e (ix3 0 x k)) (by pointwise [k0_pay87]) ?_
  simp only [pay85_at]
  rw [pk_sum _ _ _ r x0 hg hr hu _, pk_sum _ _ _ r x0 hg hr hu _, pk_sum _ _ _ r x0 hg hr hu _]
theorem tok3 (k : Fin 128) : k0_pay90 (F := Ideal) v4 k0_pay76 v15 v18 a (ix2 r k) + ∑ x, k0_pay88 v4 k0_pay76 v15 v18 (ix2 r x) * b (ix3 0 x k) + ∑ x, k0_pay88 v4 k0_pay76 v15 v18 (ix2 r x) * e (ix3 0 x k) = a (ix3 0 x0 k) + b (ix3 0 x0 k) + e (ix3 0 x0 k) := by
  have h : k0_pay90 (F := Ideal) v4 k0_pay76 v15 v18 a (ix2 r k) = ∑ x, k0_pay88 v4 k0_pay76 v15 v18 (ix2 r x) * a (ix3 0 x k) := by pointwise [k0_pay90]
  rw [h]
  simp only [pay88_at]
  rw [pk_sum _ _ _ r x0 hg hr hu _, pk_sum _ _ _ r x0 hg hr hu _, pk_sum _ _ _ r x0 hg hr hu _]
end pays

/-- A row of the four slices put one below another. -/
theorem pay91_at (a b e f : FVec Ideal S96x1024 .bf16) (R : Fin 384) (k : Fin 1024) : k0_pay91 (F := Ideal) a b e f (ix2 R k)
    = if h : R.val < 96 then a (ix2 ⟨R.val, h⟩ k) else if h : R.val - 96 < 96 then b (ix2 ⟨R.val - 96, h⟩ k)
      else if h : R.val - 96 - 96 < 96 then e (ix2 ⟨R.val - 96 - 96, h⟩ k) else f (ix2 ⟨R.val - 96 - 96 - 96, by omega⟩ k) := by
  pointwise [k0_pay91]
theorem pay92_at (v40 v66 v92 : FVec Ideal S96x128 .f32) (v104 : FVec Ideal S96x256 .bf16) (v110 : FVec Ideal S96x128 .f32) (v111 v115 : FVec Ideal S1x256x128 .bf16) (R : Fin 384) (k : Fin 128) :
    k0_pay92 (F := Ideal) v40 v66 v92 v104 v110 v111 v115 (ix2 R k) = if h : R.val < 96 then v40 (ix2 ⟨R.val, h⟩ k) else if h : R.val - 96 < 96 then v66 (ix2 ⟨R.val - 96, h⟩ k)
      else if h : R.val - 96 - 96 < 96 then v92 (ix2 ⟨R.val - 96 - 96, h⟩ k) else
      v110 (ix2 ⟨R.val - 96 - 96 - 96, by omega⟩ k) + ∑ x, v104 (ix2 ⟨R.val - 96 - 96 - 96, by omega⟩ x) * v111 (ix3 0 x k) +
            ∑ x, v104 (ix2 ⟨R.val - 96 - 96 - 96, by omega⟩ x) * v115 (ix3 0 x k) := by
  pointwise [k0_pay92]

section rows
variable (w3 : BitVec 32) (N : FVec Ideal S384x1024 .bf16) (T : FVec Ideal S384x128 .f32) (A B : FVec Ideal S1x1024x256 .bf16) (C : FVec Ideal S1x256x1024 .bf16) (R : Fin 384) (d : Fin 1024)
theorem pay94_at (v29 v40 v55 v66 v81 v92 v104 v107 v110 v111 v115 A0 B0 C0) (hN : k0_pay91 v29 v55 v81 v107 = N) (hT : k0_pay92 v40 v66 v92 v104 v110 v111 v115 = T) :
    k0_pay94 (F := Ideal) w3 N T (iota Kind.tc S384x128 32 [1] iota_S384x128_d1_w32) (k0_pay93 w3 v29 v40 v55 v66 v81 v92 v104 v107 v110 v111 v115 A0 B0) C0 A B C (ix2 R d)
      = mlp (fun k => N (ix2 R k)) (fun k f => A0 (ix3 0 k f)) (fun k f => B0 (ix3 0 k f)) (fun f d => C0 (ix3 0 f d)) (∑ x : Fin 128, Scalar.select (IntOp.cmpi CmpIPredicate.eq (BitVec.ofNat 32 x.val) (Scalar.addi w3 0#32)) (T (ix2 R x)) 0) d
        + mlp (fun k => N (ix2 R k)) (fun k f => A (ix3 0 k f)) (fun k f => B (ix3 0 k f)) (fun f d => C (ix3 0 f d)) (∑ x : Fin 128, Scalar.select (IntOp.cmpi CmpIPredicate.eq (BitVec.ofNat 32 x.val) (Scalar.addi w3 1#32)) (T (ix2 R x)) 0) d := by
  subst hN hT
  unfold mlp
  pointwise [k0_pay94, k0_pay93]
theorem pay96_at (v178 : FVec Ideal S384x1024 .f32) :
    k0_pay96 (F := Ideal) N v178 (k0_pay95 w3 T (iota Kind.tc S384x128 32 [1] iota_S384x128_d1_w32)) A B C (ix2 R d)
      = v178 (ix2 R d) + mlp (fun k => N (ix2 R k)) (fun k f => A (ix3 0 k f)) (fun k f => B (ix3 0 k f)) (fun f d => C (ix3 0 f d)) (∑ x : Fin 128, Scalar.select (IntOp.cmpi CmpIPredicate.eq (BitVec.ofNat 32 x.val) (Scalar.addi w3 2#32)) (T (ix2 R x)) 0) d := by
  unfold mlp
  pointwise [k0_pay96, k0_pay95]
theorem pay100_at (v178 : FVec Ideal S384x1024 .f32) :
    k0_pay100 (F := Ideal) N v178 (k0_pay97 w3 T (iota Kind.tc S384x128 32 [1] iota_S384x128_d1_w32)) (k0_pay98 N A) (k0_pay99 B) (constant S384x256 .f32 0x00000000#32) C (ix2 R d)
      = v178 (ix2 R d) + mlp (fun k => N (ix2 R k)) (fun k f => A (ix3 0 k f)) (fun k f => B (ix3 0 k f)) (fun f d => C (ix3 0 f d)) (∑ x : Fin 128, Scalar.select (IntOp.cmpi CmpIPredicate.eq (BitVec.ofNat 32 x.val) (Scalar.addi w3 3#32)) (T (ix2 R x)) 0) d := by
  unfold mlp
  pointwise [k0_pay100, k0_pay97, k0_pay98, k0_pay99]
end rows

theorem comp_gen (g : Fin 4) (w3 : BitVec 32) (hw3 : w3 = Scalar.muli (BitVec.ofNat 32 g.val) 4#32) (N : FVec Ideal S384x1024 .bf16) (T : FVec Ideal S384x128 .f32)
    (v29 v40 v55 v66 v81 v92 v104 v107 v110 v111 v115)
    (A0 A1 A2 A3 B0 B1 B2 B3 : FVec Ideal S1x1024x256 .bf16) (C0 C1 C2 C3 : FVec Ideal S1x256x1024 .bf16) (R : Fin 384) (d : Fin 1024)
    (x0 : Fin 1024 → EReal) (x1 : Fin 4 → EReal) (W3 W4 : S4x1024x256.Idx → EReal) (W5 : S4x256x1024.Idx → EReal)
    (hN : k0_pay91 v29 v55 v81 v107 = N) (hT : k0_pay92 v40 v66 v92 v104 v110 v111 v115 = T)
    (h0 : ∀ k, N (ix2 R k) = x0 k) (h1 : ∀ j, T (ix2 R (xe g j)) = x1 j)
    (hA0 : ∀ k f, A0 (ix3 0 k f) = W3 (ix3 0 k f)) (hB0 : ∀ k f, B0 (ix3 0 k f) = W4 (ix3 0 k f)) (hC0 : ∀ k f, C0 (ix3 0 k f) = W5 (ix3 0 k f)) (hA1 : ∀ k f, A1 (ix3 0 k f) = W3 (ix3 1 k f)) (hB1 : ∀ k f, B1 (ix3 0 k f) = W4 (ix3 1 k f)) (hC1 : ∀ k f, C1 (ix3 0 k f) = W5 (ix3 1 k f)) (hA2 : ∀ k f, A2 (ix3 0 k f) = W3 (ix3 2 k f)) (hB2 : ∀ k f, B2 (ix3 0 k f) = W4 (ix3 2 k f)) (hC2 : ∀ k f, C2 (ix3 0 k f) = W5 (ix3 2 k f)) (hA3 : ∀ k f, A3 (ix3 0 k f) = W3 (ix3 3 k f)) (hB3 : ∀ k f, B3 (ix3 0 k f) = W4 (ix3 3 k f)) (hC3 : ∀ k f, C3 (ix3 0 k f) = W5 (ix3 3 k f)) :
    k0_pay100 (F := Ideal) N (k0_pay96 N (k0_pay94 w3 N T (iota Kind.tc S384x128 32 [1] iota_S384x128_d1_w32) (k0_pay93 w3 v29 v40 v55 v66 v81 v92 v104 v107 v110 v111 v115 A0 B0) C0 A1 B1 C1) (k0_pay95 w3 T (iota Kind.tc S384x128 32 [1] iota_S384x128_d1_w32)) A2 B2 C2)
      (k0_pay97 w3 T (iota Kind.tc S384x128 32 [1] iota_S384x128_d1_w32)) (k0_pay98 N A3) (k0_pay99 B3) (constant S384x256 .f32 0x00000000#32) C3 (ix2 R d) = grp x0 W3 W4 W5 x1 d := by
  subst hw3
  have sel : ∀ j : Fin 4, (∑ x : Fin 128, Scalar.select (IntOp.cmpi CmpIPredicate.eq (BitVec.ofNat 32 x.val) (Scalar.addi (Scalar.muli (BitVec.ofNat 32 g.val) 4#32) (BitVec.ofNat 32 j.val))) (T (ix2 R x)) 0)
      = x1 j := fun j => (sum_sel _ (fun x => T (ix2 R x)) (xe g j) (word_expert g j)).trans (h1 j)
  rw [pay100_at, pay96_at, pay94_at _ _ _ _ _ _ _ _ _ _ _ _ _ _ _ _ _ _ _ _ _ _ hN hT]
  simp only [h0, hA0, hA1, hA2, hA3, hB0, hB1, hB2, hB3, hC0, hC1, hC2, hC3]
  unfold grp
  exact congrArg₂ (· + ·) (congrArg₂ (· + ·) (congrArg₂ (· + ·) (congrArg (fun g => mlp _ _ _ _ g d) (sel 0)) (congrArg (fun g => mlp _ _ _ _ g d) (sel 1))) (congrArg (fun g => mlp _ _ _ _ g d) (sel 2))) (congrArg (fun g => mlp _ _ _ _ g d) (sel 3))

/-- The column of a token in its slice. -/
def tk (s : Fin 4) (x : Fin 256) : Fin 1024 := ⟨256 * s.val + x.val, by omega⟩
/-- A row of the four compacted slices. -/
def rw4 (s : Fin 4) (r : Fin 96) : Fin 384 := ⟨96 * s.val + r.val, by omega⟩

theorem gid_at (s : Fin 4) (off : Fin S8x1024.rank → ℕ) (inb) (x : Fin 256) (q : Fin 8) (h : off = ![q.val, 256 * s.val]) :
    (Memref.whole cc0_scratch3).view.readAt (Elt Ideal) (Rect.unit (s := S8x1024) off S1x256.size inb).toLoadRect s3 (ix2 0 x) = X3 c s3 (ix2 q (tk s x)) := by
  subst h
  exact readAt_unit (Memref.whole cc0_scratch3) s3 _ _ _ (by intro a; fin_cases a; · exact (Nat.add_zero _).symm
                                                             · exact rfl)
theorem row_at (s : Fin 4) (off : Fin S1024x1024.rank → ℕ) (inb) (x : Fin 256) (k : Fin 1024) (h : off = ![256 * s.val, 0]) :
    (Memref.whole cc0_scratch0).view.readAt (Elt Ideal) (Rect.unit (s := S1024x1024) off S256x1024.size inb).toLoadRect s0 (ix2 x k) = X0 c s0 (ix2 (tk s x) k) := by
  subst h
  exact readAt_unit (Memref.whole cc0_scratch0) s0 _ _ _ (by intro a; fin_cases a; · exact rfl
                                                             · exact (Nat.zero_add _).symm)
theorem tok_at (s : Fin 4) (off : Fin S3x1024x128.rank → ℕ) (inb) (x : Fin 256) (k : Fin 128) (q : Fin 3) (h : off = ![q.val, 256 * s.val, 0]) :
    (Memref.whole cc0_scratch2).view.readAt (Elt Ideal) (Rect.unit (s := S3x1024x128) off S1x256x128.size inb).toLoadRect s2 (ix3 0 x k) = X2 c s2 (ix3 q (tk s x) k) := by
  subst h
  exact readAt_unit (Memref.whole cc0_scratch2) s2 _ _ _ (by intro a; fin_cases a; · exact (Nat.add_zero _).symm
                                                             · exact rfl
                                                             · exact (Nat.zero_add _).symm)

/-- The compacted rows of the hidden states and of the token records. -/
abbrev cN : FVec Ideal S384x1024 .bf16 := compacted.sl.v119 c i s0 s3
abbrev cT : FVec Ideal S384x128 .f32 := compacted.sl.v120 c i s2 s3

section one
variable (s : Fin 4) (r : Fin 96) (x0 : Fin 256) (hg : X3 c s3 (ix2 0 (tk s x0)) = k0_pay4 (F := Ideal) i)
  (hr : X3 c s3 (ix2 1 (tk s x0)) = FloatOps.sitofp (F := Ideal) FTy.f32 (BitVec.ofNat 32 r.val))
  (hu : ∀ x, X3 c s3 (ix2 0 (tk s x)) = k0_pay4 (F := Ideal) i → X3 c s3 (ix2 1 (tk s x)) = FloatOps.sitofp (F := Ideal) FTy.f32 (BitVec.ofNat 32 r.val) → x = x0)
include hg hr hu
theorem cN_at (k : Fin 1024) : cN c i s0 s3 (ix2 (rw4 s r) k) = X0 c s0 (ix2 (tk s x0) k) := by
  unfold cN compacted.sl.v119
  rw [pay91_at]
  unfold rw4
  match s, hg, hr, hu with
  | 0, hg, hr, hu =>
    rw [dif_pos (show 96 * (0 : Fin 4).val + r.val < 96 by have := r.isLt; change 96 * 0 + r.val < 96; omega)]
    have hx : (⟨96 * (0 : Fin 4).val + r.val, by have := r.isLt; change 96 * 0 + r.val < 96; omega⟩ : Fin 96) = r := Fin.ext (by change 96 * 0 + r.val = r.val; omega)
    rw [hx]
    have a0 := fun x => gid_at c s3 0 _ (inb_S8x1024_S1x256_0_0) x 0 rfl
    have a1 := fun x => gid_at c s3 0 _ (inb_S8x1024_S1x256_1_0) x 1 rfl
    exact (hid0 _ _ _ r x0 ((a0 x0).trans hg) ((a1 x0).trans hr) (fun x p q => hu x ((a0 x).symm.trans p) ((a1 x).symm.trans q)) _ k).trans (row_at c s0 0 _ _ x0 k rfl)
  | 1, hg, hr, hu =>
    rw [dif_neg (show ¬ (96 * (1 : Fin 4).val + r.val < 96) by have := r.isLt; change ¬ (96 * 1 + r.val < 96); omega), dif_pos (show 96 * (1 : Fin 4).val + r.val - 96 < 96 by have := r.isLt; change 96 * 1 + r.val - 96 < 96; omega)]
    have hx : (⟨96 * (1 : Fin 4).val + r.val - 96, by have := r.isLt; change 96 * 1 + r.val - 96 < 96; omega⟩ : Fin 96) = r := Fin.ext (by change 96 * 1 + r.val - 96 = r.val; omega)
    rw [hx]
    have a0 := fun x => gid_at c s3 1 _ (inb_S8x1024_S1x256_0_256) x 0 rfl
    have a1 := fun x => gid_at c s3 1 _ (inb_S8x1024_S1x256_1_256) x 1 rfl
    exact (hid1 _ _ _ r x0 ((a0 x0).trans hg) ((a1 x0).trans hr) (fun x p q => hu x ((a0 x).symm.trans p) ((a1 x).symm.trans q)) _ k).trans (row_at c s0 1 _ _ x0 k rfl)
  | 2, hg, hr, hu =>
    rw [dif_neg (show ¬ (96 * (2 : Fin 4).val + r.val < 96) by have := r.isLt; change ¬ (96 * 2 + r.val < 96); omega), dif_neg (show ¬ (96 * (2 : Fin 4).val + r.val - 96 < 96) by have := r.isLt; change ¬ (96 * 2 + r.val - 96 < 96); omega), dif_pos (show 96 * (2 : Fin 4).val + r.val - 96 - 96 < 96 by have := r.isLt; change 96 * 2 + r.val - 96 - 96 < 96; omega)]
    have hx : (⟨96 * (2 : Fin 4).val + r.val - 96 - 96, by have := r.isLt; change 96 * 2 + r.val - 96 - 96 < 96; omega⟩ : Fin 96) = r := Fin.ext (by change 96 * 2 + r.val - 96 - 96 = r.val; omega)
    rw [hx]
    have a0 := fun x => gid_at c s3 2 _ (inb_S8x1024_S1x256_0_512) x 0 rfl
    have a1 := fun x => gid_at c s3 2 _ (inb_S8x1024_S1x256_1_512) x 1 rfl
    exact (hid2 _ _ _ r x0 ((a0 x0).trans hg) ((a1 x0).trans hr) (fun x p q => hu x ((a0 x).symm.trans p) ((a1 x).symm.trans q)) _ k).trans (row_at c s0 2 _ _ x0 k rfl)
  | 3, hg, hr, hu =>
    rw [dif_neg (show ¬ (96 * (3 : Fin 4).val + r.val < 96) by have := r.isLt; change ¬ (96 * 3 + r.val < 96); omega), dif_neg (show ¬ (96 * (3 : Fin 4).val + r.val - 96 < 96) by have := r.isLt; change ¬ (96 * 3 + r.val - 96 < 96); omega), dif_neg (show ¬ (96 * (3 : Fin 4).val + r.val - 96 - 96 < 96) by have := r.isLt; change ¬ (96 * 3 + r.val - 96 - 96 < 96); omega)]
    have hx : (⟨96 * (3 : Fin 4).val + r.val - 96 - 96 - 96, by have := r.isLt; change 96 * 3 + r.val - 96 - 96 - 96 < 96; omega⟩ : Fin 96) = r := Fin.ext (by change 96 * 3 + r.val - 96 - 96 - 96 = r.val; omega)
    rw [hx]
    have a0 := fun x => gid_at c s3 3 _ (inb_S8x1024_S1x256_0_768) x 0 rfl
    have a1 := fun x => gid_at c s3 3 _ (inb_S8x1024_S1x256_1_768) x 1 rfl
    exact (hid3 _ _ _ r x0 ((a0 x0).trans hg) ((a1 x0).trans hr) (fun x p q => hu x ((a0 x).symm.trans p) ((a1 x).symm.trans q)) _ k).trans (row_at c s0 3 _ _ x0 k rfl)
theorem cT_at (k : Fin 128) : cT c i s2 s3 (ix2 (rw4 s r) k) = X2 c s2 (ix3 0 (tk s x0) k) + X2 c s2 (ix3 1 (tk s x0) k) + X2 c s2 (ix3 2 (tk s x0) k) := by
  unfold cT compacted.sl.v120
  rw [pay92_at]
  unfold rw4
  match s, hg, hr, hu with
  | 0, hg, hr, hu =>
    rw [dif_pos (show 96 * (0 : Fin 4).val + r.val < 96 by have := r.isLt; change 96 * 0 + r.val < 96; omega)]
    have hx : (⟨96 * (0 : Fin 4).val + r.val, by have := r.isLt; change 96 * 0 + r.val < 96; omega⟩ : Fin 96) = r := Fin.ext (by change 96 * 0 + r.val = r.val; omega)
    rw [hx]
    have a0 := fun x => gid_at c s3 0 _ (inb_S8x1024_S1x256_0_0) x 0 rfl
    have a1 := fun x => gid_at c s3 0 _ (inb_S8x1024_S1x256_1_0) x 1 rfl
    exact (tok0 _ _ _ r x0 ((a0 x0).trans hg) ((a1 x0).trans hr) (fun x p q => hu x ((a0 x).symm.trans p) ((a1 x).symm.trans q)) _ _ _ k).trans (congrArg₂ (· + ·) (congrArg₂ (· + ·) (tok_at c s2 0 _ _ x0 k 0 rfl) (tok_at c s2 0 _ _ x0 k 1 rfl)) (tok_at c s2 0 _ _ x0 k 2 rfl))
  | 1, hg, hr, hu =>
    rw [dif_neg (show ¬ (96 * (1 : Fin 4).val + r.val < 96) by have := r.isLt; change ¬ (96 * 1 + r.val < 96); omega), dif_pos (show 96 * (1 : Fin 4).val + r.val - 96 < 96 by have := r.isLt; change 96 * 1 + r.val - 96 < 96; omega)]
    have hx : (⟨96 * (1 : Fin 4).val + r.val - 96, by have := r.isLt; change 96 * 1 + r.val - 96 < 96; omega⟩ : Fin 96) = r := Fin.ext (by change 96 * 1 + r.val - 96 = r.val; omega)
    rw [hx]
    have a0 := fun x => gid_at c s3 1 _ (inb_S8x1024_S1x256_0_256) x 0 rfl
    have a1 := fun x => gid_at c s3 1 _ (inb_S8x1024_S1x256_1_256) x 1 rfl
    exact (tok1 _ _ _ r x0 ((a0 x0).trans hg) ((a1 x0).trans hr) (fun x p q => hu x ((a0 x).symm.trans p) ((a1 x).symm.trans q)) _ _ _ k).trans (congrArg₂ (· + ·) (congrArg₂ (· + ·) (tok_at c s2 1 _ _ x0 k 0 rfl) (tok_at c s2 1 _ _ x0 k 1 rfl)) (tok_at c s2 1 _ _ x0 k 2 rfl))
  | 2, hg, hr, hu =>
    rw [dif_neg (show ¬ (96 * (2 : Fin 4).val + r.val < 96) by have := r.isLt; change ¬ (96 * 2 + r.val < 96); omega), dif_neg (show ¬ (96 * (2 : Fin 4).val + r.val - 96 < 96) by have := r.isLt; change ¬ (96 * 2 + r.val - 96 < 96); omega), dif_pos (show 96 * (2 : Fin 4).val + r.val - 96 - 96 < 96 by have := r.isLt; change 96 * 2 + r.val - 96 - 96 < 96; omega)]
    have hx : (⟨96 * (2 : Fin 4).val + r.val - 96 - 96, by have := r.isLt; change 96 * 2 + r.val - 96 - 96 < 96; omega⟩ : Fin 96) = r := Fin.ext (by change 96 * 2 + r.val - 96 - 96 = r.val; omega)
    rw [hx]
    have a0 := fun x => gid_at c s3 2 _ (inb_S8x1024_S1x256_0_512) x 0 rfl
    have a1 := fun x => gid_at c s3 2 _ (inb_S8x1024_S1x256_1_512) x 1 rfl
    exact (tok2 _ _ _ r x0 ((a0 x0).trans hg) ((a1 x0).trans hr) (fun x p q => hu x ((a0 x).symm.trans p) ((a1 x).symm.trans q)) _ _ _ k).trans (congrArg₂ (· + ·) (congrArg₂ (· + ·) (tok_at c s2 2 _ _ x0 k 0 rfl) (tok_at c s2 2 _ _ x0 k 1 rfl)) (tok_at c s2 2 _ _ x0 k 2 rfl))
  | 3, hg, hr, hu =>
    rw [dif_neg (show ¬ (96 * (3 : Fin 4).val + r.val < 96) by have := r.isLt; change ¬ (96 * 3 + r.val < 96); omega), dif_neg (show ¬ (96 * (3 : Fin 4).val + r.val - 96 < 96) by have := r.isLt; change ¬ (96 * 3 + r.val - 96 < 96); omega), dif_neg (show ¬ (96 * (3 : Fin 4).val + r.val - 96 - 96 < 96) by have := r.isLt; change ¬ (96 * 3 + r.val - 96 - 96 < 96); omega)]
    have hx : (⟨96 * (3 : Fin 4).val + r.val - 96 - 96 - 96, by have := r.isLt; change 96 * 3 + r.val - 96 - 96 - 96 < 96; omega⟩ : Fin 96) = r := Fin.ext (by change 96 * 3 + r.val - 96 - 96 - 96 = r.val; omega)
    rw [hx]
    have a0 := fun x => gid_at c s3 3 _ (inb_S8x1024_S1x256_0_768) x 0 rfl
    have a1 := fun x => gid_at c s3 3 _ (inb_S8x1024_S1x256_1_768) x 1 rfl
    exact (tok3 _ _ _ r x0 ((a0 x0).trans hg) ((a1 x0).trans hr) (fun x p q => hu x ((a0 x).symm.trans p) ((a1 x).symm.trans q)) _ _ _ k).trans (congrArg₂ (· + ·) (congrArg₂ (· + ·) (tok_at c s2 3 _ _ x0 k 0 rfl) (tok_at c s2 3 _ _ x0 k 1 rfl)) (tok_at c s2 3 _ _ x0 k 2 rfl))
end one
end Cert.Proof.Val
end
-- ==== Proof.Route.lean ====
module

public import Idealize.ShloMosaic.Lib.Pointwise

@[expose] public section

set_option maxRecDepth 16384

noncomputable section

/-! The routing of one token: the four sums of pairs, the group, the two experts and their gates, as functions of the
    sixteen scores. The kernel finds a greatest element by a chain of strict compares, the reference by a stable sort;
    both name the first of the greatest. -/

namespace Cert.Proof.Route

open Idealize.ShloMosaic

/-- The extended real of the word of minus infinity. -/
abbrev negInf : EReal := Ideal.ofBits FTy.f32 4286578688#32

theorem negInf_eq : negInf = ⊥ := by
  unfold negInf Ideal.ofBits
  simp [Ideal.ieee]

/-- `i` stands before `j` in the stable order of greatest first. -/
def Bt (v : Fin 4 → EReal) (i j : Fin 4) : Prop := v j < v i ∨ (v j = v i ∧ i < j)

/-- The first place of the stable sort, greatest first. -/
def s0 (v : Fin 4 → EReal) : Fin 4 := sortedFrom (fun i j => decide (v j < v i)) 0
/-- Its second place. -/
def s1 (v : Fin 4 → EReal) : Fin 4 := sortedFrom (fun i j => decide (v j < v i)) 1

/-- The number of entries below entry `i`: the order of four numbers, kept in four small ones. -/
def rk (v : Fin 4 → EReal) (i : Fin 4) : Fin 4 :=
  ⟨(Finset.univ.filter fun j => v j < v i).card, by
    refine lt_of_lt_of_le (Finset.card_lt_card (Finset.ssubset_univ_iff.mpr ?_)) (by simp)
    intro h
    have : i ∈ Finset.univ.filter fun j => v j < v i := by rw [h]; exact Finset.mem_univ _
    simp at this⟩

theorem rk_lt (v : Fin 4 → EReal) (i j : Fin 4) : rk v i < rk v j ↔ v i < v j := by
  have key : ∀ a b, v a ≤ v b → rk v a ≤ rk v b := fun a b h => by
    refine Fin.mk_le_mk.mpr (Finset.card_le_card fun k hk => ?_)
    simp only [Finset.mem_filter, Finset.mem_univ, true_and] at hk ⊢
    exact lt_of_lt_of_le hk h
  constructor
  · intro h
    by_contra hn
    exact absurd (key j i (not_lt.mp hn)) (not_le.mpr h)
  · intro h
    refine Fin.mk_lt_mk.mpr (Finset.card_lt_card (Finset.ssubset_iff_of_subset ?_ |>.mpr ⟨i, ?_, ?_⟩))
    · intro k hk
      simp only [Finset.mem_filter, Finset.mem_univ, true_and] at hk ⊢
      exact lt_trans hk h
    · simpa using h
    · simp

theorem small : ∀ a b c d : Fin 4,
    let w : Fin 4 → Fin 4 := ![a, b, c, d]
    let B : Fin 4 → Fin 4 → Bool := fun i j => decide (w j < w i)
    (∀ j, j ≠ sortedFrom B 0 → (w j < w (sortedFrom B 0) ∨ (¬ w (sortedFrom B 0) < w j ∧ sortedFrom B 0 < j))) ∧
    sortedFrom B 1 ≠ sortedFrom B 0 ∧
    (∀ j, j ≠ sortedFrom B 0 → j ≠ sortedFrom B 1 →
      (w j < w (sortedFrom B 1) ∨ (¬ w (sortedFrom B 1) < w j ∧ sortedFrom B 1 < j))) := by
  decide +kernel

theorem sorted_spec (v : Fin 4 → EReal) :
    (∀ j, j ≠ s0 v → Bt v (s0 v) j) ∧ s1 v ≠ s0 v ∧ (∀ j, j ≠ s0 v → j ≠ s1 v → Bt v (s1 v) j) := by
  have hB : (fun i j : Fin 4 => decide (v j < v i)) = fun i j => decide (rk v j < rk v i) := by
    funext i j; simp only [rk_lt]
  have hw : rk v = ![rk v 0, rk v 1, rk v 2, rk v 3] := by funext i; fin_cases i <;> rfl
  have hs := small (rk v 0) (rk v 1) (rk v 2) (rk v 3)
  simp only at hs
  rw [← hw] at hs
  have e0 : s0 v = sortedFrom (fun i j => decide (rk v j < rk v i)) 0 := by unfold s0; rw [hB]
  have e1 : s1 v = sortedFrom (fun i j => decide (rk v j < rk v i)) 1 := by unfold s1; rw [hB]
  rw [← e0, ← e1] at hs
  have tr : ∀ a j, (rk v j < rk v a ∨ (¬ rk v a < rk v j ∧ a < j)) → Bt v a j := fun a j h => by
    rw [rk_lt, rk_lt] at h
    rcases h with h | ⟨h, h'⟩
    · exact Or.inl h
    · by_cases hh : v j < v a
      · exact Or.inl hh
      · exact Or.inr ⟨le_antisymm (not_lt.mp h) (not_lt.mp hh), h'⟩
  exact ⟨fun j hj => tr _ _ (hs.1 j hj), hs.2.1, fun j hj hj' => tr _ _ (hs.2.2 j hj hj')⟩

/-- The larger of two by the kernel's strict compare. -/
def big (a b : EReal) : EReal := if a < b then b else a
/-- The place of the first greatest of four, by the kernel's chain of strict compares. -/
def idx4 (a b c d : EReal) : BitVec 32 :=
  if big (big a b) c < d then 3#32 else if big a b < c then 2#32 else if a < b then 1#32 else 0#32

theorem idx4_eq (v : Fin 4 → EReal) (k : Fin 4) (h : ∀ j, j ≠ k → Bt v k j) :
    idx4 (v 0) (v 1) (v 2) (v 3) = BitVec.ofNat 32 k.val := by
  have le : ∀ j, v j ≤ v k := fun j => by
    by_cases hj : j = k
    · rw [hj]
    · rcases h j hj with h | h
      · exact le_of_lt h
      · exact le_of_eq h.1
  have lt : ∀ j, j < k → v j < v k := fun j hj => by
    rcases h j (ne_of_lt hj) with h | h
    · exact h
    · exact absurd h.2 (not_lt.mpr (le_of_lt hj))
  have l0 := le 0; have l1 := le 1; have l2 := le 2; have l3 := le 3
  have t0 := lt 0; have t1 := lt 1; have t2 := lt 2
  clear h le lt
  unfold idx4 big
  fin_cases k <;> simp at l0 l1 l2 l3 t0 t1 t2 ⊢ <;> generalize v 0 = a at * <;> generalize v 1 = b at * <;>
    generalize v 2 = c at * <;> generalize v 3 = d at * <;> split_ifs <;> first | rfl | (exfalso; order) | (intros; exfalso; order)

/-- The greatest sum of two of four different entries, as the kernel takes it. -/
def bst (a b c d : EReal) : EReal := max (max (max (max (max (a + b) (a + c)) (a + d)) (b + c)) (b + d)) (c + d)

theorem bt_le {v : Fin 4 → EReal} {i j : Fin 4} (h : Bt v i j) : v j ≤ v i := by
  rcases h with h | h
  · exact le_of_lt h
  · exact le_of_eq h.1

theorem le_s0 (v : Fin 4 → EReal) (j : Fin 4) : v j ≤ v (s0 v) := by
  by_cases h : j = s0 v
  · rw [h]
  · exact bt_le ((sorted_spec v).1 j h)

theorem le_s1 (v : Fin 4 → EReal) (j : Fin 4) (hj : j ≠ s0 v) : v j ≤ v (s1 v) := by
  by_cases h : j = s1 v
  · rw [h]
  · exact bt_le ((sorted_spec v).2.2 j hj h)

theorem pair_le (v : Fin 4 → EReal) (i j : Fin 4) (h : i ≠ j) : v i + v j ≤ v (s0 v) + v (s1 v) := by
  by_cases hj : j = s0 v
  · rw [add_comm, hj]
    exact add_le_add le_rfl (le_s1 v i (fun e => h (e.trans hj.symm)))
  · exact add_le_add (le_s0 v i) (le_s1 v j hj)

theorem bst_eq (v : Fin 4 → EReal) : bst (v 0) (v 1) (v 2) (v 3) = v (s0 v) + v (s1 v) := by
  apply le_antisymm
  · unfold bst
    simp only [max_le_iff]
    exact ⟨⟨⟨⟨⟨pair_le v _ _ (by decide), pair_le v _ _ (by decide)⟩, pair_le v _ _ (by decide)⟩,
      pair_le v _ _ (by decide)⟩, pair_le v _ _ (by decide)⟩, pair_le v _ _ (by decide)⟩
  · have hne := (sorted_spec v).2.1
    revert hne
    generalize s0 v = a
    generalize s1 v = b
    unfold bst
    intro hne
    fin_cases a <;> fin_cases b <;> first | exact absurd rfl hne | (simp [le_max_iff, add_comm]; done) | (simp only [le_max_iff]; exact Or.inl (Or.inl (Or.inl (Or.inl (Or.inl (le_of_eq rfl)))))) | (simp only [le_max_iff]; exact Or.inl (Or.inl (Or.inl (Or.inl (Or.inl (le_of_eq (add_comm (v 1) (v 0))))))))

theorem idx4_first (v : Fin 4 → EReal) : idx4 (v 0) (v 1) (v 2) (v 3) = BitVec.ofNat 32 (s0 v).val :=
  idx4_eq v _ (sorted_spec v).1

/-- The four scores with the first greatest replaced by minus infinity, as the kernel masks it. -/
theorem idx4_second (v : Fin 4 → EReal) (hv : ∀ j, ⊥ < v j) (b : Fin 4 → EReal)
    (hb : ∀ j, b j = if j = s0 v then ⊥ else v j) : idx4 (b 0) (b 1) (b 2) (b 3) = BitVec.ofNat 32 (s1 v).val := by
  refine idx4_eq b _ fun j hj => ?_
  have hs := sorted_spec v
  have e1 : b (s1 v) = v (s1 v) := by rw [hb, if_neg hs.2.1]
  by_cases h : j = s0 v
  · left; rw [e1, hb, if_pos h]; exact hv _
  · have := hs.2.2 j h hj
    unfold Bt at this ⊢
    rw [e1, hb j, if_neg h]; exact this

/-- The entry of four a word names, as the kernel's chain of selects takes it. -/
def pick4 (w : BitVec 32) (a b c d : EReal) : EReal :=
  Scalar.select (IntOp.cmpi CmpIPredicate.eq w 3#32) d
    (Scalar.select (IntOp.cmpi CmpIPredicate.eq w 2#32) c (Scalar.select (IntOp.cmpi CmpIPredicate.eq w 1#32) b a))

theorem pick4_eq (k : Fin 4) (v : Fin 4 → EReal) : pick4 (BitVec.ofNat 32 k.val) (v 0) (v 1) (v 2) (v 3) = v k := by
  fin_cases k <;> rfl

/-- Minus infinity where a word names the place, the entry elsewhere. -/
def mask (w k : BitVec 32) (a : EReal) : EReal := Scalar.select (IntOp.cmpi CmpIPredicate.eq w k) negInf a

theorem mask_eq (k j : Fin 4) (a : EReal) : mask (BitVec.ofNat 32 k.val) (BitVec.ofNat 32 j.val) a = if j = k then ⊥ else a := by
  unfold mask; rw [negInf_eq]
  fin_cases k <;> fin_cases j <;> rfl

/-! ## The kernel's own routing -/

/-- The group's word. -/
def kgid (s : Fin 16 → EReal) : BitVec 32 :=
  idx4 (bst (s 0) (s 1) (s 2) (s 3)) (bst (s 4) (s 5) (s 6) (s 7)) (bst (s 8) (s 9) (s 10) (s 11)) (bst (s 12) (s 13) (s 14) (s 15))
/-- Entry `k` of the picked group. -/
def kpick (w : BitVec 32) (s : Fin 16 → EReal) (k : Fin 4) : EReal :=
  pick4 w (s ⟨k.val, by omega⟩) (s ⟨4 + k.val, by omega⟩) (s ⟨8 + k.val, by omega⟩) (s ⟨12 + k.val, by omega⟩)
/-- The first expert's word in its group. -/
def kone (w : BitVec 32) (s : Fin 16 → EReal) : BitVec 32 := idx4 (kpick w s 0) (kpick w s 1) (kpick w s 2) (kpick w s 3)
/-- The second expert's word. -/
def ktwo (w : BitVec 32) (s : Fin 16 → EReal) : BitVec 32 :=
  idx4 (mask (kone w s) 0#32 (kpick w s 0)) (mask (kone w s) 1#32 (kpick w s 1)) (mask (kone w s) 2#32 (kpick w s 2))
    (mask (kone w s) 3#32 (kpick w s 3))
/-- The probability of the expert a word names. -/
def kprob (w i : BitVec 32) (p : Fin 16 → EReal) : EReal := pick4 i (kpick w p 0) (kpick w p 1) (kpick w p 2) (kpick w p 3)
/-- The gate of one expert. -/
def kgate (s p : Fin 16 → EReal) (e : Fin 16) : EReal :=
  Scalar.select (IntOp.cmpi CmpIPredicate.eq (BitVec.ofNat 32 e.val) (IntOp.addi (IntOp.muli (kgid s) 4#32) (kone (kgid s) s)))
      (Ideal.div (kprob (kgid s) (kone (kgid s) s) p)
        (kprob (kgid s) (kone (kgid s) s) p + kprob (kgid s) (ktwo (kgid s) s) p)) 0 +
    Scalar.select (IntOp.cmpi CmpIPredicate.eq (BitVec.ofNat 32 e.val) (IntOp.addi (IntOp.muli (kgid s) 4#32) (ktwo (kgid s) s)))
      (Ideal.div (kprob (kgid s) (ktwo (kgid s) s) p)
        (kprob (kgid s) (kone (kgid s) s) p + kprob (kgid s) (ktwo (kgid s) s) p)) 0

/-! ## The routing in plain words -/

/-- The scores of a group. -/
def sg (s : Fin 16 → EReal) (g : Fin 4) : Fin 4 → EReal := fun j => s ⟨4 * g.val + j.val, by omega⟩
/-- A group's score: its two greatest added. -/
def sc (s : Fin 16 → EReal) (g : Fin 4) : EReal := sg s g (s0 (sg s g)) + sg s g (s1 (sg s g))
/-- The group of the greatest score. -/
def gg (s : Fin 16 → EReal) : Fin 4 := s0 (sc s)
/-- Its first expert. -/
def x1 (s : Fin 16 → EReal) : Fin 4 := s0 (sg s (gg s))
/-- Its second expert. -/
def x2 (s : Fin 16 → EReal) : Fin 4 := s1 (sg s (gg s))
/-- The sum of the two experts' probabilities. -/
def den (s p : Fin 16 → EReal) : EReal := sg p (gg s) (x1 s) + sg p (gg s) (x2 s)
/-- The gates. -/
def gate (s p : Fin 16 → EReal) (g i : Fin 4) : EReal :=
  if g = gg s ∧ (i = x1 s ∨ i = x2 s) then Ideal.div (sg p (gg s) i) (den s p) else 0

theorem x_ne (s : Fin 16 → EReal) : x2 s ≠ x1 s := (sorted_spec _).2.1

theorem kgid_eq (s : Fin 16 → EReal) : kgid s = BitVec.ofNat 32 (gg s).val := by
  have h := idx4_first (sc s)
  rw [show s0 (sc s) = gg s from rfl] at h
  rw [← h]
  unfold kgid
  have e : ∀ g : Fin 4, sc s g = bst (sg s g 0) (sg s g 1) (sg s g 2) (sg s g 3) := fun g => (bst_eq (sg s g)).symm
  rw [e 0, e 1, e 2, e 3]
  rfl

theorem kpick_eq (g : Fin 4) (s : Fin 16 → EReal) (k : Fin 4) : kpick (BitVec.ofNat 32 g.val) s k = sg s g k := by
  unfold kpick
  have := pick4_eq g (fun g => sg s g k)
  rw [← this]
  unfold sg
  simp

theorem kone_eq (s : Fin 16 → EReal) : kone (kgid s) s = BitVec.ofNat 32 (x1 s).val := by
  unfold kone
  rw [kgid_eq]
  simp only [kpick_eq]
  exact idx4_first (sg s (gg s))

theorem ktwo_eq (s : Fin 16 → EReal) (hs : ∀ e, ⊥ < s e) : ktwo (kgid s) s = BitVec.ofNat 32 (x2 s).val := by
  unfold ktwo
  rw [kone_eq, kgid_eq]
  simp only [kpick_eq]
  refine idx4_second (sg s (gg s)) (fun j => hs _) (fun j => mask (BitVec.ofNat 32 (x1 s).val) (BitVec.ofNat 32 j.val) (sg s (gg s) j)) ?_
  intro j
  exact mask_eq _ _ _

theorem kprob_eq (g k : Fin 4) (p : Fin 16 → EReal) : kprob (BitVec.ofNat 32 g.val) (BitVec.ofNat 32 k.val) p = sg p g k := by
  unfold kprob
  simp only [kpick_eq]
  exact pick4_eq k (sg p g)

theorem sel_word (g i k x : Fin 4) (a : EReal) :
    Scalar.select (IntOp.cmpi CmpIPredicate.eq (BitVec.ofNat 32 (4 * g.val + i.val))
      (IntOp.addi (IntOp.muli (BitVec.ofNat 32 k.val) 4#32) (BitVec.ofNat 32 x.val))) a 0 = if g = k ∧ i = x then a else 0 := by
  fin_cases g <;> fin_cases i <;> fin_cases k <;> fin_cases x <;> rfl

theorem kgate_eq (s p : Fin 16 → EReal) (hs : ∀ e, ⊥ < s e) (g i : Fin 4) :
    kgate s p ⟨4 * g.val + i.val, by omega⟩ = gate s p g i := by
  unfold kgate gate den
  rw [kone_eq, ktwo_eq s hs, kgid_eq]
  simp only [kprob_eq, sel_word]
  have hne := x_ne s
  by_cases hg : g = gg s
  · by_cases h1 : i = x1 s
    · have h2 : i ≠ x2 s := fun h => hne (h.symm.trans h1)
      simp only [hg, h1, true_and, if_true, true_or, if_neg hne.symm, add_zero]
    · by_cases h2 : i = x2 s
      · simp only [hg, h2, true_and, if_true, or_true, if_neg hne, zero_add]
      · simp only [hg, true_and, if_neg h1, if_neg h2, zero_add, h1, h2, or_self, if_false]
  · simp only [hg, false_and, if_false, zero_add]

end Cert.Proof.Route
end
-- ==== Proof.ValRoute.lean ====
module

public import proofs.«01_k».proof.Proof.Body
public import proofs.«01_k».proof.Proof.Route

@[expose] public section

set_option maxRecDepth 16384

noncomputable section

/-! The first segment's values at an index, on extended reals: the kernel's own routing of a token. -/

namespace Cert.Proof.Val

open Idealize.ShloMosaic Cert.KernelIdeal Cert.KernelIdeal.Gen Cert.Proof.Body Cert.Proof.Route

variable (c : Dev nD) (M0 : Memref sig .tc .vmem S1024x1024 .f32) (M1 : Memref sig .tc .vmem S1024x128 .bf16)
  (M2 : Memref sig .tc .vmem S16x1 .f32)
  (f0 : Bf (F := Ideal) c M0) (f1 : Bf (F := Ideal) c M1) (f2 : Bf (F := Ideal) c M2)

/-- A token's sixteen scores, as the kernel has them. -/
def ks (t : Fin 1024) (e : Fin 16) : EReal := first.sl.v46 c M0 M1 M2 f0 f1 f2 (ix2 e t)
/-- Its probabilities. -/
def kp (t : Fin 1024) (e : Fin 16) : EReal := first.sl.v44 c M0 M1 f0 f1 (ix2 e t)

theorem v48_at (t : Fin 1024) : first.sl.v48 c M0 M1 M2 f0 f1 f2 (ix2 0 t) = ks c M0 M1 M2 f0 f1 f2 t 1 := by
  unfold ks first.sl.v48 first.sl.v46
  pointwise [k0_pay13]
theorem v49_at (t : Fin 1024) : first.sl.v49 c M0 M1 M2 f0 f1 f2 (ix2 0 t) = ks c M0 M1 M2 f0 f1 f2 t 2 := by
  unfold ks first.sl.v49 first.sl.v46
  pointwise [k0_pay14]
theorem v50_at (t : Fin 1024) : first.sl.v50 c M0 M1 M2 f0 f1 f2 (ix2 0 t) = ks c M0 M1 M2 f0 f1 f2 t 3 := by
  unfold ks first.sl.v50 first.sl.v46
  pointwise [k0_pay15]
theorem v57_at (t : Fin 1024) : first.sl.v57 c M0 M1 M2 f0 f1 f2 (ix2 0 t) =
    max (max (max (ks c M0 M1 M2 f0 f1 f2 t 0 + ks c M0 M1 M2 f0 f1 f2 t 1) (ks c M0 M1 M2 f0 f1 f2 t 0 + ks c M0 M1 M2 f0 f1 f2 t 2))
      (ks c M0 M1 M2 f0 f1 f2 t 0 + ks c M0 M1 M2 f0 f1 f2 t 3)) (ks c M0 M1 M2 f0 f1 f2 t 1 + ks c M0 M1 M2 f0 f1 f2 t 2) := by
  have h : ∀ X Y Z W, k0_pay16 (F := Ideal) X Y Z W (ix2 0 t) =
      max (max (max (k0_pay12 X Y Z W (ix2 0 t) + k0_pay12 X Y Z W (ix2 1 t)) (k0_pay12 X Y Z W (ix2 0 t) + k0_pay12 X Y Z W (ix2 2 t)))
      (k0_pay12 X Y Z W (ix2 0 t) + k0_pay12 X Y Z W (ix2 3 t))) (k0_pay12 X Y Z W (ix2 1 t) + k0_pay12 X Y Z W (ix2 2 t)) := by
    intro X Y Z W
    pointwise [k0_pay16, k0_pay13, k0_pay14, k0_pay15]
  exact h _ _ _ _
theorem v118_gen (v46 : FVec Ideal S16x1024 .f32) (v48 v49 v50 v57 : FVec Ideal S1x1024 .f32) (t : Fin 1024)
    (h0 : v48 (ix2 0 t) = v46 (ix2 1 t)) (h1 : v49 (ix2 0 t) = v46 (ix2 2 t)) (h2 : v50 (ix2 0 t) = v46 (ix2 3 t))
    (h3 : v57 (ix2 0 t) = max (max (max (v46 (ix2 0 t) + v46 (ix2 1 t)) (v46 (ix2 0 t) + v46 (ix2 2 t)))
      (v46 (ix2 0 t) + v46 (ix2 3 t))) (v46 (ix2 1 t) + v46 (ix2 2 t))) :
    k0_pay27 (k0_pay20 v46) (k0_pay23 v46 v48 v49 v50 v57) (k0_pay24 v46 v48 v49 v50 v57) (k0_pay25 v46 v48 v49 v50 v57) k0_pay26 (ix2 0 t)
      = kgid (fun e => v46 (ix2 e t)) := by
  pointwise [k0_pay27, k0_pay20, k0_pay23, k0_pay24, k0_pay25, k0_pay26, k0_pay17, k0_pay18, k0_pay19, k0_pay21, k0_pay22]
  simp only [h0, h1, h2, h3]
  unfold kgid idx4 bst big
  rfl
theorem v118_at (t : Fin 1024) : first.sl.v118 c M0 M1 M2 f0 f1 f2 (ix2 0 t) = kgid (ks c M0 M1 M2 f0 f1 f2 t) :=
  v118_gen _ _ _ _ _ t (v48_at c M0 M1 M2 f0 f1 f2 t) (v49_at c M0 M1 M2 f0 f1 f2 t) (v50_at c M0 M1 M2 f0 f1 f2 t) (v57_at c M0 M1 M2 f0 f1 f2 t)
theorem sv0_at (t : Fin 1024) : first.sl.v131 c M0 M1 M2 f0 f1 f2 (ix2 0 t) = kpick (kgid (ks c M0 M1 M2 f0 f1 f2 t)) (ks c M0 M1 M2 f0 f1 f2 t) 0 := by
  have h := v118_at c M0 M1 M2 f0 f1 f2 t
  unfold first.sl.v118 at h
  unfold first.sl.v131
  pointwise [k0_pay28]
  rw [h]
  rfl
theorem sv1_at (t : Fin 1024) : first.sl.v144 c M0 M1 M2 f0 f1 f2 (ix2 0 t) = kpick (kgid (ks c M0 M1 M2 f0 f1 f2 t)) (ks c M0 M1 M2 f0 f1 f2 t) 1 := by
  have h := v118_at c M0 M1 M2 f0 f1 f2 t
  unfold first.sl.v118 at h
  unfold first.sl.v144
  pointwise [k0_pay29]
  rw [h]
  rfl
theorem sv2_at (t : Fin 1024) : first.sl.v157 c M0 M1 M2 f0 f1 f2 (ix2 0 t) = kpick (kgid (ks c M0 M1 M2 f0 f1 f2 t)) (ks c M0 M1 M2 f0 f1 f2 t) 2 := by
  have h := v118_at c M0 M1 M2 f0 f1 f2 t
  unfold first.sl.v118 at h
  unfold first.sl.v157
  pointwise [k0_pay30]
  rw [h]
  rfl
theorem sv3_at (t : Fin 1024) : first.sl.v170 c M0 M1 M2 f0 f1 f2 (ix2 0 t) = kpick (kgid (ks c M0 M1 M2 f0 f1 f2 t)) (ks c M0 M1 M2 f0 f1 f2 t) 3 := by
  have h := v118_at c M0 M1 M2 f0 f1 f2 t
  have h' := h
  unfold first.sl.v118 at h'
  unfold first.sl.v170 first.sl.v168 first.sl.v169 first.sl.v166 first.sl.v164 first.sl.v165 first.sl.v162 first.sl.v163 first.sl.v167
  pointwise [k0_pay31]
  rw [h, h']
  rfl
theorem pv0_at (t : Fin 1024) : first.sl.v183 c M0 M1 M2 f0 f1 f2 (ix2 0 t) = kpick (kgid (ks c M0 M1 M2 f0 f1 f2 t)) (kp c M0 M1 f0 f1 t) 0 := by
  have h := v118_at c M0 M1 M2 f0 f1 f2 t
  unfold first.sl.v183 first.sl.v168 first.sl.v182 first.sl.v179 first.sl.v164 first.sl.v178 first.sl.v175 first.sl.v173 first.sl.v174 first.sl.v171 first.sl.v172 first.sl.v163 first.sl.v167
  pointwise []
  rw [h]
  rfl
theorem pv1_at (t : Fin 1024) : first.sl.v196 c M0 M1 M2 f0 f1 f2 (ix2 0 t) = kpick (kgid (ks c M0 M1 M2 f0 f1 f2 t)) (kp c M0 M1 f0 f1 t) 1 := by
  have h := v118_at c M0 M1 M2 f0 f1 f2 t
  unfold first.sl.v196 first.sl.v168 first.sl.v195 first.sl.v192 first.sl.v164 first.sl.v191 first.sl.v188 first.sl.v173 first.sl.v187 first.sl.v184 first.sl.v172 first.sl.v163 first.sl.v167
  pointwise []
  rw [h]
  rfl
theorem pv2_at (t : Fin 1024) : first.sl.v209 c M0 M1 M2 f0 f1 f2 (ix2 0 t) = kpick (kgid (ks c M0 M1 M2 f0 f1 f2 t)) (kp c M0 M1 f0 f1 t) 2 := by
  have h := v118_at c M0 M1 M2 f0 f1 f2 t
  unfold first.sl.v209 first.sl.v168 first.sl.v208 first.sl.v205 first.sl.v164 first.sl.v204 first.sl.v201 first.sl.v173 first.sl.v200 first.sl.v197 first.sl.v172 first.sl.v163 first.sl.v167
  pointwise []
  rw [h]
  rfl
theorem pv3_at (t : Fin 1024) : first.sl.v222 c M0 M1 M2 f0 f1 f2 (ix2 0 t) = kpick (kgid (ks c M0 M1 M2 f0 f1 f2 t)) (kp c M0 M1 f0 f1 t) 3 := by
  have h := v118_at c M0 M1 M2 f0 f1 f2 t
  unfold first.sl.v222 first.sl.v210 first.sl.v172
  pointwise [k0_pay38]
  rw [h]
  rfl
theorem one_at (t : Fin 1024) : first.sl.v234 c M0 M1 M2 f0 f1 f2 (ix2 0 t) = kone (kgid (ks c M0 M1 M2 f0 f1 f2 t)) (ks c M0 M1 M2 f0 f1 f2 t) := by
  unfold first.sl.v234
  pointwise [k0_pay39]
  simp only [sv0_at, sv1_at, sv2_at, sv3_at]
  rfl
theorem gates_at (t : Fin 1024) (e : Fin 16) : first.sl.v303 c M0 M1 M2 f0 f1 f2 (ix2 e t) =
    kgate (ks c M0 M1 M2 f0 f1 f2 t) (kp c M0 M1 f0 f1 t) e := by
  have h1 := one_at c M0 M1 M2 f0 f1 f2 t
  unfold first.sl.v303 first.sl.v253 first.sl.v255
  pointwise [k0_pay48, k0_pay39, k0_pay40, k0_pay41, k0_pay42, k0_pay43, k0_pay44, k0_pay45, k0_pay46, k0_pay47]
  simp only [h1, v118_at, sv0_at, sv1_at, sv2_at, sv3_at, pv0_at, pv1_at, pv2_at, pv3_at]
  unfold kgate kprob ktwo idx4 pick4 big mask
  rfl

end Cert.Proof.Val
end
-- ==== Proof.ValFirst.lean ====
module

public import proofs.«01_k».proof.Proof.ValComp
public import proofs.«01_k».proof.Proof.ValRoute

@[expose] public section

set_option maxRecDepth 16384

noncomputable section

/-! The first segment, at an index. -/

namespace Cert.Proof.Val

open Idealize.ShloMosaic Cert.KernelIdeal Cert.KernelIdeal.Gen Cert.Proof.Body

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := Ideal) c M0) (f1 : Bf (F := Ideal) c M1) (f2 : Bf (F := Ideal) c M2) (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (s0 : Bf (F := Ideal) c (Memref.whole cc0_scratch0)) (s1 : Bf (F := Ideal) c (Memref.whole cc0_scratch1))
  (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5))
  (s6 : Bf (F := Ideal) c (Memref.whole cc0_scratch6))

/-- A token's rank: how many tokens of its slice come before it and have its group. -/
def rkn (gN : Fin 1024 → Fin 4) (s : Fin 4) (x : Fin 256) : ℕ :=
  (Finset.univ.filter fun y : Fin 256 => y.val < x.val ∧ gN (tk s y) = gN (tk s x)).card

theorem rkn_lt (gN : Fin 1024 → Fin 4) (s : Fin 4) (x y : Fin 256) (hg : gN (tk s x) = gN (tk s y)) (h : x.val < y.val) : rkn gN s x < rkn gN s y := by
  unfold rkn
  apply Finset.card_lt_card
  rw [Finset.ssubset_iff_of_subset]
  · refine ⟨x, ?_, ?_⟩
    · simp only [Finset.mem_filter, Finset.mem_univ, true_and]; exact ⟨h, hg⟩
    · simp
  · intro z hz
    simp only [Finset.mem_filter, Finset.mem_univ, true_and] at hz ⊢
    exact ⟨by omega, hz.2.trans hg⟩

theorem rkn_inj (gN : Fin 1024 → Fin 4) (s : Fin 4) (x y : Fin 256) (hg : gN (tk s x) = gN (tk s y)) (h : rkn gN s x = rkn gN s y) : x = y := by
  rcases lt_trichotomy x.val y.val with h1 | h1 | h1
  · have := rkn_lt gN s x y hg h1; omega
  · exact Fin.ext h1
  · have := rkn_lt gN s y x hg.symm h1; omega

theorem toInt_nat (n : ℕ) (h : n < 2147483648) : (BitVec.ofNat 32 n).toInt = n := by
  rw [BitVec.toInt_eq_toNat_of_lt (by rw [BitVec.toNat_ofNat]; omega), BitVec.toNat_ofNat]; omega

theorem slt_nat (a b : ℕ) (ha : a < 2147483648) (hb : b < 2147483648) :
    FloatOps.sitofp (F := Ideal) FTy.f32 (BitVec.setWidth 32 (IntOp.cmpi CmpIPredicate.slt (BitVec.ofNat 32 a) (BitVec.ofNat 32 b))) = if a < b then 1 else 0 := by
  have : IntOp.cmpi CmpIPredicate.slt (BitVec.ofNat 32 a) (BitVec.ofNat 32 b) = BitVec.ofBool (decide (a < b)) := by
    show BitVec.ofBool (BitVec.slt (BitVec.ofNat 32 a) (BitVec.ofNat 32 b)) = _
    congr 1
    show decide ((BitVec.ofNat 32 a).toInt < (BitVec.ofNat 32 b).toInt) = _
    rw [toInt_nat a ha, toInt_nat b hb]
    simp
  rw [this]
  by_cases h : a < b
  · rw [if_pos h, decide_eq_true h]
    exact (sitofp_nat 1 (by omega)).trans (by norm_num)
  · rw [if_neg h, decide_eq_false h]
    exact (sitofp_nat 0 (by omega)).trans (by norm_num)

theorem eq_nat (a b : ℕ) (ha : a < 2147483648) (hb : b < 2147483648) : IntOp.cmpi CmpIPredicate.eq (BitVec.ofNat 32 a) (BitVec.ofNat 32 b) = if a = b then 1#1 else 0#1 := by
  by_cases h : a = b
  · rw [if_pos h, h, IntOp.cmpi_eq_self]
  · rw [if_neg h, IntOp.cmpi, beq_eq_false_iff_ne.mpr]; · rfl
    intro e
    have := congrArg BitVec.toInt e
    rw [toInt_nat a ha, toInt_nat b hb] at this
    exact h (by exact_mod_cast this)

theorem rank_sum (w : BitVec 32) (G : Fin 4) (q : Fin 256 → BitVec 32) (gq : Fin 256 → Fin 4) (n : ℕ) (hn : n < 256) (hw : w = BitVec.ofNat 32 G.val) (hq : ∀ y, q y = BitVec.ofNat 32 (gq y).val) :
    (∑ x : Fin 8, Scalar.select (IntOp.cmpi CmpIPredicate.eq (BitVec.ofNat 32 x.val) w)
      (∑ y : Fin 256, Scalar.select (IntOp.cmpi CmpIPredicate.eq (BitVec.ofNat 32 x.val) (q y))
        (FloatOps.sitofp (F := Ideal) FTy.f32 (BitVec.setWidth 32 (IntOp.cmpi CmpIPredicate.slt (BitVec.ofNat 32 y.val) (BitVec.ofNat 32 n)))) (0 : EReal)) (0 : EReal))
      = ((((Finset.univ.filter fun y : Fin 256 => y.val < n ∧ gq y = G).card : ℕ) : ℝ) : EReal) := by
  subst hw
  have hsel1 : ∀ a b : EReal, Scalar.select 1#1 a b = a := fun a b => rfl
  have hsel0 : ∀ a b : EReal, Scalar.select 0#1 a b = b := fun a b => rfl
  rw [Finset.sum_eq_single (⟨G.val, by omega⟩ : Fin 8)]
  · rw [eq_nat _ _ (by show G.val < _; omega) (by omega), if_pos rfl, hsel1]
    have : ∀ y : Fin 256, Scalar.select (IntOp.cmpi CmpIPredicate.eq (BitVec.ofNat 32 G.val) (q y))
        (FloatOps.sitofp (F := Ideal) FTy.f32 (BitVec.setWidth 32 (IntOp.cmpi CmpIPredicate.slt (BitVec.ofNat 32 y.val) (BitVec.ofNat 32 n)))) (0 : EReal)
        = if y.val < n ∧ gq y = G then 1 else 0 := by
      intro y
      rw [hq y, eq_nat _ _ (by omega) (by omega), slt_nat _ _ (by omega) (by omega)]
      by_cases h : G.val = (gq y).val
      · have h' : gq y = G := (Fin.ext h).symm
        rw [if_pos h, hsel1]; simp [h']
      · have h' : ¬ gq y = G := fun e => h (congrArg Fin.val e).symm
        rw [if_neg h, hsel0]; simp [h']
    rw [Finset.sum_congr rfl (fun y _ => this y), Finset.sum_boole]
    rfl
  · intro b _ hb
    rw [eq_nat _ _ (by omega) (by omega), if_neg (fun e => hb (Fin.ext e)), hsel0]
  · intro h; exact absurd (Finset.mem_univ _) h

/-- The kernel's count, for one token of one slice. -/
def rsum (w : BitVec 32) (q : Fin 256 → BitVec 32) (n : ℕ) : EReal :=
  ∑ x : Fin 8, Scalar.select (IntOp.cmpi CmpIPredicate.eq (BitVec.ofNat 32 x.val) w)
      (∑ y : Fin 256, Scalar.select (IntOp.cmpi CmpIPredicate.eq (BitVec.ofNat 32 x.val) (q y))
        (FloatOps.sitofp (F := Ideal) FTy.f32 (BitVec.setWidth 32 (IntOp.cmpi CmpIPredicate.slt (BitVec.ofNat 32 y.val) (BitVec.ofNat 32 n)))) (0 : EReal)) (0 : EReal)
theorem pay49_raw (v : IVec S1x1024 32) (t : Fin 1024) : k0_pay49 (F := Ideal) v (ix2 0 t) =
    if h : t.val < 256 then rsum (v (ix2 0 t)) (fun y => v (ix2 0 ⟨y.val, by omega⟩)) t.val
    else if h1 : t.val - 256 < 256 then rsum (v (ix2 0 ⟨256 + (t.val - 256), by omega⟩)) (fun y => v (ix2 0 ⟨256 + y.val, by omega⟩)) (t.val - 256)
    else if h2 : t.val - 256 - 256 < 256 then rsum (v (ix2 0 ⟨512 + (t.val - 256 - 256), by omega⟩)) (fun y => v (ix2 0 ⟨512 + y.val, by omega⟩)) (t.val - 256 - 256)
    else rsum (v (ix2 0 ⟨768 + (t.val - 256 - 256 - 256), by omega⟩)) (fun y => v (ix2 0 ⟨768 + y.val, by omega⟩)) (t.val - 256 - 256 - 256) := by
  unfold rsum
  pointwise [k0_pay49]
theorem pay49_0 (v : IVec S1x1024 32) (gN : Fin 1024 → Fin 4) (hv : ∀ t, v (ix2 0 t) = BitVec.ofNat 32 (gN t).val) (x : Fin 256) (t : Fin 1024) (ht : t = tk 0 x) :
    k0_pay49 (F := Ideal) v (ix2 0 t) = (((rkn gN 0 x : ℕ) : ℝ) : EReal) := by
  have h : t.val = 256 * 0 + x.val := congrArg Fin.val ht
  rw [pay49_raw, dif_pos (show t.val < 256 by omega)]
  unfold rkn rsum
  refine (rank_sum _ (gN (tk 0 x)) _ (fun y => gN (tk 0 y)) (t.val) (by omega) ?_ ?_).trans ?_
  · rw [← hv]; exact congrArg (fun z => v (ix2 0 z)) (Fin.ext (by show t.val = 256 * 0 + x.val; omega))
  · intro y; rw [← hv]; exact congrArg (fun z => v (ix2 0 z)) (Fin.ext (by show y.val = 256 * 0 + y.val; omega))
  · rw [show t.val = x.val by omega]
theorem pay49_1 (v : IVec S1x1024 32) (gN : Fin 1024 → Fin 4) (hv : ∀ t, v (ix2 0 t) = BitVec.ofNat 32 (gN t).val) (x : Fin 256) (t : Fin 1024) (ht : t = tk 1 x) :
    k0_pay49 (F := Ideal) v (ix2 0 t) = (((rkn gN 1 x : ℕ) : ℝ) : EReal) := by
  have h : t.val = 256 * 1 + x.val := congrArg Fin.val ht
  rw [pay49_raw, dif_neg (show ¬ t.val < 256 by omega), dif_pos (show t.val - 256 < 256 by omega)]
  unfold rkn rsum
  refine (rank_sum _ (gN (tk 1 x)) _ (fun y => gN (tk 1 y)) (t.val - 256) (by omega) ?_ ?_).trans ?_
  · rw [← hv]; exact congrArg (fun z => v (ix2 0 z)) (Fin.ext (by show 256 + (t.val - 256) = 256 * 1 + x.val; omega))
  · intro y; rw [← hv]; exact congrArg (fun z => v (ix2 0 z)) (Fin.ext (by show 256 + y.val = 256 * 1 + y.val; omega))
  · rw [show t.val - 256 = x.val by omega]
theorem pay49_2 (v : IVec S1x1024 32) (gN : Fin 1024 → Fin 4) (hv : ∀ t, v (ix2 0 t) = BitVec.ofNat 32 (gN t).val) (x : Fin 256) (t : Fin 1024) (ht : t = tk 2 x) :
    k0_pay49 (F := Ideal) v (ix2 0 t) = (((rkn gN 2 x : ℕ) : ℝ) : EReal) := by
  have h : t.val = 256 * 2 + x.val := congrArg Fin.val ht
  rw [pay49_raw, dif_neg (show ¬ t.val < 256 by omega), dif_neg (show ¬ t.val - 256 < 256 by omega), dif_pos (show t.val - 256 - 256 < 256 by omega)]
  unfold rkn rsum
  refine (rank_sum _ (gN (tk 2 x)) _ (fun y => gN (tk 2 y)) (t.val - 256 - 256) (by omega) ?_ ?_).trans ?_
  · rw [← hv]; exact congrArg (fun z => v (ix2 0 z)) (Fin.ext (by show 512 + (t.val - 256 - 256) = 256 * 2 + x.val; omega))
  · intro y; rw [← hv]; exact congrArg (fun z => v (ix2 0 z)) (Fin.ext (by show 512 + y.val = 256 * 2 + y.val; omega))
  · rw [show t.val - 256 - 256 = x.val by omega]
theorem pay49_3 (v : IVec S1x1024 32) (gN : Fin 1024 → Fin 4) (hv : ∀ t, v (ix2 0 t) = BitVec.ofNat 32 (gN t).val) (x : Fin 256) (t : Fin 1024) (ht : t = tk 3 x) :
    k0_pay49 (F := Ideal) v (ix2 0 t) = (((rkn gN 3 x : ℕ) : ℝ) : EReal) := by
  have h : t.val = 256 * 3 + x.val := congrArg Fin.val ht
  rw [pay49_raw, dif_neg (show ¬ t.val < 256 by omega), dif_neg (show ¬ t.val - 256 < 256 by omega), dif_neg (show ¬ t.val - 256 - 256 < 256 by omega)]
  unfold rkn rsum
  refine (rank_sum _ (gN (tk 3 x)) _ (fun y => gN (tk 3 y)) (t.val - 256 - 256 - 256) (by omega) ?_ ?_).trans ?_
  · rw [← hv]; exact congrArg (fun z => v (ix2 0 z)) (Fin.ext (by show 768 + (t.val - 256 - 256 - 256) = 256 * 3 + x.val; omega))
  · intro y; rw [← hv]; exact congrArg (fun z => v (ix2 0 z)) (Fin.ext (by show 768 + y.val = 256 * 3 + y.val; omega))
  · rw [show t.val - 256 - 256 - 256 = x.val by omega]
theorem pay49_at (v : IVec S1x1024 32) (gN : Fin 1024 → Fin 4) (hv : ∀ t, v (ix2 0 t) = BitVec.ofNat 32 (gN t).val) (s : Fin 4) (x : Fin 256) :
    k0_pay49 (F := Ideal) v (ix2 0 (tk s x)) = (((rkn gN s x : ℕ) : ℝ) : EReal) := by
  have hs : s = 0 ∨ s = 1 ∨ s = 2 ∨ s = 3 := by fin_cases s <;> simp
  rcases hs with rfl | rfl | rfl | rfl
  · exact pay49_0 v gN hv x _ rfl
  · exact pay49_1 v gN hv x _ rfl
  · exact pay49_2 v gN hv x _ rfl
  · exact pay49_3 v gN hv x _ rfl

theorem fold_flag {ι : Type} [DecidableEq ι] (p : ι → BitVec 32) (hp : ∀ x, p x = 1#32 ∨ p x = 0#32) (S : Finset ι) :
    (Finset.fold IntOp.maxsi 2147483648#32 p S = 1#32 ∧ ∃ x ∈ S, p x = 1#32) ∨
      ((Finset.fold IntOp.maxsi 2147483648#32 p S = 2147483648#32 ∨ Finset.fold IntOp.maxsi 2147483648#32 p S = 0#32) ∧ ∀ x ∈ S, p x = 0#32) := by
  induction S using Finset.induction_on with
  | empty => right; exact ⟨Or.inl rfl, by simp⟩
  | insert a S ha ih =>
    rw [Finset.fold_insert ha]
    rcases hp a with h | h <;> rw [h]
    · left
      refine ⟨?_, a, by simp, h⟩
      rcases ih with ⟨e, _⟩ | ⟨e | e, _⟩ <;> rw [e] <;> decide
    · rcases ih with ⟨e, x, hx, hx1⟩ | ⟨e, hx⟩
      · left; rw [e]; exact ⟨by decide, x, by simp [hx], hx1⟩
      · right
        refine ⟨Or.inr ?_, ?_⟩
        · rcases e with e | e <;> rw [e] <;> decide
        · intro x hxx; rcases Finset.mem_insert.mp hxx with rfl | h2
          · exact h
          · exact hx x h2

/-- The four words that say whether a group has a token of rank 96 or more. -/
def ovw (v : IVec S1x1024 32) (w : FVec Ideal S1x1024 .f32) (g : BitVec 32) : BitVec 32 :=
  Finset.fold IntOp.maxsi 2147483648#32 (fun x : Fin 1 × Fin 1024 => Scalar.select (IntOp.andi (IntOp.cmpi CmpIPredicate.eq (v (ix2 0 x.2)) g)
            (BitVec.ofBool (decide (Ideal.ofBits FTy.f32 1119879168#32 ≤ w (ix2 0 x.2))))) 1#32 0#32) Finset.univ
theorem ov0 (v : IVec S1x1024 32) : extractAt ![0, 0, 0] (k0_pay52 (k0_pay51 (F := Ideal) v) 1#32) inpos_S1x1x1_p0_0_0 = ovw v (k0_pay49 v) 0#32 := by
  unfold ovw
  pointwise [k0_pay51, k0_pay52]
theorem ov1 (v : IVec S1x1024 32) (w) : extractAt ![0, 0, 0] (k0_pay53 (F := Ideal) v w) inpos_S1x1x1_p0_0_0 = ovw v w 1#32 := by
  unfold ovw
  pointwise [k0_pay53]
theorem ov2 (v : IVec S1x1024 32) (w) : extractAt ![0, 0, 0] (k0_pay54 (F := Ideal) v w) inpos_S1x1x1_p0_0_0 = ovw v w 2#32 := by
  unfold ovw
  pointwise [k0_pay54]
theorem ov3 (v : IVec S1x1024 32) (w) : extractAt ![0, 0, 0] (k0_pay56 (k0_pay55 (F := Ideal) v w) 1#32) inpos_S1x1x1_p0_0_0 = ovw v w 3#32 := by
  unfold ovw
  pointwise [k0_pay55, k0_pay56]

section pays
variable (a : FVec Ideal S16x1024 .f32) (b d : FVec Ideal S1x1024 .f32) (t : Fin 1024)
theorem pay60_gate (e : Fin 16) : k0_pay60 (F := Ideal) a b d (ix2 t ⟨e.val, by omega⟩) = a (ix2 e t) := by
  have : ∀ k : Fin 128, k.val = e.val → k0_pay60 (F := Ideal) a b d (ix2 t k) = a (ix2 e t) := by
    intro k hk
    pointwise [k0_pay60, k0_pay59]
    rw [show (16#32 : BitVec 32) = BitVec.ofNat 32 16 from rfl, show (17#32 : BitVec 32) = BitVec.ofNat 32 17 from rfl, eq_nat _ _ (by omega) (by omega), eq_nat _ _ (by omega) (by omega), if_neg (by omega), if_neg (by omega), dif_pos (show k.val < 16 by omega)]
    exact congrArg (fun z => a (ix2 z t)) (Fin.ext hk)
  exact this _ rfl
theorem pay60_gid : k0_pay60 (F := Ideal) a b d (ix2 t 16) = d (ix2 0 t) := by
  pointwise [k0_pay60, k0_pay59]
theorem pay60_rank : k0_pay60 (F := Ideal) a b d (ix2 t 17) = b (ix2 0 t) := by
  pointwise [k0_pay60, k0_pay59]
  rfl
theorem pay64_at (k : Fin 128) : k0_pay64 (F := Ideal) a b d (ix3 0 t k) = k0_pay60 (F := Ideal) a b d (ix2 t k) := by
  pointwise [k0_pay64, k0_pay60, k0_pay61, k0_pay59]
theorem pay1_at (k : Fin 128) : k0_pay1 (F := Ideal) (k0_pay63 a b d) (ix3 0 t k) = k0_pay60 (F := Ideal) a b d (ix2 t k) - k0_pay60 (F := Ideal) a b d (ix2 t k) := by
  pointwise [k0_pay1, k0_pay63, k0_pay60, k0_pay61, k0_pay59, k0_pay62]
theorem pay2_at (k : Fin 128) : k0_pay2 (F := Ideal) (k0_pay62 a b d) (k0_pay63 a b d) (ix3 0 t k)
    = (k0_pay60 (F := Ideal) a b d (ix2 t k) - k0_pay60 (F := Ideal) a b d (ix2 t k)) - (k0_pay60 (F := Ideal) a b d (ix2 t k) - k0_pay60 (F := Ideal) a b d (ix2 t k)) := by
  pointwise [k0_pay2, k0_pay62, k0_pay63, k0_pay60, k0_pay61, k0_pay59]
end pays
theorem pay50_at (v : IVec S1x1024 32) (t : Fin 1024) : k0_pay50 (F := Ideal) v (ix2 0 t) = FloatOps.sitofp (F := Ideal) FTy.f32 (v (ix2 0 t)) := by
  pointwise [k0_pay50]
end Cert.Proof.Val
end
-- ==== Proof.Ref.lean ====
module

public import proofs.«01_k».proof.Proof.Gen.ReferenceIdeal.Run
public import Idealize.ShloMosaic.Lib.Pointwise

@[expose] public section

set_option maxRecDepth 16384

noncomputable section

/-! The reference's values, one definition per operation. -/

namespace Cert.Proof.Ref

open Cert.ReferenceIdeal Cert.ReferenceIdeal.Gen Idealize.ShloMosaic Idealize.ShloMosaic.StableHlo

/-- The eight arguments of the reference. -/
structure Args where
  a0 : FVec Ideal S32768x1024 .f32
  a1 : FVec Ideal S1024x16 .f32
  a2 : FVec Ideal S16 .f32
  a3 : FVec Ideal S16x1024x256 .f32
  a4 : FVec Ideal S16x1024x256 .f32
  a5 : FVec Ideal S16x256x1024 .f32
  a6 : FVec Ideal S1024 .f32
  a7 : FVec Ideal S1024 .f32

def r_v0 (A : Args) : FVec Ideal S32768x16 .f32 := ((fun l r => Host.dotGeneral dot_S32768x1024_S1024x16_S32768x16_1_0_0_1_n_n none l r)) A.a0 A.a1
def r_cst (A : Args) : FVec Ideal S_ .f32 := (constant S_ .f32 0xFF800000#32)
def r_v1 (A : Args) : FVec Ideal S32768 .f32 := ((fun x v => Host.reduce FloatOps.maximumf x v reducesTo_S32768x16_S32768_d1 h_S_)) (r_v0 A) (r_cst A)
def r_cst_0 (A : Args) : FVec Ideal S_ .f32 := (constant S_ .f32 0xFF800000#32)
def r_v2 (A : Args) : FVec Ideal S32768 .f32 := (broadcastInDim S32768 ![] bcast_S_S32768) (r_cst_0 A)
def r_v3 (A : Args) : FVec Ideal S32768 .f32 := (maximumf) (r_v2 A) (r_v1 A)
def r_v4 (A : Args) : FVec Ideal S32768x1 .f32 := (broadcastInDim S32768x1 ![0] bcast_S32768_S32768x1_0) (r_v3 A)
def r_v5 (A : Args) : FVec Ideal S32768x16 .f32 := (broadcastInDim S32768x16 ![0, 1] bcast_S32768x1_S32768x16_0_1) (r_v4 A)
def r_v6 (A : Args) : FVec Ideal S32768x16 .f32 := (subf) (r_v0 A) (r_v5 A)
def r_v7 (A : Args) : FVec Ideal S32768x16 .f32 := (Host.exp) (r_v6 A)
def r_cst_1 (A : Args) : FVec Ideal S_ .f32 := (constant S_ .f32 0x00000000#32)
def r_v8 (A : Args) : FVec Ideal S32768 .f32 := ((fun x v => Host.reduceAdd x v reducesTo_S32768x16_S32768_d1 h_S_)) (r_v7 A) (r_cst_1 A)
def r_v9 (A : Args) : FVec Ideal S32768x1 .f32 := (broadcastInDim S32768x1 ![0] bcast_S32768_S32768x1_0) (r_v8 A)
def r_v10 (A : Args) : FVec Ideal S32768x16 .f32 := (broadcastInDim S32768x16 ![0, 1] bcast_S32768x1_S32768x16_0_1) (r_v9 A)
def r_v11 (A : Args) : FVec Ideal S32768x16 .f32 := (Host.divf) (r_v7 A) (r_v10 A)
def r_v12 (A : Args) : FVec Ideal S1x16 .f32 := (broadcastInDim S1x16 ![1] bcast_S16_S1x16_1) A.a2
def r_v13 (A : Args) : FVec Ideal S32768x16 .f32 := (broadcastInDim S32768x16 ![0, 1] bcast_S1x16_S32768x16_0_1) (r_v12 A)
def r_v14 (A : Args) : FVec Ideal S32768x16 .f32 := (addf) (r_v11 A) (r_v13 A)
def r_v15 (A : Args) : FVec Ideal S32768x4x4 .f32 := (fun x => shapeCast S32768x4x4 x shapeCasts_S32768x16_S32768x4x4) (r_v14 A)
def r_values (A : Args) : FVec Ideal S32768x4x2 .f32 := ((fun x => (Host.topK S32768x4x2 2 (FloatOps.cmpfTotal .gt) x sliceFits_S32768x4x4_S32768x4x2).1)) (r_v15 A)
def r_indices (A : Args) : IVec S32768x4x2 32 := ((fun x => (Host.topK S32768x4x2 2 (FloatOps.cmpfTotal .gt) x sliceFits_S32768x4x4_S32768x4x2).2)) (r_v15 A)
def r_cst_2 (A : Args) : FVec Ideal S_ .f32 := (constant S_ .f32 0x00000000#32)
def r_v16 (A : Args) : FVec Ideal S32768x4 .f32 := ((fun x v => Host.reduceAdd x v reducesTo_S32768x4x2_S32768x4_d2 h_S_)) (r_values A) (r_cst_2 A)
def r_values_3 (A : Args) : FVec Ideal S32768x1 .f32 := ((fun x => (Host.topK S32768x1 1 (FloatOps.cmpfTotal .gt) x sliceFits_S32768x4_S32768x1).1)) (r_v16 A)
def r_indices_4 (A : Args) : IVec S32768x1 32 := ((fun x => (Host.topK S32768x1 1 (FloatOps.cmpfTotal .gt) x sliceFits_S32768x4_S32768x1).2)) (r_v16 A)
def r_v17 (A : Args) : IVec S32768 32 := (fun x => shapeCast S32768 x shapeCasts_S32768x1_S32768) (r_indices_4 A)
def r_call0_v0 (A : Args) : IVec S32768x1 32 := (broadcastInDim S32768x1 ![0] bcast_S32768_S32768x1_0) (r_v17 A)
def r_call0_v1 (A : Args) : IVec S1x4 32 := (iotaInDim S1x4 32 1)
def r_call0_v2 (A : Args) : IVec S32768x4 32 := (broadcastInDim S32768x4 ![0, 1] bcast_S32768x1_S32768x4_0_1) (r_call0_v0 A)
def r_call0_v3 (A : Args) : IVec S32768x4 32 := (broadcastInDim S32768x4 ![0, 1] bcast_S1x4_S32768x4_0_1) (r_call0_v1 A)
def r_call0_v4 (A : Args) : IVec S32768x4 1 := (cmpi .eq) (r_call0_v2 A) (r_call0_v3 A)
def r_v18 (A : Args) : FVec Ideal S32768x4 .f32 := (uitofp .f32) (r_call0_v4 A)
def r_call1_v0 (A : Args) : IVec S32768x4x2x1 32 := (broadcastInDim S32768x4x2x1 ![0, 1, 2] bcast_S32768x4x2_S32768x4x2x1_0_1_2) (r_indices A)
def r_call1_v1 (A : Args) : IVec S1x1x1x4 32 := (iotaInDim S1x1x1x4 32 3)
def r_call1_v2 (A : Args) : IVec S32768x4x2x4 32 := (broadcastInDim S32768x4x2x4 ![0, 1, 2, 3] bcast_S32768x4x2x1_S32768x4x2x4_0_1_2_3) (r_call1_v0 A)
def r_call1_v3 (A : Args) : IVec S32768x4x2x4 32 := (broadcastInDim S32768x4x2x4 ![0, 1, 2, 3] bcast_S1x1x1x4_S32768x4x2x4_0_1_2_3) (r_call1_v1 A)
def r_call1_v4 (A : Args) : IVec S32768x4x2x4 1 := (cmpi .eq) (r_call1_v2 A) (r_call1_v3 A)
def r_v19 (A : Args) : FVec Ideal S32768x4x2x4 .f32 := (uitofp .f32) (r_call1_v4 A)
def r_cst_5 (A : Args) : FVec Ideal S_ .f32 := (constant S_ .f32 0x00000000#32)
def r_v20 (A : Args) : FVec Ideal S32768x4x4 .f32 := ((fun x v => Host.reduceAdd x v reducesTo_S32768x4x2x4_S32768x4x4_d2 h_S_)) (r_v19 A) (r_cst_5 A)
def r_v21 (A : Args) : FVec Ideal S32768x4x1 .f32 := (broadcastInDim S32768x4x1 ![0, 1] bcast_S32768x4_S32768x4x1_0_1) (r_v18 A)
def r_v22 (A : Args) : FVec Ideal S32768x4x4 .f32 := (broadcastInDim S32768x4x4 ![0, 1, 2] bcast_S32768x4x1_S32768x4x4_0_1_2) (r_v21 A)
def r_v23 (A : Args) : FVec Ideal S32768x4x4 .f32 := (mulf) (r_v22 A) (r_v20 A)
def r_v24 (A : Args) : FVec Ideal S32768x16 .f32 := (fun x => shapeCast S32768x16 x shapeCasts_S32768x4x4_S32768x16) (r_v23 A)
def r_v25 (A : Args) : FVec Ideal S32768x16 .f32 := (mulf) (r_v24 A) (r_v11 A)
def r_cst_6 (A : Args) : FVec Ideal S_ .f32 := (constant S_ .f32 0x00000000#32)
def r_v26 (A : Args) : FVec Ideal S32768 .f32 := ((fun x v => Host.reduceAdd x v reducesTo_S32768x16_S32768_d1 h_S_)) (r_v25 A) (r_cst_6 A)
def r_v27 (A : Args) : FVec Ideal S32768x1 .f32 := (broadcastInDim S32768x1 ![0] bcast_S32768_S32768x1_0) (r_v26 A)
def r_v28 (A : Args) : FVec Ideal S32768x16 .f32 := (broadcastInDim S32768x16 ![0, 1] bcast_S32768x1_S32768x16_0_1) (r_v27 A)
def r_v29 (A : Args) : FVec Ideal S32768x16 .f32 := (Host.divf) (r_v25 A) (r_v28 A)
def r_v30 (A : Args) : FVec Ideal S16x256x32768 .f32 := ((fun l r => Host.dotGeneral dot_S16x1024x256_S32768x1024_S16x256x32768_1_1_02_0_n_n none l r)) A.a3 A.a0
def r_v31 (A : Args) : FVec Ideal S16x32768x256 .f32 := ((transpose S16x32768x256 [0, 2, 1] · transposes_S16x256x32768_S16x32768x256_0_2_1)) (r_v30 A)
def r_call2_v0 (A : Args) : FVec Ideal S16x32768x256 .f32 := Host.negf (r_v31 A)
def r_call2_v1 (A : Args) : FVec Ideal S16x32768x256 .f32 := Host.exp (r_call2_v0 A)
def r_call2_cst (A : Args) : FVec Ideal S_ .f32 := (constant S_ .f32 0x3F800000#32)
def r_call2_v2 (A : Args) : FVec Ideal S16x32768x256 .f32 := (broadcastInDim S16x32768x256 ![] bcast_S_S16x32768x256) (r_call2_cst A)
def r_call2_v3 (A : Args) : FVec Ideal S16x32768x256 .f32 := addf (r_call2_v2 A) (r_call2_v1 A)
def r_call2_cst_0 (A : Args) : FVec Ideal S_ .f32 := (constant S_ .f32 0x3F800000#32)
def r_call2_v4 (A : Args) : FVec Ideal S16x32768x256 .f32 := (broadcastInDim S16x32768x256 ![] bcast_S_S16x32768x256) (r_call2_cst_0 A)
def r_call2_v5 (A : Args) : FVec Ideal S16x32768x256 .f32 := Host.divf (r_call2_v4 A) (r_call2_v3 A)
def r_v32 (A : Args) : FVec Ideal S16x32768x256 .f32 := mulf (r_v31 A) (r_call2_v5 A)
def r_v33 (A : Args) : FVec Ideal S16x256x32768 .f32 := ((fun l r => Host.dotGeneral dot_S16x1024x256_S32768x1024_S16x256x32768_1_1_02_0_n_n none l r)) A.a4 A.a0
def r_v34 (A : Args) : FVec Ideal S16x32768x256 .f32 := ((transpose S16x32768x256 [0, 2, 1] · transposes_S16x256x32768_S16x32768x256_0_2_1)) (r_v33 A)
def r_v35 (A : Args) : FVec Ideal S16x32768x256 .f32 := (mulf) (r_v32 A) (r_v34 A)
def r_v36 (A : Args) : FVec Ideal S16x32768 .f32 := ((transpose S16x32768 [1, 0] · transposes_S32768x16_S16x32768_1_0)) (r_v29 A)
def r_v37 (A : Args) : FVec Ideal S16x32768x1 .f32 := (broadcastInDim S16x32768x1 ![0, 1] bcast_S16x32768_S16x32768x1_0_1) (r_v36 A)
def r_v38 (A : Args) : FVec Ideal S16x32768x1024 .f32 := ((fun l r => Host.dotGeneral dot_S16x32768x256_S16x256x1024_S16x32768x1024_2_1_1_2_0_0 none l r)) (r_v35 A) A.a5
def r_v39 (A : Args) : FVec Ideal S16x32768x1024 .f32 := (broadcastInDim S16x32768x1024 ![0, 1, 2] bcast_S16x32768x1_S16x32768x1024_0_1_2) (r_v37 A)
def r_v40 (A : Args) : FVec Ideal S16x32768x1024 .f32 := (mulf) (r_v39 A) (r_v38 A)
def r_cst_7 (A : Args) : FVec Ideal S_ .f32 := (constant S_ .f32 0x00000000#32)
def r_v41 (A : Args) : FVec Ideal S32768x1024 .f32 := ((fun x v => Host.reduceAdd x v reducesTo_S16x32768x1024_S32768x1024_d0 h_S_)) (r_v40 A) (r_cst_7 A)
def r_cst_8 (A : Args) : FVec Ideal S_ .f32 := (constant S_ .f32 0x3FB504F3#32)
def r_v42 (A : Args) : FVec Ideal S32768x1024 .f32 := (broadcastInDim S32768x1024 ![] bcast_S_S32768x1024) (r_cst_8 A)
def r_v43 (A : Args) : FVec Ideal S32768x1024 .f32 := (mulf) (r_v42 A) A.a0
def r_v44 (A : Args) : FVec Ideal S32768x1024 .f32 := (addf) (r_v43 A) (r_v41 A)
def r_cst_9 (A : Args) : FVec Ideal S_ .f32 := (constant S_ .f32 0x00000000#32)
def r_v45 (A : Args) : FVec Ideal S32768 .f32 := ((fun x v => Host.reduceAdd x v reducesTo_S32768x1024_S32768_d1 h_S_)) (r_v44 A) (r_cst_9 A)
def r_v46 (A : Args) : FVec Ideal S32768x1 .f32 := (broadcastInDim S32768x1 ![0] bcast_S32768_S32768x1_0) (r_v45 A)
def r_cst_10 (A : Args) : FVec Ideal S_ .f32 := (constant S_ .f32 0x44800000#32)
def r_v47 (A : Args) : FVec Ideal S32768x1 .f32 := (broadcastInDim S32768x1 ![] bcast_S_S32768x1) (r_cst_10 A)
def r_v48 (A : Args) : FVec Ideal S32768x1 .f32 := (Host.divf) (r_v46 A) (r_v47 A)
def r_v49 (A : Args) : FVec Ideal S32768x1024 .f32 := (broadcastInDim S32768x1024 ![0, 1] bcast_S32768x1_S32768x1024_0_1) (r_v48 A)
def r_v50 (A : Args) : FVec Ideal S32768x1024 .f32 := (subf) (r_v44 A) (r_v49 A)
def r_v51 (A : Args) : FVec Ideal S32768x1024 .f32 := (mulf) (r_v50 A) (r_v50 A)
def r_cst_11 (A : Args) : FVec Ideal S_ .f32 := (constant S_ .f32 0x00000000#32)
def r_v52 (A : Args) : FVec Ideal S32768 .f32 := ((fun x v => Host.reduceAdd x v reducesTo_S32768x1024_S32768_d1 h_S_)) (r_v51 A) (r_cst_11 A)
def r_v53 (A : Args) : FVec Ideal S32768x1 .f32 := (broadcastInDim S32768x1 ![0] bcast_S32768_S32768x1_0) (r_v52 A)
def r_cst_12 (A : Args) : FVec Ideal S_ .f32 := (constant S_ .f32 0x44800000#32)
def r_v54 (A : Args) : FVec Ideal S32768x1 .f32 := (broadcastInDim S32768x1 ![] bcast_S_S32768x1) (r_cst_12 A)
def r_v55 (A : Args) : FVec Ideal S32768x1 .f32 := (Host.divf) (r_v53 A) (r_v54 A)
def r_v56 (A : Args) : FVec Ideal S32768x1024 .f32 := (broadcastInDim S32768x1024 ![0, 1] bcast_S32768x1_S32768x1024_0_1) (r_v48 A)
def r_v57 (A : Args) : FVec Ideal S32768x1024 .f32 := (subf) (r_v44 A) (r_v56 A)
def r_cst_13 (A : Args) : FVec Ideal S_ .f32 := (constant S_ .f32 0x3727C5AC#32)
def r_v58 (A : Args) : FVec Ideal S32768x1 .f32 := (broadcastInDim S32768x1 ![] bcast_S_S32768x1) (r_cst_13 A)
def r_v59 (A : Args) : FVec Ideal S32768x1 .f32 := (addf) (r_v55 A) (r_v58 A)
def r_v60 (A : Args) : FVec Ideal S32768x1 .f32 := (Host.rsqrt) (r_v59 A)
def r_v61 (A : Args) : FVec Ideal S32768x1024 .f32 := (broadcastInDim S32768x1024 ![0, 1] bcast_S32768x1_S32768x1024_0_1) (r_v60 A)
def r_v62 (A : Args) : FVec Ideal S32768x1024 .f32 := (mulf) (r_v57 A) (r_v61 A)
def r_v63 (A : Args) : FVec Ideal S1x1024 .f32 := (broadcastInDim S1x1024 ![1] bcast_S1024_S1x1024_1) A.a6
def r_v64 (A : Args) : FVec Ideal S32768x1024 .f32 := (broadcastInDim S32768x1024 ![0, 1] bcast_S1x1024_S32768x1024_0_1) (r_v63 A)
def r_v65 (A : Args) : FVec Ideal S32768x1024 .f32 := (mulf) (r_v62 A) (r_v64 A)
def r_v66 (A : Args) : FVec Ideal S1x1024 .f32 := (broadcastInDim S1x1024 ![1] bcast_S1024_S1x1024_1) A.a7
def r_v67 (A : Args) : FVec Ideal S32768x1024 .f32 := (broadcastInDim S32768x1024 ![0, 1] bcast_S1x1024_S32768x1024_0_1) (r_v66 A)
def r_v68 (A : Args) : FVec Ideal S32768x1024 .f32 := (addf) (r_v65 A) (r_v67 A)

/-- The arguments read from a memory. -/
def argsOf (m : (ℓ : Loc nD τ sig) → Buf (Elt Ideal) ℓ) (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)

set_option maxHeartbeats 4000000 in
theorem res_eq (m : (ℓ : Loc nD τ sig) → Buf (Elt Ideal) ℓ) (c : Dev nD) :
    Cert.ReferenceIdeal.Value.res_main_v68 m c = r_v68 (argsOf m c) := rfl

end Cert.Proof.Ref
end
-- ==== Proof.Soft.lean ====
module

public import proofs.«01_k».proof.Proof.Route
public import Idealize.ShloMosaic.Lib.IdealHost

@[expose] public section

set_option maxRecDepth 16384

noncomputable section

/-! The softmax of one row of logits, and the gates of one token, as real numbers. -/

namespace Cert.Proof.Soft

open Idealize.ShloMosaic Cert.Proof.Route

/-- A number that is neither infinity. -/
def Re (x : EReal) : Prop := ∃ r : ℝ, x = (r : EReal)
/-- A positive number below infinity. -/
def Po (x : EReal) : Prop := ∃ r : ℝ, 0 < r ∧ x = (r : EReal)

theorem Po.re {x : EReal} (h : Po x) : Re x := let ⟨r, _, e⟩ := h; ⟨r, e⟩
theorem Re.mul {x y : EReal} (hx : Re x) (hy : Re y) : Re (x * y) := by
  obtain ⟨a, rfl⟩ := hx; obtain ⟨b, rfl⟩ := hy; exact ⟨a * b, (EReal.coe_mul a b).symm⟩
theorem Re.add {x y : EReal} (hx : Re x) (hy : Re y) : Re (x + y) := by
  obtain ⟨a, rfl⟩ := hx; obtain ⟨b, rfl⟩ := hy; exact ⟨a + b, (EReal.coe_add a b).symm⟩
theorem Po.add {x y : EReal} (hx : Po x) (hy : Po y) : Po (x + y) := by
  obtain ⟨a, ha, rfl⟩ := hx; obtain ⟨b, hb, rfl⟩ := hy; exact ⟨a + b, add_pos ha hb, (EReal.coe_add a b).symm⟩
theorem Re.sub_self {x : EReal} (hx : Re x) : x - x = 0 := by
  obtain ⟨a, rfl⟩ := hx; rw [← EReal.coe_sub, _root_.sub_self]; rfl
theorem Re.sum {ι : Type} [DecidableEq ι] (S : Finset ι) (f : ι → EReal) (hf : ∀ i, Re (f i)) : Re (∑ i ∈ S, f i) := by
  induction S using Finset.induction_on with
  | empty => exact ⟨0, by simp⟩
  | insert a S ha ih => rw [Finset.sum_insert ha]; exact (hf a).add ih
theorem Po.sum {ι : Type} [DecidableEq ι] (S : Finset ι) (hS : S.Nonempty) (f : ι → EReal) (hf : ∀ i, Po (f i)) : Po (∑ i ∈ S, f i) := by
  induction hS using Finset.Nonempty.cons_induction with
  | singleton a => rw [Finset.sum_singleton]; exact hf a
  | cons a S ha _ ih => rw [Finset.sum_cons]; exact (hf a).add ih
theorem Po.div {x y : EReal} (hx : Po x) (hy : Po y) : Po (Ideal.div x y) := by
  obtain ⟨a, ha, rfl⟩ := hx; obtain ⟨b, hb, rfl⟩ := hy
  refine ⟨a / b, div_pos ha hb, ?_⟩
  unfold Ideal.div
  rw [if_neg (by exact_mod_cast hb.ne'), ← EReal.coe_inv, ← EReal.coe_mul, div_eq_mul_inv]
theorem Po.ne {x : EReal} (h : Po x) : x ≠ 0 := by
  obtain ⟨a, ha, rfl⟩ := h; exact_mod_cast ha.ne'

/-- The softmax of a row of sixteen. -/
def sm (L : Fin 16 → EReal) (e : Fin 16) : EReal :=
  Ideal.div (Ideal.exp (L e - Finset.fold max (Ideal.ofBits FTy.f32 4286578688#32) L Finset.univ))
    (∑ x, Ideal.exp (L x - Finset.fold max (Ideal.ofBits FTy.f32 4286578688#32) L Finset.univ))

theorem max_fold (L : Fin 16 → EReal) : max (Ideal.ofBits FTy.f32 4286578688#32) (Finset.fold max (Ideal.ofBits FTy.f32 4286578688#32) L Finset.univ)
    = Finset.fold max (Ideal.ofBits FTy.f32 4286578688#32) L Finset.univ := by
  rw [show Ideal.ofBits FTy.f32 4286578688#32 = ⊥ from negInf_eq]; simp

theorem fold_re (L : Fin 16 → EReal) (hL : ∀ e, Re (L e)) : Re (Finset.fold max (Ideal.ofBits FTy.f32 4286578688#32) L Finset.univ) := by
  rw [show Ideal.ofBits FTy.f32 4286578688#32 = ⊥ from negInf_eq]
  have h : Finset.fold max ⊥ L Finset.univ = Finset.univ.sup L := rfl
  rw [h]
  obtain ⟨e, _, he⟩ := Finset.exists_mem_eq_sup Finset.univ ⟨(0 : Fin 16), Finset.mem_univ _⟩ L
  rw [he]; exact hL e

theorem exp_po (x : EReal) (h : Re x) : Po (Ideal.exp x) := by
  obtain ⟨r, rfl⟩ := h
  exact ⟨Real.exp r, Real.exp_pos r, rfl⟩

theorem sm_po (L : Fin 16 → EReal) (hL : ∀ e, Re (L e)) (e : Fin 16) : Po (sm L e) := by
  unfold sm
  have hs : ∀ e, Po (Ideal.exp (L e - Finset.fold max (Ideal.ofBits FTy.f32 4286578688#32) L Finset.univ)) := by
    intro e
    obtain ⟨a, ha⟩ := hL e; obtain ⟨b, hb⟩ := fold_re L hL
    rw [ha, hb]; exact exp_po _ ⟨a - b, (EReal.coe_sub a b).symm⟩
  exact (hs e).div (Po.sum _ ⟨0, Finset.mem_univ _⟩ _ hs)

theorem den_po (s p : Fin 16 → EReal) (hp : ∀ e, Po (p e)) : Po (den s p) := (hp _).add (hp _)

theorem gate_nn (s p : Fin 16 → EReal) (hp : ∀ e, Po (p e)) (g i : Fin 4) : ∃ r : ℝ, 0 ≤ r ∧ gate s p g i = (r : EReal) := by
  unfold gate
  split
  · obtain ⟨r, hr, e⟩ := (show Po (sg p (gg s) i) from hp _).div (den_po s p hp)
    exact ⟨r, hr.le, e⟩
  · exact ⟨0, le_rfl, rfl⟩

theorem gate_ne (s p : Fin 16 → EReal) (g i : Fin 4) (h : g ≠ gg s) : gate s p g i = 0 := by
  unfold gate; rw [if_neg (fun e => h e.1)]

theorem sum16 (f : Fin 16 → EReal) : ∑ e, f e = ∑ g : Fin 4, ∑ j : Fin 4, f ⟨4 * g.val + j.val, by omega⟩ := by
  have h := Equiv.sum_comp (finProdFinEquiv (m := 4) (n := 4)) f
  rw [← h, Fintype.sum_prod_type]
  refine Finset.sum_congr rfl fun g _ => Finset.sum_congr rfl fun j _ => congrArg f (Fin.ext ?_)
  show j.val + 4 * g.val = 4 * g.val + j.val
  omega

theorem mul_sum_nn {ι : Type} [DecidableEq ι] (S : Finset ι) (g : EReal) (hg : ∃ r : ℝ, 0 ≤ r ∧ g = (r : EReal)) (f : ι → EReal) :
    g * ∑ i ∈ S, f i = ∑ i ∈ S, g * f i := by
  obtain ⟨r, hr, rfl⟩ := hg
  induction S using Finset.induction_on with
  | empty => simp
  | insert a S ha ih =>
    rw [Finset.sum_insert ha, Finset.sum_insert ha, ← ih]
    exact EReal.left_distrib_of_nonneg_of_ne_top (by exact_mod_cast hr) (EReal.coe_ne_top r) _ _

/-- The weights' sum and quotient are the gates. -/
theorem gate_of (s p W : Fin 16 → EReal) (hp : ∀ e, Po (p e))
    (hW : ∀ g j : Fin 4, W ⟨4 * g.val + j.val, by omega⟩ = if g = gg s ∧ (j = x1 s ∨ j = x2 s) then p ⟨4 * g.val + j.val, by omega⟩ else 0)
    (g j : Fin 4) : Ideal.div (W ⟨4 * g.val + j.val, by omega⟩) (∑ e, W e) = gate s p g j := by
  have hs : ∑ e, W e = den s p := by
    rw [sum16, Finset.sum_eq_single (gg s)]
    · have : ∀ j : Fin 4, W ⟨4 * (gg s).val + j.val, by omega⟩ = (if j = x1 s then sg p (gg s) (x1 s) else 0) + (if j = x2 s then sg p (gg s) (x2 s) else 0) := by
        intro j
        rw [hW]
        have hne := x_ne s
        by_cases h1 : j = x1 s
        · have h2 : ¬ j = x2 s := fun e => hne (e.symm.trans h1)
          rw [if_pos ⟨rfl, Or.inl h1⟩, if_pos h1, if_neg h2, add_zero, h1]; rfl
        · by_cases h2 : j = x2 s
          · rw [if_pos ⟨rfl, Or.inr h2⟩, if_neg h1, if_pos h2, zero_add, h2]; rfl
          · rw [if_neg (fun e => e.2.elim h1 h2), if_neg h1, if_neg h2, add_zero]
      rw [Finset.sum_congr rfl (fun j _ => this j), Finset.sum_add_distrib, Finset.sum_ite_eq', Finset.sum_ite_eq']
      simp [den]
    · intro b _ hb
      refine Finset.sum_eq_zero fun j _ => ?_
      rw [hW, if_neg (fun e => hb e.1)]
    · intro h; exact absurd (Finset.mem_univ _) h
  rw [hs, hW]
  unfold gate
  by_cases h : g = gg s ∧ (j = x1 s ∨ j = x2 s)
  · rw [if_pos h, if_pos h]; unfold sg; rw [h.1]
  · rw [if_neg h, if_neg h]
    unfold Ideal.div
    rw [if_neg (den_po s p hp).ne, zero_mul]

end Cert.Proof.Soft
end
-- ==== Proof.ValLast.lean ====
module

public import proofs.«01_k».proof.Proof.ValComp

@[expose] public section

set_option maxRecDepth 16384

noncomputable section

/-! The last segment, at an index. -/

namespace Cert.Proof.Val

open Idealize.ShloMosaic Cert.KernelIdeal Cert.KernelIdeal.Gen Cert.Proof.Body

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := Ideal) c M0) (f1 : Bf (F := Ideal) c M1) (f2 : Bf (F := Ideal) c M2) (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (s0 : Bf (F := Ideal) c (Memref.whole cc0_scratch0)) (s1 : Bf (F := Ideal) c (Memref.whole cc0_scratch1))
  (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5))
  (s6 : Bf (F := Ideal) c (Memref.whole cc0_scratch6))

/-- A row put back in its place: the sum over the compacted rows of the one with the token's group `a` and rank `b`. -/
def plc (a b : EReal) (q0 q1 q2 q3 : Fin 96 → EReal) : EReal :=
  ∑ x : Fin 384, (if (if b < Ideal.ofBits FTy.f32 1119879168#32 then a * Ideal.ofBits FTy.f32 1119879168#32 + b else Ideal.ofBits FTy.f32 3212836864#32)
      = FloatOps.sitofp (F := Ideal) FTy.f32 (BitVec.ofNat 32 x.val) then 1 else 0) *
    if h : x.val < 96 then q0 ⟨x.val, h⟩ else if h : x.val - 96 < 96 then q1 ⟨x.val - 96, h⟩ else
      if h : x.val - 96 - 96 < 96 then q2 ⟨x.val - 96 - 96, h⟩ else q3 ⟨x.val - 96 - 96 - 96, by omega⟩

/-- The layer norm as the kernel computes it. -/
def lnk (z : Fin 1024 → EReal) (g b : Fin 1024 → EReal) (d : Fin 1024) : EReal :=
  (z d - Ideal.div (∑ k, z k) (Ideal.ofBits FTy.f32 1149239296#32)) *
    Ideal.rsqrt (Ideal.div (∑ k, (z k - Ideal.div (∑ k, z k) (Ideal.ofBits FTy.f32 1149239296#32)) * (z k - Ideal.div (∑ k, z k) (Ideal.ofBits FTy.f32 1149239296#32)))
      (Ideal.ofBits FTy.f32 1149239296#32) + Ideal.ofBits FTy.f32 925353388#32) * g d + b d

theorem n96_eq : Ideal.ofBits FTy.f32 1119879168#32 = ((96 : ℝ) : EReal) := by
  simp [Ideal.ofBits, Ideal.ieee]
  norm_num
  rw [← EReal.coe_mul]
  norm_num

theorem chain (G : Fin 4) (n : ℕ) (h : n < 96) (q : Fin 4 → Fin 96 → EReal) (X : Fin 384) (hX : X.val = 96 * G.val + n) :
    (if h : X.val < 96 then q 0 ⟨X.val, h⟩ else if h : X.val - 96 < 96 then q 1 ⟨X.val - 96, h⟩ else
      if h : X.val - 96 - 96 < 96 then q 2 ⟨X.val - 96 - 96, h⟩ else q 3 ⟨X.val - 96 - 96 - 96, by omega⟩) = q G ⟨n, h⟩ := by
  have hG : G = 0 ∨ G = 1 ∨ G = 2 ∨ G = 3 := by fin_cases G <;> simp
  rcases hG with rfl | rfl | rfl | rfl
  · have hX' : X.val = 96 * 0 + n := hX
    rw [dif_pos (show X.val < 96 by omega)]
    exact congrArg (q 0) (Fin.ext (show X.val = n by omega))
  · have hX' : X.val = 96 * 1 + n := hX
    rw [dif_neg (show ¬ X.val < 96 by omega), dif_pos (show X.val - 96 < 96 by omega)]
    exact congrArg (q 1) (Fin.ext (show X.val - 96 = n by omega))
  · have hX' : X.val = 96 * 2 + n := hX
    rw [dif_neg (show ¬ X.val < 96 by omega), dif_neg (show ¬ X.val - 96 < 96 by omega), dif_pos (show X.val - 96 - 96 < 96 by omega)]
    exact congrArg (q 2) (Fin.ext (show X.val - 96 - 96 = n by omega))
  · have hX' : X.val = 96 * 3 + n := hX
    rw [dif_neg (show ¬ X.val < 96 by omega), dif_neg (show ¬ X.val - 96 < 96 by omega), dif_neg (show ¬ X.val - 96 - 96 < 96 by omega)]
    exact congrArg (q 3) (Fin.ext (show X.val - 96 - 96 - 96 = n by omega))

theorem plc_eq (G : Fin 4) (n : ℕ) (q : Fin 4 → Fin 96 → EReal) :
    plc ((G.val : ℝ) : EReal) ((n : ℝ) : EReal) (q 0) (q 1) (q 2) (q 3) = if h : n < 96 then q G ⟨n, h⟩ else 0 := by
  unfold plc
  have hs : ∀ x : Fin 384, FloatOps.sitofp (F := Ideal) FTy.f32 (BitVec.ofNat 32 x.val) = (((x.val : ℕ) : ℝ) : EReal) := fun x => sitofp_nat _ (by omega)
  simp only [hs, n96_eq, neg_one_eq, ← EReal.coe_mul, ← EReal.coe_add, EReal.coe_lt_coe_iff]
  by_cases h : n < 96
  · have h2 : ((n : ℕ) : ℝ) < 96 := by exact_mod_cast h
    rw [dif_pos h]
    simp only [if_pos h2, EReal.coe_eq_coe_iff]
    rw [Finset.sum_eq_single (rw4 G ⟨n, h⟩)]
    · have e : ((G.val : ℕ) : ℝ) * 96 + (n : ℝ) = (((rw4 G ⟨n, h⟩).val : ℕ) : ℝ) := by
        unfold rw4; push_cast; ring
      rw [if_pos e, one_mul]
      exact chain G n h q _ rfl
    · intro x _ hx
      rw [if_neg, zero_mul]
      intro e
      apply hx
      have e2 : ((96 * G.val + n : ℕ) : ℝ) = ((x.val : ℕ) : ℝ) := by rw [← e]; push_cast; ring
      exact Fin.ext (by unfold rw4; exact (Nat.cast_injective e2).symm)
    · intro h; exact absurd (Finset.mem_univ _) h
  · have h2 : ¬ ((n : ℕ) : ℝ) < 96 := by exact_mod_cast h
    rw [dif_neg h]
    simp only [if_neg h2, EReal.coe_eq_coe_iff]
    apply Finset.sum_eq_zero
    intro x _
    rw [if_neg, zero_mul]
    intro e
    have : (0 : ℝ) ≤ ((x.val : ℕ) : ℝ) := Nat.cast_nonneg _
    linarith

section pays
variable (u w : FVec Ideal S256x1 .f32) (a b e f : FVec Ideal S1x1x96x1024 .bf16) (acc h : FVec Ideal S256x1024 .f32) (g o : FVec Ideal S1x1024 .f32) (x : Fin 256) (d : Fin 1024)
/-- A token's row before the norm. -/
abbrev zz (k : Fin 1024) : EReal := Ideal.ofBits FTy.f32 1068827891#32 * h (ix2 x k) + (acc (ix2 x k) + plc (u (ix2 x 0)) (w (ix2 x 0))
  (fun r => a (ix4 0 0 r k)) (fun r => b (ix4 0 0 r k)) (fun r => e (ix4 0 0 r k)) (fun r => f (ix4 0 0 r k)))
theorem out0 : k0_pay107 (F := Ideal) (k0_pay106 u w a b e f acc) h g o (ix2 x d) = lnk (zz u w a b e f acc h x) (fun k => g (ix2 0 k)) (fun k => o (ix2 0 k)) d := by
  unfold lnk zz plc
  pointwise [k0_pay107, k0_pay106, k0_pay105]
theorem out1 : k0_pay113 (F := Ideal) (k0_pay109 g) (k0_pay110 o) (k0_pay111 (k0_pay108 (F := Ideal) k0_pay105 u w) last.sl.cst_45 a b e f acc h) (k0_pay112 (k0_pay108 (F := Ideal) k0_pay105 u w) last.sl.cst_45 a b e f acc h) (ix2 x d)
    = lnk (zz u w a b e f acc h x) (fun k => g (ix2 0 k)) (fun k => o (ix2 0 k)) d := by
  unfold lnk zz plc last.sl.cst_45
  pointwise [k0_pay113, k0_pay112, k0_pay111, k0_pay110, k0_pay109, k0_pay108, k0_pay105]
theorem out2 : k0_pay117 (F := Ideal) (k0_pay114 k0_pay105 u w) (k0_pay115 a) (k0_pay116 b) e f acc h g o (ix2 x d)
    = lnk (zz u w a b e f acc h x) (fun k => g (ix2 0 k)) (fun k => o (ix2 0 k)) d := by
  unfold lnk zz plc
  pointwise [k0_pay117, k0_pay116, k0_pay115, k0_pay114, k0_pay105]
theorem out3 : k0_pay8 (F := Ideal) (k0_pay118 k0_pay105 u w a b e f acc) (k0_pay119 h) g o (ix2 x d)
    = lnk (zz u w a b e f acc h x) (fun k => g (ix2 0 k)) (fun k => o (ix2 0 k)) d := by
  unfold lnk zz plc
  pointwise [k0_pay8, k0_pay118, k0_pay119, k0_pay105]
end pays

theorem acc_at (s : Fin 4) (off : Fin S1024x1024.rank → ℕ) (inb) (x : Fin 256) (k : Fin 1024) (h : off = ![256 * s.val, 0]) :
    (Memref.whole cc0_scratch4).view.readAt (Elt Ideal) (Rect.unit (s := S1024x1024) off S256x1024.size inb).toLoadRect s4 (ix2 x k) = X4 c s4 (ix2 (tk s x) k) := by
  subst h
  exact readAt_unit (Memref.whole cc0_scratch4) s4 _ _ _ (by intro a; fin_cases a; · exact rfl
                                                             · exact (Nat.zero_add _).symm)
theorem hin_at (s : Fin 4) (off : Fin S1024x1024.rank → ℕ) (inb) (x : Fin 256) (k : Fin 1024) (h : off = ![256 * s.val, 0]) :
    M0.view.readAt (Elt Ideal) (Rect.unit (s := S1024x1024) off S256x1024.size inb).toLoadRect f0 (ix2 x k) = rd c M0 f0 (ix2 (tk s x) k) := by
  subst h
  exact readAt_unit M0 f0 _ _ _ (by intro a; fin_cases a; · exact rfl
                                    · exact (Nat.zero_add _).symm)
theorem vec_at (inb) (k : Fin 1024) :
    M6.view.readAt (Elt Ideal) (Rect.unit (s := S1x1024) ![0, 0] S1x1024.size inb).toLoadRect f6 (ix2 0 k) = rd c M6 f6 (ix2 0 k) :=
  readAt_unit M6 f6 _ _ _ (by intro a; fin_cases a <;> exact (Nat.zero_add _).symm)
theorem lane_at (s : Fin 4) (q : Fin 128) (off : Fin S1024x128.rank → ℕ) (inb) (x : Fin 256) (h : off = ![256 * s.val, q.val]) :
    (Memref.whole cc0_scratch1).view.readAt (Elt Ideal) (Rect.unit (s := S1024x128) off S256x1.size inb).toLoadRect s1 (ix2 x 0) = X1 c s1 (ix2 (tk s x) q) := by
  subst h
  exact readAt_unit (Memref.whole cc0_scratch1) s1 _ _ _ (by intro a; fin_cases a; · exact rfl
                                                             · exact (Nat.add_zero _).symm)
theorem buf_at (g s : Fin 4) (off : Fin S4x4x96x1024.rank → ℕ) (inb) (r : Fin 96) (k : Fin 1024) (h : off = ![g.val, s.val, 0, 0]) :
    (Memref.whole cc0_scratch5).view.readAt (Elt Ideal) (Rect.unit (s := S4x4x96x1024) off S1x1x96x1024.size inb).toLoadRect s5 (ix4 0 0 r k) = X5 c s5 (ix4 g s r k) := by
  subst h
  exact readAt_unit (Memref.whole cc0_scratch5) s5 _ _ _ (by intro a; fin_cases a; · exact (Nat.add_zero _).symm
                                                             · exact (Nat.add_zero _).symm
                                                             · exact (Nat.zero_add _).symm
                                                             · exact (Nat.zero_add _).symm)

theorem last_t8_eq (hg : k0_cond3 i = 1#1) :
    (last c i M0 h0 M1 h1 M2 h2 M3 h3 M4 h4 M5 h5 M6 h6 M7 h7 M8 h8 f0 f1 f2 f3 f4 f5 f6 f7 f8 s0 s1 s2 s3 s4 s5 s6 hg).t8
      = M8.view.writes (Elt Ideal) M8.view.junk (last.sl.H8_4 c M0 M6 M7 f0 f6 f7 s1 s4 s5) := by
  unfold last
  dsimp only

/-- A token's row before the norm, from the buffers. -/
def zrow (t : Fin 1024) (s : Fin 4) (k : Fin 1024) : EReal := Ideal.ofBits FTy.f32 1068827891#32 * rd c M0 f0 (ix2 t k) + (X4 c s4 (ix2 t k) + plc (X1 c s1 (ix2 t 16)) (X1 c s1 (ix2 t 17))
  (fun r => X5 c s5 (ix4 0 s r k)) (fun r => X5 c s5 (ix4 1 s r k)) (fun r => X5 c s5 (ix4 2 s r k)) (fun r => X5 c s5 (ix4 3 s r k)))

theorem plc_congr {a a' b b' : EReal} {q0 q0' q1 q1' q2 q2' q3 q3' : Fin 96 → EReal} (ha : a = a') (hb : b = b') (h0 : ∀ r, q0 r = q0' r) (h1 : ∀ r, q1 r = q1' r)
    (h2 : ∀ r, q2 r = q2' r) (h3 : ∀ r, q3 r = q3' r) : plc a b q0 q1 q2 q3 = plc a' b' q0' q1' q2' q3' := by
  rw [ha, hb, funext h0, funext h1, funext h2, funext h3]
theorem lnk_congr (z z' : Fin 1024 → EReal) (hz : ∀ k, z k = z' k) (g b g' b') (hg : ∀ k, g k = g' k) (hb : ∀ k, b k = b' k) (d) : lnk z g b d = lnk z' g' b' d := by
  rw [funext hz, funext hg, funext hb]

theorem last_out (hg : k0_cond3 i = 1#1) (s : Fin 4) (x : Fin 256) (d : Fin 1024) :
    rd c M8 (last c i M0 h0 M1 h1 M2 h2 M3 h3 M4 h4 M5 h5 M6 h6 M7 h7 M8 h8 f0 f1 f2 f3 f4 f5 f6 f7 f8 s0 s1 s2 s3 s4 s5 s6 hg).t8 (ix2 (tk s x) d)
      = lnk (zrow c M0 f0 s1 s4 s5 (tk s x) s) (fun k => rd c M6 f6 (ix2 0 k)) (fun k => rd c M7 f7 (ix2 0 k)) d := by
  rw [last_t8_eq]
  unfold last.sl.H8_4
  have hs : s = 0 ∨ s = 1 ∨ s = 2 ∨ s = 3 := by fin_cases s <;> simp
  rcases hs with rfl | rfl | rfl | rfl
  · skip
    refine (View.read_writes_cons_unit_of_not_mem M8.view _ _ _ _ (ix2 (tk 0 x) d) rfl 0 (Or.inl (by show 256 * 0 + x.val < 768; omega))).trans ?_
    refine (View.read_writes_cons_unit_of_not_mem M8.view _ _ _ _ (ix2 (tk 0 x) d) rfl 0 (Or.inl (by show 256 * 0 + x.val < 512; omega))).trans ?_
    refine (View.read_writes_cons_unit_of_not_mem M8.view _ _ _ _ (ix2 (tk 0 x) d) rfl 0 (Or.inl (by show 256 * 0 + x.val < 256; omega))).trans ?_
    refine (View.read_writes_cons_unit_of_mem M8.view _ _ _ _ (ix2 (tk 0 x) d) (ix2 x d) rfl (by
      intro a; fin_cases a
      · rfl
      · exact (Nat.zero_add _).symm)).trans ?_
    refine (out0 _ _ _ _ _ _ _ _ _ _ x d).trans ?_
    refine lnk_congr _ _ (fun k => ?_) _ _ _ _ (fun k => vec_at c M6 f6 _ k) (fun k => vec_at c M7 f7 _ k) d
    unfold zz zrow
    exact congrArg₂ (· + ·) (congrArg (Ideal.ofBits FTy.f32 1068827891#32 * ·) (hin_at c M0 f0 0 _ _ x k rfl)) (congrArg₂ (· + ·) (acc_at c s4 0 _ _ x k rfl)
      (plc_congr (lane_at c s1 0 16 _ _ x rfl) (lane_at c s1 0 17 _ _ x rfl) (fun r => buf_at c s5 0 0 _ _ r k rfl) (fun r => buf_at c s5 1 0 _ _ r k rfl) (fun r => buf_at c s5 2 0 _ _ r k rfl) (fun r => buf_at c s5 3 0 _ _ r k rfl)))
  · skip
    refine (View.read_writes_cons_unit_of_not_mem M8.view _ _ _ _ (ix2 (tk 1 x) d) rfl 0 (Or.inl (by show 256 * 1 + x.val < 768; omega))).trans ?_
    refine (View.read_writes_cons_unit_of_not_mem M8.view _ _ _ _ (ix2 (tk 1 x) d) rfl 0 (Or.inl (by show 256 * 1 + x.val < 512; omega))).trans ?_
    refine (View.read_writes_cons_unit_of_mem M8.view _ _ _ _ (ix2 (tk 1 x) d) (ix2 x d) rfl (by
      intro a; fin_cases a
      · rfl
      · exact (Nat.zero_add _).symm)).trans ?_
    refine (out1 _ _ _ _ _ _ _ _ _ _ x d).trans ?_
    refine lnk_congr _ _ (fun k => ?_) _ _ _ _ (fun k => vec_at c M6 f6 _ k) (fun k => vec_at c M7 f7 _ k) d
    unfold zz zrow
    exact congrArg₂ (· + ·) (congrArg (Ideal.ofBits FTy.f32 1068827891#32 * ·) (hin_at c M0 f0 1 _ _ x k rfl)) (congrArg₂ (· + ·) (acc_at c s4 1 _ _ x k rfl)
      (plc_congr (lane_at c s1 1 16 _ _ x rfl) (lane_at c s1 1 17 _ _ x rfl) (fun r => buf_at c s5 0 1 _ _ r k rfl) (fun r => buf_at c s5 1 1 _ _ r k rfl) (fun r => buf_at c s5 2 1 _ _ r k rfl) (fun r => buf_at c s5 3 1 _ _ r k rfl)))
  · skip
    refine (View.read_writes_cons_unit_of_not_mem M8.view _ _ _ _ (ix2 (tk 2 x) d) rfl 0 (Or.inl (by show 256 * 2 + x.val < 768; omega))).trans ?_
    refine (View.read_writes_cons_unit_of_mem M8.view _ _ _ _ (ix2 (tk 2 x) d) (ix2 x d) rfl (by
      intro a; fin_cases a
      · rfl
      · exact (Nat.zero_add _).symm)).trans ?_
    refine (out2 _ _ _ _ _ _ _ _ _ _ x d).trans ?_
    refine lnk_congr _ _ (fun k => ?_) _ _ _ _ (fun k => vec_at c M6 f6 _ k) (fun k => vec_at c M7 f7 _ k) d
    unfold zz zrow
    exact congrArg₂ (· + ·) (congrArg (Ideal.ofBits FTy.f32 1068827891#32 * ·) (hin_at c M0 f0 2 _ _ x k rfl)) (congrArg₂ (· + ·) (acc_at c s4 2 _ _ x k rfl)
      (plc_congr (lane_at c s1 2 16 _ _ x rfl) (lane_at c s1 2 17 _ _ x rfl) (fun r => buf_at c s5 0 2 _ _ r k rfl) (fun r => buf_at c s5 1 2 _ _ r k rfl) (fun r => buf_at c s5 2 2 _ _ r k rfl) (fun r => buf_at c s5 3 2 _ _ r k rfl)))
  · skip
    refine (View.read_writes_cons_unit_of_mem M8.view _ _ _ _ (ix2 (tk 3 x) d) (ix2 x d) rfl (by
      intro a; fin_cases a
      · rfl
      · exact (Nat.zero_add _).symm)).trans ?_
    refine (out3 _ _ _ _ _ _ _ _ _ _ x d).trans ?_
    refine lnk_congr _ _ (fun k => ?_) _ _ _ _ (fun k => vec_at c M6 f6 _ k) (fun k => vec_at c M7 f7 _ k) d
    unfold zz zrow
    exact congrArg₂ (· + ·) (congrArg (Ideal.ofBits FTy.f32 1068827891#32 * ·) (hin_at c M0 f0 3 _ _ x k rfl)) (congrArg₂ (· + ·) (acc_at c s4 3 _ _ x k rfl)
      (plc_congr (lane_at c s1 3 16 _ _ x rfl) (lane_at c s1 3 17 _ _ x rfl) (fun r => buf_at c s5 0 3 _ _ r k rfl) (fun r => buf_at c s5 1 3 _ _ r k rfl) (fun r => buf_at c s5 2 3 _ _ r k rfl) (fun r => buf_at c s5 3 3 _ _ r k rfl)))
end Cert.Proof.Val
end
-- ==== Proof.ValRef.lean ====
module

public import proofs.«01_k».proof.Proof.Ref
public import proofs.«01_k».proof.Proof.Soft
public import proofs.«01_k».proof.Proof.ValLast

@[expose] public section

set_option maxRecDepth 16384

noncomputable section

/-! The reference's result, at an index. -/

namespace Cert.Proof.Ref

open Cert.ReferenceIdeal Cert.ReferenceIdeal.Gen Idealize.ShloMosaic Idealize.ShloMosaic.StableHlo Cert.Proof.Soft Cert.Proof.Route

variable (A : Args) (n : Fin 32768)

/-- The logits of a token. -/
def lg (e : Fin 16) : EReal := ∑ k, A.a0 (ix2 n k) * A.a1 (ix2 k e)
/-- Its probabilities. -/
def pr (e : Fin 16) : EReal := sm (lg A n) e
/-- Its scores. -/
def scr (e : Fin 16) : EReal := pr A n e + A.a2 (ix1 e)

theorem v11 (e : Fin 16) : r_v11 A (ix2 n e) = pr A n e := by
  pointwise [r_v0, r_cst, r_v1, r_cst_0, r_v2, r_v3, r_v4, r_v5, r_v6, r_v7, r_cst_1, r_v8, r_v9, r_v10, r_v11]
  rw [max_fold (fun x => ∑ k, A.a0 (ix2 n k) * A.a1 (ix2 k x))]
  rfl
theorem v15 (g j : Fin 4) : r_v15 A (ix3 n g j) = sg (scr A n) g j := by
  pointwise [r_v12, r_v13, r_v14, r_v15]
  rw [v11]
  unfold sg scr
  have : (⟨g.val * 4 + j.val, by omega⟩ : Fin 16) = ⟨4 * g.val + j.val, by omega⟩ := Fin.ext (by show g.val * 4 + j.val = 4 * g.val + j.val; omega)
  rw [this]

theorem gt_eq (a b : EReal) : (FloatOps.cmpfTotal (F := Ideal) (φ := FTy.f32) CmpDirection.gt a b == 1#1) = decide (b < a) := by
  show (BitVec.ofBool (decide (b < a)) == 1#1) = decide (b < a)
  cases decide (b < a) <;> rfl

theorem top3i (x : FVec Ideal S32768x4x4 .f32) (g : Fin 4) (k : Fin 2) :
    (Host.topK S32768x4x2 2 (FloatOps.cmpfTotal .gt) x sliceFits_S32768x4x4_S32768x4x2).2 (ix3 n g k)
      = BitVec.ofNat 32 (sortedFrom (fun a b : Fin 4 => decide (x (ix3 n g b) < x (ix3 n g a))) ⟨k.val, by omega⟩).val := by
  have e : ∀ a b : Fin 4, decide (x (ix3 n g b) < x (ix3 n g a)) = (FloatOps.cmpfTotal (F := Ideal) (φ := FTy.f32) CmpDirection.gt (x (ix3 n g a)) (x (ix3 n g b)) == 1#1) := fun a b => (gt_eq _ _).symm
  simp only [e]
  have h2 : 2 < S32768x4x4.rank := by decide
  have hal : ∀ q : Fin 4, Shape.Idx.along (s := S32768x4x4) (ix3 n g ⟨k.val, by omega⟩) ⟨2, h2⟩ q = ix3 n g q := by
    intro q; funext a; fin_cases a <;> rfl
  have hJ : (fun a => ⟨0 + ((ix3 n g k : S32768x4x2.Idx) (a.cast (sliceFits_S32768x4x4_S32768x4x2).1.symm)).val, Nat.lt_of_lt_of_le (Nat.add_lt_add_left (Fin.isLt _) _) ((sliceFits_S32768x4x4_S32768x4x2).2 a)⟩ : S32768x4x4.Idx) = ix3 n g ⟨k.val, by omega⟩ := by
    funext a; fin_cases a <;> exact Fin.ext (Nat.zero_add _)
  unfold Host.topK Host.sort2 extractStridedSlice
  simp only [hJ]
  rw [dif_pos (show 2 < S32768x4x4.rank by decide)]
  have hf : (fun a b : Fin 4 => FloatOps.cmpfTotal (F := Ideal) (φ := FTy.f32) CmpDirection.gt (x (Shape.Idx.along (s := S32768x4x4) (ix3 n g ⟨k.val, by omega⟩ : S32768x4x4.Idx) ⟨2, h2⟩ a)) (x (Shape.Idx.along (s := S32768x4x4) (ix3 n g ⟨k.val, by omega⟩ : S32768x4x4.Idx) ⟨2, h2⟩ b)) == 1#1)
      = fun a b : Fin 4 => FloatOps.cmpfTotal (F := Ideal) (φ := FTy.f32) CmpDirection.gt (x (ix3 n g a)) (x (ix3 n g b)) == 1#1 := by
    funext a b; rw [hal, hal]
  exact congrArg (fun f : Fin 4 → Fin 4 → Bool => BitVec.ofNat 32 (sortedFrom f ⟨k.val, by omega⟩).val) hf
theorem top3v (x : FVec Ideal S32768x4x4 .f32) (g : Fin 4) (k : Fin 2) :
    (Host.topK S32768x4x2 2 (FloatOps.cmpfTotal .gt) x sliceFits_S32768x4x4_S32768x4x2).1 (ix3 n g k)
      = x (ix3 n g (sortedFrom (fun a b : Fin 4 => decide (x (ix3 n g b) < x (ix3 n g a))) ⟨k.val, by omega⟩)) := by
  have e : ∀ a b : Fin 4, decide (x (ix3 n g b) < x (ix3 n g a)) = (FloatOps.cmpfTotal (F := Ideal) (φ := FTy.f32) CmpDirection.gt (x (ix3 n g a)) (x (ix3 n g b)) == 1#1) := fun a b => (gt_eq _ _).symm
  simp only [e]
  have h2 : 2 < S32768x4x4.rank := by decide
  have hal : ∀ q : Fin 4, Shape.Idx.along (s := S32768x4x4) (ix3 n g ⟨k.val, by omega⟩) ⟨2, h2⟩ q = ix3 n g q := by
    intro q; funext a; fin_cases a <;> rfl
  have hJ : (fun a => ⟨0 + ((ix3 n g k : S32768x4x2.Idx) (a.cast (sliceFits_S32768x4x4_S32768x4x2).1.symm)).val, Nat.lt_of_lt_of_le (Nat.add_lt_add_left (Fin.isLt _) _) ((sliceFits_S32768x4x4_S32768x4x2).2 a)⟩ : S32768x4x4.Idx) = ix3 n g ⟨k.val, by omega⟩ := by
    funext a; fin_cases a <;> exact Fin.ext (Nat.zero_add _)
  unfold Host.topK Host.sort2 extractStridedSlice
  simp only [hJ]
  rw [dif_pos (show 2 < S32768x4x4.rank by decide)]
  have hf : (fun a b : Fin 4 => FloatOps.cmpfTotal (F := Ideal) (φ := FTy.f32) CmpDirection.gt (x (Shape.Idx.along (s := S32768x4x4) (ix3 n g ⟨k.val, by omega⟩ : S32768x4x4.Idx) ⟨2, h2⟩ a)) (x (Shape.Idx.along (s := S32768x4x4) (ix3 n g ⟨k.val, by omega⟩ : S32768x4x4.Idx) ⟨2, h2⟩ b)) == 1#1)
      = fun a b : Fin 4 => FloatOps.cmpfTotal (F := Ideal) (φ := FTy.f32) CmpDirection.gt (x (ix3 n g a)) (x (ix3 n g b)) == 1#1 := by
    funext a b; rw [hal, hal]
  exact (congrArg (fun f : Fin 4 → Fin 4 → Bool => x (Shape.Idx.along (s := S32768x4x4) (ix3 n g ⟨k.val, by omega⟩ : S32768x4x4.Idx) ⟨2, h2⟩ (sortedFrom f (⟨k.val, by omega⟩ : Fin 4) : Fin 4))) hf).trans (congrArg x (hal _))

theorem top2i (x : FVec Ideal S32768x4 .f32) :
    (Host.topK S32768x1 1 (FloatOps.cmpfTotal .gt) x sliceFits_S32768x4_S32768x1).2 (ix2 n 0)
      = BitVec.ofNat 32 (sortedFrom (fun a b : Fin 4 => decide (x (ix2 n b) < x (ix2 n a))) 0).val := by
  have e : ∀ a b : Fin 4, decide (x (ix2 n b) < x (ix2 n a)) = (FloatOps.cmpfTotal (F := Ideal) (φ := FTy.f32) CmpDirection.gt (x (ix2 n a)) (x (ix2 n b)) == 1#1) := fun a b => (gt_eq _ _).symm
  simp only [e]
  have h2 : 1 < S32768x4.rank := by decide
  have hal : ∀ q : Fin 4, Shape.Idx.along (s := S32768x4) (ix2 n 0) ⟨1, h2⟩ q = ix2 n q := by
    intro q; funext a; fin_cases a <;> rfl
  have hJ : (fun a => ⟨0 + ((ix2 n 0 : S32768x1.Idx) (a.cast (sliceFits_S32768x4_S32768x1).1.symm)).val, Nat.lt_of_lt_of_le (Nat.add_lt_add_left (Fin.isLt _) _) ((sliceFits_S32768x4_S32768x1).2 a)⟩ : S32768x4.Idx) = ix2 n 0 := by
    funext a; fin_cases a <;> exact Fin.ext (Nat.zero_add _)
  unfold Host.topK Host.sort2 extractStridedSlice
  simp only [hJ]
  rw [dif_pos (show 1 < S32768x4.rank by decide)]
  have hf : (fun a b : Fin 4 => FloatOps.cmpfTotal (F := Ideal) (φ := FTy.f32) CmpDirection.gt (x (Shape.Idx.along (s := S32768x4) (ix2 n 0 : S32768x4.Idx) ⟨1, h2⟩ a)) (x (Shape.Idx.along (s := S32768x4) (ix2 n 0 : S32768x4.Idx) ⟨1, h2⟩ b)) == 1#1)
      = fun a b : Fin 4 => FloatOps.cmpfTotal (F := Ideal) (φ := FTy.f32) CmpDirection.gt (x (ix2 n a)) (x (ix2 n b)) == 1#1 := by
    funext a b; rw [hal, hal]
  exact congrArg (fun f : Fin 4 → Fin 4 → Bool => BitVec.ofNat 32 (sortedFrom f 0).val) hf

theorem ind0 (g : Fin 4) : r_indices A (ix3 n g 0) = BitVec.ofNat 32 (s0 (sg (scr A n) g)).val := by
  unfold r_indices
  dsimp only
  rw [top3i]
  simp only [v15]
  rfl
theorem ind1 (g : Fin 4) : r_indices A (ix3 n g 1) = BitVec.ofNat 32 (s1 (sg (scr A n) g)).val := by
  unfold r_indices
  dsimp only
  rw [top3i]
  simp only [v15]
  rfl
theorem v16 (g : Fin 4) : r_v16 A (ix2 n g) = sc (scr A n) g := by
  pointwise [r_v16, r_cst_2]
  unfold r_values
  dsimp only
  simp only [top3v, v15]
  rw [Fin.sum_univ_two]
  rfl
theorem ind4 : r_indices_4 A (ix2 n 0) = BitVec.ofNat 32 (gg (scr A n)).val := by
  unfold r_indices_4
  dsimp only
  rw [top2i]
  simp only [v16]
  rfl

theorem uito (a b : Fin 4) : FloatOps.uitofp (F := Ideal) FTy.f32 (IntOp.cmpi CmpIPredicate.eq (BitVec.ofNat 32 a.val) (BitVec.ofNat 32 b.val)) = if a = b then 1 else 0 := by
  have h : ∀ a b : Fin 4, IntOp.cmpi CmpIPredicate.eq (BitVec.ofNat 32 a.val) (BitVec.ofNat 32 b.val) = if a = b then 1#1 else 0#1 := by decide
  rw [h]
  split
  · show (((1#1 : BitVec 1).toNat : ℝ) : EReal) = 1
    norm_num
  · show (((0#1 : BitVec 1).toNat : ℝ) : EReal) = 0
    norm_num

/-- The finite inputs of one token. -/
def Tame1 : Prop := (∀ k, Re (A.a0 (ix2 n k))) ∧ (∀ k e, Re (A.a1 (ix2 k e)))

theorem pr_po (h : Tame1 A n) (e : Fin 16) : Po (pr A n e) :=
  sm_po _ (fun e => Re.sum _ _ fun k => (h.1 k).mul (h.2 k e)) e

theorem wt (g j : Fin 4) : r_v25 A (ix2 n ⟨4 * g.val + j.val, by omega⟩)
    = if g = gg (scr A n) ∧ (j = x1 (scr A n) ∨ j = x2 (scr A n)) then pr A n ⟨4 * g.val + j.val, by omega⟩ else 0 := by
  have key : ∀ e : Fin 16, (h1 : e.val / 4 = g.val) → (h2 : e.val % 4 = j.val) → r_v25 A (ix2 n e)
    = if g = gg (scr A n) ∧ (j = x1 (scr A n) ∨ j = x2 (scr A n)) then pr A n e else 0 := by
    intro e h1 h2
    pointwise [r_v17, r_call0_v0, r_call0_v1, r_call0_v2, r_call0_v3, r_call0_v4, r_v18, r_call1_v0, r_call1_v1, r_call1_v2, r_call1_v3, r_call1_v4, r_v19, r_cst_5, r_v20, r_v21, r_v22, r_v23, r_v24, r_v25]
    have e1 : (⟨e.val / 4, by omega⟩ : Fin 4) = g := Fin.ext h1
    rw [v11]
    simp only [e1, h1, h2, Fin.sum_univ_two]
    rw [ind4, ind0, ind1, uito, uito, uito]
    by_cases hg : g = gg (scr A n)
    · rw [← hg, if_pos rfl]
      have hx1 : x1 (scr A n) = s0 (sg (scr A n) g) := by rw [hg]; rfl
      have hx2 : x2 (scr A n) = s1 (sg (scr A n) g) := by rw [hg]; rfl
      have hne := x_ne (scr A n)
      rw [← hx1, ← hx2]
      by_cases hj1 : j = x1 (scr A n)
      · rw [if_pos hj1.symm, if_neg (fun e => hne (e.trans hj1)), if_pos ⟨rfl, Or.inl hj1⟩, add_zero, mul_one, one_mul]
      · by_cases hj2 : j = x2 (scr A n)
        · rw [if_neg (fun e => hj1 e.symm), if_pos hj2.symm, if_pos ⟨rfl, Or.inr hj2⟩, zero_add, mul_one, one_mul]
        · rw [if_neg (fun e => hj1 e.symm), if_neg (fun e => hj2 e.symm), if_neg (fun e => e.2.elim hj1 hj2), add_zero, mul_zero, zero_mul]
    · rw [if_neg (show ¬ gg (scr A n) = g from fun e => hg e.symm), zero_mul, zero_mul, if_neg (fun e => hg e.1)]
  exact key _ (by show (4 * g.val + j.val) / 4 = g.val; omega) (by show (4 * g.val + j.val) % 4 = j.val; omega)

theorem v29 (h : Tame1 A n) (g j : Fin 4) : r_v29 A (ix2 n ⟨4 * g.val + j.val, by omega⟩) = gate (scr A n) (pr A n) g j := by
  have key : ∀ e : Fin 16, r_v29 A (ix2 n e) = Ideal.div (r_v25 A (ix2 n e)) (∑ x, r_v25 A (ix2 n x)) := by
    intro e
    pointwise [r_cst_6, r_v26, r_v27, r_v28, r_v29]
  rw [key]
  exact gate_of (scr A n) (pr A n) (fun e => r_v25 A (ix2 n e)) (pr_po A n h) (wt A n) g j

theorem v35 (e : Fin 16) (f : Fin 256) : r_v35 A (ix3 e n f) =
  (∑ x, A.a0 (ix2 n x) * A.a3 (ix3 e x f)) * Ideal.div 1 (1 + Ideal.exp (0 - ∑ x, A.a0 (ix2 n x) * A.a3 (ix3 e x f))) *
      ∑ x, A.a0 (ix2 n x) * A.a4 (ix3 e x f) := by
  pointwise [r_v30, r_v31, r_call2_v0, r_call2_v1, r_call2_cst, r_call2_v2, r_call2_v3, r_call2_cst_0, r_call2_v4, r_call2_v5, r_v32, r_v33, r_v34, r_v35]
  simp only [mul_comm (A.a0 (ix2 n _)), zero_sub]

/-- One expert's part of the sum. -/
def part (e : Fin 16) (g : EReal) (d : Fin 1024) : EReal :=
  Val.mlp (fun k => A.a0 (ix2 n k)) (fun k f => A.a3 (ix3 e k f)) (fun k f => A.a4 (ix3 e k f)) (fun f d => A.a5 (ix3 e f d)) g d

/-- The mixture: the chosen group's four experts. -/
def mix (g : Fin 4) (d : Fin 1024) : EReal :=
  part A n ⟨4 * g.val + 0, by omega⟩ (gate (scr A n) (pr A n) g 0) d + part A n ⟨4 * g.val + 1, by omega⟩ (gate (scr A n) (pr A n) g 1) d
    + part A n ⟨4 * g.val + 2, by omega⟩ (gate (scr A n) (pr A n) g 2) d + part A n ⟨4 * g.val + 3, by omega⟩ (gate (scr A n) (pr A n) g 3) d

theorem part_eq (e : Fin 16) (g : EReal) (hg : ∃ r : ℝ, 0 ≤ r ∧ g = (r : EReal)) (d : Fin 1024) :
    g * ∑ f, r_v35 A (ix3 e n f) * A.a5 (ix3 e f d) = part A n e g d := by
  rw [mul_sum_nn _ _ hg]
  unfold part Val.mlp
  refine Finset.sum_congr rfl fun f _ => ?_
  rw [v35, ← mul_assoc, mul_comm g]

theorem v41 (h : Tame1 A n) (d : Fin 1024) : r_v41 A (ix2 n d) = mix A n (gg (scr A n)) d := by
  have key : r_v41 A (ix2 n d) = ∑ x, r_v29 A (ix2 n x) * ∑ x_1, r_v35 A (ix3 x n x_1) * A.a5 (ix3 x x_1 d) := by
    pointwise [r_v36, r_v37, r_v38, r_v39, r_v40, r_cst_7, r_v41]
  rw [key, sum16, Finset.sum_eq_single (gg (scr A n))]
  · have : ∀ j : Fin 4, r_v29 A (ix2 n ⟨4 * (gg (scr A n)).val + j.val, by omega⟩) * ∑ x_1, r_v35 A (ix3 ⟨4 * (gg (scr A n)).val + j.val, by omega⟩ n x_1) * A.a5 (ix3 ⟨4 * (gg (scr A n)).val + j.val, by omega⟩ x_1 d)
        = part A n ⟨4 * (gg (scr A n)).val + j.val, by omega⟩ (gate (scr A n) (pr A n) (gg (scr A n)) j) d := by
      intro j
      rw [v29 A n h]
      exact part_eq A n _ _ (gate_nn _ _ (pr_po A n h) _ _) d
    rw [Finset.sum_congr rfl (fun j _ => this j), Fin.sum_univ_four]
    rfl
  · intro g _ hg
    refine Finset.sum_eq_zero fun j _ => ?_
    rw [v29 A n h, gate_ne _ _ _ _ hg, zero_mul]
  · intro h; exact absurd (Finset.mem_univ _) h

/-- The sum the layer norm normalizes. -/
def pre (k : Fin 1024) : EReal := Ideal.ofBits FTy.f32 1068827891#32 * A.a0 (ix2 n k) + mix A n (gg (scr A n)) k

theorem v44 (h : Tame1 A n) (d : Fin 1024) : r_v44 A (ix2 n d) = pre A n d := by
  pointwise [r_cst_8, r_v42, r_v43, r_v44]
  rw [v41 A n h]
  rfl

theorem v68 (h : Tame1 A n) (d : Fin 1024) : r_v68 A (ix2 n d) = Val.lnk (pre A n) (fun k => A.a6 (ix1 k)) (fun k => A.a7 (ix1 k)) d := by
  pointwise [r_cst_9, r_v45, r_v46, r_cst_10, r_v47, r_v48, r_v49, r_v50, r_v51, r_cst_11, r_v52, r_v53, r_cst_12, r_v54, r_v55, r_v56, r_v57, r_cst_13, r_v58, r_v59, r_v60, r_v61, r_v62, r_v63, r_v64, r_v65, r_v66, r_v67, r_v68]
  simp only [v44 A n h]
  rfl
end Cert.Proof.Ref
end
-- ==== Proof.ValInit.lean ====
module

public import proofs.«01_k».proof.Proof.ValFirst
public import proofs.«01_k».proof.Proof.ValRef

@[expose] public section

set_option maxRecDepth 16384

noncomputable section

/-! The first segment leaves the routing the reference computes. -/

namespace Cert.Proof.Val

open Idealize.ShloMosaic Cert.KernelIdeal Cert.KernelIdeal.Gen Cert.Proof.Body Cert.Proof.Route Cert.Proof.Soft

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := Ideal) c M0) (f1 : Bf (F := Ideal) c M1) (f2 : Bf (F := Ideal) c M2) (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (s0 : Bf (F := Ideal) c (Memref.whole cc0_scratch0)) (s1 : Bf (F := Ideal) c (Memref.whole cc0_scratch1))
  (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5))
  (s6 : Bf (F := Ideal) c (Memref.whole cc0_scratch6))

theorem pay11_gen (v13 : FVec Ideal S1024x1024 .f32) (v21 v25 : FVec Ideal S1024x128 .bf16) (t : Fin 1024) (x : Fin 1024 → EReal) (w : Fin 1024 → Fin 16 → EReal)
    (hx : ∀ k, v13 (ix2 t k) = x k) (hr : ∀ k, Re (x k)) (hw : ∀ k e, v21 (ix2 k ⟨e.val, by omega⟩) = w k e) (hl : ∀ k (e : Fin 16), v21 (ix2 k ⟨16 + e.val, by omega⟩) = 0)
    (e : Fin 16) : k0_pay11 (F := Ideal) v13 v21 v25 (ix2 e t) = sm (fun e => ∑ k, x k * w k e) e := by
  pointwise [k0_pay11, k0_pay9]
  simp only [hx, hw, hl, mul_zero, Finset.sum_const_zero, add_zero, fun k => (hr k).sub_self, zero_mul]
  rfl
theorem pay12_gen (v13 : FVec Ideal S1024x1024 .f32) (v21 v25 : FVec Ideal S1024x128 .bf16) (v34 : FVec Ideal S16x1 .f32) (t : Fin 1024) (e : Fin 16) :
    k0_pay12 (F := Ideal) v13 v21 v25 v34 (ix2 e t) = k0_pay11 (F := Ideal) v13 v21 v25 (ix2 e t) + v34 (ix2 e 0) := by
  pointwise [k0_pay12]

variable (A : Ref.Args) (nn : Fin 1024 → Fin 32768)

/-- The group of a block's token. -/
def gN (t : Fin 1024) : Fin 4 := gg (Ref.scr A (nn t))

section blk
variable (hA0 : ∀ t k, rd c M0 f0 (ix2 t k) = A.a0 (ix2 (nn t) k)) (hA1 : ∀ k (e : Fin 16), rd c M1 f1 (ix2 k ⟨e.val, by omega⟩) = A.a1 (ix2 k e))
  (hA1' : ∀ k (e : Fin 16), rd c M1 f1 (ix2 k ⟨16 + e.val, by omega⟩) = 0) (hA2 : ∀ e, rd c M2 f2 (ix2 e 0) = A.a2 (ix1 e))
  (hT : ∀ t, Ref.Tame1 A (nn t)) (hB : ∀ e, ⊥ < A.a2 (ix1 e))
include hA0 hA1 hA1' hT

theorem kp_eq (t : Fin 1024) : kp c M0 M1 f0 f1 t = Ref.pr A (nn t) := by
  funext e
  unfold kp first.sl.v44
  refine pay11_gen _ _ _ t (fun k => A.a0 (ix2 (nn t) k)) (fun k e => A.a1 (ix2 k e)) ?_ (hT t).1 ?_ ?_ e
  · intro k
    exact (readAt_unit M0 f0 _ _ (ix2 t k) (by intro a; fin_cases a <;> exact (Nat.zero_add _).symm)).trans (hA0 t k)
  · intro k e
    exact (readAt_unit M1 f1 _ _ (ix2 k ⟨e.val, by omega⟩) (by intro a; fin_cases a <;> exact (Nat.zero_add _).symm)).trans (hA1 k e)
  · intro k e
    exact (readAt_unit M1 f1 _ _ (ix2 k ⟨16 + e.val, by omega⟩) (by intro a; fin_cases a <;> exact (Nat.zero_add _).symm)).trans (hA1' k e)
include hA2
theorem ks_eq (t : Fin 1024) : ks c M0 M1 M2 f0 f1 f2 t = Ref.scr A (nn t) := by
  funext e
  have h := congrFun (kp_eq c M0 M1 f0 f1 A nn hA0 hA1 hA1' hT t) e
  unfold kp first.sl.v44 at h
  unfold ks first.sl.v46 Ref.scr
  rw [pay12_gen, h]
  exact congrArg (Ref.pr A (nn t) e + ·) ((readAt_unit M2 f2 _ _ (ix2 e 0) (by intro a; fin_cases a <;> exact (Nat.zero_add _).symm)).trans (hA2 e))
theorem gid_eq (t : Fin 1024) : first.sl.v118 c M0 M1 M2 f0 f1 f2 (ix2 0 t) = BitVec.ofNat 32 (gN A nn t).val := by
  rw [v118_at, kgid_eq, ks_eq c M0 M1 M2 f0 f1 f2 A nn hA0 hA1 hA1' hA2 hT]; rfl
theorem rank_eq (s : Fin 4) (x : Fin 256) : first.sl.v344 c M0 M1 M2 f0 f1 f2 (ix2 0 (tk s x)) = (((rkn (gN A nn) s x : ℕ) : ℝ) : EReal) := by
  unfold first.sl.v344
  exact pay49_at _ _ (gid_eq c M0 M1 M2 f0 f1 f2 A nn hA0 hA1 hA1' hA2 hT) s x
theorem gidf_eq (t : Fin 1024) : first.sl.v345 c M0 M1 M2 f0 f1 f2 (ix2 0 t) = FloatOps.sitofp (F := Ideal) FTy.f32 (BitVec.ofNat 32 (gN A nn t).val) := by
  unfold first.sl.v345
  rw [pay50_at, gid_eq c M0 M1 M2 f0 f1 f2 A nn hA0 hA1 hA1' hA2 hT]
include hB
theorem gate_eq (t : Fin 1024) (g j : Fin 4) : first.sl.v303 c M0 M1 M2 f0 f1 f2 (ix2 ⟨4 * g.val + j.val, by omega⟩ t) = gate (Ref.scr A (nn t)) (Ref.pr A (nn t)) g j := by
  have hs : ∀ e, ⊥ < Ref.scr A (nn t) e := by
    intro e
    obtain ⟨r, hr, e1⟩ := Ref.pr_po A (nn t) (hT t) e
    unfold Ref.scr
    rw [e1]
    exact EReal.bot_lt_add_iff.mpr ⟨EReal.bot_lt_coe r, hB e⟩
  rw [gates_at, ks_eq c M0 M1 M2 f0 f1 f2 A nn hA0 hA1 hA1' hA2 hT, kp_eq c M0 M1 f0 f1 A nn hA0 hA1 hA1' hT, kgate_eq _ _ hs]
end blk

theorem t0_at (hg : isFirst i) (t k : Fin 1024) : X0 c (first c i M0 h0 M1 h1 M2 h2 M3 h3 M4 h4 M5 h5 M6 h6 M7 h7 M8 h8 f0 f1 f2 f3 f4 f5 f6 f7 f8 s0 s1 s2 s3 s4 s5 s6 hg).t0 (ix2 t k) = rd c M0 f0 (ix2 t k) := by
  have e : (first c i M0 h0 M1 h1 M2 h2 M3 h3 M4 h4 M5 h5 M6 h6 M7 h7 M8 h8 f0 f1 f2 f3 f4 f5 f6 f7 f8 s0 s1 s2 s3 s4 s5 s6 hg).t0 = (Memref.whole cc0_scratch0).view.writes (Elt Ideal) (Memref.whole cc0_scratch0).view.junk (first.sl.S0_1 c M0 f0) := by
    unfold first; dsimp only
  rw [e]
  unfold first.sl.S0_1
  refine (View.read_writes_cons_unit_of_mem (Memref.whole cc0_scratch0).view _ _ _ _ (ix2 t k) (ix2 t k) rfl (by intro a; fin_cases a <;> exact (Nat.zero_add _).symm)).trans ?_
  have h : ∀ v : FVec Ideal S1024x1024 .f32, k0_pay10 (F := Ideal) v (ix2 t k) = v (ix2 t k) := by
    intro v; pointwise [k0_pay10, k0_pay9]
  exact (h _).trans (readAt_unit M0 f0 _ _ (ix2 t k) (by intro a; fin_cases a <;> exact (Nat.zero_add _).symm))

theorem t1_at (hg : isFirst i) (t : Fin 1024) (k : Fin 128) : X1 c (first c i M0 h0 M1 h1 M2 h2 M3 h3 M4 h4 M5 h5 M6 h6 M7 h7 M8 h8 f0 f1 f2 f3 f4 f5 f6 f7 f8 s0 s1 s2 s3 s4 s5 s6 hg).t1 (ix2 t k) = k0_pay60 (F := Ideal) (first.sl.v303 c M0 M1 M2 f0 f1 f2) (first.sl.v344 c M0 M1 M2 f0 f1 f2) (first.sl.v345 c M0 M1 M2 f0 f1 f2) (ix2 t k) := by
  have e : (first c i M0 h0 M1 h1 M2 h2 M3 h3 M4 h4 M5 h5 M6 h6 M7 h7 M8 h8 f0 f1 f2 f3 f4 f5 f6 f7 f8 s0 s1 s2 s3 s4 s5 s6 hg).t1 = (Memref.whole cc0_scratch1).view.writes (Elt Ideal) (Memref.whole cc0_scratch1).view.junk (first.sl.S1_1 c M0 M1 M2 f0 f1 f2) := by
    unfold first; dsimp only
  rw [e]
  unfold first.sl.S1_1
  exact (View.read_writes_cons_unit_of_mem (Memref.whole cc0_scratch1).view _ _ _ _ (ix2 t k) (ix2 t k) rfl (by intro a; fin_cases a <;> exact (Nat.zero_add _).symm))

theorem t2_eq (hg : isFirst i) : (first c i M0 h0 M1 h1 M2 h2 M3 h3 M4 h4 M5 h5 M6 h6 M7 h7 M8 h8 f0 f1 f2 f3 f4 f5 f6 f7 f8 s0 s1 s2 s3 s4 s5 s6 hg).t2 = (Memref.whole cc0_scratch2).view.writes (Elt Ideal) (Memref.whole cc0_scratch2).view.junk (first.sl.S2_3 c M0 M1 M2 f0 f1 f2) := by
  unfold first; dsimp only
theorem t2_0 (hg : isFirst i) (t : Fin 1024) (k : Fin 128) : X2 c (first c i M0 h0 M1 h1 M2 h2 M3 h3 M4 h4 M5 h5 M6 h6 M7 h7 M8 h8 f0 f1 f2 f3 f4 f5 f6 f7 f8 s0 s1 s2 s3 s4 s5 s6 hg).t2 (ix3 0 t k) = k0_pay60 (F := Ideal) (first.sl.v303 c M0 M1 M2 f0 f1 f2) (first.sl.v344 c M0 M1 M2 f0 f1 f2) (first.sl.v345 c M0 M1 M2 f0 f1 f2) (ix2 t k) := by
  rw [t2_eq]
  unfold first.sl.S2_3
  refine (View.read_writes_cons_unit_of_not_mem (Memref.whole cc0_scratch2).view _ _ _ _ (ix3 0 t k) rfl 0 (Or.inl (by show 0 < 2; omega))).trans ?_
  refine (View.read_writes_cons_unit_of_not_mem (Memref.whole cc0_scratch2).view _ _ _ _ (ix3 0 t k) rfl 0 (Or.inl (by show 0 < 1; omega))).trans ?_
  refine (View.read_writes_cons_unit_of_mem (Memref.whole cc0_scratch2).view _ _ _ _ (ix3 0 t k) (ix3 0 t k) rfl (by intro a; fin_cases a <;> exact (Nat.zero_add _).symm)).trans ?_
  exact pay64_at _ _ _ t k
theorem t2_1 (hg : isFirst i) (t : Fin 1024) (k : Fin 128) : X2 c (first c i M0 h0 M1 h1 M2 h2 M3 h3 M4 h4 M5 h5 M6 h6 M7 h7 M8 h8 f0 f1 f2 f3 f4 f5 f6 f7 f8 s0 s1 s2 s3 s4 s5 s6 hg).t2 (ix3 1 t k) = k0_pay60 (F := Ideal) (first.sl.v303 c M0 M1 M2 f0 f1 f2) (first.sl.v344 c M0 M1 M2 f0 f1 f2) (first.sl.v345 c M0 M1 M2 f0 f1 f2) (ix2 t k) - k0_pay60 (F := Ideal) (first.sl.v303 c M0 M1 M2 f0 f1 f2) (first.sl.v344 c M0 M1 M2 f0 f1 f2) (first.sl.v345 c M0 M1 M2 f0 f1 f2) (ix2 t k) := by
  rw [t2_eq]
  unfold first.sl.S2_3
  refine (View.read_writes_cons_unit_of_not_mem (Memref.whole cc0_scratch2).view _ _ _ _ (ix3 1 t k) rfl 0 (Or.inl (by show 1 < 2; omega))).trans ?_
  refine (View.read_writes_cons_unit_of_mem (Memref.whole cc0_scratch2).view _ _ _ _ (ix3 1 t k) (ix3 0 t k) rfl (by
    intro a; fin_cases a
    · exact (Nat.add_zero _).symm
    all_goals exact (Nat.zero_add _).symm)).trans ?_
  unfold first.sl.v424
  exact pay1_at _ _ _ t k
theorem t2_2 (hg : isFirst i) (t : Fin 1024) (k : Fin 128) : X2 c (first c i M0 h0 M1 h1 M2 h2 M3 h3 M4 h4 M5 h5 M6 h6 M7 h7 M8 h8 f0 f1 f2 f3 f4 f5 f6 f7 f8 s0 s1 s2 s3 s4 s5 s6 hg).t2 (ix3 2 t k) = (k0_pay60 (F := Ideal) (first.sl.v303 c M0 M1 M2 f0 f1 f2) (first.sl.v344 c M0 M1 M2 f0 f1 f2) (first.sl.v345 c M0 M1 M2 f0 f1 f2) (ix2 t k) - k0_pay60 (F := Ideal) (first.sl.v303 c M0 M1 M2 f0 f1 f2) (first.sl.v344 c M0 M1 M2 f0 f1 f2) (first.sl.v345 c M0 M1 M2 f0 f1 f2) (ix2 t k))
   - (k0_pay60 (F := Ideal) (first.sl.v303 c M0 M1 M2 f0 f1 f2) (first.sl.v344 c M0 M1 M2 f0 f1 f2) (first.sl.v345 c M0 M1 M2 f0 f1 f2) (ix2 t k) - k0_pay60 (F := Ideal) (first.sl.v303 c M0 M1 M2 f0 f1 f2) (first.sl.v344 c M0 M1 M2 f0 f1 f2) (first.sl.v345 c M0 M1 M2 f0 f1 f2) (ix2 t k)) := by
  rw [t2_eq]
  unfold first.sl.S2_3
  refine (View.read_writes_cons_unit_of_mem (Memref.whole cc0_scratch2).view _ _ _ _ (ix3 2 t k) (ix3 0 t k) rfl (by
    intro a; fin_cases a
    · exact (Nat.add_zero _).symm
    all_goals exact (Nat.zero_add _).symm)).trans ?_
  unfold first.sl.v424 first.sl.v423
  exact pay2_at _ _ _ t k
theorem t3_eq (hg : isFirst i) : (first c i M0 h0 M1 h1 M2 h2 M3 h3 M4 h4 M5 h5 M6 h6 M7 h7 M8 h8 f0 f1 f2 f3 f4 f5 f6 f7 f8 s0 s1 s2 s3 s4 s5 s6 hg).t3 = (Memref.whole cc0_scratch3).view.writes (Elt Ideal) s3
    [(⟨Rect.unit (s := S8x1024) ![1, 0] S1x1024.size inb_S8x1024_S1x1024_1_0, k0_pay58 (first.sl.v344 c M0 M1 M2 f0 f1 f2)⟩ : View.Piece (Elt Ideal) S8x1024 .f32),
          ⟨Rect.unit (s := S8x1024) ![0, 0] S1x1024.size inb_S8x1024_S1x1024_0_0, k0_pay57 (first.sl.v345 c M0 M1 M2 f0 f1 f2)⟩] := by
  unfold first; dsimp only
theorem t3_0 (hg : isFirst i) (t : Fin 1024) : X3 c (first c i M0 h0 M1 h1 M2 h2 M3 h3 M4 h4 M5 h5 M6 h6 M7 h7 M8 h8 f0 f1 f2 f3 f4 f5 f6 f7 f8 s0 s1 s2 s3 s4 s5 s6 hg).t3 (ix2 0 t) = first.sl.v345 c M0 M1 M2 f0 f1 f2 (ix2 0 t) := by
  rw [t3_eq]
  refine (View.read_writes_cons_unit_of_not_mem (Memref.whole cc0_scratch3).view _ _ _ _ (ix2 0 t) rfl 0 (Or.inl (by show 0 < 1; omega))).trans ?_
  refine (View.read_writes_cons_unit_of_mem (Memref.whole cc0_scratch3).view _ _ _ _ (ix2 0 t) (ix2 0 t) rfl (by intro a; fin_cases a <;> exact (Nat.zero_add _).symm)).trans ?_
  have h : ∀ w : FVec Ideal S1x1024 .f32, k0_pay57 (F := Ideal) w (ix2 0 t) = w (ix2 0 t) := by
    intro w; pointwise [k0_pay57]
  exact h _
theorem t3_1 (hg : isFirst i) (t : Fin 1024) : X3 c (first c i M0 h0 M1 h1 M2 h2 M3 h3 M4 h4 M5 h5 M6 h6 M7 h7 M8 h8 f0 f1 f2 f3 f4 f5 f6 f7 f8 s0 s1 s2 s3 s4 s5 s6 hg).t3 (ix2 1 t) = first.sl.v344 c M0 M1 M2 f0 f1 f2 (ix2 0 t) := by
  rw [t3_eq]
  refine (View.read_writes_cons_unit_of_mem (Memref.whole cc0_scratch3).view _ _ _ _ (ix2 1 t) (ix2 0 t) rfl (by
    intro a; fin_cases a
    · exact (Nat.add_zero _).symm
    · exact (Nat.zero_add _).symm)).trans ?_
  have h : ∀ w : FVec Ideal S1x1024 .f32, k0_pay58 (F := Ideal) w (ix2 0 t) = w (ix2 0 t) := by
    intro w; pointwise [k0_pay58]
  exact h _
theorem t4_at (hg : isFirst i) (t k : Fin 1024) : X4 c (first c i M0 h0 M1 h1 M2 h2 M3 h3 M4 h4 M5 h5 M6 h6 M7 h7 M8 h8 f0 f1 f2 f3 f4 f5 f6 f7 f8 s0 s1 s2 s3 s4 s5 s6 hg).t4 (ix2 t k) = 0 := by
  have e : (first c i M0 h0 M1 h1 M2 h2 M3 h3 M4 h4 M5 h5 M6 h6 M7 h7 M8 h8 f0 f1 f2 f3 f4 f5 f6 f7 f8 s0 s1 s2 s3 s4 s5 s6 hg).t4 = (Memref.whole cc0_scratch4).view.writes (Elt Ideal) (Memref.whole cc0_scratch4).view.junk first.sl.S4_1 := by
    unfold first; dsimp only
  rw [e]
  unfold first.sl.S4_1
  refine (View.read_writes_cons_unit_of_mem (Memref.whole cc0_scratch4).view _ _ _ _ (ix2 t k) (ix2 t k) rfl (by intro a; fin_cases a <;> exact (Nat.zero_add _).symm)).trans ?_
  have h : k0_pay3 (F := Ideal) (ix2 t k) = 0 := by pointwise [k0_pay3]
  exact h
theorem t6_at (hg : isFirst i) (g : Fin 4) : X6 c (first c i M0 h0 M1 h1 M2 h2 M3 h3 M4 h4 M5 h5 M6 h6 M7 h7 M8 h8 f0 f1 f2 f3 f4 f5 f6 f7 f8 s0 s1 s2 s3 s4 s5 s6 hg).t6 (ix1 g) = ovw (first.sl.v118 c M0 M1 M2 f0 f1 f2) (first.sl.v344 c M0 M1 M2 f0 f1 f2) (BitVec.ofNat 32 g.val) := by
  have e : (first c i M0 h0 M1 h1 M2 h2 M3 h3 M4 h4 M5 h5 M6 h6 M7 h7 M8 h8 f0 f1 f2 f3 f4 f5 f6 f7 f8 s0 s1 s2 s3 s4 s5 s6 hg).t6 = (Memref.whole cc0_scratch6).view.writes (Elt Ideal) (Memref.whole cc0_scratch6).view.junk (first.sl.S6_4 c M0 M1 M2 f0 f1 f2) := by
    unfold first; dsimp only
  rw [e]
  unfold first.sl.S6_4
  have hs : g = 0 ∨ g = 1 ∨ g = 2 ∨ g = 3 := by fin_cases g <;> simp
  rcases hs with rfl | rfl | rfl | rfl
  · skip
    refine (View.read_writes_cons_unit_of_not_mem (Memref.whole cc0_scratch6).view _ _ _ _ (ix1 0) rfl 0 (Or.inl (by show 0 < 3; omega))).trans ?_
    refine (View.read_writes_cons_unit_of_not_mem (Memref.whole cc0_scratch6).view _ _ _ _ (ix1 0) rfl 0 (Or.inl (by show 0 < 2; omega))).trans ?_
    refine (View.read_writes_cons_unit_of_not_mem (Memref.whole cc0_scratch6).view _ _ _ _ (ix1 0) rfl 0 (Or.inl (by show 0 < 1; omega))).trans ?_
    refine (View.read_writes_cons_unit_of_mem (Memref.whole cc0_scratch6).view _ _ _ _ (ix1 0) (ix1 0) rfl (by intro a; fin_cases a; exact (Nat.add_zero _).symm)).trans ?_
    unfold first.sl.v357 first.sl.v350 first.sl.v344
    exact ov0 _
  · skip
    refine (View.read_writes_cons_unit_of_not_mem (Memref.whole cc0_scratch6).view _ _ _ _ (ix1 1) rfl 0 (Or.inl (by show 1 < 3; omega))).trans ?_
    refine (View.read_writes_cons_unit_of_not_mem (Memref.whole cc0_scratch6).view _ _ _ _ (ix1 1) rfl 0 (Or.inl (by show 1 < 2; omega))).trans ?_
    refine (View.read_writes_cons_unit_of_mem (Memref.whole cc0_scratch6).view _ _ _ _ (ix1 1) (ix1 0) rfl (by intro a; fin_cases a; exact (Nat.add_zero _).symm)).trans ?_
    unfold first.sl.v370
    exact ov1 _ _
  · skip
    refine (View.read_writes_cons_unit_of_not_mem (Memref.whole cc0_scratch6).view _ _ _ _ (ix1 2) rfl 0 (Or.inl (by show 2 < 3; omega))).trans ?_
    refine (View.read_writes_cons_unit_of_mem (Memref.whole cc0_scratch6).view _ _ _ _ (ix1 2) (ix1 0) rfl (by intro a; fin_cases a; exact (Nat.add_zero _).symm)).trans ?_
    unfold first.sl.v383
    exact ov2 _ _
  · skip
    refine (View.read_writes_cons_unit_of_mem (Memref.whole cc0_scratch6).view _ _ _ _ (ix1 3) (ix1 0) rfl (by intro a; fin_cases a; exact (Nat.add_zero _).symm)).trans ?_
    unfold first.sl.v396 first.sl.v389
    exact ov3 _ _

end Cert.Proof.Val
end
-- ==== Proof.ValComp2.lean ====
module

public import proofs.«01_k».proof.Proof.ValComp

@[expose] public section

set_option maxRecDepth 16384

noncomputable section

/-! The compacted branch: what it leaves in the compacted buffer. -/

namespace Cert.Proof.Val

open Idealize.ShloMosaic Cert.KernelIdeal Cert.KernelIdeal.Gen Cert.Proof.Body

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := Ideal) c M0) (f1 : Bf (F := Ideal) c M1) (f2 : Bf (F := Ideal) c M2) (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (s0 : Bf (F := Ideal) c (Memref.whole cc0_scratch0)) (s1 : Bf (F := Ideal) c (Memref.whole cc0_scratch1))
  (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5))
  (s6 : Bf (F := Ideal) c (Memref.whole cc0_scratch6))

theorem comp_t5_eq (ho : ¬ flag c i s6 = 1#1) :
    (compacted c i M0 h0 M1 h1 M2 h2 M3 h3 M4 h4 M5 h5 M6 h6 M7 h7 M8 h8 f0 f1 f2 f3 f4 f5 f6 f7 f8 s0 s1 s2 s3 s4 s5 s6 ho).t5
      = (Memref.whole cc0_scratch5).view.writes (Elt Ideal) s5 [(⟨Rect.unit (s := S4x4x96x1024) (k0_off6 i) S1x1x96x1024.size (k0_off6_inb i), k0_pay7 (F := Ideal) (compacted.sl.v256 c i M3 M4 M5 f3 f4 f5 s0 s2 s3)⟩ : View.Piece (Elt Ideal) S4x4x96x1024 .bf16), (⟨Rect.unit (s := S4x4x96x1024) (k0_off5 i) S1x1x96x1024.size (k0_off5_inb i), k0_pay103 (F := Ideal) (compacted.sl.v119 c i s0 s3) (compacted.sl.v207 c i M3 M4 M5 f3 f4 f5 s0 s2 s3) (compacted.sl.v214 c i s2 s3) (compacted.sl.v217 c i M3 f3 s0 s3) (compacted.sl.v219 c M4 f4) compacted.sl.cst_146 (View.readAt (Elt Ideal) M5.view (Rect.unit (s := S4x256x1024) ![3, 0, 0] S1x256x1024.size inb_S4x256x1024_S1x256x1024_3_0_0).toLoadRect f5)⟩ : View.Piece (Elt Ideal) S4x4x96x1024 .bf16), (⟨Rect.unit (s := S4x4x96x1024) (k0_off4 i) S1x1x96x1024.size (k0_off4_inb i), k0_pay102 (F := Ideal) (compacted.sl.v119 c i s0 s3) (compacted.sl.v207 c i M3 M4 M5 f3 f4 f5 s0 s2 s3) (compacted.sl.v214 c i s2 s3) (compacted.sl.v217 c i M3 f3 s0 s3) (compacted.sl.v219 c M4 f4) compacted.sl.cst_146 (View.readAt (Elt Ideal) M5.view (Rect.unit (s := S4x256x1024) ![3, 0, 0] S1x256x1024.size inb_S4x256x1024_S1x256x1024_3_0_0).toLoadRect f5)⟩ : View.Piece (Elt Ideal) S4x4x96x1024 .bf16), (⟨Rect.unit (s := S4x4x96x1024) (k0_off3 i) S1x1x96x1024.size (k0_off3_inb i), k0_pay101 (F := Ideal) (compacted.sl.v119 c i s0 s3) (compacted.sl.v207 c i M3 M4 M5 f3 f4 f5 s0 s2 s3) (compacted.sl.v214 c i s2 s3) (compacted.sl.v217 c i M3 f3 s0 s3) (compacted.sl.v219 c M4 f4) compacted.sl.cst_146 (View.readAt (Elt Ideal) M5.view (Rect.unit (s := S4x256x1024) ![3, 0, 0] S1x256x1024.size inb_S4x256x1024_S1x256x1024_3_0_0).toLoadRect f5)⟩ : View.Piece (Elt Ideal) S4x4x96x1024 .bf16)] := by
  unfold compacted
  dsimp only
theorem off3_eq : k0_off3 i = ![(gi i).val, 0, 0, 0] := by
  unfold k0_off3
  have : ∀ k : Fin 4, (Scalar.indexCast (BitVec.ofNat 32 k.val) : BitVec 32).toNat = k.val := by decide
  exact congrArg (fun n => ![n, 0, 0, 0]) (this (i 1))
theorem off4_eq : k0_off4 i = ![(gi i).val, 1, 0, 0] := by
  unfold k0_off4
  have : ∀ k : Fin 4, (Scalar.indexCast (BitVec.ofNat 32 k.val) : BitVec 32).toNat = k.val := by decide
  exact congrArg (fun n => ![n, 1, 0, 0]) (this (i 1))
theorem off5_eq : k0_off5 i = ![(gi i).val, 2, 0, 0] := by
  unfold k0_off5
  have : ∀ k : Fin 4, (Scalar.indexCast (BitVec.ofNat 32 k.val) : BitVec 32).toNat = k.val := by decide
  exact congrArg (fun n => ![n, 2, 0, 0]) (this (i 1))
theorem off6_eq : k0_off6 i = ![(gi i).val, 3, 0, 0] := by
  unfold k0_off6
  have : ∀ k : Fin 4, (Scalar.indexCast (BitVec.ofNat 32 k.val) : BitVec 32).toNat = k.val := by decide
  exact congrArg (fun n => ![n, 3, 0, 0]) (this (i 1))

theorem slice0_at (a : FVec Ideal S384x1024 .bf16) (b : FVec Ideal S384x1024 .f32) (e f g h k) (r : Fin 96) (d : Fin 1024) : k0_pay101 (F := Ideal) a b e f g h k (ix4 0 0 r d) = k0_pay100 (F := Ideal) a b e f g h k (ix2 (rw4 0 r) d) := by
  pointwise [k0_pay101]
  exact congrArg (fun R => k0_pay100 (F := Ideal) a b e f g h k (ix2 R d)) (Fin.ext (by first | rfl | (unfold rw4; simp) | omega))
theorem slice1_at (a : FVec Ideal S384x1024 .bf16) (b : FVec Ideal S384x1024 .f32) (e f g h k) (r : Fin 96) (d : Fin 1024) : k0_pay102 (F := Ideal) a b e f g h k (ix4 0 0 r d) = k0_pay100 (F := Ideal) a b e f g h k (ix2 (rw4 1 r) d) := by
  pointwise [k0_pay102]
  exact congrArg (fun R => k0_pay100 (F := Ideal) a b e f g h k (ix2 R d)) (Fin.ext (by first | rfl | (unfold rw4; simp) | omega))
theorem slice2_at (a : FVec Ideal S384x1024 .bf16) (b : FVec Ideal S384x1024 .f32) (e f g h k) (r : Fin 96) (d : Fin 1024) : k0_pay103 (F := Ideal) a b e f g h k (ix4 0 0 r d) = k0_pay100 (F := Ideal) a b e f g h k (ix2 (rw4 2 r) d) := by
  pointwise [k0_pay103]
  exact congrArg (fun R => k0_pay100 (F := Ideal) a b e f g h k (ix2 R d)) (Fin.ext (by first | rfl | (unfold rw4; simp) | omega))
theorem slice3_at (a : FVec Ideal S384x1024 .bf16) (b : FVec Ideal S384x1024 .f32) (e f g h k) (r : Fin 96) (d : Fin 1024) : k0_pay7 (F := Ideal) (k0_pay104 a b e f g h k) (ix4 0 0 r d) = k0_pay100 (F := Ideal) a b e f g h k (ix2 (rw4 3 r) d) := by
  pointwise [k0_pay104, k0_pay7]
  exact congrArg (fun R => k0_pay100 (F := Ideal) a b e f g h k (ix2 R d)) (Fin.ext (by first | rfl | (unfold rw4; simp) | omega))

/-- A grid point's group, taken as the branch's own row number, other groups' rows stay as they were. -/
theorem comp_keep (ho : ¬ flag c i s6 = 1#1) (g s : Fin 4) (r : Fin 96) (d : Fin 1024) (hgi : g ≠ gi i) :
    X5 c (compacted c i M0 h0 M1 h1 M2 h2 M3 h3 M4 h4 M5 h5 M6 h6 M7 h7 M8 h8 f0 f1 f2 f3 f4 f5 f6 f7 f8 s0 s1 s2 s3 s4 s5 s6 ho).t5 (ix4 g s r d) = X5 c s5 (ix4 g s r d) := by
  rw [comp_t5_eq]
  have hne : g.val < (gi i).val ∨ (gi i).val + 1 ≤ g.val := by
    have : g.val ≠ (gi i).val := fun h => hgi (Fin.ext h)
    omega
  refine (View.read_writes_cons_unit_of_not_mem (Memref.whole cc0_scratch5).view _ _ _ _ (ix4 g s r d) (off6_eq i) 0 (by exact hne)).trans ?_
  refine (View.read_writes_cons_unit_of_not_mem (Memref.whole cc0_scratch5).view _ _ _ _ (ix4 g s r d) (off5_eq i) 0 (by exact hne)).trans ?_
  refine (View.read_writes_cons_unit_of_not_mem (Memref.whole cc0_scratch5).view _ _ _ _ (ix4 g s r d) (off4_eq i) 0 (by exact hne)).trans ?_
  exact (View.read_writes_cons_unit_of_not_mem (Memref.whole cc0_scratch5).view _ _ _ _ (ix4 g s r d) (off3_eq i) 0 (by exact hne)).trans rfl

section one
variable (s : Fin 4) (r : Fin 96) (x0 : Fin 256) (hg : X3 c s3 (ix2 0 (tk s x0)) = k0_pay4 (F := Ideal) i)
  (hr : X3 c s3 (ix2 1 (tk s x0)) = FloatOps.sitofp (F := Ideal) FTy.f32 (BitVec.ofNat 32 r.val))
  (hu : ∀ x, X3 c s3 (ix2 0 (tk s x)) = k0_pay4 (F := Ideal) i → X3 c s3 (ix2 1 (tk s x)) = FloatOps.sitofp (F := Ideal) FTy.f32 (BitVec.ofNat 32 r.val) → x = x0)
include hg hr hu
theorem comp_pay (d : Fin 1024) :
    k0_pay100 (F := Ideal) (compacted.sl.v119 c i s0 s3) (compacted.sl.v207 c i M3 M4 M5 f3 f4 f5 s0 s2 s3) (compacted.sl.v214 c i s2 s3) (compacted.sl.v217 c i M3 f3 s0 s3) (compacted.sl.v219 c M4 f4) compacted.sl.cst_146 (View.readAt (Elt Ideal) M5.view (Rect.unit (s := S4x256x1024) ![3, 0, 0] S1x256x1024.size inb_S4x256x1024_S1x256x1024_3_0_0).toLoadRect f5) (ix2 (rw4 s r) d)
     = grp (fun k => X0 c s0 (ix2 (tk s x0) k)) (rd c M3 f3) (rd c M4 f4) (rd c M5 f5)
        (fun j => X2 c s2 (ix3 0 (tk s x0) (xe (gi i) j)) + X2 c s2 (ix3 1 (tk s x0) (xe (gi i) j)) + X2 c s2 (ix3 2 (tk s x0) (xe (gi i) j))) d := by
  unfold compacted.sl.v207 compacted.sl.v178 compacted.sl.v146 compacted.sl.v185 compacted.sl.v214 compacted.sl.v217 compacted.sl.v219 compacted.sl.cst_146 compacted.sl.v147 compacted.sl.v121
  refine comp_gen (gi i) (compacted.sl.v3 i) rfl (compacted.sl.v119 c i s0 s3) (compacted.sl.v120 c i s2 s3) _ _ _ _ _ _ _ _ _ _ _ _ _ _ _ _ _ _ _ _ _ _ _ (rw4 s r) d (fun k => X0 c s0 (ix2 (tk s x0) k))
    (fun j => X2 c s2 (ix3 0 (tk s x0) (xe (gi i) j)) + X2 c s2 (ix3 1 (tk s x0) (xe (gi i) j)) + X2 c s2 (ix3 2 (tk s x0) (xe (gi i) j))) (rd c M3 f3) (rd c M4 f4) (rd c M5 f5)
    ?_ ?_ ?_ ?_ ?_ ?_ ?_ ?_ ?_ ?_ ?_ ?_ ?_ ?_ ?_ ?_
  · rfl
  · rfl
  · exact fun k => cN_at c i s0 s3 s r x0 hg hr hu k
  · intro j; exact cT_at c i s2 s3 s r x0 hg hr hu _
  · exact fun k f => w3_at c M3 f3 0 _ _ k f rfl
  · exact fun k f => w3_at c M4 f4 0 _ _ k f rfl
  · exact fun k f => w5_at c M5 f5 0 _ _ k f rfl
  · exact fun k f => w3_at c M3 f3 1 _ _ k f rfl
  · exact fun k f => w3_at c M4 f4 1 _ _ k f rfl
  · exact fun k f => w5_at c M5 f5 1 _ _ k f rfl
  · exact fun k f => w3_at c M3 f3 2 _ _ k f rfl
  · exact fun k f => w3_at c M4 f4 2 _ _ k f rfl
  · exact fun k f => w5_at c M5 f5 2 _ _ k f rfl
  · exact fun k f => w3_at c M3 f3 3 _ _ k f rfl
  · exact fun k f => w3_at c M4 f4 3 _ _ k f rfl
  · exact fun k f => w5_at c M5 f5 3 _ _ k f rfl

/-- The slot of a token's rank holds its group's output for it. -/
theorem comp_put (ho : ¬ flag c i s6 = 1#1) (d : Fin 1024) :
    X5 c (compacted c i M0 h0 M1 h1 M2 h2 M3 h3 M4 h4 M5 h5 M6 h6 M7 h7 M8 h8 f0 f1 f2 f3 f4 f5 f6 f7 f8 s0 s1 s2 s3 s4 s5 s6 ho).t5 (ix4 (gi i) s r d)
     = grp (fun k => X0 c s0 (ix2 (tk s x0) k)) (rd c M3 f3) (rd c M4 f4) (rd c M5 f5)
        (fun j => X2 c s2 (ix3 0 (tk s x0) (xe (gi i) j)) + X2 c s2 (ix3 1 (tk s x0) (xe (gi i) j)) + X2 c s2 (ix3 2 (tk s x0) (xe (gi i) j))) d := by
  rw [comp_t5_eq]
  refine Eq.trans ?_ (comp_pay c i M3 M4 M5 f3 f4 f5 s0 s2 s3 s r x0 hg hr hu d)
  clear hg hr hu
  have hs : s = 0 ∨ s = 1 ∨ s = 2 ∨ s = 3 := by fin_cases s <;> simp
  rcases hs with rfl | rfl | rfl | rfl
  · skip
    refine (View.read_writes_cons_unit_of_not_mem (Memref.whole cc0_scratch5).view _ _ _ _ (ix4 (gi i) 0 r d) (off6_eq i) 1 (Or.inl (by show 0 < 3; omega))).trans ?_
    refine (View.read_writes_cons_unit_of_not_mem (Memref.whole cc0_scratch5).view _ _ _ _ (ix4 (gi i) 0 r d) (off5_eq i) 1 (Or.inl (by show 0 < 2; omega))).trans ?_
    refine (View.read_writes_cons_unit_of_not_mem (Memref.whole cc0_scratch5).view _ _ _ _ (ix4 (gi i) 0 r d) (off4_eq i) 1 (Or.inl (by show 0 < 1; omega))).trans ?_
    refine (View.read_writes_cons_unit_of_mem (Memref.whole cc0_scratch5).view _ _ _ _ (ix4 (gi i) 0 r d) (ix4 0 0 r d) (off3_eq i) (by
      intro a; fin_cases a
      · exact (Nat.add_zero _).symm
      · rfl
      all_goals exact (Nat.zero_add _).symm)).trans ?_
    exact (slice0_at _ _ _ _ _ _ _ r d)
  · skip
    refine (View.read_writes_cons_unit_of_not_mem (Memref.whole cc0_scratch5).view _ _ _ _ (ix4 (gi i) 1 r d) (off6_eq i) 1 (Or.inl (by show 1 < 3; omega))).trans ?_
    refine (View.read_writes_cons_unit_of_not_mem (Memref.whole cc0_scratch5).view _ _ _ _ (ix4 (gi i) 1 r d) (off5_eq i) 1 (Or.inl (by show 1 < 2; omega))).trans ?_
    refine (View.read_writes_cons_unit_of_mem (Memref.whole cc0_scratch5).view _ _ _ _ (ix4 (gi i) 1 r d) (ix4 0 0 r d) (off4_eq i) (by
      intro a; fin_cases a
      · exact (Nat.add_zero _).symm
      · rfl
      all_goals exact (Nat.zero_add _).symm)).trans ?_
    exact (slice1_at _ _ _ _ _ _ _ r d)
  · skip
    refine (View.read_writes_cons_unit_of_not_mem (Memref.whole cc0_scratch5).view _ _ _ _ (ix4 (gi i) 2 r d) (off6_eq i) 1 (Or.inl (by show 2 < 3; omega))).trans ?_
    refine (View.read_writes_cons_unit_of_mem (Memref.whole cc0_scratch5).view _ _ _ _ (ix4 (gi i) 2 r d) (ix4 0 0 r d) (off5_eq i) (by
      intro a; fin_cases a
      · exact (Nat.add_zero _).symm
      · rfl
      all_goals exact (Nat.zero_add _).symm)).trans ?_
    exact (slice2_at _ _ _ _ _ _ _ r d)
  · skip
    refine (View.read_writes_cons_unit_of_mem (Memref.whole cc0_scratch5).view _ _ _ _ (ix4 (gi i) 3 r d) (ix4 0 0 r d) (off6_eq i) (by
      intro a; fin_cases a
      · exact (Nat.add_zero _).symm
      · rfl
      all_goals exact (Nat.zero_add _).symm)).trans ?_
    exact (slice3_at _ _ _ _ _ _ _ r d)
end one
end Cert.Proof.Val
end
-- ==== Proof.ValMid.lean ====
module

public import proofs.«01_k».proof.Proof.ValInit
public import proofs.«01_k».proof.Proof.ValComp2
public import proofs.«01_k».proof.Proof.ValDense

@[expose] public section

set_option maxRecDepth 16384

noncomputable section

/-! What holds of the scratch between the steps of one block, and that each step keeps it. -/

namespace Cert.Proof.Val

open Idealize.ShloMosaic Cert.KernelIdeal Cert.KernelIdeal.Gen Cert.Proof.Body Cert.Proof.Route Cert.Proof.Soft

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := Ideal) c M0) (f1 : Bf (F := Ideal) c M1) (f2 : Bf (F := Ideal) c M2) (f3 : Bf (F := Ideal) c M3) (f4 : Bf (F := Ideal) c M4)
  (f5 : Bf (F := Ideal) c M5) (f6 : Bf (F := Ideal) c M6) (f7 : Bf (F := Ideal) c M7) (f8 : Bf (F := Ideal) c M8)
  (s0 : Bf (F := Ideal) c (Memref.whole cc0_scratch0)) (s1 : Bf (F := Ideal) c (Memref.whole cc0_scratch1))
  (s2 : Bf (F := Ideal) c (Memref.whole cc0_scratch2)) (s3 : Bf (F := Ideal) c (Memref.whole cc0_scratch3))
  (s4 : Bf (F := Ideal) c (Memref.whole cc0_scratch4)) (s5 : Bf (F := Ideal) c (Memref.whole cc0_scratch5))
  (s6 : Bf (F := Ideal) c (Memref.whole cc0_scratch6))

variable (A : Ref.Args) (nn : Fin 1024 → Fin 32768)

/-- A column of the router's first half. -/
def loc (e : Fin 16) : Fin 128 := ⟨e.val, by omega⟩
/-- A column of the router's second half. -/
def hic (e : Fin 16) : Fin 128 := ⟨16 + e.val, by omega⟩
/-- Expert `j` of group `g`. -/
def exj (g j : Fin 4) : Fin 16 := ⟨4 * g.val + j.val, by omega⟩

/-- After the first segment and `k` groups of a block: the routing is in place, each token's accumulator and its row of
    the compacted buffer add up to its group's mixture once that group has been done, and its accumulator is zero
    before. -/
structure Mid (k : ℕ) : Prop where
  x0 : ∀ t d, X0 c s0 (ix2 t d) = A.a0 (ix2 (nn t) d)
  x1g : ∀ t g j, X1 c s1 (ix2 t (xe g j)) = gate (Ref.scr A (nn t)) (Ref.pr A (nn t)) g j
  x1i : ∀ t, X1 c s1 (ix2 t 16) = (((gN A nn t).val : ℝ) : EReal)
  x1r : ∀ s x, X1 c s1 (ix2 (tk s x) 17) = ((rkn (gN A nn) s x : ℝ) : EReal)
  x2g : ∀ t g j, X2 c s2 (ix3 0 t (xe g j)) + X2 c s2 (ix3 1 t (xe g j)) + X2 c s2 (ix3 2 t (xe g j)) = gate (Ref.scr A (nn t)) (Ref.pr A (nn t)) g j
  x3i : ∀ t, X3 c s3 (ix2 0 t) = (((gN A nn t).val : ℝ) : EReal)
  x3r : ∀ s x, X3 c s3 (ix2 1 (tk s x)) = ((rkn (gN A nn) s x : ℝ) : EReal)
  x6 : ∀ g, X6 c s6 (ix1 g) = 1#32 ∨ ((X6 c s6 (ix1 g) = 2147483648#32 ∨ X6 c s6 (ix1 g) = 0#32) ∧ ∀ s x, gN A nn (tk s x) = g → rkn (gN A nn) s x < 96)
  acc0 : ∀ t d, k ≤ (gN A nn t).val → X4 c s4 (ix2 t d) = 0
  accY : ∀ s x d, (gN A nn (tk s x)).val < k → X4 c s4 (ix2 (tk s x) d) + (if h : rkn (gN A nn) s x < 96 then X5 c s5 (ix4 (gN A nn (tk s x)) s ⟨rkn (gN A nn) s x, h⟩ d) else 0)
      = Ref.mix A (nn (tk s x)) (gN A nn (tk s x)) d

theorem tk_surj (t : Fin 1024) : ∃ s x, t = tk s x :=
  ⟨⟨t.val / 256, by omega⟩, ⟨t.val % 256, by omega⟩, Fin.ext (by show t.val = 256 * (t.val / 256) + t.val % 256; omega)⟩

theorem ov_spec (V : IVec S1x1024 32) (W : FVec Ideal S1x1024 .f32) (G : Fin 1024 → Fin 4) (hV : ∀ t, V (ix2 0 t) = BitVec.ofNat 32 (G t).val)
    (hW : ∀ s x, W (ix2 0 (tk s x)) = ((rkn G s x : ℝ) : EReal)) (g : Fin 4) :
    ovw V W (BitVec.ofNat 32 g.val) = 1#32 ∨ ((ovw V W (BitVec.ofNat 32 g.val) = 2147483648#32 ∨ ovw V W (BitVec.ofNat 32 g.val) = 0#32) ∧ ∀ s x, G (tk s x) = g → rkn G s x < 96) := by
  have hp : ∀ a b : BitVec 1, Scalar.select (IntOp.andi a b) 1#32 0#32 = 1#32 ∨ Scalar.select (IntOp.andi a b) 1#32 0#32 = 0#32 := by decide
  rcases fold_flag (fun x : Fin 1 × Fin 1024 => Scalar.select (IntOp.andi (IntOp.cmpi CmpIPredicate.eq (V (ix2 0 x.2)) (BitVec.ofNat 32 g.val))
            (BitVec.ofBool (decide (Ideal.ofBits FTy.f32 1119879168#32 ≤ W (ix2 0 x.2))))) 1#32 0#32) (fun x => hp _ _) Finset.univ with ⟨e, _⟩ | ⟨e, hx⟩
  · exact Or.inl e
  · refine Or.inr ⟨e, fun s x hg => ?_⟩
    by_contra hn
    have h := hx (0, tk s x) (Finset.mem_univ _)
    have h96 : Ideal.ofBits FTy.f32 1119879168#32 ≤ W (ix2 0 (tk s x)) := by
      rw [hW, n96_eq]
      exact EReal.coe_le_coe_iff.mpr (by exact_mod_cast not_lt.mp hn)
    simp only [hV, hg, IntOp.cmpi_eq_self, h96, decide_true] at h
    exact absurd h (by decide)

theorem readAt_unit' {sp : Space} {c : Dev nD} {s : Shape} {e : EltTy} (M : Memref sig .tc sp s e) (f : Bf (F := Ideal) c M) {off size : Fin s.rank → ℕ}
    (inb : ∀ a, off a + size a ≤ s.size a) (x : (Rect.unit off size inb).shape.Idx) (y : s.Idx) (h : ∀ a, (y a).val = off a + (x a).val) :
    M.view.readAt (Elt Ideal) (Rect.unit off size inb).toLoadRect f x = M.view.read (Elt Ideal) f y := by
  refine (View.readAt_apply (Val := Elt Ideal) (v := M.view) (Rect.unit off size inb).toLoadRect f x).trans ?_
  refine congrArg (M.view.read (Elt Ideal) f) ?_
  funext a
  apply Fin.ext
  show off a + 1 * (x a).val = (y a).val
  rw [h a, Nat.one_mul]

theorem grp_zero (x : Fin 1024 → EReal) (w3 w4 : Shape.Idx ⟨3, ![4, 1024, 256]⟩ → EReal) (w5 : Shape.Idx ⟨3, ![4, 256, 1024]⟩ → EReal) (gt : Fin 4 → EReal) (hz : ∀ j, gt j = 0) (d : Fin 1024) : grp x w3 w4 w5 gt d = 0 := by
  unfold grp
  rw [hz, hz, hz, hz]
  simp [mlp]

theorem off1_eq : k0_off1 i = ![(i 1).val] := by
  unfold k0_off1
  have : ∀ k : Fin 4, (Scalar.indexCast (BitVec.ofNat 32 k.val) : BitVec 32).toNat = k.val := by decide
  exact congrArg (fun n => ![n]) (this (i 1))

theorem flag_eq : flag c i s6 = Scalar.cmpi .ne (Scalar.extui (Scalar.cmpi .sgt (X6 c s6 (ix1 (gi i))) 0#32)) 0#32 := by
  unfold flag
  have h : View.readAt (Elt Ideal) (Memref.whole cc0_scratch6).view (Rect.unit (s := S4) (k0_off1 i) S1.size (k0_off1_inb i)).toLoadRect s6 (Shape.Idx.first (numel1_S1.symm ▸ Nat.one_pos)) = X6 c s6 (ix1 (gi i)) :=
    readAt_unit' (Memref.whole cc0_scratch6) s6 (k0_off1_inb i) (Shape.Idx.first (numel1_S1.symm ▸ Nat.one_pos)) (ix1 (gi i)) (by
      intro a; fin_cases a
      have h2 := congrFun (off1_eq i) 0
      show (i 1).val = k0_off1 i 0 + 0
      rw [h2]; rfl)
  rw [h]

theorem mlp_congr {x x' : Fin 1024 → EReal} {a a' b b' : Fin 1024 → Fin 256 → EReal} {w w' : Fin 256 → Fin 1024 → EReal} {g g' : EReal} (hx : ∀ k, x k = x' k)
    (ha : ∀ k f, a k f = a' k f) (hb : ∀ k f, b k f = b' k f) (hw : ∀ k f, w k f = w' k f) (hg : g = g') (d : Fin 1024) : mlp x a b w g d = mlp x' a' b' w' g' d := by
  rw [funext hx, funext fun k => funext (ha k), funext fun k => funext (hb k), funext fun k => funext (hw k), hg]

theorem pay4_eq : k0_pay4 (F := Ideal) i = ((((gi i).val : ℕ) : ℝ) : EReal) :=
  sitofp_nat (gi i).val (by have := (gi i).isLt; omega)

section step
variable (hA3 : ∀ (j : Fin 4) k f, rd c M3 f3 (ix3 j k f) = A.a3 (ix3 (exj (gi i) j) k f))
  (hA4 : ∀ (j : Fin 4) k f, rd c M4 f4 (ix3 j k f) = A.a4 (ix3 (exj (gi i) j) k f))
  (hA5 : ∀ (j : Fin 4) f k, rd c M5 f5 (ix3 j f k) = A.a5 (ix3 (exj (gi i) j) f k))
include hA3 hA4 hA5

theorem grp_mix (n : Fin 32768) (x : Fin 1024 → EReal) (gt : Fin 4 → EReal) (hx : ∀ k, x k = A.a0 (ix2 n k)) (hg : ∀ j, gt j = gate (Ref.scr A n) (Ref.pr A n) (gi i) j) (d : Fin 1024) :
    grp x (rd c M3 f3) (rd c M4 f4) (rd c M5 f5) gt d = Ref.mix A n (gi i) d := by
  unfold grp Ref.mix Ref.part
  exact congrArg₂ (· + ·) (congrArg₂ (· + ·) (congrArg₂ (· + ·)
    (mlp_congr hx (fun k f => hA3 0 k f) (fun k f => hA4 0 k f) (fun k f => hA5 0 k f) (hg 0) d)
    (mlp_congr hx (fun k f => hA3 1 k f) (fun k f => hA4 1 k f) (fun k f => hA5 1 k f) (hg 1) d))
    (mlp_congr hx (fun k f => hA3 2 k f) (fun k f => hA4 2 k f) (fun k f => hA5 2 k f) (hg 2) d))
    (mlp_congr hx (fun k f => hA3 3 k f) (fun k f => hA4 3 k f) (fun k f => hA5 3 k f) (hg 3) d)

theorem mid_dense (hM : Mid c s0 s1 s2 s3 s4 s5 s6 A nn (gi i).val) (ho : flag c i s6 = 1#1) :
    Mid c s0 s1 s2 s3 (dense c i M0 h0 M1 h1 M2 h2 M3 h3 M4 h4 M5 h5 M6 h6 M7 h7 M8 h8 f0 f1 f2 f3 f4 f5 f6 f7 f8 s0 s1 s2 s3 s4 s5 s6 ho).t4 (dense c i M0 h0 M1 h1 M2 h2 M3 h3 M4 h4 M5 h5 M6 h6 M7 h7 M8 h8 f0 f1 f2 f3 f4 f5 f6 f7 f8 s0 s1 s2 s3 s4 s5 s6 ho).t5 s6 A nn ((gi i).val + 1) where
  x0 := hM.x0
  x1g := hM.x1g
  x1i := hM.x1i
  x1r := hM.x1r
  x2g := hM.x2g
  x3i := hM.x3i
  x3r := hM.x3r
  x6 := hM.x6
  acc0 t d h := by
    refine (dense_acc c i M0 h0 M1 h1 M2 h2 M3 h3 M4 h4 M5 h5 M6 h6 M7 h7 M8 h8 f0 f1 f2 f3 f4 f5 f6 f7 f8 s0 s1 s2 s3 s4 s5 s6 ho t d).trans ?_
    have hz : ∀ j : Fin 4, X1 c s1 (ix2 t (xe (gi i) j)) = 0 := fun j => by
      rw [hM.x1g, gate_ne]
      intro e
      have : (gi i).val = (gN A nn t).val := congrArg Fin.val e
      omega
    rw [hM.acc0 t d (by omega), zero_add]
    exact grp_zero _ _ _ _ _ hz d
  accY s x d h := by
    rw [dense_acc c i M0 h0 M1 h1 M2 h2 M3 h3 M4 h4 M5 h5 M6 h6 M7 h7 M8 h8 f0 f1 f2 f3 f4 f5 f6 f7 f8 s0 s1 s2 s3 s4 s5 s6 ho (tk s x) d]
    simp only [dense_buf c i M0 h0 M1 h1 M2 h2 M3 h3 M4 h4 M5 h5 M6 h6 M7 h7 M8 h8 f0 f1 f2 f3 f4 f5 f6 f7 f8 s0 s1 s2 s3 s4 s5 s6 ho]
    by_cases hg : gN A nn (tk s x) = gi i
    · have hm := grp_mix c i M3 M4 M5 f3 f4 f5 A hA3 hA4 hA5 (nn (tk s x)) (fun k => X0 c s0 (ix2 (tk s x) k)) (fun j => X1 c s1 (ix2 (tk s x) (xe (gi i) j))) (fun k => hM.x0 _ k) (fun j => hM.x1g _ _ j) d
      rw [hM.acc0 _ d (by rw [hg]), zero_add, hg]
      refine (congrArg₂ (· + ·) hm (show _ = (0 : EReal) from ?_)).trans (add_zero _)
      simp
    · have hz : ∀ j : Fin 4, X1 c s1 (ix2 (tk s x) (xe (i 1) j)) = 0 := fun j => by
        rw [show (i 1 : Fin 4) = gi i from rfl, hM.x1g, gate_ne]
        exact fun e => hg e.symm
      have h2 : (gN A nn (tk s x)).val ≠ (gi i).val := fun e => hg (Fin.ext e)
      rw [← hM.accY s x d (by omega)]
      have h0 := grp_zero (fun k => X0 c s0 (ix2 (tk s x) k)) (rd c M3 f3) (rd c M4 f4) (rd c M5 f5) (fun j => X1 c s1 (ix2 (tk s x) (xe (gi i) j))) hz d
      simp only [if_neg hg]
      refine congrArg (· + _) ((congrArg (X4 c s4 (ix2 (tk s x) d) + ·) h0).trans (add_zero _))

theorem mid_comp' (hM : Mid c s0 s1 s2 s3 s4 s5 s6 A nn (gi i).val) (ho : ¬ flag c i s6 = 1#1) (T5 : Bf (F := Ideal) c (Memref.whole cc0_scratch5))
    (hk : ∀ g s r d, g ≠ gi i → X5 c T5 (ix4 g s r d) = X5 c s5 (ix4 g s r d))
    (hp : ∀ (s : Fin 4) (r : Fin 96) (x0 : Fin 256), X3 c s3 (ix2 0 (tk s x0)) = k0_pay4 (F := Ideal) i → X3 c s3 (ix2 1 (tk s x0)) = FloatOps.sitofp (F := Ideal) FTy.f32 (BitVec.ofNat 32 r.val) →
      (∀ x, X3 c s3 (ix2 0 (tk s x)) = k0_pay4 (F := Ideal) i → X3 c s3 (ix2 1 (tk s x)) = FloatOps.sitofp (F := Ideal) FTy.f32 (BitVec.ofNat 32 r.val) → x = x0) → ∀ d,
      X5 c T5 (ix4 (gi i) s r d) = grp (fun k => X0 c s0 (ix2 (tk s x0) k)) (rd c M3 f3) (rd c M4 f4) (rd c M5 f5)
        (fun j => X2 c s2 (ix3 0 (tk s x0) (xe (gi i) j)) + X2 c s2 (ix3 1 (tk s x0) (xe (gi i) j)) + X2 c s2 (ix3 2 (tk s x0) (xe (gi i) j))) d) :
    Mid c s0 s1 s2 s3 s4 T5 s6 A nn ((gi i).val + 1) where
  x0 := hM.x0
  x1g := hM.x1g
  x1i := hM.x1i
  x1r := hM.x1r
  x2g := hM.x2g
  x3i := hM.x3i
  x3r := hM.x3r
  x6 := hM.x6
  acc0 t d h := hM.acc0 t d (by omega)
  accY s x d h := by
    by_cases hg : gN A nn (tk s x) = gi i
    · have hr : rkn (gN A nn) s x < 96 := by
        rcases hM.x6 (gi i) with e | ⟨_, e⟩
        · refine absurd ?_ ho
          rw [flag_eq, e]; decide
        · exact e s x hg
      rw [dif_pos hr, hM.acc0 _ d (by rw [hg]), zero_add]
      simp only [hg]
      refine (hp s ⟨_, hr⟩ x ?_ ?_ ?_ d).trans ?_
      · rw [hM.x3i, hg, pay4_eq]
      · rw [hM.x3r]; exact (sitofp_nat _ (by show rkn (gN A nn) s x < _; omega)).symm
      · intro y hy1 hy2
        rw [hM.x3i, pay4_eq] at hy1
        rw [hM.x3r] at hy2
        have e2 := hy2.trans (sitofp_nat _ (by show rkn (gN A nn) s x < _; omega))
        have e1 : (gN A nn (tk s y)).val = (gi i).val := by exact_mod_cast EReal.coe_injective hy1
        have e3 : rkn (gN A nn) s y = rkn (gN A nn) s x := by exact_mod_cast EReal.coe_injective e2
        exact rkn_inj _ s y x ((Fin.ext e1).trans hg.symm) e3
      · exact grp_mix c i M3 M4 M5 f3 f4 f5 A hA3 hA4 hA5 (nn (tk s x)) (fun k => X0 c s0 (ix2 (tk s x) k)) (fun j => X2 c s2 (ix3 0 (tk s x) (xe (gi i) j)) + X2 c s2 (ix3 1 (tk s x) (xe (gi i) j)) + X2 c s2 (ix3 2 (tk s x) (xe (gi i) j))) (fun k => hM.x0 _ k) (fun j => hM.x2g _ _ j) d
    · have h2 : (gN A nn (tk s x)).val ≠ (gi i).val := fun e => hg (Fin.ext e)
      rw [← hM.accY s x d (by omega)]
      simp only [hk _ _ _ _ hg]

theorem mid_comp (hM : Mid c s0 s1 s2 s3 s4 s5 s6 A nn (gi i).val) (ho : ¬ flag c i s6 = 1#1) :
    Mid c s0 s1 s2 s3 s4 (compacted c i M0 h0 M1 h1 M2 h2 M3 h3 M4 h4 M5 h5 M6 h6 M7 h7 M8 h8 f0 f1 f2 f3 f4 f5 f6 f7 f8 s0 s1 s2 s3 s4 s5 s6 ho).t5 s6 A nn ((gi i).val + 1) :=
  mid_comp' c i M3 M4 M5 f3 f4 f5 s0 s1 s2 s3 s4 s5 s6 A nn hA3 hA4 hA5 hM ho _ (fun g s r d hg => comp_keep c i M0 h0 M1 h1 M2 h2 M3 h3 M4 h4 M5 h5 M6 h6 M7 h7 M8 h8 f0 f1 f2 f3 f4 f5 f6 f7 f8 s0 s1 s2 s3 s4 s5 s6 ho g s r d hg)
    (fun s r x0 hg hr hu d => @comp_put c i M0 h0 M1 h1 M2 h2 M3 h3 M4 h4 M5 h5 M6 h6 M7 h7 M8 h8 f0 f1 f2 f3 f4 f5 f6 f7 f8 s0 s1 s2 s3 s4 s5 s6 s r x0 hg hr hu ho d)
end step

section init
variable (hA0 : ∀ t k, rd c M0 f0 (ix2 t k) = A.a0 (ix2 (nn t) k)) (hA1 : ∀ k (e : Fin 16), rd c M1 f1 (ix2 k (loc e)) = A.a1 (ix2 k e))
  (hA1' : ∀ k (e : Fin 16), rd c M1 f1 (ix2 k (hic e)) = 0) (hA2 : ∀ e, rd c M2 f2 (ix2 e 0) = A.a2 (ix1 e))
  (hT : ∀ t, Ref.Tame1 A (nn t)) (hB : ∀ e, ⊥ < A.a2 (ix1 e))
include hA0 hA1 hA1' hA2 hT hB

theorem p60_gate (t : Fin 1024) (g j : Fin 4) : k0_pay60 (F := Ideal) (first.sl.v303 c M0 M1 M2 f0 f1 f2) (first.sl.v344 c M0 M1 M2 f0 f1 f2) (first.sl.v345 c M0 M1 M2 f0 f1 f2) (ix2 t (xe g j)) = gate (Ref.scr A (nn t)) (Ref.pr A (nn t)) g j :=
  (pay60_gate _ _ _ t ⟨4 * g.val + j.val, by omega⟩).trans (gate_eq c M0 M1 M2 f0 f1 f2 A nn hA0 hA1 hA1' hA2 hT hB t g j)

theorem gidf_val (t : Fin 1024) : first.sl.v345 c M0 M1 M2 f0 f1 f2 (ix2 0 t) = (((gN A nn t).val : ℝ) : EReal) :=
  (gidf_eq c M0 M1 M2 f0 f1 f2 A nn hA0 hA1 hA1' hA2 hT t).trans (sitofp_nat _ (by have := (gN A nn t).isLt; omega))

theorem mid_first (hg : isFirst i) : Mid c (first c i M0 h0 M1 h1 M2 h2 M3 h3 M4 h4 M5 h5 M6 h6 M7 h7 M8 h8 f0 f1 f2 f3 f4 f5 f6 f7 f8 s0 s1 s2 s3 s4 s5 s6 hg).t0 (first c i M0 h0 M1 h1 M2 h2 M3 h3 M4 h4 M5 h5 M6 h6 M7 h7 M8 h8 f0 f1 f2 f3 f4 f5 f6 f7 f8 s0 s1 s2 s3 s4 s5 s6 hg).t1 (first c i M0 h0 M1 h1 M2 h2 M3 h3 M4 h4 M5 h5 M6 h6 M7 h7 M8 h8 f0 f1 f2 f3 f4 f5 f6 f7 f8 s0 s1 s2 s3 s4 s5 s6 hg).t2 (first c i M0 h0 M1 h1 M2 h2 M3 h3 M4 h4 M5 h5 M6 h6 M7 h7 M8 h8 f0 f1 f2 f3 f4 f5 f6 f7 f8 s0 s1 s2 s3 s4 s5 s6 hg).t3 (first c i M0 h0 M1 h1 M2 h2 M3 h3 M4 h4 M5 h5 M6 h6 M7 h7 M8 h8 f0 f1 f2 f3 f4 f5 f6 f7 f8 s0 s1 s2 s3 s4 s5 s6 hg).t4 s5 (first c i M0 h0 M1 h1 M2 h2 M3 h3 M4 h4 M5 h5 M6 h6 M7 h7 M8 h8 f0 f1 f2 f3 f4 f5 f6 f7 f8 s0 s1 s2 s3 s4 s5 s6 hg).t6 A nn 0 where
  x0 t d := (t0_at c i M0 h0 M1 h1 M2 h2 M3 h3 M4 h4 M5 h5 M6 h6 M7 h7 M8 h8 f0 f1 f2 f3 f4 f5 f6 f7 f8 s0 s1 s2 s3 s4 s5 s6 hg t d).trans (hA0 t d)
  x1g t g j := (t1_at c i M0 h0 M1 h1 M2 h2 M3 h3 M4 h4 M5 h5 M6 h6 M7 h7 M8 h8 f0 f1 f2 f3 f4 f5 f6 f7 f8 s0 s1 s2 s3 s4 s5 s6 hg t _).trans (p60_gate c M0 M1 M2 f0 f1 f2 A nn hA0 hA1 hA1' hA2 hT hB t g j)
  x1i t := (t1_at c i M0 h0 M1 h1 M2 h2 M3 h3 M4 h4 M5 h5 M6 h6 M7 h7 M8 h8 f0 f1 f2 f3 f4 f5 f6 f7 f8 s0 s1 s2 s3 s4 s5 s6 hg t _).trans ((pay60_gid _ _ _ t).trans (gidf_val c M0 M1 M2 f0 f1 f2 A nn hA0 hA1 hA1' hA2 hT hB t))
  x1r s x := (t1_at c i M0 h0 M1 h1 M2 h2 M3 h3 M4 h4 M5 h5 M6 h6 M7 h7 M8 h8 f0 f1 f2 f3 f4 f5 f6 f7 f8 s0 s1 s2 s3 s4 s5 s6 hg _ _).trans ((pay60_rank _ _ _ _).trans (rank_eq c M0 M1 M2 f0 f1 f2 A nn hA0 hA1 hA1' hA2 hT s x))
  x2g t g j := by
    obtain ⟨r, _, hr⟩ := gate_nn (Ref.scr A (nn t)) (Ref.pr A (nn t)) (Ref.pr_po A (nn t) (hT t)) g j
    have hre : Re (gate (Ref.scr A (nn t)) (Ref.pr A (nn t)) g j) := ⟨r, hr⟩
    refine (congrArg₂ (· + ·) (congrArg₂ (· + ·) (t2_0 c i M0 h0 M1 h1 M2 h2 M3 h3 M4 h4 M5 h5 M6 h6 M7 h7 M8 h8 f0 f1 f2 f3 f4 f5 f6 f7 f8 s0 s1 s2 s3 s4 s5 s6 hg t _) (t2_1 c i M0 h0 M1 h1 M2 h2 M3 h3 M4 h4 M5 h5 M6 h6 M7 h7 M8 h8 f0 f1 f2 f3 f4 f5 f6 f7 f8 s0 s1 s2 s3 s4 s5 s6 hg t _)) (t2_2 c i M0 h0 M1 h1 M2 h2 M3 h3 M4 h4 M5 h5 M6 h6 M7 h7 M8 h8 f0 f1 f2 f3 f4 f5 f6 f7 f8 s0 s1 s2 s3 s4 s5 s6 hg t _)).trans ?_
    rw [p60_gate c M0 M1 M2 f0 f1 f2 A nn hA0 hA1 hA1' hA2 hT hB t g j, hre.sub_self]
    simp
  x3i t := (t3_0 c i M0 h0 M1 h1 M2 h2 M3 h3 M4 h4 M5 h5 M6 h6 M7 h7 M8 h8 f0 f1 f2 f3 f4 f5 f6 f7 f8 s0 s1 s2 s3 s4 s5 s6 hg t).trans (gidf_val c M0 M1 M2 f0 f1 f2 A nn hA0 hA1 hA1' hA2 hT hB t)
  x3r s x := (t3_1 c i M0 h0 M1 h1 M2 h2 M3 h3 M4 h4 M5 h5 M6 h6 M7 h7 M8 h8 f0 f1 f2 f3 f4 f5 f6 f7 f8 s0 s1 s2 s3 s4 s5 s6 hg _).trans (rank_eq c M0 M1 M2 f0 f1 f2 A nn hA0 hA1 hA1' hA2 hT s x)
  x6 g := by
    rw [t6_at c i M0 h0 M1 h1 M2 h2 M3 h3 M4 h4 M5 h5 M6 h6 M7 h7 M8 h8 f0 f1 f2 f3 f4 f5 f6 f7 f8 s0 s1 s2 s3 s4 s5 s6 hg g]
    exact ov_spec _ _ (gN A nn) (gid_eq c M0 M1 M2 f0 f1 f2 A nn hA0 hA1 hA1' hA2 hT) (rank_eq c M0 M1 M2 f0 f1 f2 A nn hA0 hA1 hA1' hA2 hT) g
  acc0 t d _ := t4_at c i M0 h0 M1 h1 M2 h2 M3 h3 M4 h4 M5 h5 M6 h6 M7 h7 M8 h8 f0 f1 f2 f3 f4 f5 f6 f7 f8 s0 s1 s2 s3 s4 s5 s6 hg t d
  accY s x d h := absurd h (by omega)
end init

section fin
variable (hA0 : ∀ t k, rd c M0 f0 (ix2 t k) = A.a0 (ix2 (nn t) k)) (hA6 : ∀ k, rd c M6 f6 (ix2 0 k) = A.a6 (ix1 k)) (hA7 : ∀ k, rd c M7 f7 (ix2 0 k) = A.a7 (ix1 k))
  (hT : ∀ t, Ref.Tame1 A (nn t))
include hA0 hA6 hA7 hT
theorem mid_last (hM : Mid c s0 s1 s2 s3 s4 s5 s6 A nn 4) (hg : k0_cond3 i = 1#1) (t d : Fin 1024) :
    rd c M8 (last c i M0 h0 M1 h1 M2 h2 M3 h3 M4 h4 M5 h5 M6 h6 M7 h7 M8 h8 f0 f1 f2 f3 f4 f5 f6 f7 f8 s0 s1 s2 s3 s4 s5 s6 hg).t8 (ix2 t d) = Ref.r_v68 A (ix2 (nn t) d) := by
  obtain ⟨s, x, rfl⟩ := tk_surj t
  refine (last_out c i M0 h0 M1 h1 M2 h2 M3 h3 M4 h4 M5 h5 M6 h6 M7 h7 M8 h8 f0 f1 f2 f3 f4 f5 f6 f7 f8 s0 s1 s2 s3 s4 s5 s6 hg s x d).trans ?_
  rw [Ref.v68 A _ (hT _)]
  refine lnk_congr _ _ (fun k => ?_) _ _ _ _ hA6 hA7 d
  unfold zrow Ref.pre
  rw [hA0, hM.x1i, hM.x1r]
  refine congrArg (Ideal.ofBits FTy.f32 1068827891#32 * A.a0 (ix2 (nn (tk s x)) k) + ·) ?_
  refine Eq.trans ?_ (hM.accY s x k (gN A nn (tk s x)).isLt)
  exact congrArg (X4 c s4 (ix2 (tk s x) k) + ·) (plc_eq (gN A nn (tk s x)) (rkn (gN A nn) s x) (fun g r => X5 c s5 (ix4 g s r k)))
end fin
end Cert.Proof.Val
end
-- ==== Proof.ValStep.lean ====
module

public import proofs.«01_k».proof.Proof.ValMid
public import proofs.«01_k».proof.Proof.Run

@[expose] public section

set_option maxRecDepth 16384

noncomputable section

/-! One grid step keeps what the scratch holds, and the last of a block writes the result. -/

namespace Cert.Proof.Val

open Idealize.ShloMosaic Cert.KernelIdeal Cert.KernelIdeal.Gen Cert.Proof.Body Cert.Proof.Route Cert.Proof.Soft Cert.Proof.Run

variable (c : Dev nD) (i : grid0.Coords)
  (M0 : Memref sig .tc .vmem S1024x1024 .f32) (h0 : M0.IsWhole) (M1 : Memref sig .tc .vmem S1024x128 .bf16) (h1 : M1.IsWhole)
  (M2 : Memref sig .tc .vmem S16x1 .f32) (h2 : M2.IsWhole) (M3 : Memref sig .tc .vmem S4x1024x256 .bf16) (h3 : M3.IsWhole)
  (M4 : Memref sig .tc .vmem S4x1024x256 .bf16) (h4 : M4.IsWhole) (M5 : Memref sig .tc .vmem S4x256x1024 .bf16) (h5 : M5.IsWhole)
  (M6 : Memref sig .tc .vmem S1x1024 .f32) (h6 : M6.IsWhole) (M7 : Memref sig .tc .vmem S1x1024 .f32) (h7 : M7.IsWhole)
  (M8 : Memref sig .tc .vmem S1024x1024 .f32) (h8 : M8.IsWhole)
  (f0 : Bf (F := Ideal) c M0) (f1 : Bf (F := Ideal) c M1) (f2 : Bf (F := Ideal) c M2) (f3 : Bf (F := Ideal) c M3) (f4 : Bf (F := Ideal) c M4)
  (f5 : Bf (F := Ideal) c M5) (f6 : Bf (F := Ideal) c M6) (f7 : Bf (F := Ideal) c M7) (f8 : Bf (F := Ideal) c M8)

variable (A : Ref.Args) (nn : Fin 1024 → Fin 32768) (s : Scr Ideal c)

/-- `Mid` of the scratch as one record. -/
abbrev MidS (k : ℕ) : Prop := Mid c s.s0 s.s1 s.s2 s.s3 s.s4 s.s5 s.s6 A nn k

theorem isFirst_iff : isFirst i ↔ gi i = 0 :=
  (by decide : ∀ k : Fin 4, Scalar.cmpi .ne (Scalar.extui (Scalar.cmpi .eq (BitVec.ofNat 32 k.val) 0#32) : BitVec 32) 0#32 = 1#1 ↔ k = 0) (gi i)
theorem cond3_iff : k0_cond3 i = 1#1 ↔ gi i = 3 :=
  (by decide : ∀ k : Fin 4, Scalar.cmpi .ne (Scalar.extui (Scalar.cmpi .eq (BitVec.ofNat 32 k.val) 3#32) : BitVec 32) 0#32 = 1#1 ↔ k = 3) (gi i)

variable
  (hA0 : ∀ t k, rd c M0 f0 (ix2 t k) = A.a0 (ix2 (nn t) k)) (hA1 : ∀ k (e : Fin 16), rd c M1 f1 (ix2 k (loc e)) = A.a1 (ix2 k e))
  (hA1' : ∀ k (e : Fin 16), rd c M1 f1 (ix2 k (hic e)) = 0) (hA2 : ∀ e, rd c M2 f2 (ix2 e 0) = A.a2 (ix1 e))
  (hA3 : ∀ (j : Fin 4) k f, rd c M3 f3 (ix3 j k f) = A.a3 (ix3 (exj (gi i) j) k f))
  (hA4 : ∀ (j : Fin 4) k f, rd c M4 f4 (ix3 j k f) = A.a4 (ix3 (exj (gi i) j) k f))
  (hA5 : ∀ (j : Fin 4) f k, rd c M5 f5 (ix3 j f k) = A.a5 (ix3 (exj (gi i) j) f k))
  (hA6 : ∀ k, rd c M6 f6 (ix2 0 k) = A.a6 (ix1 k)) (hA7 : ∀ k, rd c M7 f7 (ix2 0 k) = A.a7 (ix1 k))
  (hT : ∀ t, Ref.Tame1 A (nn t)) (hB : ∀ e, ⊥ < A.a2 (ix1 e)) (hM : gi i ≠ 0 → MidS c A nn s (gi i).val)

include hA0 hA1 hA1' hA2 hT hB hM in
theorem mid_after1 : MidS c A nn (after1 c i M0 h0 M1 h1 M2 h2 M3 h3 M4 h4 M5 h5 M6 h6 M7 h7 M8 h8 f0 f1 f2 f3 f4 f5 f6 f7 f8 s) (gi i).val := by
  by_cases hg : isFirst i
  · have := mid_first c i M0 h0 M1 h1 M2 h2 M3 h3 M4 h4 M5 h5 M6 h6 M7 h7 M8 h8 f0 f1 f2 f3 f4 f5 f6 f7 f8 s.s0 s.s1 s.s2 s.s3 s.s4 s.s5 s.s6 A nn hA0 hA1 hA1' hA2 hT hB hg
    have e : (gi i).val = 0 := congrArg Fin.val ((isFirst_iff i).mp hg)
    rw [e]
    unfold after1
    rw [dif_pos hg]
    generalize first c i M0 h0 M1 h1 M2 h2 M3 h3 M4 h4 M5 h5 M6 h6 M7 h7 M8 h8 f0 f1 f2 f3 f4 f5 f6 f7 f8 s.s0 s.s1 s.s2 s.s3 s.s4 s.s5 s.s6 hg = r at this ⊢
    exact this
  · unfold after1
    rw [dif_neg hg]
    exact hM fun e => hg ((isFirst_iff i).mpr e)

include hA3 hA4 hA5 in
theorem mid_after2 (hM : MidS c A nn s (gi i).val) : MidS c A nn (after2 c i M0 h0 M1 h1 M2 h2 M3 h3 M4 h4 M5 h5 M6 h6 M7 h7 M8 h8 f0 f1 f2 f3 f4 f5 f6 f7 f8 s) ((gi i).val + 1) := by
  by_cases ho : flag c i s.s6 = 1#1
  · have := mid_dense c i M0 h0 M1 h1 M2 h2 M3 h3 M4 h4 M5 h5 M6 h6 M7 h7 M8 h8 f0 f1 f2 f3 f4 f5 f6 f7 f8 s.s0 s.s1 s.s2 s.s3 s.s4 s.s5 s.s6 A nn hA3 hA4 hA5 hM ho
    unfold after2
    rw [dif_pos ho]
    generalize dense c i M0 h0 M1 h1 M2 h2 M3 h3 M4 h4 M5 h5 M6 h6 M7 h7 M8 h8 f0 f1 f2 f3 f4 f5 f6 f7 f8 s.s0 s.s1 s.s2 s.s3 s.s4 s.s5 s.s6 ho = r at this ⊢
    exact this
  · have := mid_comp c i M0 h0 M1 h1 M2 h2 M3 h3 M4 h4 M5 h5 M6 h6 M7 h7 M8 h8 f0 f1 f2 f3 f4 f5 f6 f7 f8 s.s0 s.s1 s.s2 s.s3 s.s4 s.s5 s.s6 A nn hA3 hA4 hA5 hM ho
    unfold after2
    rw [dif_neg ho]
    generalize compacted c i M0 h0 M1 h1 M2 h2 M3 h3 M4 h4 M5 h5 M6 h6 M7 h7 M8 h8 f0 f1 f2 f3 f4 f5 f6 f7 f8 s.s0 s.s1 s.s2 s.s3 s.s4 s.s5 s.s6 ho = r at this ⊢
    exact this

include hA0 hA1 hA1' hA2 hA3 hA4 hA5 hT hB hM in
theorem mid_next : MidS c A nn (next c i M0 h0 M1 h1 M2 h2 M3 h3 M4 h4 M5 h5 M6 h6 M7 h7 M8 h8 f0 f1 f2 f3 f4 f5 f6 f7 f8 s) ((gi i).val + 1) := by
  unfold next
  exact mid_after2 c i M0 h0 M1 h1 M2 h2 M3 h3 M4 h4 M5 h5 M6 h6 M7 h7 M8 h8 f0 f1 f2 f3 f4 f5 f6 f7 f8 A nn _ hA3 hA4 hA5 (mid_after1 c i M0 h0 M1 h1 M2 h2 M3 h3 M4 h4 M5 h5 M6 h6 M7 h7 M8 h8 f0 f1 f2 f3 f4 f5 f6 f7 f8 A nn s hA0 hA1 hA1' hA2 hT hB hM)

include hA0 hA1 hA1' hA2 hA3 hA4 hA5 hA6 hA7 hT hB hM in
theorem out_step (h3' : gi i = 3) (t d : Fin 1024) : rd c M8 (outv c i M0 h0 M1 h1 M2 h2 M3 h3 M4 h4 M5 h5 M6 h6 M7 h7 M8 h8 f0 f1 f2 f3 f4 f5 f6 f7 f8 s) (ix2 t d) = Ref.r_v68 A (ix2 (nn t) d) := by
  have hN := mid_next c i M0 h0 M1 h1 M2 h2 M3 h3 M4 h4 M5 h5 M6 h6 M7 h7 M8 h8 f0 f1 f2 f3 f4 f5 f6 f7 f8 A nn s hA0 hA1 hA1' hA2 hA3 hA4 hA5 hT hB hM
  unfold outv after3
  have hc := (cond3_iff i).mpr h3'
  rw [dif_pos hc]
  rw [h3'] at hN
  generalize next c i M0 h0 M1 h1 M2 h2 M3 h3 M4 h4 M5 h5 M6 h6 M7 h7 M8 h8 f0 f1 f2 f3 f4 f5 f6 f7 f8 s = s' at hN ⊢
  exact mid_last c i M0 h0 M1 h1 M2 h2 M3 h3 M4 h4 M5 h5 M6 h6 M7 h7 M8 h8 f0 f1 f2 f3 f4 f5 f6 f7 f8 s'.s0 s'.s1 s'.s2 s'.s3 s'.s4 s'.s5 s'.s6 A nn hA0 hA6 hA7 hT hN hc t d

end Cert.Proof.Val
end
-- ==== Proof.Host.lean ====
module

public import proofs.«01_k».proof.Proof.ValRef
public import proofs.«01_k».proof.Proof.Gen.KernelIdeal.Frame
public import Idealize.ShloMosaic.Lib.Pointwise

@[expose] public section

set_option maxRecDepth 16384

noncomputable section

/-! What the call's windows hold at each grid point, in terms of the arguments. -/

namespace Cert.Proof.Host

open Idealize.ShloMosaic Idealize.ShloMosaic.TcCoe Idealize.ShloMosaic.Tactic Cert.KernelIdeal Cert.KernelIdeal.Gen Cert.Proof.Soft

variable (m : (ℓ : Loc nD τ sig) → Buf (Elt Ideal) ℓ) (c : Dev nD)

/-- The arguments, as the reference has them. -/
def args : Ref.Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)

/-- The router's weights in two halves and a zero pad. -/
def cat (a : FVec Ideal S1024x16 .f32) : FVec Ideal S1024x128 .bf16 :=
  concatenate S1024x128 1 [⟨S1024x16, (truncf .bf16 a bitsLt_bf16_f32 : FVec Ideal S1024x16 .bf16)⟩,
    ⟨S1024x16, (truncf .bf16 (subf a (extf .f32 (truncf .bf16 a bitsLt_bf16_f32 : FVec Ideal S1024x16 .bf16) bitsLt_bf16_f32)) bitsLt_bf16_f32 : FVec Ideal S1024x16 .bf16)⟩,
    ⟨S1024x96, (broadcastInDim S1024x96 ![] bcast_S_S1024x96 (constant S_ .bf16 0x0000#16) : FVec Ideal S1024x96 .bf16)⟩] concatenates_S1024x16_S1024x16_S1024x96_S1024x128_d1

theorem V5 : V m c main_v5 = cat (args m c).a1 := by
  show StableHlo.after hostOps0 _ (Proc.devRef .tc main_v5) = _
  after_results
  rfl
theorem V6 : V m c main_v6 = shapeCast S16x1 (args m c).a2 shapeCasts_S16_S16x1 := by
  show StableHlo.after hostOps0 _ (Proc.devRef .tc main_v6) = _
  after_results
  rfl
theorem V7 : V m c main_v7 = (args m c).a3 := by
  show StableHlo.after hostOps0 _ (Proc.devRef .tc main_v7) = _
  after_results
  rfl
theorem V8 : V m c main_v8 = (args m c).a4 := by
  show StableHlo.after hostOps0 _ (Proc.devRef .tc main_v8) = _
  after_results
  rfl
theorem V9 : V m c main_v9 = (args m c).a5 := by
  show StableHlo.after hostOps0 _ (Proc.devRef .tc main_v9) = _
  after_results
  rfl
theorem V10 : V m c main_v10 = shapeCast S1x1024 (args m c).a6 shapeCasts_S1024_S1x1024 := by
  show StableHlo.after hostOps0 _ (Proc.devRef .tc main_v10) = _
  after_results
  rfl
theorem V11 : V m c main_v11 = shapeCast S1x1024 (args m c).a7 shapeCasts_S1024_S1x1024 := by
  show StableHlo.after hostOps0 _ (Proc.devRef .tc main_v11) = _
  after_results
  rfl

theorem cat_hi (a : FVec Ideal S1024x16 .f32) (k : Fin 1024) (e : Fin 16) : cat a (ix2 k ⟨e.val, by omega⟩) = a (ix2 k e) := by
  have : ∀ x : Fin 128, x.val = e.val → cat a (ix2 k x) = a (ix2 k e) := by
    intro x hx
    pointwise [cat]
    rw [dif_pos (show x.val < 16 by omega)]
    exact congrArg (fun z => a (ix2 k z)) (Fin.ext hx)
  exact this _ rfl
theorem cat_lo (a : FVec Ideal S1024x16 .f32) (k : Fin 1024) (e : Fin 16) (h : Re (a (ix2 k e))) : cat a (ix2 k ⟨16 + e.val, by omega⟩) = 0 := by
  have : ∀ x : Fin 128, x.val = 16 + e.val → cat a (ix2 k x) = a (ix2 k e) - a (ix2 k e) := by
    intro x hx
    pointwise [cat]
    rw [dif_neg (show ¬ x.val < 16 by omega), dif_pos (show x.val - 16 < 16 by omega)]
    exact congrArg (fun z => a (ix2 k z) - a (ix2 k z)) (Fin.ext (by show x.val - 16 = e.val; omega))
  exact (this _ rfl).trans h.sub_self
theorem cast_col (a : FVec Ideal S16 .f32) (e : Fin 16) : shapeCast S16x1 a shapeCasts_S16_S16x1 (ix2 e 0) = a (ix1 e) := by
  pointwise []
theorem cast_row (a : FVec Ideal S1024 .f32) (k : Fin 1024) : shapeCast S1x1024 a shapeCasts_S1024_S1x1024 (ix2 0 k) = a (ix1 k) := by
  pointwise []

theorem coords_at : ∀ t : Fin grid0.N, (grid0.coords t 0).val = t.val / 4 ∧ (grid0.coords t 1).val = t.val % 4 := by decide +kernel

/-- The row of the stream at place `t` of block `b`. -/
def row (b : ℕ) (t : Fin 1024) : Fin 32768 := ⟨(1024 * b + t.val) % 32768, Nat.mod_lt _ (by norm_num)⟩

theorem idx0_at : ∀ t : Fin grid0.N, cc0_transform_0 (grid0.coords t) = ![t.val / 4, 0] := by decide +kernel
theorem idx3_at : ∀ t : Fin grid0.N, cc0_transform_3 (grid0.coords t) = ![t.val % 4, 0, 0] := by decide +kernel
theorem idx8_at : ∀ t : Fin grid0.N, cc0_transform_8 (grid0.coords t) = ![t.val / 4, 0] := by decide +kernel

theorem row_val (t : Fin grid0.N) (y : Fin 1024) : (row (t.val / 4) y).val = t.val / 4 * 1024 + 1 * y.val := by
  have : t.val < 128 := t.isLt
  show (1024 * (t.val / 4) + y.val) % 32768 = _
  omega

theorem emb0 (t : Fin cfg0.N) (y k : Fin 1024) : ((cfg0.win 0).blk t).view.emb (ix2 y k) = (ix2 (row (t.val / 4) y) k : S32768x1024.Idx) :=
  funext fun (a : Fin 2) => Fin.ext (by
    match a with
    | ⟨0, _⟩ =>
      show cc0_transform_0 (grid0.coords t) (0 : Fin 2) * 1024 + 1 * y.val = (row (t.val / 4) y).val
      rw [idx0_at, row_val]; rfl
    | ⟨1, _⟩ =>
      show cc0_transform_0 (grid0.coords t) (1 : Fin 2) * 1024 + 1 * k.val = k.val
      rw [idx0_at]; show 0 * 1024 + 1 * k.val = _; omega)
theorem emb8 (t : Fin cfg0.N) (y k : Fin 1024) : ((cfg0.win 8).blk t).view.emb (ix2 y k) = (ix2 (row (t.val / 4) y) k : S32768x1024.Idx) :=
  funext fun (a : Fin 2) => Fin.ext (by
    match a with
    | ⟨0, _⟩ =>
      show cc0_transform_8 (grid0.coords t) (0 : Fin 2) * 1024 + 1 * y.val = (row (t.val / 4) y).val
      rw [idx8_at, row_val]; rfl
    | ⟨1, _⟩ =>
      show cc0_transform_8 (grid0.coords t) (1 : Fin 2) * 1024 + 1 * k.val = k.val
      rw [idx8_at]; show 0 * 1024 + 1 * k.val = _; omega)
theorem emb3 (t : Fin cfg0.N) (j : Fin 4) (k : Fin 1024) (f : Fin 256) :
    ((cfg0.win 3).blk t).view.emb (ix3 j k f) = (ix3 ⟨4 * (t.val % 4) + j.val, by omega⟩ k f : S16x1024x256.Idx) :=
  funext fun (a : Fin 3) => Fin.ext (by
    match a with
    | ⟨0, _⟩ =>
      show cc0_transform_3 (grid0.coords t) (0 : Fin 3) * 4 + 1 * j.val = 4 * (t.val % 4) + j.val
      rw [idx3_at]; show t.val % 4 * 4 + 1 * j.val = _; omega
    | ⟨1, _⟩ =>
      show cc0_transform_3 (grid0.coords t) (1 : Fin 3) * 1024 + 1 * k.val = k.val
      rw [idx3_at]; show 0 * 1024 + 1 * k.val = _; omega
    | ⟨2, _⟩ =>
      show cc0_transform_3 (grid0.coords t) (2 : Fin 3) * 256 + 1 * f.val = f.val
      rw [idx3_at]; show 0 * 256 + 1 * f.val = _; omega)
theorem emb4 (t : Fin cfg0.N) (j : Fin 4) (k : Fin 1024) (f : Fin 256) :
    ((cfg0.win 4).blk t).view.emb (ix3 j k f) = (ix3 ⟨4 * (t.val % 4) + j.val, by omega⟩ k f : S16x1024x256.Idx) :=
  emb3 t j k f
theorem emb5 (t : Fin cfg0.N) (j : Fin 4) (f : Fin 256) (k : Fin 1024) :
    ((cfg0.win 5).blk t).view.emb (ix3 j f k) = (ix3 ⟨4 * (t.val % 4) + j.val, by omega⟩ f k : S16x256x1024.Idx) :=
  funext fun (a : Fin 3) => Fin.ext (by
    match a with
    | ⟨0, _⟩ =>
      show cc0_transform_3 (grid0.coords t) (0 : Fin 3) * 4 + 1 * j.val = 4 * (t.val % 4) + j.val
      rw [idx3_at]; show t.val % 4 * 4 + 1 * j.val = _; omega
    | ⟨1, _⟩ =>
      show cc0_transform_3 (grid0.coords t) (1 : Fin 3) * 256 + 1 * f.val = f.val
      rw [idx3_at]; show 0 * 256 + 1 * f.val = _; omega
    | ⟨2, _⟩ =>
      show cc0_transform_3 (grid0.coords t) (2 : Fin 3) * 1024 + 1 * k.val = k.val
      rw [idx3_at]; show 0 * 1024 + 1 * k.val = _; omega)
theorem emb1 (t : Fin cfg0.N) (k : Fin 1024) (x : Fin 128) : ((cfg0.win 1).blk t).view.emb (ix2 k x) = (ix2 k x : S1024x128.Idx) :=
  funext fun (a : Fin 2) => Fin.ext (by
    match a with
    | ⟨0, _⟩ => show 0 * 1024 + 1 * k.val = k.val; omega
    | ⟨1, _⟩ => show 0 * 128 + 1 * x.val = x.val; omega)
theorem emb2 (t : Fin cfg0.N) (k : Fin 16) (x : Fin 1) : ((cfg0.win 2).blk t).view.emb (ix2 k x) = (ix2 k x : S16x1.Idx) :=
  funext fun (a : Fin 2) => Fin.ext (by
    match a with
    | ⟨0, _⟩ => show 0 * 16 + 1 * k.val = k.val; omega
    | ⟨1, _⟩ => show 0 * 1 + 1 * x.val = x.val; omega)
theorem emb6 (t : Fin cfg0.N) (k : Fin 1) (x : Fin 1024) : ((cfg0.win 6).blk t).view.emb (ix2 k x) = (ix2 k x : S1x1024.Idx) :=
  funext fun (a : Fin 2) => Fin.ext (by
    match a with
    | ⟨0, _⟩ => show 0 * 1 + 1 * k.val = k.val; omega
    | ⟨1, _⟩ => show 0 * 1024 + 1 * x.val = x.val; omega)
theorem emb7 (t : Fin cfg0.N) (k : Fin 1) (x : Fin 1024) : ((cfg0.win 7).blk t).view.emb (ix2 k x) = (ix2 k x : S1x1024.Idx) := emb6 t k x

theorem blk0 (t : Fin cfg0.N) (y k : Fin 1024) : iblk m c 0 t (ix2 y k) = (args m c).a0 (ix2 (row (t.val / 4) y) k) := by
  show V m c main_arg0 (((cfg0.win 0).blk t).view.emb (ix2 y k)) = _
  rw [emb0, V_main_arg0]; rfl
theorem blk1 (t : Fin cfg0.N) (k : Fin 1024) (e : Fin 16) : iblk m c 1 t (ix2 k ⟨e.val, by omega⟩) = (args m c).a1 (ix2 k e) := by
  show V m c main_v5 (((cfg0.win 1).blk t).view.emb (ix2 k ⟨e.val, _⟩)) = _
  rw [emb1, V5]; exact cat_hi _ _ _
theorem blk1' (t : Fin cfg0.N) (k : Fin 1024) (e : Fin 16) (h : Re ((args m c).a1 (ix2 k e))) : iblk m c 1 t (ix2 k ⟨16 + e.val, by omega⟩) = (0 : EReal) := by
  show V m c main_v5 (((cfg0.win 1).blk t).view.emb (ix2 k ⟨16 + e.val, _⟩)) = _
  rw [emb1, V5]; exact cat_lo _ _ _ h
theorem blk2 (t : Fin cfg0.N) (e : Fin 16) : iblk m c 2 t (ix2 e 0) = (args m c).a2 (ix1 e) := by
  show V m c main_v6 (((cfg0.win 2).blk t).view.emb (ix2 e 0)) = _
  rw [emb2, V6]; exact cast_col _ _
theorem blk3 (t : Fin cfg0.N) (j : Fin 4) (k : Fin 1024) (f : Fin 256) : iblk m c 3 t (ix3 j k f) = (args m c).a3 (ix3 ⟨4 * (t.val % 4) + j.val, by omega⟩ k f) := by
  show V m c main_v7 (((cfg0.win 3).blk t).view.emb (ix3 j k f)) = _
  rw [emb3, V7]
theorem blk4 (t : Fin cfg0.N) (j : Fin 4) (k : Fin 1024) (f : Fin 256) : iblk m c 4 t (ix3 j k f) = (args m c).a4 (ix3 ⟨4 * (t.val % 4) + j.val, by omega⟩ k f) := by
  show V m c main_v8 (((cfg0.win 4).blk t).view.emb (ix3 j k f)) = _
  rw [emb4, V8]
theorem blk5 (t : Fin cfg0.N) (j : Fin 4) (f : Fin 256) (k : Fin 1024) : iblk m c 5 t (ix3 j f k) = (args m c).a5 (ix3 ⟨4 * (t.val % 4) + j.val, by omega⟩ f k) := by
  show V m c main_v9 (((cfg0.win 5).blk t).view.emb (ix3 j f k)) = _
  rw [emb5, V9]
theorem blk6 (t : Fin cfg0.N) (k : Fin 1024) : iblk m c 6 t (ix2 0 k) = (args m c).a6 (ix1 k) := by
  show V m c main_v10 (((cfg0.win 6).blk t).view.emb (ix2 0 k)) = _
  rw [emb6, V10]; exact cast_row _ _
theorem blk7 (t : Fin cfg0.N) (k : Fin 1024) : iblk m c 7 t (ix2 0 k) = (args m c).a7 (ix1 k) := by
  show V m c main_v11 (((cfg0.win 7).blk t).view.emb (ix2 0 k)) = _
  rw [emb7, V11]; exact cast_row _ _

end Cert.Proof.Host
end
-- ==== Proof.Tame.lean ====
module

public import proofs.«01_k».proof.Defs
public import proofs.«01_k».proof.Proof.ValRef
public import Idealize.ShloMosaic.Lib.ReduceAll
public import Idealize.ShloMosaic.Lib.Affine

@[expose] public section

set_option maxRecDepth 16384

noncomputable section

/-! The precondition, read: the stream and the router's weights are real numbers, and no bias is minus infinity. -/

namespace Cert.Proof.Tame

open Idealize.ShloMosaic Cert.Proof.Soft Cert.Pre_tame

theorem facts : Cert.Pre_tame.Facts where
  bcast_S_S32768x1024 := by decide
  reducesTo_S32768x1024_S_d0_1 := by decide
  h_S_ := by decide
  bcast_S_S1024x16 := by decide
  reducesTo_S1024x16_S_d0_1 := by decide
  bcast_S_S16 := by decide
  reducesTo_S16_S_d0 := by decide

theorem top_eq : Ideal.ofBits .f32 0x7F800000#32 = ⊤ := by simp [Ideal.ofBits, Ideal.ieee]
theorem bot_eq : Ideal.ofBits .f32 0xFF800000#32 = ⊥ := by simp [Ideal.ofBits, Ideal.ieee]

theorem re_of (x : EReal) (h : Ideal.cmp .olt (max x (-x)) (Ideal.ofBits .f32 0x7F800000#32) = 1#1) : Re x := by
  rw [top_eq] at h
  have hx : max x (-x) < ⊤ := by
    unfold Ideal.cmp at h
    by_contra hn
    simp [hn] at h
  have h1 := (max_lt_iff.mp hx).1
  have h2 := (max_lt_iff.mp hx).2
  induction x with
  | bot => simp at h2
  | top => simp at h1
  | coe r => exact ⟨r, rfl⟩

theorem bot_of (x : EReal) (h : Ideal.cmp .ogt x (Ideal.ofBits .f32 0xFF800000#32) = 1#1) : ⊥ < x := by
  rw [bot_eq] at h
  unfold Ideal.cmp at h
  by_contra hn
  simp [hn] at h

instance : Subsingleton S_.Idx := ⟨fun a b => funext fun i => Fin.elim0 i⟩

theorem spec [Cert.Pre_tame.Facts] (a0 : FVec Ideal S32768x1024 .f32) (a1 : FVec Ideal S1024x16 .f32) (a2 : FVec Ideal S16 .f32) (a3 a4 : FVec Ideal S16x1024x256 .f32) (a5 : FVec Ideal S16x256x1024 .f32)
    (a6 a7 : FVec Ideal S1024 .f32) (h : Cert.Pre_tame.fn (F := Ideal) a0 a1 a2 a3 a4 a5 a6 a7 = fun _ => 1#1) :
    (∀ x, Re (a0 x)) ∧ (∀ x, Re (a1 x)) ∧ ∀ x, ⊥ < a2 x := by
  have hi := congrFun h (fun a => Fin.elim0 a)
  unfold Cert.Pre_tame.fn at hi
  obtain ⟨h01, h2⟩ := IntOp.andi_eq_one.1 hi
  obtain ⟨h0, h1⟩ := IntOp.andi_eq_one.1 h01
  exact ⟨fun x => re_of _ (Host.reduce_andi_all _ _ _ _ _ h0 x), fun x => re_of _ (Host.reduce_andi_all _ _ _ _ _ h1 x), fun x => bot_of _ (Host.reduce_andi_all _ _ _ _ _ h2 x)⟩

end Cert.Proof.Tame
end
-- ==== Proof.Value.lean ====
module

public import proofs.«01_k».proof.Proof.ValStep
public import proofs.«01_k».proof.Proof.Host
public import proofs.«01_k».proof.Proof.Tame
public import proofs.«01_k».proof.Proof.Launch
public import Idealize.ShloMosaic.Lib.Pipeline.DatRel
public import Idealize.ShloMosaic.Lib.Pipeline.ArrRel
public import Idealize.ShloMosaic.Lib.Pipeline.ValueKit

@[expose] public section

set_option maxRecDepth 16384

noncomputable section

/-! The kernel's result array is the reference's. -/

namespace Cert.Proof.Value

open Idealize.ShloMosaic Idealize.ShloMosaic.TcCoe Cert.KernelIdeal Cert.KernelIdeal.Gen Cert.Proof.Body Cert.Proof.Run Cert.Proof.Launch Cert.Proof.Soft Cert.Proof.Val
open Idealize.SL.Sem
open Idealize.ShloMosaic.Pipeline (Dat RDat Cfg Window)

variable (m : (ℓ : Loc nD τ sig) → Buf (Elt Ideal) ℓ) (ρ : Dev nD → PrngReg)

/-- The scratch before grid step `n`: anything at a block's start. -/
def P (c : Dev nD) (n : ℕ) (s : Scr Ideal c) : Prop :=
  n % 4 ≠ 0 → MidS c (Host.args m c) (Host.row (n / 4)) s (n % 4)

/-- The block written at the last step of a block of tokens. -/
def R (c : Dev nD) (t : Fin cfg0.N) (X : S1024x1024.Idx → Elt Ideal .f32) : Prop :=
  t.val % 4 = 3 → ∀ y d : Fin 1024, X (ix2 y d) = Ref.r_v68 (Host.args m c) (ix2 (Host.row (t.val / 4) y) d)

/-- What the precondition gives. -/
def Ok : Prop := ∀ c : Dev nD, (∀ x, Re ((Host.args m c).a0 x)) ∧ (∀ x, Re ((Host.args m c).a1 x)) ∧ ∀ x, ⊥ < (Host.args m c).a2 x

theorem gi_at (t : Fin grid0.N) : (gi (grid0.coords t)).val = t.val % 4 := (Host.coords_at t).2

theorem exj_eq (t : Fin grid0.N) (j : Fin 4) (h : 4 * (t.val % 4) + j.val < 16) : (⟨4 * (t.val % 4) + j.val, h⟩ : Fin 16) = exj (gi (grid0.coords t)) j :=
  Fin.ext (by show 4 * (t.val % 4) + j.val = 4 * (gi (grid0.coords t)).val + j.val; rw [gi_at])

theorem steps (h : Ok m) : Steps m (P m) (R m) := by
  intro c t f0 f1 f2 f3 f4 f5 f6 f7 f8 s e0 e1 e2 e3 e4 e5 e6 e7 hP
  obtain ⟨hr0, hr1, hr2⟩ := h c
  have hg := gi_at t
  have hA0 : ∀ y k, rd c (win0_0.stage (cfg0.slots t 0)) f0 (ix2 y k) = (Host.args m c).a0 (ix2 (Host.row (t.val / 4) y) k) := fun y k => (congrFun e0 _).trans (Host.blk0 m c t y k)
  have hA1 : ∀ k (e : Fin 16), rd c (win0_1.stage (cfg0.slots t 1)) f1 (ix2 k (loc e)) = (Host.args m c).a1 (ix2 k e) := fun k e => (congrFun e1 _).trans (Host.blk1 m c t k e)
  have hA1' : ∀ k (e : Fin 16), rd c (win0_1.stage (cfg0.slots t 1)) f1 (ix2 k (hic e)) = (0 : EReal) := fun k e => (congrFun e1 _).trans (Host.blk1' m c t k e (hr1 _))
  have hA2 : ∀ e, rd c (win0_2.stage (cfg0.slots t 2)) f2 (ix2 e 0) = (Host.args m c).a2 (ix1 e) := fun e => (congrFun e2 _).trans (Host.blk2 m c t e)
  have hA3 : ∀ (j : Fin 4) k f, rd c (win0_3.stage (cfg0.slots t 3)) f3 (ix3 j k f) = (Host.args m c).a3 (ix3 (exj (gi (grid0.coords t)) j) k f) := fun j k f =>
    (congrFun e3 _).trans ((Host.blk3 m c t j k f).trans (congrArg (fun z => (Host.args m c).a3 (ix3 z k f)) (exj_eq t j _)))
  have hA4 : ∀ (j : Fin 4) k f, rd c (win0_4.stage (cfg0.slots t 4)) f4 (ix3 j k f) = (Host.args m c).a4 (ix3 (exj (gi (grid0.coords t)) j) k f) := fun j k f =>
    (congrFun e4 _).trans ((Host.blk4 m c t j k f).trans (congrArg (fun z => (Host.args m c).a4 (ix3 z k f)) (exj_eq t j _)))
  have hA5 : ∀ (j : Fin 4) f k, rd c (win0_5.stage (cfg0.slots t 5)) f5 (ix3 j f k) = (Host.args m c).a5 (ix3 (exj (gi (grid0.coords t)) j) f k) := fun j f k =>
    (congrFun e5 _).trans ((Host.blk5 m c t j f k).trans (congrArg (fun z => (Host.args m c).a5 (ix3 z f k)) (exj_eq t j _)))
  have hA6 : ∀ k, rd c (win0_6.stage (cfg0.slots t 6)) f6 (ix2 0 k) = (Host.args m c).a6 (ix1 k) := fun k => (congrFun e6 _).trans (Host.blk6 m c t k)
  have hA7 : ∀ k, rd c (win0_7.stage (cfg0.slots t 7)) f7 (ix2 0 k) = (Host.args m c).a7 (ix1 k) := fun k => (congrFun e7 _).trans (Host.blk7 m c t k)
  have hT : ∀ y, Ref.Tame1 (Host.args m c) (Host.row (t.val / 4) y) := fun y => ⟨fun k => hr0 _, fun k e => hr1 _⟩
  have hM : gi (grid0.coords t) ≠ 0 → MidS c (Host.args m c) (Host.row (t.val / 4)) s (gi (grid0.coords t)).val := fun hne => by
    rw [hg]
    exact hP fun e => hne (Fin.ext (hg.trans e))
  constructor
  · intro hn
    have hq : (t.val + 1) / 4 = t.val / 4 := by omega
    have hq' : (t.val + 1) % 4 = (gi (grid0.coords t)).val + 1 := by omega
    rw [hq, hq']
    exact mid_next (hA0 := hA0) (hA1 := hA1) (hA1' := hA1') (hA2 := hA2) (hA3 := hA3) (hA4 := hA4) (hA5 := hA5) (hT := hT) (hB := fun e => hr2 _) (hM := hM) ..
  · intro h3 y d
    exact out_step (hA0 := hA0) (hA1 := hA1) (hA1' := hA1') (hA2 := hA2) (hA3 := hA3) (hA4 := hA4) (hA5 := hA5) (hA6 := hA6) (hA7 := hA7) (hT := hT) (hB := fun e => hr2 _) (hM := hM) (h3' := Fin.ext (hg.trans h3)) ..

/-- The result array of the run. -/
theorem result (h : Ok m) (r : PUnit × MemSt nD τ sig (Elt Ideal)) (hr : RDat.FramePost (cfgs 0) (fun c => rdats m (P m) (R m) c) (V m) r) (c : Dev nD) :
    r.2.mem ((c : Thread nD τ).loc main_v12) = Ref.r_v68 (Host.args m c) := by
  obtain ⟨after, hL, hA⟩ := hr.exists_exact c
  refine (hA 8).trans ?_
  refine Dat.arrAt_eq_of_covers (cfg := cfg0) ((rdats m (P m) (R m) c).withAfter after) 8 (Ref.r_v68 (Host.args m c)) (by decide +kernel) fun t hf y => ?_
  have hR : R m c t (after 8 t) := Dat.toRRel_leaves (dats m (P m) c) (fgt := held) (Rl := Rw (R m) c) (w := 8) (by decide) (hL 8 t hf)
  have h3 : t.val % 4 = 3 := (flush0_8 t).mp hf
  have hy : y = (ix2 (y 0) (y 1) : S1024x1024.Idx) := funext fun (a : Fin 2) => by fin_cases a <;> rfl
  rw [hy]
  refine (hR h3 (y 0) (y 1)).trans ?_
  exact congrArg (Ref.r_v68 (Host.args m c)) (Host.emb8 t (y 0) (y 1)).symm

end Cert.Proof.Value
end
-- ==== Proof.Algebraic.lean ====
module

public import proofs.«01_k».proof.Proof.Value
public import proofs.«01_k».proof.Proof.Frames

@[expose] public section

set_option maxRecDepth 16384

noncomputable section

/-! The algebraic claim, and the frames under the precondition. -/

namespace Cert.Proof.Algebraic

open Idealize.ShloMosaic Idealize.ShloMosaic.TcCoe Idealize.SL.Sem

theorem ok_of_pre (m : (ℓ : Loc Cert.KernelIdeal.nD Cert.KernelIdeal.τ Cert.KernelIdeal.sig) → Buf (Elt Ideal) ℓ)
    (h : Cert.Pre_KernelIdeal_tame (hPre_tame := Tame.facts) m) : Value.Ok m := fun c =>
  letI := Tame.facts
  Tame.spec _ _ _ _ _ _ _ _ (h c)

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Ref.argsOf m' c = Host.args m c := by
  unfold Ref.argsOf Host.args
  congr 1

theorem algebraic : Cert.algebraic_KernelIdeal_ReferenceIdeal_pre_tame (hKernelIdeal := Cert.KernelIdeal.Gen.facts) (hReferenceIdeal := Cert.ReferenceIdeal.Gen.facts) (hPre_tame := Tame.facts) := by
  intro m g m' g' hpre heq
  have hok := ok_of_pre m hpre
  refine ⟨fun c => Ref.r_v68 (Host.args m c), ?_, ?_⟩
  · exact (θ_run Cert.KernelIdeal.defs _ _).mono (fun r h c => ⟨Value.result m hok r h.1 c, Launch.args_of m _ _ r h.1 c⟩)
      (Launch.run_main m g (Value.P m) (Value.R m) (Value.steps m hok) (fun c s h => absurd rfl h))
  · refine (θ_run Cert.ReferenceIdeal.defs _ _).mono (fun r h c => ⟨(h c).1.trans ?_, (h c).2⟩) (Cert.ReferenceIdeal.Value.run m' g')
    obtain ⟨e0, e1, e2, e3, e4, e5, e6, e7⟩ := heq c
    exact (Ref.res_eq m' c).trans (congrArg Ref.r_v68 (args_eq m m' c e0 e1 e2 e3 e4 e5 e6 e7))

end Cert.Proof.Algebraic
end
-- ==== Proof.ProjB.lean ====
module

public import proofs.«01_k».proof.Proof.Gen.KernelBIdeal.Value
public import proofs.«01_k».proof.Proof.Gen.ReferenceBIdeal.Run
public import Idealize.ShloMosaic.Lib.Pointwise
public import Idealize.ShloMosaic.Lib.IdealHost
public import Idealize.ShloMosaic.Lib.Pipeline.ValueKit

@[expose] public section

set_option maxRecDepth 16384

noncomputable section

/-! The projection to queries, keys and values of the stick-breaking attention: what a block of 512 tokens gives. -/

namespace Cert.Proof.ProjB

open Idealize.ShloMosaic Idealize.ShloMosaic.TcCoe Idealize.ShloMosaic.Tactic Cert.KernelBIdeal Cert.KernelBIdeal.Gen

/-- A block's queries: the scaled product of a token's row with a column of weights. -/
theorem pay2_at (x : FVec Ideal S512x1024 .f32) (w : FVec Ideal S1024x1024 .bf16) (y : Fin 512) (d : Fin 1024) :
    k0_pay2 (F := Ideal) x w (ix2 y d) = (∑ k : Fin 1024, x (ix2 y k) * w (ix2 k d)) * Ideal.ofBits FTy.f32 0x3E0293EE#32 := by
  pointwise [k0_pay2, k0_pay1]

/-- A block's keys. -/
theorem pay3_at (x : FVec Ideal S512x1024 .f32) (w : FVec Ideal S1024x1024 .bf16) (y : Fin 512) (d : Fin 1024) :
    k0_pay3 (F := Ideal) x w (ix2 y d) = ∑ k : Fin 1024, x (ix2 y k) * w (ix2 k d) := by
  pointwise [k0_pay3, k0_pay1]

/-- A block's values, a column for every token. -/
theorem pay4_at (x : FVec Ideal S512x1024 .f32) (w : FVec Ideal S1024x1024 .bf16) (d : Fin 1024) (y : Fin 512) :
    k0_pay4 (F := Ideal) x w (ix2 d y) = ∑ k : Fin 1024, w (ix2 d k) * x (ix2 y k) := by
  pointwise [k0_pay4, k0_pay1]

variable (m : (ℓ : Loc nD τ sig) → Buf (Elt Ideal) ℓ) (c : Dev nD)

/-- The three arguments. -/
abbrev A0 : FVec Ideal S32768x1024 .f32 := m ((c : Thread nD τ).loc main_arg0)
abbrev A1 : FVec Ideal S1024x1024 .f32 := m ((c : Thread nD τ).loc main_arg1)
abbrev A2 : FVec Ideal S1024x2048 .f32 := m ((c : Thread nD τ).loc main_arg2)

theorem V0 : V m c main_v0 = A1 m c := by
  show StableHlo.after hostOps0 _ (Proc.devRef .tc main_v0) = _
  after_results
  rfl
theorem V2 (k d : Fin 1024) : V m c main_v2 (ix2 k d) = A2 m c (ix2 k ⟨d.val, by omega⟩) := by
  have : V m c main_v2 = (truncf .bf16 (extractStridedSlice S1024x1024 ![0, 0] (A2 m c) slices_S1024x2048_S1024x1024_0_0) bitsLt_bf16_f32 : FVec Ideal S1024x1024 .bf16) := by
    show StableHlo.after hostOps0 _ (Proc.devRef .tc main_v2) = _
    after_results
  rw [this]
  pointwise []
theorem V5 (d k : Fin 1024) : V m c main_v5 (ix2 d k) = A2 m c (ix2 k ⟨1024 + d.val, by omega⟩) := by
  have : V m c main_v5 = (truncf .bf16 (transpose S1024x1024 [1, 0] (extractStridedSlice S1024x1024 ![0, 1024] (A2 m c) slices_S1024x2048_S1024x1024_0_1024) transposes_S1024x1024_S1024x1024_1_0) bitsLt_bf16_f32 : FVec Ideal S1024x1024 .bf16) := by
    show StableHlo.after hostOps0 _ (Proc.devRef .tc main_v5) = _
    after_results
  rw [this]
  pointwise []

/-- The row of the stream at place `y` of block `t`. -/
def row (t : Fin cfg0.N) (y : Fin 512) : Fin 32768 := ⟨t.val * 512 + y.val, by have : t.val < 64 := t.isLt; omega⟩

theorem idx0_at : ∀ t : Fin grid0.N, cc0_transform_0 (grid0.coords t) = ![t.val, 0] := by decide +kernel
theorem idx4_at : ∀ t : Fin grid0.N, cc0_transform_4 (grid0.coords t) = ![t.val, 0] := by decide +kernel
theorem idx5_at : ∀ t : Fin grid0.N, cc0_transform_5 (grid0.coords t) = ![t.val, 0] := by decide +kernel
theorem idx6_at : ∀ t : Fin grid0.N, cc0_transform_6 (grid0.coords t) = ![t.val / 4, t.val % 4, 0, 0] := by decide +kernel

theorem emb0 (t : Fin cfg0.N) (y : Fin 512) (k : Fin 1024) : ((cfg0.win 0).blk t).view.emb (ix2 y k) = (ix2 (row t y) k : S32768x1024.Idx) :=
  funext fun (a : Fin 2) => Fin.ext (by
    match a with
    | ⟨0, _⟩ =>
      show cc0_transform_0 (grid0.coords t) (0 : Fin 2) * 512 + 1 * y.val = t.val * 512 + y.val
      rw [idx0_at]; show t.val * 512 + 1 * y.val = _; omega
    | ⟨1, _⟩ =>
      show cc0_transform_0 (grid0.coords t) (1 : Fin 2) * 1024 + 1 * k.val = k.val
      rw [idx0_at]; show 0 * 1024 + 1 * k.val = _; omega)
theorem emb4 (t : Fin cfg0.N) (y : Fin 512) (k : Fin 1024) : ((cfg0.win 4).blk t).view.emb (ix2 y k) = (ix2 (row t y) k : S32768x1024.Idx) :=
  funext fun (a : Fin 2) => Fin.ext (by
    match a with
    | ⟨0, _⟩ =>
      show cc0_transform_4 (grid0.coords t) (0 : Fin 2) * 512 + 1 * y.val = t.val * 512 + y.val
      rw [idx4_at]; show t.val * 512 + 1 * y.val = _; omega
    | ⟨1, _⟩ =>
      show cc0_transform_4 (grid0.coords t) (1 : Fin 2) * 1024 + 1 * k.val = k.val
      rw [idx4_at]; show 0 * 1024 + 1 * k.val = _; omega)
theorem emb5 (t : Fin cfg0.N) (y : Fin 512) (k : Fin 1024) : ((cfg0.win 5).blk t).view.emb (ix2 y k) = (ix2 (row t y) k : S32768x1024.Idx) :=
  funext fun (a : Fin 2) => Fin.ext (by
    match a with
    | ⟨0, _⟩ =>
      show cc0_transform_5 (grid0.coords t) (0 : Fin 2) * 512 + 1 * y.val = t.val * 512 + y.val
      rw [idx5_at]; show t.val * 512 + 1 * y.val = _; omega
    | ⟨1, _⟩ =>
      show cc0_transform_5 (grid0.coords t) (1 : Fin 2) * 1024 + 1 * k.val = k.val
      rw [idx5_at]; show 0 * 1024 + 1 * k.val = _; omega)
/-- The values' tile of 256 tokens at `t`. -/
def tile (t : Fin cfg0.N) (j : Fin 2) : Fin 8 := ⟨t.val % 4 * 2 + j.val, by omega⟩
def seqOf (t : Fin cfg0.N) : Fin 16 := ⟨t.val / 4, by have : t.val < 64 := t.isLt; omega⟩
theorem emb6 (t : Fin cfg0.N) (j : Fin 2) (d : Fin 1024) (y : Fin 256) :
    ((cfg0.win 6).blk t).view.emb (ix4 0 j d y) = (ix4 (seqOf t) (tile t j) d y : S16x8x1024x256.Idx) :=
  funext fun (a : Fin 4) => Fin.ext (by
    match a with
    | ⟨0, _⟩ =>
      show cc0_transform_6 (grid0.coords t) (0 : Fin 4) * 1 + 1 * 0 = t.val / 4
      rw [idx6_at]; show t.val / 4 * 1 + 1 * 0 = _; omega
    | ⟨1, _⟩ =>
      show cc0_transform_6 (grid0.coords t) (1 : Fin 4) * 2 + 1 * j.val = t.val % 4 * 2 + j.val
      rw [idx6_at]; show t.val % 4 * 2 + 1 * j.val = _; omega
    | ⟨2, _⟩ =>
      show cc0_transform_6 (grid0.coords t) (2 : Fin 4) * 1024 + 1 * d.val = d.val
      rw [idx6_at]; show 0 * 1024 + 1 * d.val = _; omega
    | ⟨3, _⟩ =>
      show cc0_transform_6 (grid0.coords t) (3 : Fin 4) * 256 + 1 * y.val = y.val
      rw [idx6_at]; show 0 * 256 + 1 * y.val = _; omega)
theorem embW (k d : Fin 1024) (t : Fin cfg0.N) : ((cfg0.win 1).blk t).view.emb (ix2 k d) = (ix2 k d : S1024x1024.Idx)
    ∧ ((cfg0.win 2).blk t).view.emb (ix2 k d) = (ix2 k d : S1024x1024.Idx) ∧ ((cfg0.win 3).blk t).view.emb (ix2 k d) = (ix2 k d : S1024x1024.Idx) := by
  refine ⟨?_, ?_, ?_⟩ <;> exact funext fun (a : Fin 2) => Fin.ext (by
    match a with
    | ⟨0, _⟩ => show 0 * 1024 + 1 * k.val = k.val; omega
    | ⟨1, _⟩ => show 0 * 1024 + 1 * d.val = d.val; omega)

theorem blk0 (t : Fin cfg0.N) (y : Fin 512) (k : Fin 1024) : iblk m c 0 t (ix2 y k) = A0 m c (ix2 (row t y) k) := by
  show V m c main_arg0 (((cfg0.win 0).blk t).view.emb (ix2 y k)) = _
  rw [emb0, V_main_arg0]
theorem blk1 (t : Fin cfg0.N) (k d : Fin 1024) : iblk m c 1 t (ix2 k d) = A1 m c (ix2 k d) := by
  show V m c main_v0 (((cfg0.win 1).blk t).view.emb (ix2 k d)) = _
  rw [(embW k d t).1, V0]
theorem blk2 (t : Fin cfg0.N) (k d : Fin 1024) : iblk m c 2 t (ix2 k d) = A2 m c (ix2 k ⟨d.val, by omega⟩) := by
  show V m c main_v2 (((cfg0.win 2).blk t).view.emb (ix2 k d)) = _
  rw [(embW k d t).2.1, V2]
theorem blk3 (t : Fin cfg0.N) (d k : Fin 1024) : iblk m c 3 t (ix2 d k) = A2 m c (ix2 k ⟨1024 + d.val, by omega⟩) := by
  show V m c main_v5 (((cfg0.win 3).blk t).view.emb (ix2 d k)) = _
  rw [(embW d k t).2.2, V5]

end Cert.Proof.ProjB
end
-- ==== Proof.ResB.lean ====
module

public import proofs.«01_k».proof.Proof.ProjB

@[expose] public section

set_option maxRecDepth 16384

noncomputable section

/-! The three arrays of the projection, after the run and in the reference. -/

namespace Cert.Proof.ProjB

open Idealize.ShloMosaic Idealize.ShloMosaic.TcCoe Idealize.ShloMosaic.Tactic Idealize.ShloMosaic.Pipeline Cert.KernelBIdeal Cert.KernelBIdeal.Gen

/-- The queries, as the reference has them. -/
def refQ (a : FVec Ideal S32768x1024 .f32) (w : FVec Ideal S1024x1024 .f32) : FVec Ideal S32768x1024 .bf16 :=
  truncf .bf16 (mulf (Host.dotGeneral Cert.ReferenceBIdeal.dot_S32768x1024_S1024x1024_S32768x1024_1_0_0_1_n_n none a w) (broadcastInDim Cert.ReferenceBIdeal.S32768x1024 ![] Cert.ReferenceBIdeal.Gen.bcast_S_S32768x1024 (constant Cert.ReferenceBIdeal.S_ .f32 0x3E0293EE#32))) Cert.ReferenceBIdeal.Gen.bitsLt_bf16_f32
/-- The keys. -/
def refK (a : FVec Ideal S32768x1024 .f32) (w : FVec Ideal S1024x2048 .f32) : FVec Ideal S32768x1024 .bf16 :=
  truncf .bf16 (extractStridedSlice Cert.ReferenceBIdeal.S32768x1024 ![0, 0] (Host.dotGeneral Cert.ReferenceBIdeal.dot_S32768x1024_S1024x2048_S32768x2048_1_0_0_1_n_n none a w) Cert.ReferenceBIdeal.Gen.slices_S32768x2048_S32768x1024_0_0) Cert.ReferenceBIdeal.Gen.bitsLt_bf16_f32
/-- The values, in tiles of 256 tokens. -/
def refV (a : FVec Ideal S32768x1024 .f32) (w : FVec Ideal S1024x2048 .f32) : FVec Ideal S16x8x1024x256 .bf16 :=
  truncf .bf16 (transpose Cert.ReferenceBIdeal.S16x8x1024x256 [0, 1, 3, 2] (shapeCast Cert.ReferenceBIdeal.S16x8x256x1024 (extractStridedSlice Cert.ReferenceBIdeal.S32768x1024 ![0, 1024] (Host.dotGeneral Cert.ReferenceBIdeal.dot_S32768x1024_S1024x2048_S32768x2048_1_0_0_1_n_n none a w) Cert.ReferenceBIdeal.Gen.slices_S32768x2048_S32768x1024_0_1024) Cert.ReferenceBIdeal.Gen.shapeCasts_S32768x1024_S16x8x256x1024) Cert.ReferenceBIdeal.Gen.transposes_S16x8x256x1024_S16x8x1024x256_0_1_3_2) Cert.ReferenceBIdeal.Gen.bitsLt_bf16_f32

theorem refQ_at (a : FVec Ideal S32768x1024 .f32) (w : FVec Ideal S1024x1024 .f32) (n : Fin 32768) (d : Fin 1024) :
    refQ a w (ix2 n d) = (∑ k : Fin 1024, a (ix2 n k) * w (ix2 k d)) * Ideal.ofBits FTy.f32 0x3E0293EE#32 := by
  pointwise [refQ]
theorem refK_at (a : FVec Ideal S32768x1024 .f32) (w : FVec Ideal S1024x2048 .f32) (n : Fin 32768) (d : Fin 1024) :
    refK a w (ix2 n d) = ∑ k : Fin 1024, a (ix2 n k) * w (ix2 k ⟨d.val, by omega⟩) := by
  pointwise [refK]
theorem refV_at (a : FVec Ideal S32768x1024 .f32) (w : FVec Ideal S1024x2048 .f32) (b : Fin 16) (j : Fin 8) (d : Fin 1024) (y : Fin 256) :
    refV a w (ix4 b j d y) = ∑ k : Fin 1024, a (ix2 ⟨(b.val * 8 + j.val) * 256 + y.val, by omega⟩ k) * w (ix2 k ⟨1024 + d.val, by omega⟩) := by
  unfold refV
  pointwise []
  exact Finset.sum_congr rfl fun k _ => congrArg (fun n => a (ix2 n k) * w (ix2 k ⟨1024 + d.val, by omega⟩)) (Fin.ext (by show b.val * 2048 + j.val * 256 + y.val = (b.val * 8 + j.val) * 256 + y.val; omega))

variable (m : (ℓ : Loc nD τ sig) → Buf (Elt Ideal) ℓ) (c : Dev nD)

theorem res4 : (dats m 0 c).arrAt 4 cfg0.N = refQ (A0 m c) (A1 m c) := by
  have key : ∀ (t : Fin cfg0.N) (y : Fin 512) (d : Fin 1024), k0_pay2 (F := Ideal) (iblk m c 0 t) (iblk m c 1 t) (ix2 y d) = refQ (A0 m c) (A1 m c) (((cfg0.win 4).blk t).view.emb (ix2 y d)) := by
    intro t y d
    rw [emb4]
    refine (pay2_at _ _ _ _).trans ?_
    rw [refQ_at]
    exact congrArg (· * Ideal.ofBits FTy.f32 0x3E0293EE#32) (Finset.sum_congr rfl fun k _ => by rw [blk0, blk1])
  refine Dat.arrAt_eq_of_covers (cfg := cfg0) (dats m 0 c) 4 (refQ (A0 m c) (A1 m c)) (by decide +kernel) fun t hf y => ?_
  have hy : y = (ix2 (y 0) (y 1) : S512x1024.Idx) := funext fun (a : Fin 2) => by fin_cases a <;> rfl
  rw [hy, after0_4]
  frame_out
  exact key t (y 0) (y 1)

theorem res5 : (dats m 0 c).arrAt 5 cfg0.N = refK (A0 m c) (A2 m c) := by
  have key : ∀ (t : Fin cfg0.N) (y : Fin 512) (d : Fin 1024), k0_pay3 (F := Ideal) (iblk m c 0 t) (iblk m c 2 t) (ix2 y d) = refK (A0 m c) (A2 m c) (((cfg0.win 5).blk t).view.emb (ix2 y d)) := by
    intro t y d
    rw [emb5]
    refine (pay3_at _ _ _ _).trans ?_
    rw [refK_at]
    exact Finset.sum_congr rfl fun k _ => by rw [blk0, blk2]
  refine Dat.arrAt_eq_of_covers (cfg := cfg0) (dats m 0 c) 5 (refK (A0 m c) (A2 m c)) (by decide +kernel) fun t hf y => ?_
  have hy : y = (ix2 (y 0) (y 1) : S512x1024.Idx) := funext fun (a : Fin 2) => by fin_cases a <;> rfl
  rw [hy, after0_5]
  frame_out
  exact key t (y 0) (y 1)

theorem key6 (t : Fin cfg0.N) (j : Fin 2) (d : Fin 1024) (y : Fin 256) (x : S1024x512.Idx) (hx : x = ix2 d ⟨j.val * 256 + y.val, by omega⟩) :
    k0_pay4 (F := Ideal) (iblk m c 0 t) (iblk m c 3 t) x = refV (A0 m c) (A2 m c) (((cfg0.win 6).blk t).view.emb (ix4 0 j d y)) := by
  rw [hx, emb6]
  refine (pay4_at _ _ _ _).trans ?_
  rw [refV_at]
  refine Finset.sum_congr rfl fun k _ => ?_
  rw [blk0, blk3, mul_comm]
  refine congrArg (fun n => A0 m c (ix2 n k) * A2 m c (ix2 k ⟨1024 + d.val, by omega⟩)) (Fin.ext ?_)
  show t.val * 512 + (j.val * 256 + y.val) = (t.val / 4 * 8 + (t.val % 4 * 2 + j.val)) * 256 + y.val
  omega

/-- What a block of the values' array holds, at any index. -/
theorem out6_at (t : Fin cfg0.N) (y : S1x2x1024x256.Idx) :
    out0_6 (F := Ideal) (iblk m c 0 t) (iblk m c 1 t) (iblk m c 2 t) (iblk m c 3 t) y = refV (A0 m c) (A2 m c) (((cfg0.win 6).blk t).view.emb y) := by
  have hy : y = (ix4 0 (y 1) (y 2) (y 3) : S1x2x1024x256.Idx) := funext fun (a : Fin 4) => by
    fin_cases a
    · exact Subsingleton.elim (α := Fin 1) _ _
    all_goals rfl
  have hl : out0_6 (F := Ideal) (iblk m c 0 t) (iblk m c 1 t) (iblk m c 2 t) (iblk m c 3 t) y = k0_pay4 (F := Ideal) (iblk m c 0 t) (iblk m c 3 t) (Cert.KernelBIdeal.Value.ix6_0 y) := by
    frame_out
    exact Cert.KernelBIdeal.Value.canon6_eq _ _ _
  rw [hl]
  refine (key6 m c t (y 1) (y 2) (y 3) _ ?_).trans (congrArg _ (congrArg _ hy.symm))
  exact funext fun (a : Fin 2) => by fin_cases a <;> rfl

theorem covers6 : (cfg0.win 6).Covers := by decide +kernel

theorem leaves6 (t : Fin cfg0.N) (y : S1x2x1024x256.Idx) : (dats m 0 c).after 6 t y = refV (A0 m c) (A2 m c) (((cfg0.win 6).blk t).view.emb y) :=
  (congrFun (after0_6 m c t) y).trans (out6_at m c t y)

theorem res6 : (dats m 0 c).arrAt 6 cfg0.N = refV (A0 m c) (A2 m c) :=
  Dat.arrAt_eq_of_covers (cfg := cfg0) (dats m 0 c) 6 (refV (A0 m c) (A2 m c)) covers6 (fun t hf y => leaves6 m c t y) (Memref.isWhole_whole _)

end Cert.Proof.ProjB
end
-- ==== Proof.AlgebraicB.lean ====
module

public import proofs.«01_k».proof.Defs
public import proofs.«01_k».proof.Proof.ResB
public import proofs.«01_k».proof.Proof.Gen.KernelB.Frame
public import Idealize.ShloMosaic.Adequacy
public import Idealize.ShloMosaic.Init

@[expose] public section

set_option maxRecDepth 16384

noncomputable section

/-! The projection's claims: its frames, and that its three arrays are the reference's. -/

namespace Cert.Proof.AlgebraicB

open Idealize.ShloMosaic Idealize.ShloMosaic.TcCoe Idealize.SL.Sem

theorem frame_kernel : Cert.quiescent_KernelB (hKernelB := Cert.KernelB.Gen.facts) := fun m ρ _ => Cert.KernelB.Gen.frame m ρ
theorem frame_kernelIdeal : Cert.quiescent_KernelBIdeal (hKernelBIdeal := Cert.KernelBIdeal.Gen.facts) := fun m ρ _ => Cert.KernelBIdeal.Gen.frame m ρ

theorem algebraic : Cert.algebraic_KernelBIdeal_ReferenceBIdeal (hKernelBIdeal := Cert.KernelBIdeal.Gen.facts) (hReferenceBIdeal := Cert.ReferenceBIdeal.Gen.facts) := by
  intro m g m' g' _ heq
  refine ⟨fun c => ProjB.refQ (ProjB.A0 m c) (ProjB.A1 m c), fun c => ProjB.refK (ProjB.A0 m c) (ProjB.A2 m c), fun c => ProjB.refV (ProjB.A0 m c) (ProjB.A2 m c), ?_, ?_⟩
  · exact (θ_run Cert.KernelBIdeal.defs _ _).mono (fun r h c => by
      obtain ⟨h4, h5, h6, h7⟩ := h c
      exact ⟨h4.trans (ProjB.res4 m c), h5.trans (ProjB.res5 m c), h6.trans (ProjB.res6 m c), h7⟩) (Cert.KernelBIdeal.Value.run_blocks m g)
  · refine (θ_run Cert.ReferenceBIdeal.defs _ _).mono (fun r h c => ?_) (Cert.ReferenceBIdeal.Value.run m' g')
    obtain ⟨e0, e1, e2⟩ := heq c
    obtain ⟨h0, h1, h2, h3⟩ := h c
    refine ⟨h0.trans ?_, h1.trans ?_, h2.trans ?_, h3⟩
    · rw [e0, e1]; rfl
    · rw [e0, e2]; rfl
    · rw [e0, e2]; rfl

end Cert.Proof.AlgebraicB
end
-- ==== Proof.RotA.lean ====
module

public import Idealize.ShloMosaic.Lib.Pointwise
public import Idealize.ShloMosaic.Lib.IdealHost

@[expose] public section

noncomputable section

/-! A head's lanes turned by a rotary embedding: the reference's halves and the kernel's rolled lanes agree. -/

namespace Cert.Proof.RotA

/-- The lane half a head away, within the head. -/
def opp (l : Fin 128) : Fin 128 := ⟨(l.val + 128 - 64) % 128, by omega⟩
/-- The lane of a column. -/
def lane (d : Fin 1024) : Fin 128 := ⟨d.val % 128, by omega⟩

/-- A full head's lanes: 64 pairs. -/
def rotFull (A : Fin 128 → EReal) (cs sn : Fin 64 → EReal) (l : Fin 128) : EReal :=
  if h : l.val < 64 then A ⟨l.val, by omega⟩ * cs ⟨l.val, h⟩ - A ⟨64 + l.val, by omega⟩ * sn ⟨l.val, h⟩
  else A ⟨l.val - 64, by omega⟩ * sn ⟨l.val - 64, by omega⟩ + A ⟨64 + (l.val - 64), by omega⟩ * cs ⟨l.val - 64, by omega⟩
/-- A half head's lanes: 32 pairs, each half followed by 32 zeros. -/
def rotPad (A : Fin 64 → EReal) (cs sn : Fin 32 → EReal) (l : Fin 128) : EReal :=
  if h : l.val < 32 then A ⟨l.val, by omega⟩ * cs ⟨l.val, h⟩ - A ⟨32 + l.val, by omega⟩ * sn ⟨l.val, h⟩
  else if h : l.val - 32 < 32 then 0
  else if h : l.val - 32 - 32 < 32 then A ⟨l.val - 32 - 32, by omega⟩ * sn ⟨l.val - 32 - 32, h⟩ + A ⟨32 + (l.val - 32 - 32), by omega⟩ * cs ⟨l.val - 32 - 32, h⟩
  else 0
/-- Its columns, padded. -/
def padW (A : Fin 64 → EReal) (l : Fin 128) : EReal :=
  if h : l.val < 32 then A ⟨l.val, by omega⟩
  else if h : l.val - 32 < 32 then 0
  else if h : l.val - 32 - 32 < 32 then A ⟨32 + (l.val - 32 - 32), by omega⟩
  else 0

/-- The tables of a full head. -/
def cosF (cs : Fin 64 → EReal) (l : Fin 128) : EReal := if h : l.val < 64 then cs ⟨l.val, h⟩ else cs ⟨l.val - 64, by omega⟩
def sinF (sn : Fin 64 → EReal) (l : Fin 128) : EReal := if h : l.val < 64 then -sn ⟨l.val, h⟩ else sn ⟨l.val - 64, by omega⟩
/-- The tables of a half head. -/
def cosP (cs : Fin 32 → EReal) (l : Fin 128) : EReal :=
  if h : l.val < 32 then cs ⟨l.val, h⟩ else if h : l.val - 32 < 32 then 0 else if h : l.val - 32 - 32 < 32 then cs ⟨l.val - 32 - 32, h⟩ else 0
def sinP (sn : Fin 32 → EReal) (l : Fin 128) : EReal :=
  if h : l.val < 32 then -sn ⟨l.val, h⟩ else if h : l.val - 32 < 32 then 0 else if h : l.val - 32 - 32 < 32 then sn ⟨l.val - 32 - 32, h⟩ else 0

theorem full (A : Fin 128 → EReal) (cs sn : Fin 64 → EReal) (l : Fin 128) : A l * cosF cs l + A (opp l) * sinF sn l = rotFull A cs sn l := by
  unfold cosF sinF rotFull
  by_cases h : l.val < 64
  · rw [dif_pos h, dif_pos h, dif_pos h, mul_neg, sub_eq_add_neg]
    have e : opp l = ⟨64 + l.val, by omega⟩ := Fin.ext (by show (l.val + 128 - 64) % 128 = 64 + l.val; omega)
    rw [e]
  · rw [dif_neg h, dif_neg h, dif_neg h, add_comm]
    have e : opp l = ⟨l.val - 64, by omega⟩ := Fin.ext (by show (l.val + 128 - 64) % 128 = l.val - 64; omega)
    have e' : l = ⟨64 + (l.val - 64), by omega⟩ := Fin.ext (by show l.val = 64 + (l.val - 64); omega)
    rw [e]
    exact congrArg (fun i => A _ * sn _ + A i * cs _) e'

theorem pad (A : Fin 64 → EReal) (cs sn : Fin 32 → EReal) (l : Fin 128) : padW A l * cosP cs l + padW A (opp l) * sinP sn l = rotPad A cs sn l := by
  unfold cosP sinP rotPad
  by_cases h : l.val < 32
  · rw [dif_pos h, dif_pos h, dif_pos h, mul_neg, sub_eq_add_neg]
    have e : opp l = ⟨64 + l.val, by omega⟩ := Fin.ext (by show (l.val + 128 - 64) % 128 = 64 + l.val; omega)
    rw [e]
    unfold padW
    rw [dif_pos h, dif_neg (show ¬ 64 + l.val < 32 by omega), dif_neg (show ¬ 64 + l.val - 32 < 32 by omega), dif_pos (show 64 + l.val - 32 - 32 < 32 by omega)]
    have e' : (⟨32 + (64 + l.val - 32 - 32), by omega⟩ : Fin 64) = ⟨32 + l.val, by omega⟩ := Fin.ext (by show 32 + (64 + l.val - 32 - 32) = 32 + l.val; omega)
    exact congrArg (fun i => A _ * cs _ + -(A i * sn _)) e'
  · rw [dif_neg h, dif_neg h, dif_neg h]
    by_cases h1 : l.val - 32 < 32
    · rw [dif_pos h1, dif_pos h1, dif_pos h1, mul_zero, mul_zero, add_zero]
    · rw [dif_neg h1, dif_neg h1, dif_neg h1]
      by_cases h2 : l.val - 32 - 32 < 32
      · rw [dif_pos h2, dif_pos h2, dif_pos h2, add_comm]
        have e : opp l = ⟨l.val - 32 - 32, by omega⟩ := Fin.ext (by show (l.val + 128 - 64) % 128 = l.val - 32 - 32; omega)
        rw [e]
        unfold padW
        rw [dif_pos h2, dif_neg h, dif_neg h1, dif_pos h2]
      · rw [dif_neg h2, dif_neg h2, dif_neg h2, mul_zero, mul_zero, add_zero]

/-- A scale in the tables is the scale of what they give. -/
theorem scaled (a b c d s : EReal) (h0 : 0 ≤ s) (ht : s ≠ ⊤) : a * (c * s) + b * (d * s) = (a * c + b * d) * s := by
  rw [EReal.right_distrib_of_nonneg_of_ne_top h0 ht, mul_assoc, mul_assoc]

theorem qForm (X : Fin 3656 → EReal) (cs sn : Fin 64 → EReal) (s : EReal) (d : Fin 1024) :
    (if h : d.val % 128 < 64 then (X ⟨d.val, by omega⟩ * cs ⟨d.val % 128, h⟩ - X ⟨d.val / 128 * 128 + (64 + d.val % 128), by omega⟩ * sn ⟨d.val % 128, h⟩) * s
      else (X ⟨d.val / 128 * 128 + (d.val % 128 - 64), by omega⟩ * sn ⟨d.val % 128 - 64, by omega⟩ + X ⟨d.val / 128 * 128 + (64 + (d.val % 128 - 64)), by omega⟩ * cs ⟨d.val % 128 - 64, by omega⟩) * s)
      = rotFull (fun l => X ⟨d.val / 128 * 128 + l.val, by omega⟩) cs sn (lane d) * s := by
  unfold rotFull
  by_cases h : d.val % 128 < 64
  · rw [dif_pos h, dif_pos (show (lane d).val < 64 from h)]
    have e : (⟨d.val, by omega⟩ : Fin 3656) = ⟨d.val / 128 * 128 + d.val % 128, by omega⟩ := Fin.ext (by show d.val = d.val / 128 * 128 + d.val % 128; omega)
    rw [e]; rfl
  · rw [dif_neg h, dif_neg (show ¬ (lane d).val < 64 from h)]
    rfl
theorem kForm (X : Fin 3656 → EReal) (cs sn : Fin 64 → EReal) (d : Fin 1024) :
    (if h : d.val % 128 < 64 then X ⟨1024 + d.val, by omega⟩ * cs ⟨d.val % 128, h⟩ - X ⟨1024 + (d.val / 128 * 128 + (64 + d.val % 128)), by omega⟩ * sn ⟨d.val % 128, h⟩
      else X ⟨1024 + (d.val / 128 * 128 + (d.val % 128 - 64)), by omega⟩ * sn ⟨d.val % 128 - 64, by omega⟩ + X ⟨1024 + (d.val / 128 * 128 + (64 + (d.val % 128 - 64))), by omega⟩ * cs ⟨d.val % 128 - 64, by omega⟩)
      = rotFull (fun l => X ⟨1024 + (d.val / 128 * 128 + l.val), by omega⟩) cs sn (lane d) := by
  unfold rotFull
  by_cases h : d.val % 128 < 64
  · rw [dif_pos h, dif_pos (show (lane d).val < 64 from h)]
    have e : (⟨1024 + d.val, by omega⟩ : Fin 3656) = ⟨1024 + (d.val / 128 * 128 + d.val % 128), by omega⟩ := Fin.ext (by show 1024 + d.val = 1024 + (d.val / 128 * 128 + d.val % 128); omega)
    rw [e]; rfl
  · rw [dif_neg h, dif_neg (show ¬ (lane d).val < 64 from h)]
    rfl
theorem padForm (A : Fin 64 → EReal) (cs sn : Fin 32 → EReal) (s : EReal) (l : Fin 128) :
    (if h : l.val < 32 then (A ⟨l.val, by omega⟩ * cs ⟨l.val, h⟩ - A ⟨32 + l.val, by omega⟩ * sn ⟨l.val, h⟩) * s
      else if h : l.val - 32 < 32 then 0
      else if h : l.val - 32 - 32 < 32 then (A ⟨l.val - 32 - 32, by omega⟩ * sn ⟨l.val - 32 - 32, h⟩ + A ⟨32 + (l.val - 32 - 32), by omega⟩ * cs ⟨l.val - 32 - 32, h⟩) * s
      else 0) = rotPad A cs sn l * s := by
  unfold rotPad
  by_cases h : l.val < 32
  · rw [dif_pos h, dif_pos h]
  · rw [dif_neg h, dif_neg h]
    by_cases h1 : l.val - 32 < 32
    · rw [dif_pos h1, dif_pos h1, zero_mul]
    · rw [dif_neg h1, dif_neg h1]
      by_cases h2 : l.val - 32 - 32 < 32
      · rw [dif_pos h2, dif_pos h2]
      · rw [dif_neg h2, dif_neg h2, zero_mul]

end Cert.Proof.RotA
end
-- ==== Proof.ProjA.lean ====
module

public import proofs.«01_k».proof.Proof.Gen.KernelAIdeal.Value
public import proofs.«01_k».proof.Proof.RotA
public import Idealize.ShloMosaic.Lib.Pointwise
public import Idealize.ShloMosaic.Lib.IdealHost
public import Idealize.ShloMosaic.Lib.Pipeline.ValueKit

@[expose] public section

set_option maxRecDepth 16384

noncomputable section

/-! The projection of the sparse attention: what a block of 512 tokens gives. -/

namespace Cert.Proof.ProjA

open Cert.Proof.RotA Idealize.ShloMosaic Idealize.ShloMosaic.TcCoe Idealize.ShloMosaic.Tactic Cert.KernelAIdeal Cert.KernelAIdeal.Gen

/-- A head's 128 lanes turned by the tables: the first of a pair of heads. -/
def head0 (v : FVec Ideal S512x1024 .bf16) (w : FVec Ideal S1024x256 .bf16) (C S : FVec Ideal S512x128 .f32) : FVec Ideal S512x128 .bf16 :=
  truncf .bf16 (addf (mulf (extractStridedSlice S512x128 ![0, 0] (matmul dot_S512x1024_S1024x256_S512x256_1_0_0_1_n_n none v (shapeCast S1024x256 w shapeCasts_S1024x256_S1024x256) (constant S512x256 .f32 0x00000000#32)) slices_S512x256_o0_0_S512x128) (shapeCast S512x128 C shapeCasts_S512x128_S512x128)) (mulf (dynamicRotate 1 64#32 none (extractStridedSlice S512x128 ![0, 0] (matmul dot_S512x1024_S1024x256_S512x256_1_0_0_1_n_n none v (shapeCast S1024x256 w shapeCasts_S1024x256_S1024x256) (constant S512x256 .f32 0x00000000#32)) slices_S512x256_o0_0_S512x128) rotates_S512x128_d1) (shapeCast S512x128 S shapeCasts_S512x128_S512x128))) bitsLt_bf16_f32
/-- The second of the pair. -/
def head1 (v : FVec Ideal S512x1024 .bf16) (w : FVec Ideal S1024x256 .bf16) (C S : FVec Ideal S512x128 .f32) : FVec Ideal S512x128 .bf16 :=
  truncf .bf16 (addf (mulf (extractStridedSlice S512x128 ![0, 128] (matmul dot_S512x1024_S1024x256_S512x256_1_0_0_1_n_n none v (shapeCast S1024x256 w shapeCasts_S1024x256_S1024x256) (constant S512x256 .f32 0x00000000#32)) slices_S512x256_o0_128_S512x128) (shapeCast S512x128 C shapeCasts_S512x128_S512x128)) (mulf (dynamicRotate 1 64#32 none (extractStridedSlice S512x128 ![0, 128] (matmul dot_S512x1024_S1024x256_S512x256_1_0_0_1_n_n none v (shapeCast S1024x256 w shapeCasts_S1024x256_S1024x256) (constant S512x256 .f32 0x00000000#32)) slices_S512x256_o0_128_S512x128) rotates_S512x128_d1) (shapeCast S512x128 S shapeCasts_S512x128_S512x128))) bitsLt_bf16_f32

theorem head0_at (v : FVec Ideal S512x1024 .bf16) (w : FVec Ideal S1024x256 .bf16) (C S : FVec Ideal S512x128 .f32) (y : Fin 512) (l : Fin 128) :
    head0 v w C S (ix2 y l) = (∑ k : Fin 1024, v (ix2 y k) * w (ix2 k ⟨l.val, by omega⟩)) * C (ix2 y l)
      + (∑ k : Fin 1024, v (ix2 y k) * w (ix2 k ⟨(opp l).val, by omega⟩)) * S (ix2 y l) := by
  pointwise [head0]
  rfl
theorem head1_at (v : FVec Ideal S512x1024 .bf16) (w : FVec Ideal S1024x256 .bf16) (C S : FVec Ideal S512x128 .f32) (y : Fin 512) (l : Fin 128) :
    head1 v w C S (ix2 y l) = (∑ k : Fin 1024, v (ix2 y k) * w (ix2 k ⟨128 + l.val, by omega⟩)) * C (ix2 y l)
      + (∑ k : Fin 1024, v (ix2 y k) * w (ix2 k ⟨128 + (opp l).val, by omega⟩)) * S (ix2 y l) := by
  pointwise [head1]
  rfl

theorem pay56_at (v : FVec Ideal S512x1024 .bf16) (w : FVec Ideal S1024x128 .bf16) (C S : FVec Ideal S512x128 .f32) (y : Fin 512) (l : Fin 128) :
    k0_pay56 (F := Ideal) v w C S (ix2 y l) = (∑ k : Fin 1024, v (ix2 y k) * w (ix2 k l)) * C (ix2 y l)
      + (∑ k : Fin 1024, v (ix2 y k) * w (ix2 k (opp l))) * S (ix2 y l) := by
  pointwise [k0_pay56]
  rfl
theorem pay53_at (v : FVec Ideal S512x1024 .bf16) (w : FVec Ideal S1024x1024 .bf16) (d : Fin 1024) (y : Fin 512) :
    k0_pay53 (F := Ideal) v w (ix2 d y) = ∑ k : Fin 1024, w (ix2 d k) * v (ix2 y k) := by
  pointwise [k0_pay53]
theorem pay57_at (v : FVec Ideal S512x1024 .bf16) (w : FVec Ideal S8x1024 .bf16) (d : Fin 8) (y : Fin 512) :
    k0_pay57 (F := Ideal) v w (ix2 d y) = (∑ k : Fin 1024, w (ix2 d k) * v (ix2 y k)) * Ideal.ofBits FTy.f32 0x3EB504F3#32 := by
  pointwise [k0_pay57]

/-- The column half a head away. -/
def swp (d : Fin 1024) : Fin 1024 := ⟨d.val / 128 * 128 + (opp (lane d)).val, by have := (opp (lane d)).isLt; omega⟩

/-- Eight heads turned by the tables. -/
def turned (x : FVec Ideal S512x1024 .f32) (w : Fin 1024 → Fin 1024 → EReal) (C S : FVec Ideal S512x128 .f32) : FVec Ideal S512x1024 .bf16 := fun y =>
  (∑ k : Fin 1024, x (ix2 (y 0) k) * w k (y 1)) * C (ix2 (y 0) (lane (y 1)))
    + (∑ k : Fin 1024, x (ix2 (y 0) k) * w k (swp (y 1))) * S (ix2 (y 0) (lane (y 1)))

theorem piece0 (x : FVec Ideal S512x1024 .f32) (w : Fin 1024 → Fin 1024 → EReal) (C S : FVec Ideal S512x128 .f32) (W : FVec Ideal S1024x256 .bf16)
    (j : Fin 4) (hW : ∀ (k : Fin 1024) (l : Fin 256), W (ix2 k l) = w k ⟨256 * j.val + l.val, by omega⟩) (y : Fin 512) (l : Fin 128) (e : S512x1024.Idx)
    (h0 : (e 0).val = y.val) (h1 : (e 1).val = 256 * j.val + l.val) : head0 (k0_pay2 x) W C S (ix2 y l) = turned x w C S e := by
  rw [head0_at]
  have hl := l.isLt
  have a0 : e 0 = y := Fin.ext h0
  have a1 : lane (e 1) = l := Fin.ext (by show (e 1).val % 128 = _; omega)
  have a2 : e 1 = (⟨256 * j.val + l.val, by omega⟩ : Fin 1024) := Fin.ext h1
  have a3 : swp (e 1) = (⟨256 * j.val + (opp l).val, by have := (opp l).isLt; omega⟩ : Fin 1024) := Fin.ext (by
    show (e 1).val / 128 * 128 + (opp (lane (e 1))).val = _
    rw [a1, h1]; show _ = 256 * j.val + _; omega)
  unfold turned
  rw [a3, a1, a0, a2]
  exact congrArg₂ (· + ·) (congrArg (· * C (ix2 y l)) (Finset.sum_congr rfl fun k _ => congrArg (x (ix2 y k) * ·) (hW k ⟨l.val, by omega⟩)))
    (congrArg (· * S (ix2 y l)) (Finset.sum_congr rfl fun k _ => congrArg (x (ix2 y k) * ·) (hW k ⟨(opp l).val, by have := (opp l).isLt; omega⟩)))

theorem part0 (x : FVec Ideal S512x1024 .f32) (w : Fin 1024 → Fin 1024 → EReal) (C S : FVec Ideal S512x128 .f32) (W : FVec Ideal S1024x256 .bf16)
    (j : Fin 4) (hW : ∀ (k : Fin 1024) (l : Fin 256), W (ix2 k l) = w k ⟨256 * j.val + l.val, by omega⟩) (i : S512x128.Idx) (e : S512x1024.Idx)
    (h0 : (e 0).val = (i 0).val) (h1 : (e 1).val = 256 * j.val + (i 1).val) : head0 (k0_pay2 x) W C S i = turned x w C S e :=
  (congrArg (head0 (k0_pay2 x) W C S) (show i = (ix2 (i 0) (i 1) : S512x128.Idx) from funext fun (a : Fin 2) => by fin_cases a <;> rfl)).trans
    (piece0 x w C S W j hW (i 0) (i 1) e h0 h1)

theorem piece1 (x : FVec Ideal S512x1024 .f32) (w : Fin 1024 → Fin 1024 → EReal) (C S : FVec Ideal S512x128 .f32) (W : FVec Ideal S1024x256 .bf16)
    (j : Fin 4) (hW : ∀ (k : Fin 1024) (l : Fin 256), W (ix2 k l) = w k ⟨256 * j.val + l.val, by omega⟩) (y : Fin 512) (l : Fin 128) (e : S512x1024.Idx)
    (h0 : (e 0).val = y.val) (h1 : (e 1).val = 256 * j.val + 128 + l.val) : head1 (k0_pay2 x) W C S (ix2 y l) = turned x w C S e := by
  rw [head1_at]
  have hl := l.isLt
  have a0 : e 0 = y := Fin.ext h0
  have a1 : lane (e 1) = l := Fin.ext (by show (e 1).val % 128 = _; omega)
  have a2 : e 1 = (⟨256 * j.val + (128 + l.val), by omega⟩ : Fin 1024) := Fin.ext (by show (e 1).val = 256 * j.val + (128 + l.val); omega)
  have a3 : swp (e 1) = (⟨256 * j.val + (128 + (opp l).val), by have := (opp l).isLt; omega⟩ : Fin 1024) := Fin.ext (by
    show (e 1).val / 128 * 128 + (opp (lane (e 1))).val = _
    rw [a1, h1]; show _ = 256 * j.val + (128 + _); omega)
  unfold turned
  rw [a3, a1, a0, a2]
  exact congrArg₂ (· + ·) (congrArg (· * C (ix2 y l)) (Finset.sum_congr rfl fun k _ => congrArg (x (ix2 y k) * ·) (hW k ⟨128 + l.val, by omega⟩)))
    (congrArg (· * S (ix2 y l)) (Finset.sum_congr rfl fun k _ => congrArg (x (ix2 y k) * ·) (hW k ⟨128 + (opp l).val, by have := (opp l).isLt; omega⟩)))

theorem part1 (x : FVec Ideal S512x1024 .f32) (w : Fin 1024 → Fin 1024 → EReal) (C S : FVec Ideal S512x128 .f32) (W : FVec Ideal S1024x256 .bf16)
    (j : Fin 4) (hW : ∀ (k : Fin 1024) (l : Fin 256), W (ix2 k l) = w k ⟨256 * j.val + l.val, by omega⟩) (i : S512x128.Idx) (e : S512x1024.Idx)
    (h0 : (e 0).val = (i 0).val) (h1 : (e 1).val = 256 * j.val + 128 + (i 1).val) : head1 (k0_pay2 x) W C S i = turned x w C S e :=
  (congrArg (head1 (k0_pay2 x) W C S) (show i = (ix2 (i 0) (i 1) : S512x128.Idx) from funext fun (a : Fin 2) => by fin_cases a <;> rfl)).trans
    (piece1 x w C S W j hW (i 0) (i 1) e h0 h1)

theorem hz2 : (![0, 0] : Fin 2 → Nat) = fun _ => 0 := funext fun a => by fin_cases a <;> rfl

theorem pay14_7 (x : FVec Ideal S512x1024 .f32) (w : FVec Ideal S1024x256 .bf16) (C S : FVec Ideal S512x128 .f32) :
    k0_pay17 (k0_pay2 x) w C S = head1 (k0_pay2 x) w C S := rfl
theorem col14_7 (x : FVec Ideal S512x1024 .f32) (W : FVec Ideal S1024x2048 .bf16) (C S : FVec Ideal S512x128 .f32) (i : S512x128.Idx) :
    head1 (k0_pay2 x) (fun y => W (r0_11.emb y)) C S i = turned x (fun k d => W (ix2 k ⟨d.val, by omega⟩)) C S (r0_13.emb i) :=
  part1 x (fun k d => W (ix2 k ⟨d.val, by omega⟩)) C S (fun y => W (r0_11.emb y)) 3 (fun k l => congrArg W (funext fun (a : Fin 2) => Fin.ext (by
      match a with
      | ⟨0, _⟩ => show 0 + 1 * k.val = k.val; omega
      | ⟨1, _⟩ => show 768 + 1 * l.val = (256 * 3 + l.val); omega))) i (r0_13.emb i)
      (by show 0 + 1 * (i 0).val = (i 0).val; omega) (by show 896 + 1 * (i 1).val = 256 * 3 + 128 + (i 1).val; omega)
theorem pay14_6 (x : FVec Ideal S512x1024 .f32) (w : FVec Ideal S1024x256 .bf16) (C S : FVec Ideal S512x128 .f32) :
    k0_pay16 (k0_pay2 x) w C S = head0 (k0_pay2 x) w C S := rfl
theorem col14_6 (x : FVec Ideal S512x1024 .f32) (W : FVec Ideal S1024x2048 .bf16) (C S : FVec Ideal S512x128 .f32) (i : S512x128.Idx) :
    head0 (k0_pay2 x) (fun y => W (r0_11.emb y)) C S i = turned x (fun k d => W (ix2 k ⟨d.val, by omega⟩)) C S (r0_12.emb i) :=
  part0 x (fun k d => W (ix2 k ⟨d.val, by omega⟩)) C S (fun y => W (r0_11.emb y)) 3 (fun k l => congrArg W (funext fun (a : Fin 2) => Fin.ext (by
      match a with
      | ⟨0, _⟩ => show 0 + 1 * k.val = k.val; omega
      | ⟨1, _⟩ => show 768 + 1 * l.val = (256 * 3 + l.val); omega))) i (r0_12.emb i)
      (by show 0 + 1 * (i 0).val = (i 0).val; omega) (by show 768 + 1 * (i 1).val = 256 * 3 + (i 1).val; omega)
theorem pay14_5 (x : FVec Ideal S512x1024 .f32) (w : FVec Ideal S1024x256 .bf16) (C S : FVec Ideal S512x128 .f32) :
    k0_pay14 (k0_pay13 (k0_pay2 x) w) C S = head1 (k0_pay2 x) w C S := rfl
theorem col14_5 (x : FVec Ideal S512x1024 .f32) (W : FVec Ideal S1024x2048 .bf16) (C S : FVec Ideal S512x128 .f32) (i : S512x128.Idx) :
    head1 (k0_pay2 x) (fun y => W (r0_8.emb y)) C S i = turned x (fun k d => W (ix2 k ⟨d.val, by omega⟩)) C S (r0_10.emb i) :=
  part1 x (fun k d => W (ix2 k ⟨d.val, by omega⟩)) C S (fun y => W (r0_8.emb y)) 2 (fun k l => congrArg W (funext fun (a : Fin 2) => Fin.ext (by
      match a with
      | ⟨0, _⟩ => show 0 + 1 * k.val = k.val; omega
      | ⟨1, _⟩ => show 512 + 1 * l.val = (256 * 2 + l.val); omega))) i (r0_10.emb i)
      (by show 0 + 1 * (i 0).val = (i 0).val; omega) (by show 640 + 1 * (i 1).val = 256 * 2 + 128 + (i 1).val; omega)
theorem pay14_4 (x : FVec Ideal S512x1024 .f32) (w : FVec Ideal S1024x256 .bf16) (C S : FVec Ideal S512x128 .f32) :
    k0_pay12 (k0_pay2 x) w C S = head0 (k0_pay2 x) w C S := rfl
theorem col14_4 (x : FVec Ideal S512x1024 .f32) (W : FVec Ideal S1024x2048 .bf16) (C S : FVec Ideal S512x128 .f32) (i : S512x128.Idx) :
    head0 (k0_pay2 x) (fun y => W (r0_8.emb y)) C S i = turned x (fun k d => W (ix2 k ⟨d.val, by omega⟩)) C S (r0_9.emb i) :=
  part0 x (fun k d => W (ix2 k ⟨d.val, by omega⟩)) C S (fun y => W (r0_8.emb y)) 2 (fun k l => congrArg W (funext fun (a : Fin 2) => Fin.ext (by
      match a with
      | ⟨0, _⟩ => show 0 + 1 * k.val = k.val; omega
      | ⟨1, _⟩ => show 512 + 1 * l.val = (256 * 2 + l.val); omega))) i (r0_9.emb i)
      (by show 0 + 1 * (i 0).val = (i 0).val; omega) (by show 512 + 1 * (i 1).val = 256 * 2 + (i 1).val; omega)
theorem pay14_3 (x : FVec Ideal S512x1024 .f32) (w : FVec Ideal S1024x256 .bf16) (C S : FVec Ideal S512x128 .f32) :
    k0_pay10 (k0_pay6 x w) C S = head1 (k0_pay2 x) w C S := rfl
theorem col14_3 (x : FVec Ideal S512x1024 .f32) (W : FVec Ideal S1024x2048 .bf16) (C S : FVec Ideal S512x128 .f32) (i : S512x128.Idx) :
    head1 (k0_pay2 x) (fun y => W (r0_5.emb y)) C S i = turned x (fun k d => W (ix2 k ⟨d.val, by omega⟩)) C S (r0_7.emb i) :=
  part1 x (fun k d => W (ix2 k ⟨d.val, by omega⟩)) C S (fun y => W (r0_5.emb y)) 1 (fun k l => congrArg W (funext fun (a : Fin 2) => Fin.ext (by
      match a with
      | ⟨0, _⟩ => show 0 + 1 * k.val = k.val; omega
      | ⟨1, _⟩ => show 256 + 1 * l.val = (256 * 1 + l.val); omega))) i (r0_7.emb i)
      (by show 0 + 1 * (i 0).val = (i 0).val; omega) (by show 384 + 1 * (i 1).val = 256 * 1 + 128 + (i 1).val; omega)
theorem pay14_2 (x : FVec Ideal S512x1024 .f32) (w : FVec Ideal S1024x256 .bf16) (C S : FVec Ideal S512x128 .f32) :
    k0_pay9 (k0_pay7 x w) (k0_pay8 C) S = head0 (k0_pay2 x) w C S := rfl
theorem col14_2 (x : FVec Ideal S512x1024 .f32) (W : FVec Ideal S1024x2048 .bf16) (C S : FVec Ideal S512x128 .f32) (i : S512x128.Idx) :
    head0 (k0_pay2 x) (fun y => W (r0_5.emb y)) C S i = turned x (fun k d => W (ix2 k ⟨d.val, by omega⟩)) C S (r0_6.emb i) :=
  part0 x (fun k d => W (ix2 k ⟨d.val, by omega⟩)) C S (fun y => W (r0_5.emb y)) 1 (fun k l => congrArg W (funext fun (a : Fin 2) => Fin.ext (by
      match a with
      | ⟨0, _⟩ => show 0 + 1 * k.val = k.val; omega
      | ⟨1, _⟩ => show 256 + 1 * l.val = (256 * 1 + l.val); omega))) i (r0_6.emb i)
      (by show 0 + 1 * (i 0).val = (i 0).val; omega) (by show 256 + 1 * (i 1).val = 256 * 1 + (i 1).val; omega)
theorem pay14_1 (x : FVec Ideal S512x1024 .f32) (w : FVec Ideal S1024x256 .bf16) (C S : FVec Ideal S512x128 .f32) :
    k0_pay5 x w C S = head1 (k0_pay2 x) w C S := rfl
theorem col14_1 (x : FVec Ideal S512x1024 .f32) (W : FVec Ideal S1024x2048 .bf16) (C S : FVec Ideal S512x128 .f32) (i : S512x128.Idx) :
    head1 (k0_pay2 x) (fun y => W (r0_1.emb y)) C S i = turned x (fun k d => W (ix2 k ⟨d.val, by omega⟩)) C S (r0_4.emb i) :=
  part1 x (fun k d => W (ix2 k ⟨d.val, by omega⟩)) C S (fun y => W (r0_1.emb y)) 0 (fun k l => congrArg W (funext fun (a : Fin 2) => Fin.ext (by
      match a with
      | ⟨0, _⟩ => show 0 + 1 * k.val = k.val; omega
      | ⟨1, _⟩ => show 0 + 1 * l.val = (256 * 0 + l.val); omega))) i (r0_4.emb i)
      (by show 0 + 1 * (i 0).val = (i 0).val; omega) (by show 128 + 1 * (i 1).val = 256 * 0 + 128 + (i 1).val; omega)
theorem pay14_0 (x : FVec Ideal S512x1024 .f32) (w : FVec Ideal S1024x256 .bf16) (C S : FVec Ideal S512x128 .f32) :
    k0_pay4 x w C S = head0 (k0_pay2 x) w C S := rfl
theorem col14_0 (x : FVec Ideal S512x1024 .f32) (W : FVec Ideal S1024x2048 .bf16) (C S : FVec Ideal S512x128 .f32) (i : S512x128.Idx) :
    head0 (k0_pay2 x) (fun y => W (r0_1.emb y)) C S i = turned x (fun k d => W (ix2 k ⟨d.val, by omega⟩)) C S (r0_3.emb i) :=
  part0 x (fun k d => W (ix2 k ⟨d.val, by omega⟩)) C S (fun y => W (r0_1.emb y)) 0 (fun k l => congrArg W (funext fun (a : Fin 2) => Fin.ext (by
      match a with
      | ⟨0, _⟩ => show 0 + 1 * k.val = k.val; omega
      | ⟨1, _⟩ => show 0 + 1 * l.val = (256 * 0 + l.val); omega))) i (r0_3.emb i)
      (by show 0 + 1 * (i 0).val = (i 0).val; omega) (by show 0 + 1 * (i 1).val = 256 * 0 + (i 1).val; omega)
theorem pay15_7 (x : FVec Ideal S512x1024 .f32) (w : FVec Ideal S1024x256 .bf16) (C S : FVec Ideal S512x128 .f32) :
    k0_pay34 (k0_pay2 x) w C S = head1 (k0_pay2 x) w C S := rfl
theorem col15_7 (x : FVec Ideal S512x1024 .f32) (W : FVec Ideal S1024x2048 .bf16) (C S : FVec Ideal S512x128 .f32) (i : S512x128.Idx) :
    head1 (k0_pay2 x) (fun y => W (r0_17.emb y)) C S i = turned x (fun k d => W (ix2 k ⟨1024 + d.val, by omega⟩)) C S (r0_13.emb i) :=
  part1 x (fun k d => W (ix2 k ⟨1024 + d.val, by omega⟩)) C S (fun y => W (r0_17.emb y)) 3 (fun k l => congrArg W (funext fun (a : Fin 2) => Fin.ext (by
      match a with
      | ⟨0, _⟩ => show 0 + 1 * k.val = k.val; omega
      | ⟨1, _⟩ => show 1792 + 1 * l.val = 1024 + (256 * 3 + l.val); omega))) i (r0_13.emb i)
      (by show 0 + 1 * (i 0).val = (i 0).val; omega) (by show 896 + 1 * (i 1).val = 256 * 3 + 128 + (i 1).val; omega)
theorem pay15_6 (x : FVec Ideal S512x1024 .f32) (w : FVec Ideal S1024x256 .bf16) (C S : FVec Ideal S512x128 .f32) :
    k0_pay33 (k0_pay2 x) w C S = head0 (k0_pay2 x) w C S := rfl
theorem col15_6 (x : FVec Ideal S512x1024 .f32) (W : FVec Ideal S1024x2048 .bf16) (C S : FVec Ideal S512x128 .f32) (i : S512x128.Idx) :
    head0 (k0_pay2 x) (fun y => W (r0_17.emb y)) C S i = turned x (fun k d => W (ix2 k ⟨1024 + d.val, by omega⟩)) C S (r0_12.emb i) :=
  part0 x (fun k d => W (ix2 k ⟨1024 + d.val, by omega⟩)) C S (fun y => W (r0_17.emb y)) 3 (fun k l => congrArg W (funext fun (a : Fin 2) => Fin.ext (by
      match a with
      | ⟨0, _⟩ => show 0 + 1 * k.val = k.val; omega
      | ⟨1, _⟩ => show 1792 + 1 * l.val = 1024 + (256 * 3 + l.val); omega))) i (r0_12.emb i)
      (by show 0 + 1 * (i 0).val = (i 0).val; omega) (by show 768 + 1 * (i 1).val = 256 * 3 + (i 1).val; omega)
theorem pay15_5 (x : FVec Ideal S512x1024 .f32) (w : FVec Ideal S1024x256 .bf16) (C S : FVec Ideal S512x128 .f32) :
    k0_pay31 (k0_pay29 (k0_pay2 x) w) (k0_pay30 C) S = head1 (k0_pay2 x) w C S := rfl
theorem col15_5 (x : FVec Ideal S512x1024 .f32) (W : FVec Ideal S1024x2048 .bf16) (C S : FVec Ideal S512x128 .f32) (i : S512x128.Idx) :
    head1 (k0_pay2 x) (fun y => W (r0_16.emb y)) C S i = turned x (fun k d => W (ix2 k ⟨1024 + d.val, by omega⟩)) C S (r0_10.emb i) :=
  part1 x (fun k d => W (ix2 k ⟨1024 + d.val, by omega⟩)) C S (fun y => W (r0_16.emb y)) 2 (fun k l => congrArg W (funext fun (a : Fin 2) => Fin.ext (by
      match a with
      | ⟨0, _⟩ => show 0 + 1 * k.val = k.val; omega
      | ⟨1, _⟩ => show 1536 + 1 * l.val = 1024 + (256 * 2 + l.val); omega))) i (r0_10.emb i)
      (by show 0 + 1 * (i 0).val = (i 0).val; omega) (by show 640 + 1 * (i 1).val = 256 * 2 + 128 + (i 1).val; omega)
theorem pay15_4 (x : FVec Ideal S512x1024 .f32) (w : FVec Ideal S1024x256 .bf16) (C S : FVec Ideal S512x128 .f32) :
    k0_pay28 (k0_pay2 x) w C S = head0 (k0_pay2 x) w C S := rfl
theorem col15_4 (x : FVec Ideal S512x1024 .f32) (W : FVec Ideal S1024x2048 .bf16) (C S : FVec Ideal S512x128 .f32) (i : S512x128.Idx) :
    head0 (k0_pay2 x) (fun y => W (r0_16.emb y)) C S i = turned x (fun k d => W (ix2 k ⟨1024 + d.val, by omega⟩)) C S (r0_9.emb i) :=
  part0 x (fun k d => W (ix2 k ⟨1024 + d.val, by omega⟩)) C S (fun y => W (r0_16.emb y)) 2 (fun k l => congrArg W (funext fun (a : Fin 2) => Fin.ext (by
      match a with
      | ⟨0, _⟩ => show 0 + 1 * k.val = k.val; omega
      | ⟨1, _⟩ => show 1536 + 1 * l.val = 1024 + (256 * 2 + l.val); omega))) i (r0_9.emb i)
      (by show 0 + 1 * (i 0).val = (i 0).val; omega) (by show 512 + 1 * (i 1).val = 256 * 2 + (i 1).val; omega)
theorem pay15_3 (x : FVec Ideal S512x1024 .f32) (w : FVec Ideal S1024x256 .bf16) (C S : FVec Ideal S512x128 .f32) :
    k0_pay26 (k0_pay21 (k0_pay2 x) w) C S = head1 (k0_pay2 x) w C S := rfl
theorem col15_3 (x : FVec Ideal S512x1024 .f32) (W : FVec Ideal S1024x2048 .bf16) (C S : FVec Ideal S512x128 .f32) (i : S512x128.Idx) :
    head1 (k0_pay2 x) (fun y => W (r0_15.emb y)) C S i = turned x (fun k d => W (ix2 k ⟨1024 + d.val, by omega⟩)) C S (r0_7.emb i) :=
  part1 x (fun k d => W (ix2 k ⟨1024 + d.val, by omega⟩)) C S (fun y => W (r0_15.emb y)) 1 (fun k l => congrArg W (funext fun (a : Fin 2) => Fin.ext (by
      match a with
      | ⟨0, _⟩ => show 0 + 1 * k.val = k.val; omega
      | ⟨1, _⟩ => show 1280 + 1 * l.val = 1024 + (256 * 1 + l.val); omega))) i (r0_7.emb i)
      (by show 0 + 1 * (i 0).val = (i 0).val; omega) (by show 384 + 1 * (i 1).val = 256 * 1 + 128 + (i 1).val; omega)
theorem pay15_2 (x : FVec Ideal S512x1024 .f32) (w : FVec Ideal S1024x256 .bf16) (C S : FVec Ideal S512x128 .f32) :
    k0_pay25 (k0_pay22 (k0_pay2 x) w) (k0_pay23 C) (k0_pay24 S) = head0 (k0_pay2 x) w C S := rfl
theorem col15_2 (x : FVec Ideal S512x1024 .f32) (W : FVec Ideal S1024x2048 .bf16) (C S : FVec Ideal S512x128 .f32) (i : S512x128.Idx) :
    head0 (k0_pay2 x) (fun y => W (r0_15.emb y)) C S i = turned x (fun k d => W (ix2 k ⟨1024 + d.val, by omega⟩)) C S (r0_6.emb i) :=
  part0 x (fun k d => W (ix2 k ⟨1024 + d.val, by omega⟩)) C S (fun y => W (r0_15.emb y)) 1 (fun k l => congrArg W (funext fun (a : Fin 2) => Fin.ext (by
      match a with
      | ⟨0, _⟩ => show 0 + 1 * k.val = k.val; omega
      | ⟨1, _⟩ => show 1280 + 1 * l.val = 1024 + (256 * 1 + l.val); omega))) i (r0_6.emb i)
      (by show 0 + 1 * (i 0).val = (i 0).val; omega) (by show 256 + 1 * (i 1).val = 256 * 1 + (i 1).val; omega)
theorem pay15_1 (x : FVec Ideal S512x1024 .f32) (w : FVec Ideal S1024x256 .bf16) (C S : FVec Ideal S512x128 .f32) :
    k0_pay20 (k0_pay2 x) w C S = head1 (k0_pay2 x) w C S := rfl
theorem col15_1 (x : FVec Ideal S512x1024 .f32) (W : FVec Ideal S1024x2048 .bf16) (C S : FVec Ideal S512x128 .f32) (i : S512x128.Idx) :
    head1 (k0_pay2 x) (fun y => W (r0_14.emb y)) C S i = turned x (fun k d => W (ix2 k ⟨1024 + d.val, by omega⟩)) C S (r0_4.emb i) :=
  part1 x (fun k d => W (ix2 k ⟨1024 + d.val, by omega⟩)) C S (fun y => W (r0_14.emb y)) 0 (fun k l => congrArg W (funext fun (a : Fin 2) => Fin.ext (by
      match a with
      | ⟨0, _⟩ => show 0 + 1 * k.val = k.val; omega
      | ⟨1, _⟩ => show 1024 + 1 * l.val = 1024 + (256 * 0 + l.val); omega))) i (r0_4.emb i)
      (by show 0 + 1 * (i 0).val = (i 0).val; omega) (by show 128 + 1 * (i 1).val = 256 * 0 + 128 + (i 1).val; omega)
theorem pay15_0 (x : FVec Ideal S512x1024 .f32) (w : FVec Ideal S1024x256 .bf16) (C S : FVec Ideal S512x128 .f32) :
    k0_pay19 (k0_pay2 x) w C S = head0 (k0_pay2 x) w C S := rfl
theorem col15_0 (x : FVec Ideal S512x1024 .f32) (W : FVec Ideal S1024x2048 .bf16) (C S : FVec Ideal S512x128 .f32) (i : S512x128.Idx) :
    head0 (k0_pay2 x) (fun y => W (r0_14.emb y)) C S i = turned x (fun k d => W (ix2 k ⟨1024 + d.val, by omega⟩)) C S (r0_3.emb i) :=
  part0 x (fun k d => W (ix2 k ⟨1024 + d.val, by omega⟩)) C S (fun y => W (r0_14.emb y)) 0 (fun k l => congrArg W (funext fun (a : Fin 2) => Fin.ext (by
      match a with
      | ⟨0, _⟩ => show 0 + 1 * k.val = k.val; omega
      | ⟨1, _⟩ => show 1024 + 1 * l.val = 1024 + (256 * 0 + l.val); omega))) i (r0_3.emb i)
      (by show 0 + 1 * (i 0).val = (i 0).val; omega) (by show 0 + 1 * (i 1).val = 256 * 0 + (i 1).val; omega)
theorem pay17_7 (x : FVec Ideal S512x1024 .f32) (w : FVec Ideal S1024x256 .bf16) (C S : FVec Ideal S512x128 .f32) :
    k0_pay52 (k0_pay2 x) w C S = head1 (k0_pay2 x) w C S := rfl
theorem col17_7 (x : FVec Ideal S512x1024 .f32) (W : FVec Ideal S1024x1024 .bf16) (C S : FVec Ideal S512x128 .f32) (i : S512x128.Idx) :
    head1 (k0_pay2 x) (fun y => W (r0_21.emb y)) C S i = turned x (fun k d => W (ix2 k d)) C S (r0_13.emb i) :=
  part1 x (fun k d => W (ix2 k d)) C S (fun y => W (r0_21.emb y)) 3 (fun k l => congrArg W (funext fun (a : Fin 2) => Fin.ext (by
      match a with
      | ⟨0, _⟩ => show 0 + 1 * k.val = k.val; omega
      | ⟨1, _⟩ => show 768 + 1 * l.val = (256 * 3 + l.val); omega))) i (r0_13.emb i)
      (by show 0 + 1 * (i 0).val = (i 0).val; omega) (by show 896 + 1 * (i 1).val = 256 * 3 + 128 + (i 1).val; omega)
theorem pay17_6 (x : FVec Ideal S512x1024 .f32) (w : FVec Ideal S1024x256 .bf16) (C S : FVec Ideal S512x128 .f32) :
    k0_pay51 (k0_pay2 x) w C S = head0 (k0_pay2 x) w C S := rfl
theorem col17_6 (x : FVec Ideal S512x1024 .f32) (W : FVec Ideal S1024x1024 .bf16) (C S : FVec Ideal S512x128 .f32) (i : S512x128.Idx) :
    head0 (k0_pay2 x) (fun y => W (r0_21.emb y)) C S i = turned x (fun k d => W (ix2 k d)) C S (r0_12.emb i) :=
  part0 x (fun k d => W (ix2 k d)) C S (fun y => W (r0_21.emb y)) 3 (fun k l => congrArg W (funext fun (a : Fin 2) => Fin.ext (by
      match a with
      | ⟨0, _⟩ => show 0 + 1 * k.val = k.val; omega
      | ⟨1, _⟩ => show 768 + 1 * l.val = (256 * 3 + l.val); omega))) i (r0_12.emb i)
      (by show 0 + 1 * (i 0).val = (i 0).val; omega) (by show 768 + 1 * (i 1).val = 256 * 3 + (i 1).val; omega)
theorem pay17_5 (x : FVec Ideal S512x1024 .f32) (w : FVec Ideal S1024x256 .bf16) (C S : FVec Ideal S512x128 .f32) :
    k0_pay49 (k0_pay46 (k0_pay2 x) w) (k0_pay47 S) (k0_pay48 (k0_pay2 x) w C) = head1 (k0_pay2 x) w C S := rfl
theorem col17_5 (x : FVec Ideal S512x1024 .f32) (W : FVec Ideal S1024x1024 .bf16) (C S : FVec Ideal S512x128 .f32) (i : S512x128.Idx) :
    head1 (k0_pay2 x) (fun y => W (r0_20.emb y)) C S i = turned x (fun k d => W (ix2 k d)) C S (r0_10.emb i) :=
  part1 x (fun k d => W (ix2 k d)) C S (fun y => W (r0_20.emb y)) 2 (fun k l => congrArg W (funext fun (a : Fin 2) => Fin.ext (by
      match a with
      | ⟨0, _⟩ => show 0 + 1 * k.val = k.val; omega
      | ⟨1, _⟩ => show 512 + 1 * l.val = (256 * 2 + l.val); omega))) i (r0_10.emb i)
      (by show 0 + 1 * (i 0).val = (i 0).val; omega) (by show 640 + 1 * (i 1).val = 256 * 2 + 128 + (i 1).val; omega)
theorem pay17_4 (x : FVec Ideal S512x1024 .f32) (w : FVec Ideal S1024x256 .bf16) (C S : FVec Ideal S512x128 .f32) :
    k0_pay45 (k0_pay2 x) w C S = head0 (k0_pay2 x) w C S := rfl
theorem col17_4 (x : FVec Ideal S512x1024 .f32) (W : FVec Ideal S1024x1024 .bf16) (C S : FVec Ideal S512x128 .f32) (i : S512x128.Idx) :
    head0 (k0_pay2 x) (fun y => W (r0_20.emb y)) C S i = turned x (fun k d => W (ix2 k d)) C S (r0_9.emb i) :=
  part0 x (fun k d => W (ix2 k d)) C S (fun y => W (r0_20.emb y)) 2 (fun k l => congrArg W (funext fun (a : Fin 2) => Fin.ext (by
      match a with
      | ⟨0, _⟩ => show 0 + 1 * k.val = k.val; omega
      | ⟨1, _⟩ => show 512 + 1 * l.val = (256 * 2 + l.val); omega))) i (r0_9.emb i)
      (by show 0 + 1 * (i 0).val = (i 0).val; omega) (by show 512 + 1 * (i 1).val = 256 * 2 + (i 1).val; omega)
theorem pay17_3 (x : FVec Ideal S512x1024 .f32) (w : FVec Ideal S1024x256 .bf16) (C S : FVec Ideal S512x128 .f32) :
    k0_pay43 (k0_pay38 (k0_pay2 x) w) C S = head1 (k0_pay2 x) w C S := rfl
theorem col17_3 (x : FVec Ideal S512x1024 .f32) (W : FVec Ideal S1024x1024 .bf16) (C S : FVec Ideal S512x128 .f32) (i : S512x128.Idx) :
    head1 (k0_pay2 x) (fun y => W (r0_19.emb y)) C S i = turned x (fun k d => W (ix2 k d)) C S (r0_7.emb i) :=
  part1 x (fun k d => W (ix2 k d)) C S (fun y => W (r0_19.emb y)) 1 (fun k l => congrArg W (funext fun (a : Fin 2) => Fin.ext (by
      match a with
      | ⟨0, _⟩ => show 0 + 1 * k.val = k.val; omega
      | ⟨1, _⟩ => show 256 + 1 * l.val = (256 * 1 + l.val); omega))) i (r0_7.emb i)
      (by show 0 + 1 * (i 0).val = (i 0).val; omega) (by show 384 + 1 * (i 1).val = 256 * 1 + 128 + (i 1).val; omega)
theorem pay17_2 (x : FVec Ideal S512x1024 .f32) (w : FVec Ideal S1024x256 .bf16) (C S : FVec Ideal S512x128 .f32) :
    k0_pay42 (k0_pay40 (k0_pay2 x) w C) (k0_pay41 (k0_pay2 x) w S) = head0 (k0_pay2 x) w C S := rfl
theorem col17_2 (x : FVec Ideal S512x1024 .f32) (W : FVec Ideal S1024x1024 .bf16) (C S : FVec Ideal S512x128 .f32) (i : S512x128.Idx) :
    head0 (k0_pay2 x) (fun y => W (r0_19.emb y)) C S i = turned x (fun k d => W (ix2 k d)) C S (r0_6.emb i) :=
  part0 x (fun k d => W (ix2 k d)) C S (fun y => W (r0_19.emb y)) 1 (fun k l => congrArg W (funext fun (a : Fin 2) => Fin.ext (by
      match a with
      | ⟨0, _⟩ => show 0 + 1 * k.val = k.val; omega
      | ⟨1, _⟩ => show 256 + 1 * l.val = (256 * 1 + l.val); omega))) i (r0_6.emb i)
      (by show 0 + 1 * (i 0).val = (i 0).val; omega) (by show 256 + 1 * (i 1).val = 256 * 1 + (i 1).val; omega)
theorem pay17_1 (x : FVec Ideal S512x1024 .f32) (w : FVec Ideal S1024x256 .bf16) (C S : FVec Ideal S512x128 .f32) :
    k0_pay37 (k0_pay2 x) w C S = head1 (k0_pay2 x) w C S := rfl
theorem col17_1 (x : FVec Ideal S512x1024 .f32) (W : FVec Ideal S1024x1024 .bf16) (C S : FVec Ideal S512x128 .f32) (i : S512x128.Idx) :
    head1 (k0_pay2 x) (fun y => W (r0_18.emb y)) C S i = turned x (fun k d => W (ix2 k d)) C S (r0_4.emb i) :=
  part1 x (fun k d => W (ix2 k d)) C S (fun y => W (r0_18.emb y)) 0 (fun k l => congrArg W (funext fun (a : Fin 2) => Fin.ext (by
      match a with
      | ⟨0, _⟩ => show 0 + 1 * k.val = k.val; omega
      | ⟨1, _⟩ => show 0 + 1 * l.val = (256 * 0 + l.val); omega))) i (r0_4.emb i)
      (by show 0 + 1 * (i 0).val = (i 0).val; omega) (by show 128 + 1 * (i 1).val = 256 * 0 + 128 + (i 1).val; omega)
theorem pay17_0 (x : FVec Ideal S512x1024 .f32) (w : FVec Ideal S1024x256 .bf16) (C S : FVec Ideal S512x128 .f32) :
    k0_pay36 (k0_pay2 x) w C S = head0 (k0_pay2 x) w C S := rfl
theorem col17_0 (x : FVec Ideal S512x1024 .f32) (W : FVec Ideal S1024x1024 .bf16) (C S : FVec Ideal S512x128 .f32) (i : S512x128.Idx) :
    head0 (k0_pay2 x) (fun y => W (r0_18.emb y)) C S i = turned x (fun k d => W (ix2 k d)) C S (r0_3.emb i) :=
  part0 x (fun k d => W (ix2 k d)) C S (fun y => W (r0_18.emb y)) 0 (fun k l => congrArg W (funext fun (a : Fin 2) => Fin.ext (by
      match a with
      | ⟨0, _⟩ => show 0 + 1 * k.val = k.val; omega
      | ⟨1, _⟩ => show 0 + 1 * l.val = (256 * 0 + l.val); omega))) i (r0_3.emb i)
      (by show 0 + 1 * (i 0).val = (i 0).val; omega) (by show 0 + 1 * (i 1).val = 256 * 0 + (i 1).val; omega)

variable (x0 : FVec Ideal S512x1024 .f32) (x1 : FVec Ideal S1024x2048 .bf16) (x2 x3 : FVec Ideal S1024x1024 .bf16) (x4 : FVec Ideal S1024x128 .bf16)
  (x5 : FVec Ideal S8x1024 .bf16) (x6 x7 x8 x9 x10 x11 x12 x13 : FVec Ideal S512x128 .f32)

theorem win14 : out0_14 (F := Ideal) x0 x1 x2 x3 x4 x5 x6 x7 x8 x9 x10 x11 x12 x13 = turned x0 (fun k d => x1 (ix2 k ⟨d.val, by omega⟩)) x6 x7 := by
  funext y
  have c0 := View.ld_unit_zero (Val := Elt Ideal) (e := .f32) (S := S512x1024) hz2 inb_S512x1024_S512x1024_0_0 x0
  have cC := View.ld_unit_zero (Val := Elt Ideal) (e := .f32) (S := S512x128) hz2 inb_S512x128_S512x128_0_0 x6
  have cS := View.ld_unit_zero (Val := Elt Ideal) (e := .f32) (S := S512x128) hz2 inb_S512x128_S512x128_0_0 x7
  unfold_out out0_14
  rw [c0, cC, cS]
  refine View.canon_apply_of_pieces _ _ (fun p hp i => ?_) y (cover0_14 _ _ _ _ _ _ _ _ y)
  simp only [List.mem_cons, List.mem_nil_iff, or_false] at hp
  rcases hp with rfl | rfl | rfl | rfl | rfl | rfl | rfl | rfl
  · exact (congrFun (pay14_7 x0 _ x6 x7) i).trans (col14_7 x0 x1 x6 x7 i)
  · exact (congrFun (pay14_6 x0 _ x6 x7) i).trans (col14_6 x0 x1 x6 x7 i)
  · exact (congrFun (pay14_5 x0 _ x6 x7) i).trans (col14_5 x0 x1 x6 x7 i)
  · exact (congrFun (pay14_4 x0 _ x6 x7) i).trans (col14_4 x0 x1 x6 x7 i)
  · exact (congrFun (pay14_3 x0 _ x6 x7) i).trans (col14_3 x0 x1 x6 x7 i)
  · exact (congrFun (pay14_2 x0 _ x6 x7) i).trans (col14_2 x0 x1 x6 x7 i)
  · exact (congrFun (pay14_1 x0 _ x6 x7) i).trans (col14_1 x0 x1 x6 x7 i)
  · exact (congrFun (pay14_0 x0 _ x6 x7) i).trans (col14_0 x0 x1 x6 x7 i)

theorem win15 : out0_15 (F := Ideal) x0 x1 x2 x3 x4 x5 x6 x7 x8 x9 x10 x11 x12 x13 = turned x0 (fun k d => x1 (ix2 k ⟨1024 + d.val, by omega⟩)) x8 x9 := by
  funext y
  have c0 := View.ld_unit_zero (Val := Elt Ideal) (e := .f32) (S := S512x1024) hz2 inb_S512x1024_S512x1024_0_0 x0
  have cC := View.ld_unit_zero (Val := Elt Ideal) (e := .f32) (S := S512x128) hz2 inb_S512x128_S512x128_0_0 x8
  have cS := View.ld_unit_zero (Val := Elt Ideal) (e := .f32) (S := S512x128) hz2 inb_S512x128_S512x128_0_0 x9
  unfold_out out0_15
  rw [c0, cC, cS]
  refine View.canon_apply_of_pieces _ _ (fun p hp i => ?_) y (cover0_15 _ _ _ _ _ _ _ _ y)
  simp only [List.mem_cons, List.mem_nil_iff, or_false] at hp
  rcases hp with rfl | rfl | rfl | rfl | rfl | rfl | rfl | rfl
  · exact (congrFun (pay15_7 x0 _ x8 x9) i).trans (col15_7 x0 x1 x8 x9 i)
  · exact (congrFun (pay15_6 x0 _ x8 x9) i).trans (col15_6 x0 x1 x8 x9 i)
  · exact (congrFun (pay15_5 x0 _ x8 x9) i).trans (col15_5 x0 x1 x8 x9 i)
  · exact (congrFun (pay15_4 x0 _ x8 x9) i).trans (col15_4 x0 x1 x8 x9 i)
  · exact (congrFun (pay15_3 x0 _ x8 x9) i).trans (col15_3 x0 x1 x8 x9 i)
  · exact (congrFun (pay15_2 x0 _ x8 x9) i).trans (col15_2 x0 x1 x8 x9 i)
  · exact (congrFun (pay15_1 x0 _ x8 x9) i).trans (col15_1 x0 x1 x8 x9 i)
  · exact (congrFun (pay15_0 x0 _ x8 x9) i).trans (col15_0 x0 x1 x8 x9 i)

theorem win17 : out0_17 (F := Ideal) x0 x1 x2 x3 x4 x5 x6 x7 x8 x9 x10 x11 x12 x13 = turned x0 (fun k d => x3 (ix2 k d)) x10 x11 := by
  funext y
  have c0 := View.ld_unit_zero (Val := Elt Ideal) (e := .f32) (S := S512x1024) hz2 inb_S512x1024_S512x1024_0_0 x0
  have cC := View.ld_unit_zero (Val := Elt Ideal) (e := .f32) (S := S512x128) hz2 inb_S512x128_S512x128_0_0 x10
  have cS := View.ld_unit_zero (Val := Elt Ideal) (e := .f32) (S := S512x128) hz2 inb_S512x128_S512x128_0_0 x11
  unfold_out out0_17
  rw [c0, cC, cS]
  refine View.canon_apply_of_pieces _ _ (fun p hp i => ?_) y (cover0_17 _ _ _ _ _ _ _ _ y)
  simp only [List.mem_cons, List.mem_nil_iff, or_false] at hp
  rcases hp with rfl | rfl | rfl | rfl | rfl | rfl | rfl | rfl
  · exact (congrFun (pay17_7 x0 _ x10 x11) i).trans (col17_7 x0 x3 x10 x11 i)
  · exact (congrFun (pay17_6 x0 _ x10 x11) i).trans (col17_6 x0 x3 x10 x11 i)
  · exact (congrFun (pay17_5 x0 _ x10 x11) i).trans (col17_5 x0 x3 x10 x11 i)
  · exact (congrFun (pay17_4 x0 _ x10 x11) i).trans (col17_4 x0 x3 x10 x11 i)
  · exact (congrFun (pay17_3 x0 _ x10 x11) i).trans (col17_3 x0 x3 x10 x11 i)
  · exact (congrFun (pay17_2 x0 _ x10 x11) i).trans (col17_2 x0 x3 x10 x11 i)
  · exact (congrFun (pay17_1 x0 _ x10 x11) i).trans (col17_1 x0 x3 x10 x11 i)
  · exact (congrFun (pay17_0 x0 _ x10 x11) i).trans (col17_0 x0 x3 x10 x11 i)

end Cert.Proof.ProjA
end
-- ==== Proof.TabA.lean ====
module

public import proofs.«01_k».proof.Proof.Gen.KernelAIdeal.Value
public import proofs.«01_k».proof.Proof.RotA
public import Idealize.ShloMosaic.Lib.Pointwise
public import Idealize.ShloMosaic.Lib.IdealHost
public import Idealize.ShloMosaic.Lib.Pipeline.ValueKit

@[expose] public section

set_option maxRecDepth 16384

noncomputable section

/-! The projection's weights and tables, as the host lays them out. -/

namespace Cert.Proof.ProjA

open Cert.Proof.RotA Idealize.ShloMosaic Idealize.ShloMosaic.TcCoe Idealize.ShloMosaic.Tactic Cert.KernelAIdeal Cert.KernelAIdeal.Gen

variable (m : (ℓ : Loc nD τ sig) → Buf (Elt Ideal) ℓ) (c : Dev nD)

abbrev A0 : FVec Ideal S32768x1024 .f32 := m ((c : Thread nD τ).loc main_arg0)
abbrev A1 : FVec Ideal S1024x3656 .f32 := m ((c : Thread nD τ).loc main_arg1)

/-- The angles of 64 frequencies, and of 32. -/
def ang64 : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (addf (broadcastInDim S64 ![] bcast_S_S64 (constant S_ .f32 0x00000000#32)) (mulf (broadcastInDim S64 ![] bcast_S_S64 (constant S_ .f32 0x40000000#32)) (sitofp .f32 (iotaInDim S64 32 0))))
            (broadcastInDim S64 ![] bcast_S_S64 (constant S_ .f32 0x43000000#32)))))))
def ang32 : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32)) (mulf (broadcastInDim S32 ![] bcast_S_S32 (constant S_ .f32 0x40000000#32)) (sitofp .f32 (iotaInDim S32 32 0))))
            (broadcastInDim S32 ![] bcast_S_S32 (constant S_ .f32 0x42800000#32)))))))

/-- The cosines and the signed sines of a full head. -/
def cos128 : FVec Ideal S2048x128 .f32 := concatenate S2048x128 1 [⟨S2048x64, Host.cos ang64⟩, ⟨S2048x64, Host.cos ang64⟩] concatenates_S2048x64_S2048x64_S2048x128_d1
def sin128 : FVec Ideal S2048x128 .f32 := concatenate S2048x128 1 [⟨S2048x64, Host.negf (Host.sin ang64)⟩, ⟨S2048x64, Host.sin ang64⟩] concatenates_S2048x64_S2048x64_S2048x128_d1

theorem V43 : V m c main_v43 = cos128 := by
  show StableHlo.after hostOps0 _ (Proc.devRef .tc main_v43) = _
  after_results
  rfl

/-- A half head's tables, its lanes padded with zeros. -/
def zero32 : FVec Ideal S2048x32 .f32 := broadcastInDim S2048x32 ![] bcast_S_S2048x32 (constant S_ .f32 0x00000000#32)
def cosPad : FVec Ideal S2048x128 .f32 := concatenate S2048x128 1 [⟨S2048x32, Host.cos ang32⟩, ⟨S2048x32, zero32⟩, ⟨S2048x32, Host.cos ang32⟩, ⟨S2048x32, zero32⟩] concatenates_S2048x32_S2048x32_S2048x32_S2048x32_S2048x128_d1
def sinPad : FVec Ideal S2048x128 .f32 := concatenate S2048x128 1 [⟨S2048x32, Host.negf (Host.sin ang32)⟩, ⟨S2048x32, zero32⟩, ⟨S2048x32, Host.sin ang32⟩, ⟨S2048x32, zero32⟩] concatenates_S2048x32_S2048x32_S2048x32_S2048x32_S2048x128_d1
theorem V45 : V m c main_v45 = sin128 := by
  show StableHlo.after hostOps0 _ (Proc.devRef .tc main_v45) = _
  after_results
  rfl
theorem V66 : V m c main_v66 = cosPad := by
  show StableHlo.after hostOps0 _ (Proc.devRef .tc main_v66) = _
  after_results
  rfl
theorem V68 : V m c main_v68 = sinPad := by
  show StableHlo.after hostOps0 _ (Proc.devRef .tc main_v68) = _
  after_results
  rfl
theorem V70 : V m c main_v70 = (mulf cos128 (broadcastInDim S2048x128 ![] bcast_S_S2048x128 (constant S_ .f32 0x3E0293EE#32)) : FVec Ideal S2048x128 .f32) := by
  show StableHlo.after hostOps0 _ (Proc.devRef .tc main_v70) = _
  after_results
  rfl
theorem V72 : V m c main_v72 = (mulf sin128 (broadcastInDim S2048x128 ![] bcast_S_S2048x128 (constant S_ .f32 0x3E0293EE#32)) : FVec Ideal S2048x128 .f32) := by
  show StableHlo.after hostOps0 _ (Proc.devRef .tc main_v72) = _
  after_results
  rfl
theorem V74 : V m c main_v74 = (mulf cosPad (broadcastInDim S2048x128 ![] bcast_S_S2048x128 (constant S_ .f32 0x3E000000#32)) : FVec Ideal S2048x128 .f32) := by
  show StableHlo.after hostOps0 _ (Proc.devRef .tc main_v74) = _
  after_results
  rfl
theorem V76 : V m c main_v76 = (mulf sinPad (broadcastInDim S2048x128 ![] bcast_S_S2048x128 (constant S_ .f32 0x3E000000#32)) : FVec Ideal S2048x128 .f32) := by
  show StableHlo.after hostOps0 _ (Proc.devRef .tc main_v76) = _
  after_results
  rfl

/-- The layouts of the weights. -/
def wQK (w : FVec Ideal S1024x3656 .f32) : FVec Ideal S1024x2048 .bf16 := truncf .bf16 (concatenate S1024x2048 1 [⟨S1024x1024, extractStridedSlice S1024x1024 ![0, 0] w slices_S1024x3656_S1024x1024_0_0⟩, ⟨S1024x1024, extractStridedSlice S1024x1024 ![0, 1024] w slices_S1024x3656_S1024x1024_0_1024⟩] concatenates_S1024x1024_S1024x1024_S1024x2048_d1) bitsLt_bf16_f32
def wV (w : FVec Ideal S1024x3656 .f32) : FVec Ideal S1024x1024 .bf16 := truncf .bf16 (transpose S1024x1024 [1, 0] (extractStridedSlice S1024x1024 ![0, 2048] w slices_S1024x3656_S1024x1024_0_2048) transposes_S1024x1024_S1024x1024_1_0) bitsLt_bf16_f32
def zQ : FVec Ideal S1024x8x32 .f32 := broadcastInDim S1024x8x32 ![] bcast_S_S1024x8x32 (constant S_ .f32 0x00000000#32)
def zK : FVec Ideal S1024x32 .f32 := broadcastInDim S1024x32 ![] bcast_S_S1024x32 (constant S_ .f32 0x00000000#32)
def wIQ4 (w : FVec Ideal S1024x3656 .f32) : FVec Ideal S1024x8x64 .f32 := shapeCast S1024x8x64 (extractStridedSlice S1024x512 ![0, 3072] w slices_S1024x3656_S1024x512_0_3072) shapeCasts_S1024x512_S1024x8x64
def wIQ (w : FVec Ideal S1024x3656 .f32) : FVec Ideal S1024x1024 .bf16 := truncf .bf16 (shapeCast S1024x1024 (concatenate S1024x8x128 2 [⟨S1024x8x32, extractStridedSlice S1024x8x32 ![0, 0, 0] (wIQ4 w) slices_S1024x8x64_S1024x8x32_0_0_0⟩, ⟨S1024x8x32, zQ⟩, ⟨S1024x8x32, extractStridedSlice S1024x8x32 ![0, 0, 32] (wIQ4 w) slices_S1024x8x64_S1024x8x32_0_0_32⟩, ⟨S1024x8x32, zQ⟩] concatenates_S1024x8x32_S1024x8x32_S1024x8x32_S1024x8x32_S1024x8x128_d2) shapeCasts_S1024x8x128_S1024x1024) bitsLt_bf16_f32
def wIK5 (w : FVec Ideal S1024x3656 .f32) : FVec Ideal S1024x64 .f32 := extractStridedSlice S1024x64 ![0, 3584] w slices_S1024x3656_S1024x64_0_3584
def wIK (w : FVec Ideal S1024x3656 .f32) : FVec Ideal S1024x128 .bf16 := truncf .bf16 (concatenate S1024x128 1 [⟨S1024x32, extractStridedSlice S1024x32 ![0, 0] (wIK5 w) slices_S1024x64_S1024x32_0_0⟩, ⟨S1024x32, zK⟩, ⟨S1024x32, extractStridedSlice S1024x32 ![0, 32] (wIK5 w) slices_S1024x64_S1024x32_0_32⟩, ⟨S1024x32, zK⟩] concatenates_S1024x32_S1024x32_S1024x32_S1024x32_S1024x128_d1) bitsLt_bf16_f32
def wI (w : FVec Ideal S1024x3656 .f32) : FVec Ideal S8x1024 .bf16 := truncf .bf16 (transpose S8x1024 [1, 0] (extractStridedSlice S1024x8 ![0, 3648] w slices_S1024x3656_S1024x8_0_3648) transposes_S1024x8_S8x1024_1_0) bitsLt_bf16_f32
theorem V8 : V m c main_v8 = wQK (A1 m c) := by
  show StableHlo.after hostOps0 _ (Proc.devRef .tc main_v8) = _
  after_results
  rfl
theorem V10 : V m c main_v10 = wV (A1 m c) := by
  show StableHlo.after hostOps0 _ (Proc.devRef .tc main_v10) = _
  after_results
  rfl
theorem V16 : V m c main_v16 = wIQ (A1 m c) := by
  show StableHlo.after hostOps0 _ (Proc.devRef .tc main_v16) = _
  after_results
  rfl
theorem V21 : V m c main_v21 = wIK (A1 m c) := by
  show StableHlo.after hostOps0 _ (Proc.devRef .tc main_v21) = _
  after_results
  rfl
theorem V23 : V m c main_v23 = wI (A1 m c) := by
  show StableHlo.after hostOps0 _ (Proc.devRef .tc main_v23) = _
  after_results
  rfl

theorem wQK_q (w : FVec Ideal S1024x3656 .f32) (k d : Fin 1024) : wQK w (ix2 k ⟨d.val, by omega⟩) = w (ix2 k ⟨d.val, by omega⟩) := by
  pointwise [wQK]
theorem wQK_k (w : FVec Ideal S1024x3656 .f32) (k d : Fin 1024) : wQK w (ix2 k ⟨1024 + d.val, by omega⟩) = w (ix2 k ⟨1024 + d.val, by omega⟩) := by
  pointwise [wQK]
theorem wV_at (w : FVec Ideal S1024x3656 .f32) (d k : Fin 1024) : wV w (ix2 d k) = w (ix2 k ⟨2048 + d.val, by omega⟩) := by
  pointwise [wV]
theorem wI_at (w : FVec Ideal S1024x3656 .f32) (j : Fin 8) (k : Fin 1024) : wI w (ix2 j k) = w (ix2 k ⟨3648 + j.val, by omega⟩) := by
  pointwise [wI]
theorem wIK_at (w : FVec Ideal S1024x3656 .f32) (k : Fin 1024) (l : Fin 128) : wIK w (ix2 k l) = padW (fun i => w (ix2 k ⟨3584 + i.val, by omega⟩)) l := by
  pointwise [wIK, wIK5, zK]
  rfl
theorem wIQ_at (w : FVec Ideal S1024x3656 .f32) (k d : Fin 1024) : wIQ w (ix2 k d) = padW (fun i => w (ix2 k ⟨3072 + (d.val / 128 * 64 + i.val), by omega⟩)) (lane d) := by
  pointwise [wIQ, wIQ4, zQ]
  rfl
theorem cos128_at (p : Fin 2048) (l : Fin 128) : cos128 (ix2 p l) = cosF (fun f => Ideal.cos (ang64 (ix2 p f))) l := by
  pointwise [cos128]
  rfl
theorem sin128_at (p : Fin 2048) (l : Fin 128) : sin128 (ix2 p l) = sinF (fun f => Ideal.sin (ang64 (ix2 p f))) l := by
  pointwise [sin128]
  rfl
theorem cosPad_at (p : Fin 2048) (l : Fin 128) : cosPad (ix2 p l) = cosP (fun f => Ideal.cos (ang32 (ix2 p f))) l := by
  pointwise [cosPad, zero32]
  rfl
theorem sinPad_at (p : Fin 2048) (l : Fin 128) : sinPad (ix2 p l) = sinP (fun f => Ideal.sin (ang32 (ix2 p f))) l := by
  pointwise [sinPad, zero32]
  rfl

end Cert.Proof.ProjA
end
-- ==== Proof.RefA.lean ====
module

public import proofs.«01_k».proof.Proof.Gen.ReferenceAIdeal.Run
public import proofs.«01_k».proof.Proof.RotA
public import Idealize.ShloMosaic.Lib.Pointwise
public import Idealize.ShloMosaic.Lib.IdealHost

@[expose] public section

set_option maxRecDepth 16384

noncomputable section

/-! The reference's six arrays of the projection, entry by entry. -/

namespace Cert.Proof.RefA

open Cert.Proof.RotA Idealize.ShloMosaic Idealize.ShloMosaic.TcCoe Idealize.ShloMosaic.Tactic Cert.ReferenceAIdeal Cert.ReferenceAIdeal.Gen Cert.ReferenceAIdeal.Value

variable (L : Valuation τ sig (Elt Ideal))

abbrev a0 : FVec Ideal S32768x1024 .f32 := L (Proc.devRef .tc main_arg0)
abbrev a1 : FVec Ideal S1024x3656 .f32 := L (Proc.devRef .tc main_arg1)

def rQ : FVec Ideal S32768x1024 .bf16 := truncf .bf16 (shapeCast _ (concatenate S16x2048x8x128 3 [⟨S16x2048x8x64, (mulf (subf (mulf (res_main_v24 L) (broadcastInDim S16x2048x8x64 ![0, 1, 2, 3] bcast_S1x2048x1x64_S16x2048x8x64_0_1_2_3 (res_main_v20 L))) (mulf (res_main_v25 L) (broadcastInDim S16x2048x8x64 ![0, 1, 2, 3] bcast_S1x2048x1x64_S16x2048x8x64_0_1_2_3 (res_main_v22 L)))) (broadcastInDim S16x2048x8x64 ![] bcast_S_S16x2048x8x64 (constant S_ .f32 0x3E0293EE#32)))⟩, ⟨S16x2048x8x64, (mulf (addf (mulf (res_main_v24 L) (broadcastInDim S16x2048x8x64 ![0, 1, 2, 3] bcast_S1x2048x1x64_S16x2048x8x64_0_1_2_3 (res_main_v22 L))) (mulf (res_main_v25 L) (broadcastInDim S16x2048x8x64 ![0, 1, 2, 3] bcast_S1x2048x1x64_S16x2048x8x64_0_1_2_3 (res_main_v20 L)))) (broadcastInDim S16x2048x8x64 ![] bcast_S_S16x2048x8x64 (constant S_ .f32 0x3E0293EE#32)))⟩] concatenates_S16x2048x8x64_S16x2048x8x64_S16x2048x8x128_d3) shapeCasts_S16x2048x8x128_S32768x1024) bitsLt_bf16_f32
def rK : FVec Ideal S32768x1024 .bf16 := truncf .bf16 (shapeCast _ (concatenate S16x2048x8x128 3 [⟨S16x2048x8x64, (mulf (subf (mulf (res_main_v64 L) (broadcastInDim S16x2048x8x64 ![0, 1, 2, 3] bcast_S1x2048x1x64_S16x2048x8x64_0_1_2_3 (res_main_v60 L))) (mulf (res_main_v65 L) (broadcastInDim S16x2048x8x64 ![0, 1, 2, 3] bcast_S1x2048x1x64_S16x2048x8x64_0_1_2_3 (res_main_v62 L)))) (broadcastInDim S16x2048x8x64 ![] bcast_S_S16x2048x8x64 (constant S_ .f32 0x3F800000#32)))⟩, ⟨S16x2048x8x64, (mulf (addf (mulf (res_main_v64 L) (broadcastInDim S16x2048x8x64 ![0, 1, 2, 3] bcast_S1x2048x1x64_S16x2048x8x64_0_1_2_3 (res_main_v62 L))) (mulf (res_main_v65 L) (broadcastInDim S16x2048x8x64 ![0, 1, 2, 3] bcast_S1x2048x1x64_S16x2048x8x64_0_1_2_3 (res_main_v60 L)))) (broadcastInDim S16x2048x8x64 ![] bcast_S_S16x2048x8x64 (constant S_ .f32 0x3F800000#32)))⟩] concatenates_S16x2048x8x64_S16x2048x8x64_S16x2048x8x128_d3) shapeCasts_S16x2048x8x128_S32768x1024) bitsLt_bf16_f32
def rV : FVec Ideal S16x8x1024x256 .bf16 := truncf .bf16 (transpose S16x8x1024x256 [0, 1, 3, 2] (shapeCast _ (extractStridedSlice S32768x1024 ![0, 2048] (res_main_v0 L) slices_S32768x3656_S32768x1024_0_2048) shapeCasts_S32768x1024_S16x8x256x1024) transposes_S16x8x256x1024_S16x8x1024x256_0_1_3_2) bitsLt_bf16_f32
def rIQ : FVec Ideal S32768x1024 .bf16 := truncf .bf16 (shapeCast _ ((concatenate S16x2048x8x128 3 [⟨S16x2048x8x32, ((mulf (subf (mulf (res_main_v107 L) (broadcastInDim S16x2048x8x32 ![0, 1, 2, 3] bcast_S1x2048x1x32_S16x2048x8x32_0_1_2_3 (res_main_v103 L))) (mulf (res_main_v108 L) (broadcastInDim S16x2048x8x32 ![0, 1, 2, 3] bcast_S1x2048x1x32_S16x2048x8x32_0_1_2_3 (res_main_v105 L)))) (broadcastInDim S16x2048x8x32 ![] bcast_S_S16x2048x8x32 (constant S_ .f32 0x3E000000#32))) : (⟨S16x2048x8x32, .f32⟩ : BufTy).Contents (Elt Ideal))⟩, ⟨S16x2048x8x32, ((res_main_v167 L) : (⟨S16x2048x8x32, .f32⟩ : BufTy).Contents (Elt Ideal))⟩, ⟨S16x2048x8x32, ((mulf (addf (mulf (res_main_v107 L) (broadcastInDim S16x2048x8x32 ![0, 1, 2, 3] bcast_S1x2048x1x32_S16x2048x8x32_0_1_2_3 (res_main_v105 L))) (mulf (res_main_v108 L) (broadcastInDim S16x2048x8x32 ![0, 1, 2, 3] bcast_S1x2048x1x32_S16x2048x8x32_0_1_2_3 (res_main_v103 L)))) (broadcastInDim S16x2048x8x32 ![] bcast_S_S16x2048x8x32 (constant S_ .f32 0x3E000000#32))) : (⟨S16x2048x8x32, .f32⟩ : BufTy).Contents (Elt Ideal))⟩, ⟨S16x2048x8x32, ((res_main_v167 L) : (⟨S16x2048x8x32, .f32⟩ : BufTy).Contents (Elt Ideal))⟩] concatenates_S16x2048x8x32_S16x2048x8x32_S16x2048x8x32_S16x2048x8x32_S16x2048x8x128_d3 : (⟨S16x2048x8x128, .f32⟩ : BufTy).Contents (Elt Ideal))) shapeCasts_S16x2048x8x128_S32768x1024) bitsLt_bf16_f32
def rIK : FVec Ideal S32768x128 .bf16 := truncf .bf16 (shapeCast _ ((concatenate S16x2048x1x128 3 [⟨S16x2048x1x32, ((mulf (subf (mulf (res_main_v146 L) (broadcastInDim S16x2048x1x32 ![0, 1, 2, 3] bcast_S1x2048x1x32_S16x2048x1x32_0_1_2_3 (res_main_v142 L))) (mulf (res_main_v147 L) (broadcastInDim S16x2048x1x32 ![0, 1, 2, 3] bcast_S1x2048x1x32_S16x2048x1x32_0_1_2_3 (res_main_v144 L)))) (broadcastInDim S16x2048x1x32 ![] bcast_S_S16x2048x1x32 (constant S_ .f32 0x3F800000#32))) : (⟨S16x2048x1x32, .f32⟩ : BufTy).Contents (Elt Ideal))⟩, ⟨S16x2048x1x32, ((res_main_v168 L) : (⟨S16x2048x1x32, .f32⟩ : BufTy).Contents (Elt Ideal))⟩, ⟨S16x2048x1x32, ((mulf (addf (mulf (res_main_v146 L) (broadcastInDim S16x2048x1x32 ![0, 1, 2, 3] bcast_S1x2048x1x32_S16x2048x1x32_0_1_2_3 (res_main_v144 L))) (mulf (res_main_v147 L) (broadcastInDim S16x2048x1x32 ![0, 1, 2, 3] bcast_S1x2048x1x32_S16x2048x1x32_0_1_2_3 (res_main_v142 L)))) (broadcastInDim S16x2048x1x32 ![] bcast_S_S16x2048x1x32 (constant S_ .f32 0x3F800000#32))) : (⟨S16x2048x1x32, .f32⟩ : BufTy).Contents (Elt Ideal))⟩, ⟨S16x2048x1x32, ((res_main_v168 L) : (⟨S16x2048x1x32, .f32⟩ : BufTy).Contents (Elt Ideal))⟩] concatenates_S16x2048x1x32_S16x2048x1x32_S16x2048x1x32_S16x2048x1x32_S16x2048x1x128_d3 : (⟨S16x2048x1x128, .f32⟩ : BufTy).Contents (Elt Ideal))) shapeCasts_S16x2048x1x128_S32768x128) bitsLt_bf16_f32
def rW : FVec Ideal S16x8x2048 .f32 := mulf (transpose S16x8x2048 [0, 2, 1] (shapeCast _ (extractStridedSlice S32768x8 ![0, 3648] (res_main_v0 L) slices_S32768x3656_S32768x8_0_3648) shapeCasts_S32768x8_S16x2048x8) transposes_S16x2048x8_S16x8x2048_0_2_1) (broadcastInDim S16x8x2048 ![] bcast_S_S16x8x2048 (constant S_ .f32 0x3EB504F3#32))

/-- A token's row times the columns of the weights. -/
abbrev D : FVec Ideal S32768x3656 .f32 := res_main_v0 L
theorem D_at (n : Fin 32768) (d : Fin 3656) : D L (ix2 n d) = ∑ k : Fin 1024, a0 L (ix2 n k) * a1 L (ix2 k d) := by
  unfold D
  pointwise [res_main_v0]
/-- The angles of the tables. -/
abbrev g18 : FVec Ideal S2048x64 .f32 := res_main_v18 L
abbrev g58 : FVec Ideal S2048x64 .f32 := res_main_v58 L
abbrev g101 : FVec Ideal S2048x32 .f32 := res_main_v101 L
abbrev g140 : FVec Ideal S2048x32 .f32 := res_main_v140 L
def pos (n : Fin 32768) : Fin 2048 := ⟨n.val % 2048, by omega⟩

theorem rV_at (b : Fin 16) (j : Fin 8) (d : Fin 1024) (y : Fin 256) : rV L (ix4 b j d y) = D L (ix2 ⟨b.val * 2048 + j.val * 256 + y.val, by omega⟩ ⟨2048 + d.val, by omega⟩) := by
  pointwise [rV]
theorem rW_at (b : Fin 16) (j : Fin 8) (p : Fin 2048) : rW L (ix3 b j p) = D L (ix2 ⟨b.val * 2048 + p.val, by omega⟩ ⟨3648 + j.val, by omega⟩) * Ideal.ofBits FTy.f32 0x3EB504F3#32 := by
  pointwise [rW]
theorem rQ_at (n : Fin 32768) (d : Fin 1024) : rQ L (ix2 n d) = rotFull (fun l => D L (ix2 n ⟨d.val / 128 * 128 + l.val, by omega⟩))
    (fun f => Ideal.cos (g18 L (ix2 (pos n) f))) (fun f => Ideal.sin (g18 L (ix2 (pos n) f))) (lane d) * Ideal.ofBits FTy.f32 0x3E0293EE#32 := by
  refine Eq.trans ?_ (qForm (fun i => D L (ix2 n i)) (fun f => Ideal.cos (g18 L (ix2 (pos n) f))) (fun f => Ideal.sin (g18 L (ix2 (pos n) f))) (Ideal.ofBits FTy.f32 0x3E0293EE#32) d)
  pointwise [rQ, res_main_v24, res_main_v25, res_main_v23, res_main_v20, res_main_v22]
  rfl
theorem rK_at (n : Fin 32768) (d : Fin 1024) : rK L (ix2 n d) = rotFull (fun l => D L (ix2 n ⟨1024 + (d.val / 128 * 128 + l.val), by omega⟩))
    (fun f => Ideal.cos (g58 L (ix2 (pos n) f))) (fun f => Ideal.sin (g58 L (ix2 (pos n) f))) (lane d) := by
  refine Eq.trans ?_ (kForm (fun i => D L (ix2 n i)) (fun f => Ideal.cos (g58 L (ix2 (pos n) f))) (fun f => Ideal.sin (g58 L (ix2 (pos n) f))) d)
  pointwise [rK, res_main_v64, res_main_v65, res_main_v63, res_main_v60, res_main_v62]
  rfl
theorem rIQ_at (n : Fin 32768) (d : Fin 1024) : rIQ L (ix2 n d) = rotPad (fun i => D L (ix2 n ⟨3072 + (d.val / 128 * 64 + i.val), by omega⟩))
    (fun f => Ideal.cos (g101 L (ix2 (pos n) f))) (fun f => Ideal.sin (g101 L (ix2 (pos n) f))) (lane d) * Ideal.ofBits FTy.f32 0x3E000000#32 := by
  refine Eq.trans ?_ (padForm (fun i => D L (ix2 n ⟨3072 + (d.val / 128 * 64 + i.val), by omega⟩)) (fun f => Ideal.cos (g101 L (ix2 (pos n) f))) (fun f => Ideal.sin (g101 L (ix2 (pos n) f))) (Ideal.ofBits FTy.f32 0x3E000000#32) (lane d))
  pointwise [rIQ, res_main_v107, res_main_v108, res_main_v106, res_main_v103, res_main_v105, res_main_v167]
  rfl
theorem rIK_at (n : Fin 32768) (d : Fin 128) : rIK L (ix2 n d) = rotPad (fun i => D L (ix2 n ⟨3584 + i.val, by omega⟩))
    (fun f => Ideal.cos (g140 L (ix2 (pos n) f))) (fun f => Ideal.sin (g140 L (ix2 (pos n) f))) d := by
  pointwise [rIK, res_main_v146, res_main_v147, res_main_v145, res_main_v142, res_main_v144, res_main_v168]
  rfl

end Cert.Proof.RefA
end
-- ==== Proof.BlkA.lean ====
module

public import proofs.«01_k».proof.Proof.ProjA
public import proofs.«01_k».proof.Proof.TabA
public import proofs.«01_k».proof.Proof.RefA

@[expose] public section

set_option maxRecDepth 16384

noncomputable section

/-! The blocks of the projection of the sparse attention. -/

namespace Cert.Proof.ProjA

open Cert.Proof.RotA Idealize.ShloMosaic Idealize.ShloMosaic.TcCoe Idealize.ShloMosaic.Tactic Cert.KernelAIdeal Cert.KernelAIdeal.Gen

variable (m : (ℓ : Loc nD τ sig) → Buf (Elt Ideal) ℓ) (c : Dev nD)

/-- The row of the stream at place `y` of block `t`, and its place in its sequence. -/
def row (t : Fin cfg0.N) (y : Fin 512) : Fin 32768 := ⟨t.val * 512 + y.val, by have : t.val < 64 := t.isLt; omega⟩
def plc (t : Fin cfg0.N) (y : Fin 512) : Fin 2048 := ⟨t.val % 4 * 512 + y.val, by omega⟩
theorem pos_row (t : Fin cfg0.N) (y : Fin 512) : RefA.pos (row t y) = plc t y := Fin.ext (by
  show (t.val * 512 + y.val) % 2048 = t.val % 4 * 512 + y.val; omega)
def tile (t : Fin cfg0.N) (j : Fin 2) : Fin 8 := ⟨t.val % 4 * 2 + j.val, by omega⟩
def seqOf (t : Fin cfg0.N) : Fin 16 := ⟨t.val / 4, by have : t.val < 64 := t.isLt; omega⟩

theorem idx0_at : ∀ t : Fin grid0.N, cc0_transform_0 (grid0.coords t) = ![t.val, 0] := by decide +kernel
theorem idx14_at : ∀ t : Fin grid0.N, cc0_transform_14 (grid0.coords t) = ![t.val, 0] := by decide +kernel
theorem idx15_at : ∀ t : Fin grid0.N, cc0_transform_15 (grid0.coords t) = ![t.val, 0] := by decide +kernel
theorem idx17_at : ∀ t : Fin grid0.N, cc0_transform_17 (grid0.coords t) = ![t.val, 0] := by decide +kernel
theorem idx18_at : ∀ t : Fin grid0.N, cc0_transform_18 (grid0.coords t) = ![t.val, 0] := by decide +kernel
theorem idx6_at : ∀ t : Fin grid0.N, cc0_transform_6 (grid0.coords t) = ![t.val % 4, 0] := by decide +kernel
theorem idx7_at : ∀ t : Fin grid0.N, cc0_transform_7 (grid0.coords t) = ![t.val % 4, 0] := by decide +kernel
theorem idx8_at : ∀ t : Fin grid0.N, cc0_transform_8 (grid0.coords t) = ![t.val % 4, 0] := by decide +kernel
theorem idx9_at : ∀ t : Fin grid0.N, cc0_transform_9 (grid0.coords t) = ![t.val % 4, 0] := by decide +kernel
theorem idx10_at : ∀ t : Fin grid0.N, cc0_transform_10 (grid0.coords t) = ![t.val % 4, 0] := by decide +kernel
theorem idx11_at : ∀ t : Fin grid0.N, cc0_transform_11 (grid0.coords t) = ![t.val % 4, 0] := by decide +kernel
theorem idx12_at : ∀ t : Fin grid0.N, cc0_transform_12 (grid0.coords t) = ![t.val % 4, 0] := by decide +kernel
theorem idx13_at : ∀ t : Fin grid0.N, cc0_transform_13 (grid0.coords t) = ![t.val % 4, 0] := by decide +kernel
theorem idx16_at : ∀ t : Fin grid0.N, cc0_transform_16 (grid0.coords t) = ![t.val / 4, t.val % 4, 0, 0] := by decide +kernel
theorem idx19_at : ∀ t : Fin grid0.N, cc0_transform_19 (grid0.coords t) = ![t.val / 4, 0, t.val % 4] := by decide +kernel
theorem emb0 (t : Fin cfg0.N) (y : Fin 512) (k : Fin 1024) : ((cfg0.win 0).blk t).view.emb (ix2 y k) = (ix2 (row t y) k : S32768x1024.Idx) :=
  funext fun (a : Fin 2) => Fin.ext (by
    match a with
    | ⟨0, _⟩ =>
      show cc0_transform_0 (grid0.coords t) (0 : Fin 2) * 512 + 1 * y.val = t.val * 512 + y.val
      rw [idx0_at]; show t.val * 512 + 1 * y.val = t.val * 512 + y.val; omega
    | ⟨1, _⟩ =>
      show cc0_transform_0 (grid0.coords t) (1 : Fin 2) * 1024 + 1 * k.val = k.val
      rw [idx0_at]; show 0 * 1024 + 1 * k.val = k.val; omega)
theorem emb14 (t : Fin cfg0.N) (y : Fin 512) (k : Fin 1024) : ((cfg0.win 14).blk t).view.emb (ix2 y k) = (ix2 (row t y) k : S32768x1024.Idx) :=
  funext fun (a : Fin 2) => Fin.ext (by
    match a with
    | ⟨0, _⟩ =>
      show cc0_transform_14 (grid0.coords t) (0 : Fin 2) * 512 + 1 * y.val = t.val * 512 + y.val
      rw [idx14_at]; show t.val * 512 + 1 * y.val = t.val * 512 + y.val; omega
    | ⟨1, _⟩ =>
      show cc0_transform_14 (grid0.coords t) (1 : Fin 2) * 1024 + 1 * k.val = k.val
      rw [idx14_at]; show 0 * 1024 + 1 * k.val = k.val; omega)
theorem emb15 (t : Fin cfg0.N) (y : Fin 512) (k : Fin 1024) : ((cfg0.win 15).blk t).view.emb (ix2 y k) = (ix2 (row t y) k : S32768x1024.Idx) :=
  funext fun (a : Fin 2) => Fin.ext (by
    match a with
    | ⟨0, _⟩ =>
      show cc0_transform_15 (grid0.coords t) (0 : Fin 2) * 512 + 1 * y.val = t.val * 512 + y.val
      rw [idx15_at]; show t.val * 512 + 1 * y.val = t.val * 512 + y.val; omega
    | ⟨1, _⟩ =>
      show cc0_transform_15 (grid0.coords t) (1 : Fin 2) * 1024 + 1 * k.val = k.val
      rw [idx15_at]; show 0 * 1024 + 1 * k.val = k.val; omega)
theorem emb17 (t : Fin cfg0.N) (y : Fin 512) (k : Fin 1024) : ((cfg0.win 17).blk t).view.emb (ix2 y k) = (ix2 (row t y) k : S32768x1024.Idx) :=
  funext fun (a : Fin 2) => Fin.ext (by
    match a with
    | ⟨0, _⟩ =>
      show cc0_transform_17 (grid0.coords t) (0 : Fin 2) * 512 + 1 * y.val = t.val * 512 + y.val
      rw [idx17_at]; show t.val * 512 + 1 * y.val = t.val * 512 + y.val; omega
    | ⟨1, _⟩ =>
      show cc0_transform_17 (grid0.coords t) (1 : Fin 2) * 1024 + 1 * k.val = k.val
      rw [idx17_at]; show 0 * 1024 + 1 * k.val = k.val; omega)
theorem emb18 (t : Fin cfg0.N) (y : Fin 512) (k : Fin 128) : ((cfg0.win 18).blk t).view.emb (ix2 y k) = (ix2 (row t y) k : S32768x128.Idx) :=
  funext fun (a : Fin 2) => Fin.ext (by
    match a with
    | ⟨0, _⟩ =>
      show cc0_transform_18 (grid0.coords t) (0 : Fin 2) * 512 + 1 * y.val = t.val * 512 + y.val
      rw [idx18_at]; show t.val * 512 + 1 * y.val = t.val * 512 + y.val; omega
    | ⟨1, _⟩ =>
      show cc0_transform_18 (grid0.coords t) (1 : Fin 2) * 128 + 1 * k.val = k.val
      rw [idx18_at]; show 0 * 128 + 1 * k.val = k.val; omega)
theorem emb6 (t : Fin cfg0.N) (y : Fin 512) (l : Fin 128) : ((cfg0.win 6).blk t).view.emb (ix2 y l) = (ix2 (plc t y) l : S2048x128.Idx) :=
  funext fun (a : Fin 2) => Fin.ext (by
    match a with
    | ⟨0, _⟩ =>
      show cc0_transform_6 (grid0.coords t) (0 : Fin 2) * 512 + 1 * y.val = t.val % 4 * 512 + y.val
      rw [idx6_at]; show t.val % 4 * 512 + 1 * y.val = t.val % 4 * 512 + y.val; omega
    | ⟨1, _⟩ =>
      show cc0_transform_6 (grid0.coords t) (1 : Fin 2) * 128 + 1 * l.val = l.val
      rw [idx6_at]; show 0 * 128 + 1 * l.val = l.val; omega)
theorem emb7 (t : Fin cfg0.N) (y : Fin 512) (l : Fin 128) : ((cfg0.win 7).blk t).view.emb (ix2 y l) = (ix2 (plc t y) l : S2048x128.Idx) :=
  funext fun (a : Fin 2) => Fin.ext (by
    match a with
    | ⟨0, _⟩ =>
      show cc0_transform_7 (grid0.coords t) (0 : Fin 2) * 512 + 1 * y.val = t.val % 4 * 512 + y.val
      rw [idx7_at]; show t.val % 4 * 512 + 1 * y.val = t.val % 4 * 512 + y.val; omega
    | ⟨1, _⟩ =>
      show cc0_transform_7 (grid0.coords t) (1 : Fin 2) * 128 + 1 * l.val = l.val
      rw [idx7_at]; show 0 * 128 + 1 * l.val = l.val; omega)
theorem emb8 (t : Fin cfg0.N) (y : Fin 512) (l : Fin 128) : ((cfg0.win 8).blk t).view.emb (ix2 y l) = (ix2 (plc t y) l : S2048x128.Idx) :=
  funext fun (a : Fin 2) => Fin.ext (by
    match a with
    | ⟨0, _⟩ =>
      show cc0_transform_8 (grid0.coords t) (0 : Fin 2) * 512 + 1 * y.val = t.val % 4 * 512 + y.val
      rw [idx8_at]; show t.val % 4 * 512 + 1 * y.val = t.val % 4 * 512 + y.val; omega
    | ⟨1, _⟩ =>
      show cc0_transform_8 (grid0.coords t) (1 : Fin 2) * 128 + 1 * l.val = l.val
      rw [idx8_at]; show 0 * 128 + 1 * l.val = l.val; omega)
theorem emb9 (t : Fin cfg0.N) (y : Fin 512) (l : Fin 128) : ((cfg0.win 9).blk t).view.emb (ix2 y l) = (ix2 (plc t y) l : S2048x128.Idx) :=
  funext fun (a : Fin 2) => Fin.ext (by
    match a with
    | ⟨0, _⟩ =>
      show cc0_transform_9 (grid0.coords t) (0 : Fin 2) * 512 + 1 * y.val = t.val % 4 * 512 + y.val
      rw [idx9_at]; show t.val % 4 * 512 + 1 * y.val = t.val % 4 * 512 + y.val; omega
    | ⟨1, _⟩ =>
      show cc0_transform_9 (grid0.coords t) (1 : Fin 2) * 128 + 1 * l.val = l.val
      rw [idx9_at]; show 0 * 128 + 1 * l.val = l.val; omega)
theorem emb10 (t : Fin cfg0.N) (y : Fin 512) (l : Fin 128) : ((cfg0.win 10).blk t).view.emb (ix2 y l) = (ix2 (plc t y) l : S2048x128.Idx) :=
  funext fun (a : Fin 2) => Fin.ext (by
    match a with
    | ⟨0, _⟩ =>
      show cc0_transform_10 (grid0.coords t) (0 : Fin 2) * 512 + 1 * y.val = t.val % 4 * 512 + y.val
      rw [idx10_at]; show t.val % 4 * 512 + 1 * y.val = t.val % 4 * 512 + y.val; omega
    | ⟨1, _⟩ =>
      show cc0_transform_10 (grid0.coords t) (1 : Fin 2) * 128 + 1 * l.val = l.val
      rw [idx10_at]; show 0 * 128 + 1 * l.val = l.val; omega)
theorem emb11 (t : Fin cfg0.N) (y : Fin 512) (l : Fin 128) : ((cfg0.win 11).blk t).view.emb (ix2 y l) = (ix2 (plc t y) l : S2048x128.Idx) :=
  funext fun (a : Fin 2) => Fin.ext (by
    match a with
    | ⟨0, _⟩ =>
      show cc0_transform_11 (grid0.coords t) (0 : Fin 2) * 512 + 1 * y.val = t.val % 4 * 512 + y.val
      rw [idx11_at]; show t.val % 4 * 512 + 1 * y.val = t.val % 4 * 512 + y.val; omega
    | ⟨1, _⟩ =>
      show cc0_transform_11 (grid0.coords t) (1 : Fin 2) * 128 + 1 * l.val = l.val
      rw [idx11_at]; show 0 * 128 + 1 * l.val = l.val; omega)
theorem emb12 (t : Fin cfg0.N) (y : Fin 512) (l : Fin 128) : ((cfg0.win 12).blk t).view.emb (ix2 y l) = (ix2 (plc t y) l : S2048x128.Idx) :=
  funext fun (a : Fin 2) => Fin.ext (by
    match a with
    | ⟨0, _⟩ =>
      show cc0_transform_12 (grid0.coords t) (0 : Fin 2) * 512 + 1 * y.val = t.val % 4 * 512 + y.val
      rw [idx12_at]; show t.val % 4 * 512 + 1 * y.val = t.val % 4 * 512 + y.val; omega
    | ⟨1, _⟩ =>
      show cc0_transform_12 (grid0.coords t) (1 : Fin 2) * 128 + 1 * l.val = l.val
      rw [idx12_at]; show 0 * 128 + 1 * l.val = l.val; omega)
theorem emb13 (t : Fin cfg0.N) (y : Fin 512) (l : Fin 128) : ((cfg0.win 13).blk t).view.emb (ix2 y l) = (ix2 (plc t y) l : S2048x128.Idx) :=
  funext fun (a : Fin 2) => Fin.ext (by
    match a with
    | ⟨0, _⟩ =>
      show cc0_transform_13 (grid0.coords t) (0 : Fin 2) * 512 + 1 * y.val = t.val % 4 * 512 + y.val
      rw [idx13_at]; show t.val % 4 * 512 + 1 * y.val = t.val % 4 * 512 + y.val; omega
    | ⟨1, _⟩ =>
      show cc0_transform_13 (grid0.coords t) (1 : Fin 2) * 128 + 1 * l.val = l.val
      rw [idx13_at]; show 0 * 128 + 1 * l.val = l.val; omega)
theorem emb16 (t : Fin cfg0.N) (j : Fin 2) (d : Fin 1024) (y : Fin 256) : ((cfg0.win 16).blk t).view.emb (ix4 0 j d y) = (ix4 (seqOf t) (tile t j) d y : S16x8x1024x256.Idx) :=
  funext fun (a : Fin 4) => Fin.ext (by
    match a with
    | ⟨0, _⟩ =>
      show cc0_transform_16 (grid0.coords t) (0 : Fin 4) * 1 + 1 * 0 = t.val / 4
      rw [idx16_at]; show t.val / 4 * 1 + 1 * 0 = t.val / 4; omega
    | ⟨1, _⟩ =>
      show cc0_transform_16 (grid0.coords t) (1 : Fin 4) * 2 + 1 * j.val = t.val % 4 * 2 + j.val
      rw [idx16_at]; show t.val % 4 * 2 + 1 * j.val = t.val % 4 * 2 + j.val; omega
    | ⟨2, _⟩ =>
      show cc0_transform_16 (grid0.coords t) (2 : Fin 4) * 1024 + 1 * d.val = d.val
      rw [idx16_at]; show 0 * 1024 + 1 * d.val = d.val; omega
    | ⟨3, _⟩ =>
      show cc0_transform_16 (grid0.coords t) (3 : Fin 4) * 256 + 1 * y.val = y.val
      rw [idx16_at]; show 0 * 256 + 1 * y.val = y.val; omega)
theorem emb19 (t : Fin cfg0.N) (j : Fin 8) (y : Fin 512) : ((cfg0.win 19).blk t).view.emb (ix3 0 j y) = (ix3 (seqOf t) j (plc t y) : S16x8x2048.Idx) :=
  funext fun (a : Fin 3) => Fin.ext (by
    match a with
    | ⟨0, _⟩ =>
      show cc0_transform_19 (grid0.coords t) (0 : Fin 3) * 1 + 1 * 0 = t.val / 4
      rw [idx19_at]; show t.val / 4 * 1 + 1 * 0 = t.val / 4; omega
    | ⟨1, _⟩ =>
      show cc0_transform_19 (grid0.coords t) (1 : Fin 3) * 8 + 1 * j.val = j.val
      rw [idx19_at]; show 0 * 8 + 1 * j.val = j.val; omega
    | ⟨2, _⟩ =>
      show cc0_transform_19 (grid0.coords t) (2 : Fin 3) * 512 + 1 * y.val = t.val % 4 * 512 + y.val
      rw [idx19_at]; show t.val % 4 * 512 + 1 * y.val = t.val % 4 * 512 + y.val; omega)
theorem emb1 (t : Fin cfg0.N) (k : Fin 1024) (d : Fin 2048) : ((cfg0.win 1).blk t).view.emb (ix2 k d) = (ix2 k d : S1024x2048.Idx) :=
  funext fun (a : Fin 2) => Fin.ext (by
    match a with
    | ⟨0, _⟩ => show 0 * 1024 + 1 * k.val = k.val; omega
    | ⟨1, _⟩ => show 0 * 2048 + 1 * d.val = d.val; omega)
theorem emb2 (t : Fin cfg0.N) (k : Fin 1024) (d : Fin 1024) : ((cfg0.win 2).blk t).view.emb (ix2 k d) = (ix2 k d : S1024x1024.Idx) :=
  funext fun (a : Fin 2) => Fin.ext (by
    match a with
    | ⟨0, _⟩ => show 0 * 1024 + 1 * k.val = k.val; omega
    | ⟨1, _⟩ => show 0 * 1024 + 1 * d.val = d.val; omega)
theorem emb3 (t : Fin cfg0.N) (k : Fin 1024) (d : Fin 1024) : ((cfg0.win 3).blk t).view.emb (ix2 k d) = (ix2 k d : S1024x1024.Idx) :=
  funext fun (a : Fin 2) => Fin.ext (by
    match a with
    | ⟨0, _⟩ => show 0 * 1024 + 1 * k.val = k.val; omega
    | ⟨1, _⟩ => show 0 * 1024 + 1 * d.val = d.val; omega)
theorem emb4 (t : Fin cfg0.N) (k : Fin 1024) (d : Fin 128) : ((cfg0.win 4).blk t).view.emb (ix2 k d) = (ix2 k d : S1024x128.Idx) :=
  funext fun (a : Fin 2) => Fin.ext (by
    match a with
    | ⟨0, _⟩ => show 0 * 1024 + 1 * k.val = k.val; omega
    | ⟨1, _⟩ => show 0 * 128 + 1 * d.val = d.val; omega)
theorem emb5 (t : Fin cfg0.N) (k : Fin 8) (d : Fin 1024) : ((cfg0.win 5).blk t).view.emb (ix2 k d) = (ix2 k d : S8x1024.Idx) :=
  funext fun (a : Fin 2) => Fin.ext (by
    match a with
    | ⟨0, _⟩ => show 0 * 8 + 1 * k.val = k.val; omega
    | ⟨1, _⟩ => show 0 * 1024 + 1 * d.val = d.val; omega)

/-- The blocks of the fourteen inputs. -/
def X0 (t : Fin cfg0.N) : FVec Ideal S512x1024 .f32 := iblk m c 0 t
def X1 (t : Fin cfg0.N) : FVec Ideal S1024x2048 .bf16 := iblk m c 1 t
def X2 (t : Fin cfg0.N) : FVec Ideal S1024x1024 .bf16 := iblk m c 2 t
def X3 (t : Fin cfg0.N) : FVec Ideal S1024x1024 .bf16 := iblk m c 3 t
def X4 (t : Fin cfg0.N) : FVec Ideal S1024x128 .bf16 := iblk m c 4 t
def X5 (t : Fin cfg0.N) : FVec Ideal S8x1024 .bf16 := iblk m c 5 t
def X6 (t : Fin cfg0.N) : FVec Ideal S512x128 .f32 := iblk m c 6 t
def X7 (t : Fin cfg0.N) : FVec Ideal S512x128 .f32 := iblk m c 7 t
def X8 (t : Fin cfg0.N) : FVec Ideal S512x128 .f32 := iblk m c 8 t
def X9 (t : Fin cfg0.N) : FVec Ideal S512x128 .f32 := iblk m c 9 t
def X10 (t : Fin cfg0.N) : FVec Ideal S512x128 .f32 := iblk m c 10 t
def X11 (t : Fin cfg0.N) : FVec Ideal S512x128 .f32 := iblk m c 11 t
def X12 (t : Fin cfg0.N) : FVec Ideal S512x128 .f32 := iblk m c 12 t
def X13 (t : Fin cfg0.N) : FVec Ideal S512x128 .f32 := iblk m c 13 t

theorem blk0 (t : Fin cfg0.N) (y : Fin 512) (k : Fin 1024) : X0 m c t (ix2 y k) = A0 m c (ix2 (row t y) k) := by
  show V m c main_arg0 (((cfg0.win 0).blk t).view.emb (ix2 y k)) = _
  rw [emb0, V_main_arg0]
theorem blk1 (t : Fin cfg0.N) (k : Fin 1024) (d : Fin 2048) : X1 m c t (ix2 k d) = wQK (A1 m c) (ix2 k d) := by
  show V m c main_v8 (((cfg0.win 1).blk t).view.emb (ix2 k d)) = _
  rw [emb1, V8]
theorem blk2 (t : Fin cfg0.N) (k : Fin 1024) (d : Fin 1024) : X2 m c t (ix2 k d) = wV (A1 m c) (ix2 k d) := by
  show V m c main_v10 (((cfg0.win 2).blk t).view.emb (ix2 k d)) = _
  rw [emb2, V10]
theorem blk3 (t : Fin cfg0.N) (k : Fin 1024) (d : Fin 1024) : X3 m c t (ix2 k d) = wIQ (A1 m c) (ix2 k d) := by
  show V m c main_v16 (((cfg0.win 3).blk t).view.emb (ix2 k d)) = _
  rw [emb3, V16]
theorem blk4 (t : Fin cfg0.N) (k : Fin 1024) (d : Fin 128) : X4 m c t (ix2 k d) = wIK (A1 m c) (ix2 k d) := by
  show V m c main_v21 (((cfg0.win 4).blk t).view.emb (ix2 k d)) = _
  rw [emb4, V21]
theorem blk5 (t : Fin cfg0.N) (k : Fin 8) (d : Fin 1024) : X5 m c t (ix2 k d) = wI (A1 m c) (ix2 k d) := by
  show V m c main_v23 (((cfg0.win 5).blk t).view.emb (ix2 k d)) = _
  rw [emb5, V23]
theorem blk6 (t : Fin cfg0.N) (y : Fin 512) (l : Fin 128) : X6 m c t (ix2 y l) = cosF (fun f => Ideal.cos (ang64 (ix2 (plc t y) f))) l * Ideal.ofBits FTy.f32 0x3E0293EE#32 := by
  show V m c main_v70 (((cfg0.win 6).blk t).view.emb (ix2 y l)) = _
  rw [emb6, V70]
  exact congrArg (· * Ideal.ofBits FTy.f32 0x3E0293EE#32) (cos128_at (plc t y) l)
theorem blk7 (t : Fin cfg0.N) (y : Fin 512) (l : Fin 128) : X7 m c t (ix2 y l) = sinF (fun f => Ideal.sin (ang64 (ix2 (plc t y) f))) l * Ideal.ofBits FTy.f32 0x3E0293EE#32 := by
  show V m c main_v72 (((cfg0.win 7).blk t).view.emb (ix2 y l)) = _
  rw [emb7, V72]
  exact congrArg (· * Ideal.ofBits FTy.f32 0x3E0293EE#32) (sin128_at (plc t y) l)
theorem blk8 (t : Fin cfg0.N) (y : Fin 512) (l : Fin 128) : X8 m c t (ix2 y l) = cosF (fun f => Ideal.cos (ang64 (ix2 (plc t y) f))) l := by
  show V m c main_v43 (((cfg0.win 8).blk t).view.emb (ix2 y l)) = _
  rw [emb8, V43]
  exact cos128_at (plc t y) l
theorem blk9 (t : Fin cfg0.N) (y : Fin 512) (l : Fin 128) : X9 m c t (ix2 y l) = sinF (fun f => Ideal.sin (ang64 (ix2 (plc t y) f))) l := by
  show V m c main_v45 (((cfg0.win 9).blk t).view.emb (ix2 y l)) = _
  rw [emb9, V45]
  exact sin128_at (plc t y) l
theorem blk10 (t : Fin cfg0.N) (y : Fin 512) (l : Fin 128) : X10 m c t (ix2 y l) = cosP (fun f => Ideal.cos (ang32 (ix2 (plc t y) f))) l * Ideal.ofBits FTy.f32 0x3E000000#32 := by
  show V m c main_v74 (((cfg0.win 10).blk t).view.emb (ix2 y l)) = _
  rw [emb10, V74]
  exact congrArg (· * Ideal.ofBits FTy.f32 0x3E000000#32) (cosPad_at (plc t y) l)
theorem blk11 (t : Fin cfg0.N) (y : Fin 512) (l : Fin 128) : X11 m c t (ix2 y l) = sinP (fun f => Ideal.sin (ang32 (ix2 (plc t y) f))) l * Ideal.ofBits FTy.f32 0x3E000000#32 := by
  show V m c main_v76 (((cfg0.win 11).blk t).view.emb (ix2 y l)) = _
  rw [emb11, V76]
  exact congrArg (· * Ideal.ofBits FTy.f32 0x3E000000#32) (sinPad_at (plc t y) l)
theorem blk12 (t : Fin cfg0.N) (y : Fin 512) (l : Fin 128) : X12 m c t (ix2 y l) = cosP (fun f => Ideal.cos (ang32 (ix2 (plc t y) f))) l := by
  show V m c main_v66 (((cfg0.win 12).blk t).view.emb (ix2 y l)) = _
  rw [emb12, V66]
  exact cosPad_at (plc t y) l
theorem blk13 (t : Fin cfg0.N) (y : Fin 512) (l : Fin 128) : X13 m c t (ix2 y l) = sinP (fun f => Ideal.sin (ang32 (ix2 (plc t y) f))) l := by
  show V m c main_v68 (((cfg0.win 13).blk t).view.emb (ix2 y l)) = _
  rw [emb13, V68]
  exact sinPad_at (plc t y) l

theorem real_q : ∃ r : ℝ, 0 ≤ r ∧ Ideal.ofBits .f32 0x3E0293EE#32 = (r : EReal) := by
  refine ⟨8557550 / 2 ^ 26, by norm_num, ?_⟩
  simp [Ideal.ofBits, Ideal.ieee, -EReal.coe_mul]; norm_num
theorem real_i : ∃ r : ℝ, 0 ≤ r ∧ Ideal.ofBits .f32 0x3E000000#32 = (r : EReal) := by
  refine ⟨1 / 8, by norm_num, ?_⟩
  simp [Ideal.ofBits, Ideal.ieee, -EReal.coe_mul]; norm_num

end Cert.Proof.ProjA
end
-- ==== Proof.KeyA.lean ====
module

public import proofs.«01_k».proof.Proof.BlkA

@[expose] public section

set_option maxRecDepth 16384

noncomputable section

/-! The six arrays of the projection of the sparse attention, after the run. -/

namespace Cert.Proof.ProjA

open Cert.Proof.RotA Idealize.ShloMosaic Idealize.ShloMosaic.TcCoe Idealize.ShloMosaic.Tactic Idealize.ShloMosaic.Pipeline Cert.KernelAIdeal Cert.KernelAIdeal.Gen

variable (m : (ℓ : Loc nD τ sig) → Buf (Elt Ideal) ℓ) (c : Dev nD)
  (L : Valuation Cert.ReferenceAIdeal.τ Cert.ReferenceAIdeal.sig (Elt Ideal)) (h0 : RefA.a0 L = A0 m c) (h1 : RefA.a1 L = A1 m c)

theorem g18_eq : RefA.g18 L = ang64 := rfl
theorem g58_eq : RefA.g58 L = ang64 := rfl
theorem g101_eq : RefA.g101 L = ang32 := rfl
theorem g140_eq : RefA.g140 L = ang32 := rfl

theorem scaled_q (a b c d : EReal) : a * (c * Ideal.ofBits .f32 0x3E0293EE#32) + b * (d * Ideal.ofBits .f32 0x3E0293EE#32) = (a * c + b * d) * Ideal.ofBits .f32 0x3E0293EE#32 := by
  obtain ⟨r, hr, he⟩ := real_q
  rw [he]
  exact scaled a b c d r (EReal.coe_nonneg.mpr hr) (EReal.coe_ne_top r)
theorem scaled_i (a b c d : EReal) : a * (c * Ideal.ofBits .f32 0x3E000000#32) + b * (d * Ideal.ofBits .f32 0x3E000000#32) = (a * c + b * d) * Ideal.ofBits .f32 0x3E000000#32 := by
  obtain ⟨r, hr, he⟩ := real_i
  rw [he]
  exact scaled a b c d r (EReal.coe_nonneg.mpr hr) (EReal.coe_ne_top r)

include h0 h1 in
/-- A token's row times a column, in the reference. -/
theorem D_eq (n : Fin 32768) (d : Fin 3656) : RefA.D L (ix2 n d) = ∑ k : Fin 1024, A0 m c (ix2 n k) * A1 m c (ix2 k d) := by
  rw [RefA.D_at, h0, h1]

include h0 h1 in
theorem dQ (t : Fin cfg0.N) (y : Fin 512) (d : Fin 1024) : (∑ k : Fin 1024, X0 m c t (ix2 y k) * X1 m c t (ix2 k ⟨d.val, by omega⟩) : EReal) = RefA.D L (ix2 (row t y) ⟨d.val, by omega⟩) :=
  (Finset.sum_congr rfl fun k _ => by rw [blk0, blk1, wQK_q]).trans (D_eq m c L h0 h1 (row t y) _).symm
include h0 h1 in
theorem dK (t : Fin cfg0.N) (y : Fin 512) (d : Fin 1024) : (∑ k : Fin 1024, X0 m c t (ix2 y k) * X1 m c t (ix2 k ⟨1024 + d.val, by omega⟩) : EReal) = RefA.D L (ix2 (row t y) ⟨1024 + d.val, by omega⟩) :=
  (Finset.sum_congr rfl fun k _ => by rw [blk0, blk1, wQK_k]).trans (D_eq m c L h0 h1 (row t y) _).symm
include h0 h1 in
theorem dV (t : Fin cfg0.N) (y : Fin 512) (d : Fin 1024) : (∑ k : Fin 1024, X2 m c t (ix2 d k) * X0 m c t (ix2 y k) : EReal) = RefA.D L (ix2 (row t y) ⟨2048 + d.val, by omega⟩) :=
  (Finset.sum_congr rfl fun k _ => by rw [blk0, blk2, wV_at, mul_comm]).trans (D_eq m c L h0 h1 (row t y) _).symm
include h0 h1 in
theorem dW (t : Fin cfg0.N) (y : Fin 512) (j : Fin 8) : (∑ k : Fin 1024, X5 m c t (ix2 j k) * X0 m c t (ix2 y k) : EReal) = RefA.D L (ix2 (row t y) ⟨3648 + j.val, by omega⟩) :=
  (Finset.sum_congr rfl fun k _ => by rw [blk0, blk5, wI_at, mul_comm]).trans (D_eq m c L h0 h1 (row t y) _).symm

/-- A row times padded columns is the padded row of the products. -/
theorem sum_padW (x : Fin 1024 → EReal) (B : Fin 1024 → Fin 64 → EReal) (l : Fin 128) :
    (∑ k : Fin 1024, x k * padW (B k) l) = padW (fun i => ∑ k : Fin 1024, x k * B k i) l := by
  unfold padW
  by_cases h : l.val < 32
  · rw [dif_pos h]
    exact Finset.sum_congr rfl fun k _ => by rw [dif_pos h]
  · rw [dif_neg h]
    by_cases h1 : l.val - 32 < 32
    · rw [dif_pos h1]
      exact Finset.sum_eq_zero fun k _ => by rw [dif_neg h, dif_pos h1, mul_zero]
    · rw [dif_neg h1]
      by_cases h2 : l.val - 32 - 32 < 32
      · rw [dif_pos h2]
        exact Finset.sum_congr rfl fun k _ => by rw [dif_neg h, dif_neg h1, dif_pos h2]
      · rw [dif_neg h2]
        exact Finset.sum_eq_zero fun k _ => by rw [dif_neg h, dif_neg h1, dif_neg h2, mul_zero]

include h0 h1 in
theorem dIQ (t : Fin cfg0.N) (y : Fin 512) (d : Fin 1024) : (∑ k : Fin 1024, X0 m c t (ix2 y k) * X3 m c t (ix2 k d) : EReal)
    = padW (fun i => RefA.D L (ix2 (row t y) ⟨3072 + (d.val / 128 * 64 + i.val), by omega⟩)) (lane d) :=
  (Finset.sum_congr rfl fun k _ => by rw [blk0, blk3, wIQ_at]).trans ((sum_padW (fun k => A0 m c (ix2 (row t y) k)) (fun k i => A1 m c (ix2 k ⟨3072 + (d.val / 128 * 64 + i.val), by omega⟩)) (lane d)).trans
    (congrArg (fun A => padW A (lane d)) (funext fun i => (D_eq m c L h0 h1 (row t y) ⟨3072 + (d.val / 128 * 64 + i.val), by omega⟩).symm)))
include h0 h1 in
theorem dIK (t : Fin cfg0.N) (y : Fin 512) (l : Fin 128) : (∑ k : Fin 1024, X0 m c t (ix2 y k) * X4 m c t (ix2 k l) : EReal)
    = padW (fun i => RefA.D L (ix2 (row t y) ⟨3584 + i.val, by omega⟩)) l :=
  (Finset.sum_congr rfl fun k _ => by rw [blk0, blk4, wIK_at]).trans ((sum_padW (fun k => A0 m c (ix2 (row t y) k)) (fun k i => A1 m c (ix2 k ⟨3584 + i.val, by omega⟩)) l).trans
    (congrArg (fun A => padW A l) (funext fun i => (D_eq m c L h0 h1 (row t y) ⟨3584 + i.val, by omega⟩).symm)))

include h0 h1 in
theorem key14 (t : Fin cfg0.N) (y : Fin 512) (d : Fin 1024) :
    turned (X0 m c t) (fun k d => X1 m c t (ix2 k ⟨d.val, by omega⟩)) (X6 m c t) (X7 m c t) (ix2 y d) = RefA.rQ L (ix2 (row t y) d) := by
  show (∑ k : Fin 1024, X0 m c t (ix2 y k) * X1 m c t (ix2 k ⟨d.val, by omega⟩) : EReal) * X6 m c t (ix2 y (lane d))
    + (∑ k : Fin 1024, X0 m c t (ix2 y k) * X1 m c t (ix2 k ⟨(swp d).val, by omega⟩) : EReal) * X7 m c t (ix2 y (lane d)) = _
  rw [dQ m c L h0 h1, dQ m c L h0 h1, blk6, blk7, scaled_q, RefA.rQ_at, g18_eq, pos_row]
  have e : RefA.D L (ix2 (row t y) ⟨d.val, by omega⟩) = RefA.D L (ix2 (row t y) ⟨d.val / 128 * 128 + (lane d).val, by show d.val / 128 * 128 + d.val % 128 < 3656; omega⟩) :=
    congrArg (fun i => RefA.D L (ix2 (row t y) i)) (Fin.ext (by show d.val = d.val / 128 * 128 + d.val % 128; omega))
  rw [e]
  exact congrArg (· * Ideal.ofBits .f32 0x3E0293EE#32) (full (fun l => RefA.D L (ix2 (row t y) ⟨d.val / 128 * 128 + l.val, by omega⟩)) _ _ (lane d))
include h0 h1 in
theorem key15 (t : Fin cfg0.N) (y : Fin 512) (d : Fin 1024) :
    turned (X0 m c t) (fun k d => X1 m c t (ix2 k ⟨1024 + d.val, by omega⟩)) (X8 m c t) (X9 m c t) (ix2 y d) = RefA.rK L (ix2 (row t y) d) := by
  show (∑ k : Fin 1024, X0 m c t (ix2 y k) * X1 m c t (ix2 k ⟨1024 + d.val, by omega⟩) : EReal) * X8 m c t (ix2 y (lane d))
    + (∑ k : Fin 1024, X0 m c t (ix2 y k) * X1 m c t (ix2 k ⟨1024 + (swp d).val, by omega⟩) : EReal) * X9 m c t (ix2 y (lane d)) = _
  rw [dK m c L h0 h1, dK m c L h0 h1, blk8, blk9, RefA.rK_at, g58_eq, pos_row]
  have e : RefA.D L (ix2 (row t y) ⟨1024 + d.val, by omega⟩) = RefA.D L (ix2 (row t y) ⟨1024 + (d.val / 128 * 128 + (lane d).val), by show 1024 + (d.val / 128 * 128 + d.val % 128) < 3656; omega⟩) :=
    congrArg (fun i => RefA.D L (ix2 (row t y) i)) (Fin.ext (by show 1024 + d.val = 1024 + (d.val / 128 * 128 + d.val % 128); omega))
  rw [e]
  exact full (fun l => RefA.D L (ix2 (row t y) ⟨1024 + (d.val / 128 * 128 + l.val), by omega⟩)) _ _ (lane d)
include h0 h1 in
theorem key17 (t : Fin cfg0.N) (y : Fin 512) (d : Fin 1024) :
    turned (X0 m c t) (fun k d => X3 m c t (ix2 k d)) (X10 m c t) (X11 m c t) (ix2 y d) = RefA.rIQ L (ix2 (row t y) d) := by
  show (∑ k : Fin 1024, X0 m c t (ix2 y k) * X3 m c t (ix2 k d) : EReal) * X10 m c t (ix2 y (lane d))
    + (∑ k : Fin 1024, X0 m c t (ix2 y k) * X3 m c t (ix2 k (swp d)) : EReal) * X11 m c t (ix2 y (lane d)) = _
  rw [dIQ m c L h0 h1, dIQ m c L h0 h1, blk10, blk11, scaled_i, RefA.rIQ_at, g101_eq, pos_row]
  have hl : (opp (lane d)).val < 128 := (opp (lane d)).isLt
  have e1 : lane (swp d) = opp (lane d) := Fin.ext (by show (d.val / 128 * 128 + (opp (lane d)).val) % 128 = (opp (lane d)).val; omega)
  have e2 : (fun i : Fin 64 => RefA.D L (ix2 (row t y) ⟨3072 + ((swp d).val / 128 * 64 + i.val), by omega⟩)) = fun i : Fin 64 => RefA.D L (ix2 (row t y) ⟨3072 + (d.val / 128 * 64 + i.val), by omega⟩) :=
    funext fun i => congrArg (fun i => RefA.D L (ix2 (row t y) i)) (Fin.ext (by show 3072 + ((d.val / 128 * 128 + (opp (lane d)).val) / 128 * 64 + i.val) = 3072 + (d.val / 128 * 64 + i.val); omega))
  rw [e1, e2]
  exact congrArg (· * Ideal.ofBits .f32 0x3E000000#32) (pad (fun i => RefA.D L (ix2 (row t y) ⟨3072 + (d.val / 128 * 64 + i.val), by omega⟩)) _ _ (lane d))
theorem pay56x_at (x : FVec Ideal S512x1024 .f32) (w : FVec Ideal S1024x128 .bf16) (C S : FVec Ideal S512x128 .f32) (y : Fin 512) (l : Fin 128) :
    k0_pay56 (F := Ideal) (k0_pay2 x) w C S (ix2 y l) = (∑ k : Fin 1024, x (ix2 y k) * w (ix2 k l)) * C (ix2 y l)
      + (∑ k : Fin 1024, x (ix2 y k) * w (ix2 k (opp l))) * S (ix2 y l) := pay56_at (k0_pay2 x) w C S y l
include h0 h1 in
theorem key18 (t : Fin cfg0.N) (y : Fin 512) (l : Fin 128) :
    k0_pay56 (F := Ideal) (k0_pay2 (X0 m c t)) (X4 m c t) (X12 m c t) (X13 m c t) (ix2 y l) = RefA.rIK L (ix2 (row t y) l) := by
  rw [pay56x_at]
  rw [dIK m c L h0 h1, dIK m c L h0 h1, blk12, blk13, RefA.rIK_at, g140_eq, pos_row]
  exact pad _ _ _ l
include h0 h1 in
theorem key16 (t : Fin cfg0.N) (j : Fin 2) (d : Fin 1024) (y : Fin 256) (x : S1024x512.Idx) (hx : x = ix2 d ⟨j.val * 256 + y.val, by omega⟩) :
    k0_pay53 (F := Ideal) (k0_pay2 (X0 m c t)) (X2 m c t) x = RefA.rV L (ix4 (seqOf t) (tile t j) d y) := by
  rw [hx]
  refine (pay53_at _ _ _ _).trans ?_
  rw [RefA.rV_at]
  refine (dV m c L h0 h1 t ⟨j.val * 256 + y.val, by omega⟩ d).trans ?_
  refine congrArg (fun n => RefA.D L (ix2 n ⟨2048 + d.val, by omega⟩)) (Fin.ext ?_)
  show t.val * 512 + (j.val * 256 + y.val) = t.val / 4 * 2048 + (t.val % 4 * 2 + j.val) * 256 + y.val
  omega
include h0 h1 in
theorem key19 (t : Fin cfg0.N) (j : Fin 8) (y : Fin 512) (x : S8x512.Idx) (hx : x = ix2 j y) :
    k0_pay57 (F := Ideal) (k0_pay2 (X0 m c t)) (X5 m c t) x = RefA.rW L (ix3 (seqOf t) j (plc t y)) := by
  rw [hx]
  refine (pay57_at _ _ _ _).trans ?_
  rw [RefA.rW_at]
  refine congrArg (· * Ideal.ofBits FTy.f32 0x3EB504F3#32) ((dW m c L h0 h1 t y j).trans ?_)
  refine congrArg (fun n => RefA.D L (ix2 n ⟨3648 + j.val, by omega⟩)) (Fin.ext ?_)
  show t.val * 512 + y.val = t.val / 4 * 2048 + (t.val % 4 * 512 + y.val)
  omega

end Cert.Proof.ProjA
end
-- ==== Proof.ResA.lean ====
module

public import proofs.«01_k».proof.Proof.KeyA

@[expose] public section

set_option maxRecDepth 16384

noncomputable section

/-! The six arrays of the projection of the sparse attention, after the run. -/

namespace Cert.Proof.ProjA

open Cert.Proof.RotA Idealize.ShloMosaic Idealize.ShloMosaic.TcCoe Idealize.ShloMosaic.Tactic Idealize.ShloMosaic.Pipeline Cert.KernelAIdeal Cert.KernelAIdeal.Gen

section windows
variable (x0 : FVec Ideal S512x1024 .f32) (x1 : FVec Ideal S1024x2048 .bf16) (x2 x3 : FVec Ideal S1024x1024 .bf16) (x4 : FVec Ideal S1024x128 .bf16)
  (x5 : FVec Ideal S8x1024 .bf16) (x6 x7 x8 x9 x10 x11 x12 x13 : FVec Ideal S512x128 .f32)
theorem win18 (y : S512x128.Idx) : out0_18 (F := Ideal) x0 x1 x2 x3 x4 x5 x6 x7 x8 x9 x10 x11 x12 x13 y = k0_pay56 (F := Ideal) (k0_pay2 x0) x4 x12 x13 y := by
  have c0 := View.ld_unit_zero (Val := Elt Ideal) (e := .f32) (S := S512x1024) hz2 inb_S512x1024_S512x1024_0_0 x0
  frame_out
  unfold k0_pay58
  rw [c0]
theorem win16 (y : S1x2x1024x256.Idx) : out0_16 (F := Ideal) x0 x1 x2 x3 x4 x5 x6 x7 x8 x9 x10 x11 x12 x13 y = k0_pay53 (F := Ideal) (k0_pay2 x0) x2 (Cert.KernelAIdeal.Value.ix16_0 y) := by
  have c0 := View.ld_unit_zero (Val := Elt Ideal) (e := .f32) (S := S512x1024) hz2 inb_S512x1024_S512x1024_0_0 x0
  have c2 := View.ld_unit_zero (Val := Elt Ideal) (e := .bf16) (S := S1024x1024) hz2 inb_S1024x1024_S1024x1024_0_0 x2
  unfold_out out0_16
  rw [c0, c2]
  refine Eq.trans (Cert.KernelAIdeal.Value.canon16_eq (F := Ideal) x0 x2 y) ?_
  exact congrArg (fun v => k0_pay53 (F := Ideal) v x2 (Cert.KernelAIdeal.Value.ix16_0 y)) (rfl : truncf .bf16 x0 bitsLt_bf16_f32 = k0_pay2 (F := Ideal) x0)
theorem win19 (y : S1x8x512.Idx) : out0_19 (F := Ideal) x0 x1 x2 x3 x4 x5 x6 x7 x8 x9 x10 x11 x12 x13 y = k0_pay57 (F := Ideal) (k0_pay2 x0) x5 (Cert.KernelAIdeal.Value.ix19_0 y) := by
  have c0 := View.ld_unit_zero (Val := Elt Ideal) (e := .f32) (S := S512x1024) hz2 inb_S512x1024_S512x1024_0_0 x0
  have c5 := View.ld_unit_zero (Val := Elt Ideal) (e := .bf16) (S := S8x1024) hz2 inb_S8x1024_S8x1024_0_0 x5
  unfold_out out0_19
  rw [c0, c5]
  refine Eq.trans (Cert.KernelAIdeal.Value.canon19_eq (F := Ideal) x0 x5 y) ?_
  exact congrArg (fun v => k0_pay57 (F := Ideal) v x5 (Cert.KernelAIdeal.Value.ix19_0 y)) (rfl : truncf .bf16 x0 bitsLt_bf16_f32 = k0_pay2 (F := Ideal) x0)
end windows

variable (m : (ℓ : Loc nD τ sig) → Buf (Elt Ideal) ℓ) (c : Dev nD)
  (L : Valuation Cert.ReferenceAIdeal.τ Cert.ReferenceAIdeal.sig (Elt Ideal)) (h0 : RefA.a0 L = A0 m c) (h1 : RefA.a1 L = A1 m c)

include h0 h1 in
theorem out14_at (t : Fin cfg0.N) (y : S512x1024.Idx) : out0_14 (F := Ideal) (X0 m c t) (X1 m c t) (X2 m c t) (X3 m c t) (X4 m c t) (X5 m c t) (X6 m c t) (X7 m c t) (X8 m c t) (X9 m c t) (X10 m c t) (X11 m c t) (X12 m c t) (X13 m c t) y = RefA.rQ L (((cfg0.win 14).blk t).view.emb y) := by
  have hy : y = (ix2 (y 0) (y 1) : S512x1024.Idx) := funext fun (a : Fin 2) => by fin_cases a <;> rfl
  have he : ((cfg0.win 14).blk t).view.emb y = (ix2 (row t (y 0)) (y 1) : S32768x1024.Idx) := (congrArg _ hy).trans (emb14 t (y 0) (y 1))
  exact (congrFun (win14 (X0 m c t) (X1 m c t) (X2 m c t) (X3 m c t) (X4 m c t) (X5 m c t) (X6 m c t) (X7 m c t) (X8 m c t) (X9 m c t) (X10 m c t) (X11 m c t) (X12 m c t) (X13 m c t)) y).trans ((congrArg _ hy).trans ((key14 m c L h0 h1 t (y 0) (y 1)).trans (congrArg (RefA.rQ L) he.symm)))
include h0 h1 in
theorem out15_at (t : Fin cfg0.N) (y : S512x1024.Idx) : out0_15 (F := Ideal) (X0 m c t) (X1 m c t) (X2 m c t) (X3 m c t) (X4 m c t) (X5 m c t) (X6 m c t) (X7 m c t) (X8 m c t) (X9 m c t) (X10 m c t) (X11 m c t) (X12 m c t) (X13 m c t) y = RefA.rK L (((cfg0.win 15).blk t).view.emb y) := by
  have hy : y = (ix2 (y 0) (y 1) : S512x1024.Idx) := funext fun (a : Fin 2) => by fin_cases a <;> rfl
  have he : ((cfg0.win 15).blk t).view.emb y = (ix2 (row t (y 0)) (y 1) : S32768x1024.Idx) := (congrArg _ hy).trans (emb15 t (y 0) (y 1))
  exact (congrFun (win15 (X0 m c t) (X1 m c t) (X2 m c t) (X3 m c t) (X4 m c t) (X5 m c t) (X6 m c t) (X7 m c t) (X8 m c t) (X9 m c t) (X10 m c t) (X11 m c t) (X12 m c t) (X13 m c t)) y).trans ((congrArg _ hy).trans ((key15 m c L h0 h1 t (y 0) (y 1)).trans (congrArg (RefA.rK L) he.symm)))
include h0 h1 in
theorem out17_at (t : Fin cfg0.N) (y : S512x1024.Idx) : out0_17 (F := Ideal) (X0 m c t) (X1 m c t) (X2 m c t) (X3 m c t) (X4 m c t) (X5 m c t) (X6 m c t) (X7 m c t) (X8 m c t) (X9 m c t) (X10 m c t) (X11 m c t) (X12 m c t) (X13 m c t) y = RefA.rIQ L (((cfg0.win 17).blk t).view.emb y) := by
  have hy : y = (ix2 (y 0) (y 1) : S512x1024.Idx) := funext fun (a : Fin 2) => by fin_cases a <;> rfl
  have he : ((cfg0.win 17).blk t).view.emb y = (ix2 (row t (y 0)) (y 1) : S32768x1024.Idx) := (congrArg _ hy).trans (emb17 t (y 0) (y 1))
  exact (congrFun (win17 (X0 m c t) (X1 m c t) (X2 m c t) (X3 m c t) (X4 m c t) (X5 m c t) (X6 m c t) (X7 m c t) (X8 m c t) (X9 m c t) (X10 m c t) (X11 m c t) (X12 m c t) (X13 m c t)) y).trans ((congrArg _ hy).trans ((key17 m c L h0 h1 t (y 0) (y 1)).trans (congrArg (RefA.rIQ L) he.symm)))
include h0 h1 in
theorem out18_at (t : Fin cfg0.N) (y : S512x128.Idx) : out0_18 (F := Ideal) (X0 m c t) (X1 m c t) (X2 m c t) (X3 m c t) (X4 m c t) (X5 m c t) (X6 m c t) (X7 m c t) (X8 m c t) (X9 m c t) (X10 m c t) (X11 m c t) (X12 m c t) (X13 m c t) y = RefA.rIK L (((cfg0.win 18).blk t).view.emb y) := by
  have hy : y = (ix2 (y 0) (y 1) : S512x128.Idx) := funext fun (a : Fin 2) => by fin_cases a <;> rfl
  have he : ((cfg0.win 18).blk t).view.emb y = (ix2 (row t (y 0)) (y 1) : S32768x128.Idx) := (congrArg _ hy).trans (emb18 t (y 0) (y 1))
  have hl : out0_18 (F := Ideal) (X0 m c t) (X1 m c t) (X2 m c t) (X3 m c t) (X4 m c t) (X5 m c t) (X6 m c t) (X7 m c t) (X8 m c t) (X9 m c t) (X10 m c t) (X11 m c t) (X12 m c t) (X13 m c t) y = k0_pay56 (F := Ideal) (k0_pay2 (X0 m c t)) (X4 m c t) (X12 m c t) (X13 m c t) y := win18 (X0 m c t) (X1 m c t) (X2 m c t) (X3 m c t) (X4 m c t) (X5 m c t) (X6 m c t) (X7 m c t) (X8 m c t) (X9 m c t) (X10 m c t) (X11 m c t) (X12 m c t) (X13 m c t) y
  exact hl.trans ((congrArg _ hy).trans ((key18 m c L h0 h1 t (y 0) (y 1)).trans (congrArg (RefA.rIK L) he.symm)))
include h0 h1 in
theorem out16_at (t : Fin cfg0.N) (y : S1x2x1024x256.Idx) : out0_16 (F := Ideal) (X0 m c t) (X1 m c t) (X2 m c t) (X3 m c t) (X4 m c t) (X5 m c t) (X6 m c t) (X7 m c t) (X8 m c t) (X9 m c t) (X10 m c t) (X11 m c t) (X12 m c t) (X13 m c t) y = RefA.rV L (((cfg0.win 16).blk t).view.emb y) := by
  have hy : y = (ix4 0 (y 1) (y 2) (y 3) : S1x2x1024x256.Idx) := funext fun (a : Fin 4) => by
    fin_cases a
    · exact Subsingleton.elim (α := Fin 1) _ _
    all_goals rfl
  have he : ((cfg0.win 16).blk t).view.emb y = (ix4 (seqOf t) (tile t (y 1)) (y 2) (y 3) : S16x8x1024x256.Idx) := (congrArg _ hy).trans (emb16 t (y 1) (y 2) (y 3))
  have hl : out0_16 (F := Ideal) (X0 m c t) (X1 m c t) (X2 m c t) (X3 m c t) (X4 m c t) (X5 m c t) (X6 m c t) (X7 m c t) (X8 m c t) (X9 m c t) (X10 m c t) (X11 m c t) (X12 m c t) (X13 m c t) y = k0_pay53 (F := Ideal) (k0_pay2 (X0 m c t)) (X2 m c t) (Cert.KernelAIdeal.Value.ix16_0 y) := win16 (X0 m c t) (X1 m c t) (X2 m c t) (X3 m c t) (X4 m c t) (X5 m c t) (X6 m c t) (X7 m c t) (X8 m c t) (X9 m c t) (X10 m c t) (X11 m c t) (X12 m c t) (X13 m c t) y
  refine hl.trans ((key16 m c L h0 h1 t (y 1) (y 2) (y 3) _ ?_).trans (congrArg (RefA.rV L) he.symm))
  exact funext fun (a : Fin 2) => by fin_cases a <;> rfl
include h0 h1 in
theorem out19_at (t : Fin cfg0.N) (y : S1x8x512.Idx) : out0_19 (F := Ideal) (X0 m c t) (X1 m c t) (X2 m c t) (X3 m c t) (X4 m c t) (X5 m c t) (X6 m c t) (X7 m c t) (X8 m c t) (X9 m c t) (X10 m c t) (X11 m c t) (X12 m c t) (X13 m c t) y = RefA.rW L (((cfg0.win 19).blk t).view.emb y) := by
  have hy : y = (ix3 0 (y 1) (y 2) : S1x8x512.Idx) := funext fun (a : Fin 3) => by
    fin_cases a
    · exact Subsingleton.elim (α := Fin 1) _ _
    all_goals rfl
  have he : ((cfg0.win 19).blk t).view.emb y = (ix3 (seqOf t) (y 1) (plc t (y 2)) : S16x8x2048.Idx) := (congrArg _ hy).trans (emb19 t (y 1) (y 2))
  have hl : out0_19 (F := Ideal) (X0 m c t) (X1 m c t) (X2 m c t) (X3 m c t) (X4 m c t) (X5 m c t) (X6 m c t) (X7 m c t) (X8 m c t) (X9 m c t) (X10 m c t) (X11 m c t) (X12 m c t) (X13 m c t) y = k0_pay57 (F := Ideal) (k0_pay2 (X0 m c t)) (X5 m c t) (Cert.KernelAIdeal.Value.ix19_0 y) := win19 (X0 m c t) (X1 m c t) (X2 m c t) (X3 m c t) (X4 m c t) (X5 m c t) (X6 m c t) (X7 m c t) (X8 m c t) (X9 m c t) (X10 m c t) (X11 m c t) (X12 m c t) (X13 m c t) y
  refine hl.trans ((key19 m c L h0 h1 t (y 1) (y 2) _ ?_).trans (congrArg (RefA.rW L) he.symm))
  exact funext fun (a : Fin 2) => by fin_cases a <;> rfl

theorem covers14 : (cfg0.win 14).Covers := by decide +kernel
include h0 h1 in
theorem leaves14 (t : Fin cfg0.N) (y : S512x1024.Idx) : (dats m 0 c).after 14 t y = RefA.rQ L (((cfg0.win 14).blk t).view.emb y) :=
  (congrFun (after0_14 m c t) y).trans (out14_at m c L h0 h1 t y)
include h0 h1 in
theorem res14 : (dats m 0 c).arrAt 14 cfg0.N = RefA.rQ L :=
  Dat.arrAt_eq_of_covers (cfg := cfg0) (dats m 0 c) 14 (RefA.rQ L) covers14 (fun t hf y => leaves14 m c L h0 h1 t y) (Memref.isWhole_whole _)
theorem covers15 : (cfg0.win 15).Covers := by decide +kernel
include h0 h1 in
theorem leaves15 (t : Fin cfg0.N) (y : S512x1024.Idx) : (dats m 0 c).after 15 t y = RefA.rK L (((cfg0.win 15).blk t).view.emb y) :=
  (congrFun (after0_15 m c t) y).trans (out15_at m c L h0 h1 t y)
include h0 h1 in
theorem res15 : (dats m 0 c).arrAt 15 cfg0.N = RefA.rK L :=
  Dat.arrAt_eq_of_covers (cfg := cfg0) (dats m 0 c) 15 (RefA.rK L) covers15 (fun t hf y => leaves15 m c L h0 h1 t y) (Memref.isWhole_whole _)
theorem covers16 : (cfg0.win 16).Covers := by decide +kernel
include h0 h1 in
theorem leaves16 (t : Fin cfg0.N) (y : S1x2x1024x256.Idx) : (dats m 0 c).after 16 t y = RefA.rV L (((cfg0.win 16).blk t).view.emb y) :=
  (congrFun (after0_16 m c t) y).trans (out16_at m c L h0 h1 t y)
include h0 h1 in
theorem res16 : (dats m 0 c).arrAt 16 cfg0.N = RefA.rV L :=
  Dat.arrAt_eq_of_covers (cfg := cfg0) (dats m 0 c) 16 (RefA.rV L) covers16 (fun t hf y => leaves16 m c L h0 h1 t y) (Memref.isWhole_whole _)
theorem covers17 : (cfg0.win 17).Covers := by decide +kernel
include h0 h1 in
theorem leaves17 (t : Fin cfg0.N) (y : S512x1024.Idx) : (dats m 0 c).after 17 t y = RefA.rIQ L (((cfg0.win 17).blk t).view.emb y) :=
  (congrFun (after0_17 m c t) y).trans (out17_at m c L h0 h1 t y)
include h0 h1 in
theorem res17 : (dats m 0 c).arrAt 17 cfg0.N = RefA.rIQ L :=
  Dat.arrAt_eq_of_covers (cfg := cfg0) (dats m 0 c) 17 (RefA.rIQ L) covers17 (fun t hf y => leaves17 m c L h0 h1 t y) (Memref.isWhole_whole _)
theorem covers18 : (cfg0.win 18).Covers := by decide +kernel
include h0 h1 in
theorem leaves18 (t : Fin cfg0.N) (y : S512x128.Idx) : (dats m 0 c).after 18 t y = RefA.rIK L (((cfg0.win 18).blk t).view.emb y) :=
  (congrFun (after0_18 m c t) y).trans (out18_at m c L h0 h1 t y)
include h0 h1 in
theorem res18 : (dats m 0 c).arrAt 18 cfg0.N = RefA.rIK L :=
  Dat.arrAt_eq_of_covers (cfg := cfg0) (dats m 0 c) 18 (RefA.rIK L) covers18 (fun t hf y => leaves18 m c L h0 h1 t y) (Memref.isWhole_whole _)
theorem covers19 : (cfg0.win 19).Covers := by decide +kernel
include h0 h1 in
theorem leaves19 (t : Fin cfg0.N) (y : S1x8x512.Idx) : (dats m 0 c).after 19 t y = RefA.rW L (((cfg0.win 19).blk t).view.emb y) :=
  (congrFun (after0_19 m c t) y).trans (out19_at m c L h0 h1 t y)
include h0 h1 in
theorem res19 : (dats m 0 c).arrAt 19 cfg0.N = RefA.rW L :=
  Dat.arrAt_eq_of_covers (cfg := cfg0) (dats m 0 c) 19 (RefA.rW L) covers19 (fun t hf y => leaves19 m c L h0 h1 t y) (Memref.isWhole_whole _)

end Cert.Proof.ProjA
end
-- ==== Proof.AlgebraicA.lean ====
module

public import proofs.«01_k».proof.Defs
public import proofs.«01_k».proof.Proof.ResA
public import proofs.«01_k».proof.Proof.Gen.KernelA.Frame
public import Idealize.ShloMosaic.Adequacy
public import Idealize.ShloMosaic.Init

@[expose] public section

set_option maxRecDepth 16384

noncomputable section

/-! The claims of the sparse attention's projection: its frames, and that its six arrays are the reference's. -/

namespace Cert.Proof.AlgebraicA

open Idealize.ShloMosaic Idealize.ShloMosaic.TcCoe Idealize.SL.Sem

theorem frame_kernel : Cert.quiescent_KernelA (hKernelA := Cert.KernelA.Gen.facts) := fun m ρ _ => Cert.KernelA.Gen.frame m ρ
theorem frame_kernelIdeal : Cert.quiescent_KernelAIdeal (hKernelAIdeal := Cert.KernelAIdeal.Gen.facts) := fun m ρ _ => Cert.KernelAIdeal.Gen.frame m ρ

/-- The reference's arguments. -/
abbrev lc (m' : (ℓ : Loc Cert.ReferenceAIdeal.nD Cert.ReferenceAIdeal.τ Cert.ReferenceAIdeal.sig) → Buf (Elt Ideal) ℓ) (c : Dev Cert.ReferenceAIdeal.nD) := StableHlo.launchContents m' c

theorem algebraic : Cert.algebraic_KernelAIdeal_ReferenceAIdeal (hKernelAIdeal := Cert.KernelAIdeal.Gen.facts) (hReferenceAIdeal := Cert.ReferenceAIdeal.Gen.facts) := by
  intro m g m' g' _ heq
  refine ⟨fun c => RefA.rQ (lc m' c), fun c => RefA.rK (lc m' c), fun c => RefA.rV (lc m' c), fun c => RefA.rIQ (lc m' c), fun c => RefA.rIK (lc m' c), fun c => RefA.rW (lc m' c), ?_, ?_⟩
  · exact (θ_run Cert.KernelAIdeal.defs _ _).mono (fun r h c => by
      obtain ⟨h14, h15, h16, h17, h18, h19, hk⟩ := h c
      obtain ⟨e0, e1⟩ := heq c
      exact ⟨h14.trans (ProjA.res14 m c (lc m' c) e0 e1), h15.trans (ProjA.res15 m c (lc m' c) e0 e1), h16.trans (ProjA.res16 m c (lc m' c) e0 e1),
        h17.trans (ProjA.res17 m c (lc m' c) e0 e1), h18.trans (ProjA.res18 m c (lc m' c) e0 e1), h19.trans (ProjA.res19 m c (lc m' c) e0 e1), hk⟩) (Cert.KernelAIdeal.Value.run_blocks m g)
  · exact (θ_run Cert.ReferenceAIdeal.defs _ _).mono (fun r h c => h c) (Cert.ReferenceAIdeal.Value.run m' g')

end Cert.Proof.AlgebraicA
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelB
public import proofs.«01_k».proof.Proof.Gen.KernelB.Frame
public import proofs.«01_k».proof.Proof.Gen.KernelBIdeal
public import proofs.«01_k».proof.Proof.Gen.KernelBIdeal.Frame
public import proofs.«01_k».proof.Proof.Gen.KernelBIdeal.Value
public import proofs.«01_k».proof.Proof.Gen.ReferenceBIdeal
public import proofs.«01_k».proof.Proof.Gen.ReferenceBIdeal.Run
public import proofs.«01_k».proof.Proof.Gen.KernelA
public import proofs.«01_k».proof.Proof.Gen.KernelA.Frame
public import proofs.«01_k».proof.Proof.Gen.KernelAIdeal
public import proofs.«01_k».proof.Proof.Gen.KernelAIdeal.Frame
public import proofs.«01_k».proof.Proof.Gen.KernelAIdeal.Value
public import proofs.«01_k».proof.Proof.Gen.ReferenceAIdeal
public import proofs.«01_k».proof.Proof.Gen.ReferenceAIdeal.Run
public import proofs.«01_k».proof.Proof.Frames
public import proofs.«01_k».proof.Proof.Algebraic
public import proofs.«01_k».proof.Proof.AlgebraicB
public import proofs.«01_k».proof.Proof.AlgebraicA
public import Idealize.ShloMosaic.Adequacy
public import Idealize.ShloMosaic.Init

@[expose] public section

noncomputable section

namespace Cert.Proof

open Idealize.ShloMosaic Idealize.SL.Sem Cert.Kernel

theorem frame_referenceB : Cert.quiescent_ReferenceBIdeal (hReferenceBIdeal := Cert.ReferenceBIdeal.Gen.facts) := fun m ρ _ =>
  (θ_run Cert.ReferenceBIdeal.defs _ _).mono (fun r h => ⟨fun c => (h c).2.2.2, sem_eq_zero_of_no_sems (by decide) r.2⟩)
    (Cert.ReferenceBIdeal.Value.run (F := Ideal) m ρ)

theorem frame_referenceA : Cert.quiescent_ReferenceAIdeal (hReferenceAIdeal := Cert.ReferenceAIdeal.Gen.facts) := fun m ρ _ =>
  (θ_run Cert.ReferenceAIdeal.defs _ _).mono (fun r h => ⟨fun c => (h c).2.2.2.2.2.2, sem_eq_zero_of_no_sems (by decide) r.2⟩)
    (Cert.ReferenceAIdeal.Value.run (F := Ideal) m ρ)

theorem claim : Cert.Claim := ⟨Cert.Kernel.Gen.facts, Cert.KernelIdeal.Gen.facts, Cert.ReferenceIdeal.Gen.facts,
  Cert.KernelB.Gen.facts, Cert.KernelBIdeal.Gen.facts, Cert.ReferenceBIdeal.Gen.facts,
  Cert.KernelA.Gen.facts, Cert.KernelAIdeal.Gen.facts, Cert.ReferenceAIdeal.Gen.facts, Tame.facts,
  Frames.frame_kernel, Frames.frame_kernelIdeal, fun m ρ _ => Frames.frame_kernelIdeal m ρ trivial,
  Frames.frame_reference, fun m ρ _ => Frames.frame_reference m ρ trivial,
  AlgebraicB.frame_kernel, AlgebraicB.frame_kernelIdeal, frame_referenceB,
  AlgebraicA.frame_kernel, AlgebraicA.frame_kernelIdeal, frame_referenceA,
  trivial, Algebraic.algebraic, trivial, AlgebraicB.algebraic, trivial, AlgebraicA.algebraic⟩

end Cert.Proof

end
